-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_in_range [hPre_gates_in_range : Cert.Pre_gates_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_in_range [hPre_gates_in_range : Cert.Pre_gates_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_UpDxKernel (m : (ℓ : Loc Cert.UpDxKernel.nD Cert.UpDxKernel.τ Cert.UpDxKernel.sig) → Buf (Elt Bits) ℓ) : Prop :=
  True

def Pre_UpDxKernelIdeal (m : (ℓ : Loc Cert.UpDxKernelIdeal.nD Cert.UpDxKernelIdeal.τ Cert.UpDxKernelIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_InDxKernel (m : (ℓ : Loc Cert.InDxKernel.nD Cert.InDxKernel.τ Cert.InDxKernel.sig) → Buf (Elt Bits) ℓ) : Prop :=
  True

def Pre_InDxKernelIdeal (m : (ℓ : Loc Cert.InDxKernelIdeal.nD Cert.InDxKernelIdeal.τ Cert.InDxKernelIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDwKernel (m : (ℓ : Loc Cert.InDwKernel.nD Cert.InDwKernel.τ Cert.InDwKernel.sig) → Buf (Elt Bits) ℓ) : Prop :=
  True

def Pre_InDwKernelIdeal (m : (ℓ : Loc Cert.InDwKernelIdeal.nD Cert.InDwKernelIdeal.τ Cert.InDwKernelIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_finite_gradient [hPre_finite_gradient : Cert.Pre_finite_gradient.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_finite_gradient.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gradient [hPre_finite_gradient : Cert.Pre_finite_gradient.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gradient.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))) = (fun _ => 1#1)

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gates_in_range [hKernelIdeal : Cert.KernelIdeal.Facts] [hPre_gates_in_range : Cert.Pre_gates_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gates_in_range [hReferenceIdeal : Cert.ReferenceIdeal.Facts] [hPre_gates_in_range : Cert.Pre_gates_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_UpDxKernel [hUpDxKernel : Cert.UpDxKernel.Facts] : Prop :=
  ∀ (m : (ℓ : Loc Cert.UpDxKernel.nD Cert.UpDxKernel.τ Cert.UpDxKernel.sig) → Buf (Elt Bits) ℓ) (g : Dev Cert.UpDxKernel.nD → PrngReg), Pre_UpDxKernel m →
    θ_run (Cert.UpDxKernel.defs (F := Bits)) (onTc (τ := Cert.UpDxKernel.τ) (Cert.UpDxKernel.main (F := Bits))) ⟨m, fun _ => 0, g⟩ (fun r => (∀ c : Dev Cert.UpDxKernel.nD,
      r.2.mem ((c.tc : Thread Cert.UpDxKernel.nD Cert.UpDxKernel.τ).loc Cert.UpDxKernel.main_arg0) = m ((c.tc : Thread Cert.UpDxKernel.nD Cert.UpDxKernel.τ).loc Cert.UpDxKernel.main_arg0)
      ∧ r.2.mem ((c.tc : Thread Cert.UpDxKernel.nD Cert.UpDxKernel.τ).loc Cert.UpDxKernel.main_arg1) = m ((c.tc : Thread Cert.UpDxKernel.nD Cert.UpDxKernel.τ).loc Cert.UpDxKernel.main_arg1))
      ∧ r.2.sem = fun _ => 0)

def quiescent_UpDxKernelIdeal [hUpDxKernelIdeal : Cert.UpDxKernelIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_InDxKernel [hInDxKernel : Cert.InDxKernel.Facts] : Prop :=
  ∀ (m : (ℓ : Loc Cert.InDxKernel.nD Cert.InDxKernel.τ Cert.InDxKernel.sig) → Buf (Elt Bits) ℓ) (g : Dev Cert.InDxKernel.nD → PrngReg), Pre_InDxKernel m →
    θ_run (Cert.InDxKernel.defs (F := Bits)) (onTc (τ := Cert.InDxKernel.τ) (Cert.InDxKernel.main (F := Bits))) ⟨m, fun _ => 0, g⟩ (fun r => (∀ c : Dev Cert.InDxKernel.nD,
      r.2.mem ((c.tc : Thread Cert.InDxKernel.nD Cert.InDxKernel.τ).loc Cert.InDxKernel.main_arg0) = m ((c.tc : Thread Cert.InDxKernel.nD Cert.InDxKernel.τ).loc Cert.InDxKernel.main_arg0)
      ∧ r.2.mem ((c.tc : Thread Cert.InDxKernel.nD Cert.InDxKernel.τ).loc Cert.InDxKernel.main_arg1) = m ((c.tc : Thread Cert.InDxKernel.nD Cert.InDxKernel.τ).loc Cert.InDxKernel.main_arg1))
      ∧ r.2.sem = fun _ => 0)

def quiescent_InDxKernelIdeal [hInDxKernelIdeal : Cert.InDxKernelIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg), Pre_InDxKernelIdeal m →
    θ_run (Cert.InDxKernelIdeal.defs (F := Ideal)) (onTc (τ := Cert.InDxKernelIdeal.τ) (Cert.InDxKernelIdeal.main (F := Ideal))) ⟨m, fun _ => 0, g⟩ (fun r => (∀ c : Dev Cert.InDxKernelIdeal.nD,
      r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
      ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_InDwKernel [hInDwKernel : Cert.InDwKernel.Facts] : Prop :=
  ∀ (m : (ℓ : Loc Cert.InDwKernel.nD Cert.InDwKernel.τ Cert.InDwKernel.sig) → Buf (Elt Bits) ℓ) (g : Dev Cert.InDwKernel.nD → PrngReg), Pre_InDwKernel m →
    θ_run (Cert.InDwKernel.defs (F := Bits)) (onTc (τ := Cert.InDwKernel.τ) (Cert.InDwKernel.main (F := Bits))) ⟨m, fun _ => 0, g⟩ (fun r => (∀ c : Dev Cert.InDwKernel.nD,
      r.2.mem ((c.tc : Thread Cert.InDwKernel.nD Cert.InDwKernel.τ).loc Cert.InDwKernel.main_arg0) = m ((c.tc : Thread Cert.InDwKernel.nD Cert.InDwKernel.τ).loc Cert.InDwKernel.main_arg0)
      ∧ r.2.mem ((c.tc : Thread Cert.InDwKernel.nD Cert.InDwKernel.τ).loc Cert.InDwKernel.main_arg1) = m ((c.tc : Thread Cert.InDwKernel.nD Cert.InDwKernel.τ).loc Cert.InDwKernel.main_arg1))
      ∧ r.2.sem = fun _ => 0)

def quiescent_InDwKernelIdeal [hInDwKernelIdeal : Cert.InDwKernelIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg), Pre_InDwKernelIdeal m →
    θ_run (Cert.InDwKernelIdeal.defs (F := Ideal)) (onTc (τ := Cert.InDwKernelIdeal.τ) (Cert.InDwKernelIdeal.main (F := Ideal))) ⟨m, fun _ => 0, g⟩ (fun r => (∀ c : Dev Cert.InDwKernelIdeal.nD,
      r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
      ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateKernelIdeal_pre_finite_gradient [hGateKernelIdeal : Cert.GateKernelIdeal.Facts] [hPre_finite_gradient : Cert.Pre_finite_gradient.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_finite_gradient m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_GateReferenceIdeal_pre_finite_gradient [hGateReferenceIdeal : Cert.GateReferenceIdeal.Facts] [hPre_finite_gradient : Cert.Pre_finite_gradient.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gradient m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4)
      ∧ r.2.mem ((c.tc : Thread Cert.AdamKernel.nD Cert.AdamKernel.τ).loc Cert.AdamKernel.main_arg5) = m ((c.tc : Thread Cert.AdamKernel.nD Cert.AdamKernel.τ).loc Cert.AdamKernel.main_arg5)
      ∧ r.2.mem ((c.tc : Thread Cert.AdamKernel.nD Cert.AdamKernel.τ).loc Cert.AdamKernel.main_arg6) = m ((c.tc : Thread Cert.AdamKernel.nD Cert.AdamKernel.τ).loc Cert.AdamKernel.main_arg6)
      ∧ r.2.mem ((c.tc : Thread Cert.AdamKernel.nD Cert.AdamKernel.τ).loc Cert.AdamKernel.main_arg7) = m ((c.tc : Thread Cert.AdamKernel.nD Cert.AdamKernel.τ).loc Cert.AdamKernel.main_arg7)
      ∧ r.2.mem ((c.tc : Thread Cert.AdamKernel.nD Cert.AdamKernel.τ).loc Cert.AdamKernel.main_arg8) = m ((c.tc : Thread Cert.AdamKernel.nD Cert.AdamKernel.τ).loc Cert.AdamKernel.main_arg8)
      ∧ r.2.mem ((c.tc : Thread Cert.AdamKernel.nD Cert.AdamKernel.τ).loc Cert.AdamKernel.main_arg9) = m ((c.tc : Thread Cert.AdamKernel.nD Cert.AdamKernel.τ).loc Cert.AdamKernel.main_arg9)
      ∧ r.2.mem ((c.tc : Thread Cert.AdamKernel.nD Cert.AdamKernel.τ).loc Cert.AdamKernel.main_arg10) = m ((c.tc : Thread Cert.AdamKernel.nD Cert.AdamKernel.τ).loc Cert.AdamKernel.main_arg10)
      ∧ r.2.mem ((c.tc : Thread Cert.AdamKernel.nD Cert.AdamKernel.τ).loc Cert.AdamKernel.main_arg11) = m ((c.tc : Thread Cert.AdamKernel.nD Cert.AdamKernel.τ).loc Cert.AdamKernel.main_arg11)
      ∧ r.2.mem ((c.tc : Thread Cert.AdamKernel.nD Cert.AdamKernel.τ).loc Cert.AdamKernel.main_arg12) = m ((c.tc : Thread Cert.AdamKernel.nD Cert.AdamKernel.τ).loc Cert.AdamKernel.main_arg12)
      ∧ r.2.mem ((c.tc : Thread Cert.AdamKernel.nD Cert.AdamKernel.τ).loc Cert.AdamKernel.main_arg13) = m ((c.tc : Thread Cert.AdamKernel.nD Cert.AdamKernel.τ).loc Cert.AdamKernel.main_arg13)
      ∧ r.2.mem ((c.tc : Thread Cert.AdamKernel.nD Cert.AdamKernel.τ).loc Cert.AdamKernel.main_arg14) = m ((c.tc : Thread Cert.AdamKernel.nD Cert.AdamKernel.τ).loc Cert.AdamKernel.main_arg14)
      ∧ r.2.mem ((c.tc : Thread Cert.AdamKernel.nD Cert.AdamKernel.τ).loc Cert.AdamKernel.main_arg15) = m ((c.tc : Thread Cert.AdamKernel.nD Cert.AdamKernel.τ).loc Cert.AdamKernel.main_arg15)
      ∧ r.2.mem ((c.tc : Thread Cert.AdamKernel.nD Cert.AdamKernel.τ).loc Cert.AdamKernel.main_arg16) = m ((c.tc : Thread Cert.AdamKernel.nD Cert.AdamKernel.τ).loc Cert.AdamKernel.main_arg16)
      ∧ r.2.mem ((c.tc : Thread Cert.AdamKernel.nD Cert.AdamKernel.τ).loc Cert.AdamKernel.main_arg17) = m ((c.tc : Thread Cert.AdamKernel.nD Cert.AdamKernel.τ).loc Cert.AdamKernel.main_arg17)
      ∧ r.2.mem ((c.tc : Thread Cert.AdamKernel.nD Cert.AdamKernel.τ).loc Cert.AdamKernel.main_arg18) = m ((c.tc : Thread Cert.AdamKernel.nD Cert.AdamKernel.τ).loc Cert.AdamKernel.main_arg18)
      ∧ r.2.mem ((c.tc : Thread Cert.AdamKernel.nD Cert.AdamKernel.τ).loc Cert.AdamKernel.main_arg19) = m ((c.tc : Thread Cert.AdamKernel.nD Cert.AdamKernel.τ).loc Cert.AdamKernel.main_arg19))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
      ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
      ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
      ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7)
      ∧ r.2.mem ((c.tc : Thread Cert.AdamKernelIdeal.nD Cert.AdamKernelIdeal.τ).loc Cert.AdamKernelIdeal.main_arg8) = m ((c.tc : Thread Cert.AdamKernelIdeal.nD Cert.AdamKernelIdeal.τ).loc Cert.AdamKernelIdeal.main_arg8)
      ∧ r.2.mem ((c.tc : Thread Cert.AdamKernelIdeal.nD Cert.AdamKernelIdeal.τ).loc Cert.AdamKernelIdeal.main_arg9) = m ((c.tc : Thread Cert.AdamKernelIdeal.nD Cert.AdamKernelIdeal.τ).loc Cert.AdamKernelIdeal.main_arg9)
      ∧ r.2.mem ((c.tc : Thread Cert.AdamKernelIdeal.nD Cert.AdamKernelIdeal.τ).loc Cert.AdamKernelIdeal.main_arg10) = m ((c.tc : Thread Cert.AdamKernelIdeal.nD Cert.AdamKernelIdeal.τ).loc Cert.AdamKernelIdeal.main_arg10)
      ∧ r.2.mem ((c.tc : Thread Cert.AdamKernelIdeal.nD Cert.AdamKernelIdeal.τ).loc Cert.AdamKernelIdeal.main_arg11) = m ((c.tc : Thread Cert.AdamKernelIdeal.nD Cert.AdamKernelIdeal.τ).loc Cert.AdamKernelIdeal.main_arg11)
      ∧ r.2.mem ((c.tc : Thread Cert.AdamKernelIdeal.nD Cert.AdamKernelIdeal.τ).loc Cert.AdamKernelIdeal.main_arg12) = m ((c.tc : Thread Cert.AdamKernelIdeal.nD Cert.AdamKernelIdeal.τ).loc Cert.AdamKernelIdeal.main_arg12)
      ∧ r.2.mem ((c.tc : Thread Cert.AdamKernelIdeal.nD Cert.AdamKernelIdeal.τ).loc Cert.AdamKernelIdeal.main_arg13) = m ((c.tc : Thread Cert.AdamKernelIdeal.nD Cert.AdamKernelIdeal.τ).loc Cert.AdamKernelIdeal.main_arg13)
      ∧ r.2.mem ((c.tc : Thread Cert.AdamKernelIdeal.nD Cert.AdamKernelIdeal.τ).loc Cert.AdamKernelIdeal.main_arg14) = m ((c.tc : Thread Cert.AdamKernelIdeal.nD Cert.AdamKernelIdeal.τ).loc Cert.AdamKernelIdeal.main_arg14)
      ∧ r.2.mem ((c.tc : Thread Cert.AdamKernelIdeal.nD Cert.AdamKernelIdeal.τ).loc Cert.AdamKernelIdeal.main_arg15) = m ((c.tc : Thread Cert.AdamKernelIdeal.nD Cert.AdamKernelIdeal.τ).loc Cert.AdamKernelIdeal.main_arg15)
      ∧ r.2.mem ((c.tc : Thread Cert.AdamKernelIdeal.nD Cert.AdamKernelIdeal.τ).loc Cert.AdamKernelIdeal.main_arg16) = m ((c.tc : Thread Cert.AdamKernelIdeal.nD Cert.AdamKernelIdeal.τ).loc Cert.AdamKernelIdeal.main_arg16)
      ∧ r.2.mem ((c.tc : Thread Cert.AdamKernelIdeal.nD Cert.AdamKernelIdeal.τ).loc Cert.AdamKernelIdeal.main_arg17) = m ((c.tc : Thread Cert.AdamKernelIdeal.nD Cert.AdamKernelIdeal.τ).loc Cert.AdamKernelIdeal.main_arg17)
      ∧ r.2.mem ((c.tc : Thread Cert.AdamKernelIdeal.nD Cert.AdamKernelIdeal.τ).loc Cert.AdamKernelIdeal.main_arg18) = m ((c.tc : Thread Cert.AdamKernelIdeal.nD Cert.AdamKernelIdeal.τ).loc Cert.AdamKernelIdeal.main_arg18)
      ∧ r.2.mem ((c.tc : Thread Cert.AdamKernelIdeal.nD Cert.AdamKernelIdeal.τ).loc Cert.AdamKernelIdeal.main_arg19) = m ((c.tc : Thread Cert.AdamKernelIdeal.nD Cert.AdamKernelIdeal.τ).loc Cert.AdamKernelIdeal.main_arg19))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7)
      ∧ r.2.mem ((c.tc : Thread Cert.AdamReferenceIdeal.nD Cert.AdamReferenceIdeal.τ).loc Cert.AdamReferenceIdeal.main_arg8) = m ((c.tc : Thread Cert.AdamReferenceIdeal.nD Cert.AdamReferenceIdeal.τ).loc Cert.AdamReferenceIdeal.main_arg8)
      ∧ r.2.mem ((c.tc : Thread Cert.AdamReferenceIdeal.nD Cert.AdamReferenceIdeal.τ).loc Cert.AdamReferenceIdeal.main_arg9) = m ((c.tc : Thread Cert.AdamReferenceIdeal.nD Cert.AdamReferenceIdeal.τ).loc Cert.AdamReferenceIdeal.main_arg9)
      ∧ r.2.mem ((c.tc : Thread Cert.AdamReferenceIdeal.nD Cert.AdamReferenceIdeal.τ).loc Cert.AdamReferenceIdeal.main_arg10) = m ((c.tc : Thread Cert.AdamReferenceIdeal.nD Cert.AdamReferenceIdeal.τ).loc Cert.AdamReferenceIdeal.main_arg10)
      ∧ r.2.mem ((c.tc : Thread Cert.AdamReferenceIdeal.nD Cert.AdamReferenceIdeal.τ).loc Cert.AdamReferenceIdeal.main_arg11) = m ((c.tc : Thread Cert.AdamReferenceIdeal.nD Cert.AdamReferenceIdeal.τ).loc Cert.AdamReferenceIdeal.main_arg11)
      ∧ r.2.mem ((c.tc : Thread Cert.AdamReferenceIdeal.nD Cert.AdamReferenceIdeal.τ).loc Cert.AdamReferenceIdeal.main_arg12) = m ((c.tc : Thread Cert.AdamReferenceIdeal.nD Cert.AdamReferenceIdeal.τ).loc Cert.AdamReferenceIdeal.main_arg12)
      ∧ r.2.mem ((c.tc : Thread Cert.AdamReferenceIdeal.nD Cert.AdamReferenceIdeal.τ).loc Cert.AdamReferenceIdeal.main_arg13) = m ((c.tc : Thread Cert.AdamReferenceIdeal.nD Cert.AdamReferenceIdeal.τ).loc Cert.AdamReferenceIdeal.main_arg13)
      ∧ r.2.mem ((c.tc : Thread Cert.AdamReferenceIdeal.nD Cert.AdamReferenceIdeal.τ).loc Cert.AdamReferenceIdeal.main_arg14) = m ((c.tc : Thread Cert.AdamReferenceIdeal.nD Cert.AdamReferenceIdeal.τ).loc Cert.AdamReferenceIdeal.main_arg14)
      ∧ r.2.mem ((c.tc : Thread Cert.AdamReferenceIdeal.nD Cert.AdamReferenceIdeal.τ).loc Cert.AdamReferenceIdeal.main_arg15) = m ((c.tc : Thread Cert.AdamReferenceIdeal.nD Cert.AdamReferenceIdeal.τ).loc Cert.AdamReferenceIdeal.main_arg15)
      ∧ r.2.mem ((c.tc : Thread Cert.AdamReferenceIdeal.nD Cert.AdamReferenceIdeal.τ).loc Cert.AdamReferenceIdeal.main_arg16) = m ((c.tc : Thread Cert.AdamReferenceIdeal.nD Cert.AdamReferenceIdeal.τ).loc Cert.AdamReferenceIdeal.main_arg16)
      ∧ r.2.mem ((c.tc : Thread Cert.AdamReferenceIdeal.nD Cert.AdamReferenceIdeal.τ).loc Cert.AdamReferenceIdeal.main_arg17) = m ((c.tc : Thread Cert.AdamReferenceIdeal.nD Cert.AdamReferenceIdeal.τ).loc Cert.AdamReferenceIdeal.main_arg17)
      ∧ r.2.mem ((c.tc : Thread Cert.AdamReferenceIdeal.nD Cert.AdamReferenceIdeal.τ).loc Cert.AdamReferenceIdeal.main_arg18) = m ((c.tc : Thread Cert.AdamReferenceIdeal.nD Cert.AdamReferenceIdeal.τ).loc Cert.AdamReferenceIdeal.main_arg18)
      ∧ r.2.mem ((c.tc : Thread Cert.AdamReferenceIdeal.nD Cert.AdamReferenceIdeal.τ).loc Cert.AdamReferenceIdeal.main_arg19) = m ((c.tc : Thread Cert.AdamReferenceIdeal.nD Cert.AdamReferenceIdeal.τ).loc Cert.AdamReferenceIdeal.main_arg19))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def preserves_Kernel_KernelIdeal : Prop :=
  True

def algebraic_KernelIdeal_ReferenceIdeal_pre_gates_in_range [hKernelIdeal : Cert.KernelIdeal.Facts] [hReferenceIdeal : Cert.ReferenceIdeal.Facts] [hPre_gates_in_range : Cert.Pre_gates_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v2_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)) →
    ∃ (v0 : (c : Dev Cert.MlpKernelIdeal.nD) → Buf (Elt Ideal) ((c.tc : Thread Cert.MlpKernelIdeal.nD Cert.MlpKernelIdeal.τ).loc Cert.MlpKernelIdeal.main_v0_1)) (v1 : (c : Dev Cert.MlpKernelIdeal.nD) → Buf (Elt Ideal) ((c.tc : Thread Cert.MlpKernelIdeal.nD Cert.MlpKernelIdeal.τ).loc Cert.MlpKernelIdeal.main_v1)) (v2 : (c : Dev Cert.MlpKernelIdeal.nD) → Buf (Elt Ideal) ((c.tc : Thread Cert.MlpKernelIdeal.nD Cert.MlpKernelIdeal.τ).loc Cert.MlpKernelIdeal.main_v3)) (v3 : (c : Dev Cert.MlpKernelIdeal.nD) → Buf (Elt Ideal) ((c.tc : Thread Cert.MlpKernelIdeal.nD Cert.MlpKernelIdeal.τ).loc Cert.MlpKernelIdeal.main_v2)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v0_1) = v0 c
          ∧ r.2.mem ((c.tc : Thread Cert.MlpKernelIdeal.nD Cert.MlpKernelIdeal.τ).loc Cert.MlpKernelIdeal.main_v1) = v1 c
          ∧ r.2.mem ((c.tc : Thread Cert.MlpKernelIdeal.nD Cert.MlpKernelIdeal.τ).loc Cert.MlpKernelIdeal.main_v3) = v2 c
          ∧ r.2.mem ((c.tc : Thread Cert.MlpKernelIdeal.nD Cert.MlpKernelIdeal.τ).loc Cert.MlpKernelIdeal.main_v2) = v3 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v24) = v0 c
          ∧ r.2.mem ((c.tc : Thread Cert.MlpReferenceIdeal.nD Cert.MlpReferenceIdeal.τ).loc Cert.MlpReferenceIdeal.main_v25) = v1 c
          ∧ r.2.mem ((c.tc : Thread Cert.MlpReferenceIdeal.nD Cert.MlpReferenceIdeal.τ).loc Cert.MlpReferenceIdeal.main_v20) = v2 c
          ∧ r.2.mem ((c.tc : Thread Cert.MlpReferenceIdeal.nD Cert.MlpReferenceIdeal.τ).loc Cert.MlpReferenceIdeal.main_v14) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)) →
    ∃ (v0 : (c : Dev Cert.MixKernelIdeal.nD) → Buf (Elt Ideal) ((c.tc : Thread Cert.MixKernelIdeal.nD Cert.MixKernelIdeal.τ).loc Cert.MixKernelIdeal.main_v2)) (v1 : (c : Dev Cert.MixKernelIdeal.nD) → Buf (Elt Ideal) ((c.tc : Thread Cert.MixKernelIdeal.nD Cert.MixKernelIdeal.τ).loc Cert.MixKernelIdeal.main_v5)) (v2 : (c : Dev Cert.MixKernelIdeal.nD) → Buf (Elt Ideal) ((c.tc : Thread Cert.MixKernelIdeal.nD Cert.MixKernelIdeal.τ).loc Cert.MixKernelIdeal.main_v7)) (v3 : (c : Dev Cert.MixKernelIdeal.nD) → Buf (Elt Ideal) ((c.tc : Thread Cert.MixKernelIdeal.nD Cert.MixKernelIdeal.τ).loc Cert.MixKernelIdeal.main_v3_2)) (v4 : (c : Dev Cert.MixKernelIdeal.nD) → Buf (Elt Ideal) ((c.tc : Thread Cert.MixKernelIdeal.nD Cert.MixKernelIdeal.τ).loc Cert.MixKernelIdeal.main_v3_3)) (v5 : (c : Dev Cert.MixKernelIdeal.nD) → Buf (Elt Ideal) ((c.tc : Thread Cert.MixKernelIdeal.nD Cert.MixKernelIdeal.τ).loc Cert.MixKernelIdeal.main_v6)) (v6 : (c : Dev Cert.MixKernelIdeal.nD) → Buf (Elt Ideal) ((c.tc : Thread Cert.MixKernelIdeal.nD Cert.MixKernelIdeal.τ).loc Cert.MixKernelIdeal.main_v8)) (v7 : (c : Dev Cert.MixKernelIdeal.nD) → Buf (Elt Ideal) ((c.tc : Thread Cert.MixKernelIdeal.nD Cert.MixKernelIdeal.τ).loc Cert.MixKernelIdeal.main_v4)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v2) = v0 c
          ∧ r.2.mem ((c.tc : Thread Cert.MixKernelIdeal.nD Cert.MixKernelIdeal.τ).loc Cert.MixKernelIdeal.main_v5) = v1 c
          ∧ r.2.mem ((c.tc : Thread Cert.MixKernelIdeal.nD Cert.MixKernelIdeal.τ).loc Cert.MixKernelIdeal.main_v7) = v2 c
          ∧ r.2.mem ((c.tc : Thread Cert.MixKernelIdeal.nD Cert.MixKernelIdeal.τ).loc Cert.MixKernelIdeal.main_v3_2) = v3 c
          ∧ r.2.mem ((c.tc : Thread Cert.MixKernelIdeal.nD Cert.MixKernelIdeal.τ).loc Cert.MixKernelIdeal.main_v3_3) = v4 c
          ∧ r.2.mem ((c.tc : Thread Cert.MixKernelIdeal.nD Cert.MixKernelIdeal.τ).loc Cert.MixKernelIdeal.main_v6) = v5 c
          ∧ r.2.mem ((c.tc : Thread Cert.MixKernelIdeal.nD Cert.MixKernelIdeal.τ).loc Cert.MixKernelIdeal.main_v8) = v6 c
          ∧ r.2.mem ((c.tc : Thread Cert.MixKernelIdeal.nD Cert.MixKernelIdeal.τ).loc Cert.MixKernelIdeal.main_v4) = v7 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v30) = v0 c
          ∧ r.2.mem ((c.tc : Thread Cert.MixReferenceIdeal.nD Cert.MixReferenceIdeal.τ).loc Cert.MixReferenceIdeal.main_v44) = v1 c
          ∧ r.2.mem ((c.tc : Thread Cert.MixReferenceIdeal.nD Cert.MixReferenceIdeal.τ).loc Cert.MixReferenceIdeal.main_v38) = v2 c
          ∧ r.2.mem ((c.tc : Thread Cert.MixReferenceIdeal.nD Cert.MixReferenceIdeal.τ).loc Cert.MixReferenceIdeal.main_v46) = v3 c
          ∧ r.2.mem ((c.tc : Thread Cert.MixReferenceIdeal.nD Cert.MixReferenceIdeal.τ).loc Cert.MixReferenceIdeal.main_v47) = v4 c
          ∧ r.2.mem ((c.tc : Thread Cert.MixReferenceIdeal.nD Cert.MixReferenceIdeal.τ).loc Cert.MixReferenceIdeal.main_v43) = v5 c
          ∧ r.2.mem ((c.tc : Thread Cert.MixReferenceIdeal.nD Cert.MixReferenceIdeal.τ).loc Cert.MixReferenceIdeal.main_v37) = v6 c
          ∧ r.2.mem ((c.tc : Thread Cert.MixReferenceIdeal.nD Cert.MixReferenceIdeal.τ).loc Cert.MixReferenceIdeal.main_v32) = v7 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_UpDxKernel_UpDxKernelIdeal : Prop :=
  True

def algebraic_UpDxKernelIdeal_UpDxReferenceIdeal [hUpDxKernelIdeal : Cert.UpDxKernelIdeal.Facts] [hUpDxReferenceIdeal : Cert.UpDxReferenceIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxKernelIdeal m →
    (∀ c : Dev Cert.UpDxKernelIdeal.nD,
      m' ((c.tc : Thread Cert.UpDxReferenceIdeal.nD Cert.UpDxReferenceIdeal.τ).loc Cert.UpDxReferenceIdeal.main_arg0) = m ((c.tc : Thread Cert.UpDxKernelIdeal.nD Cert.UpDxKernelIdeal.τ).loc Cert.UpDxKernelIdeal.main_arg0)
      ∧ m' ((c.tc : Thread Cert.UpDxReferenceIdeal.nD Cert.UpDxReferenceIdeal.τ).loc Cert.UpDxReferenceIdeal.main_arg1) = m ((c.tc : Thread Cert.UpDxKernelIdeal.nD Cert.UpDxKernelIdeal.τ).loc Cert.UpDxKernelIdeal.main_arg1)) →
    ∃ (v0 : (c : Dev Cert.UpDxKernelIdeal.nD) → Buf (Elt Ideal) ((c.tc : Thread Cert.UpDxKernelIdeal.nD Cert.UpDxKernelIdeal.τ).loc Cert.UpDxKernelIdeal.main_v0)),
      θ_run (Cert.UpDxKernelIdeal.defs (F := Ideal)) (onTc (τ := Cert.UpDxKernelIdeal.τ) (Cert.UpDxKernelIdeal.main (F := Ideal))) ⟨m, fun _ => 0, g⟩ (fun r => ∀ c : Dev Cert.UpDxKernelIdeal.nD,
          r.2.mem ((c.tc : Thread Cert.UpDxKernelIdeal.nD Cert.UpDxKernelIdeal.τ).loc Cert.UpDxKernelIdeal.main_v0) = v0 c
          ∧ r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
          ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v4) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_InDxKernel_InDxKernelIdeal : Prop :=
  True

def algebraic_InDxKernelIdeal_InDxReferenceIdeal [hInDxKernelIdeal : Cert.InDxKernelIdeal.Facts] [hInDxReferenceIdeal : Cert.InDxReferenceIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxKernelIdeal m →
    (∀ c : Dev Cert.InDxKernelIdeal.nD,
      m' ((c.tc : Thread Cert.InDxReferenceIdeal.nD Cert.InDxReferenceIdeal.τ).loc Cert.InDxReferenceIdeal.main_arg0) = m ((c.tc : Thread Cert.InDxKernelIdeal.nD Cert.InDxKernelIdeal.τ).loc Cert.InDxKernelIdeal.main_arg0)
      ∧ m' ((c.tc : Thread Cert.InDxReferenceIdeal.nD Cert.InDxReferenceIdeal.τ).loc Cert.InDxReferenceIdeal.main_arg1) = m ((c.tc : Thread Cert.InDxKernelIdeal.nD Cert.InDxKernelIdeal.τ).loc Cert.InDxKernelIdeal.main_arg1)) →
    ∃ (v0 : (c : Dev Cert.InDxKernelIdeal.nD) → Buf (Elt Ideal) ((c.tc : Thread Cert.InDxKernelIdeal.nD Cert.InDxKernelIdeal.τ).loc Cert.InDxKernelIdeal.main_v0)),
      θ_run (Cert.InDxKernelIdeal.defs (F := Ideal)) (onTc (τ := Cert.InDxKernelIdeal.τ) (Cert.InDxKernelIdeal.main (F := Ideal))) ⟨m, fun _ => 0, g⟩ (fun r => ∀ c : Dev Cert.InDxKernelIdeal.nD,
          r.2.mem ((c.tc : Thread Cert.InDxKernelIdeal.nD Cert.InDxKernelIdeal.τ).loc Cert.InDxKernelIdeal.main_v0) = v0 c
          ∧ r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
          ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v4) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_InDwKernel_InDwKernelIdeal : Prop :=
  True

def algebraic_InDwKernelIdeal_InDwReferenceIdeal [hInDwKernelIdeal : Cert.InDwKernelIdeal.Facts] [hInDwReferenceIdeal : Cert.InDwReferenceIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwKernelIdeal m →
    (∀ c : Dev Cert.InDwKernelIdeal.nD,
      m' ((c.tc : Thread Cert.InDwReferenceIdeal.nD Cert.InDwReferenceIdeal.τ).loc Cert.InDwReferenceIdeal.main_arg0) = m ((c.tc : Thread Cert.InDwKernelIdeal.nD Cert.InDwKernelIdeal.τ).loc Cert.InDwKernelIdeal.main_arg0)
      ∧ m' ((c.tc : Thread Cert.InDwReferenceIdeal.nD Cert.InDwReferenceIdeal.τ).loc Cert.InDwReferenceIdeal.main_arg1) = m ((c.tc : Thread Cert.InDwKernelIdeal.nD Cert.InDwKernelIdeal.τ).loc Cert.InDwKernelIdeal.main_arg1)) →
    ∃ (v0 : (c : Dev Cert.InDwKernelIdeal.nD) → Buf (Elt Ideal) ((c.tc : Thread Cert.InDwKernelIdeal.nD Cert.InDwKernelIdeal.τ).loc Cert.InDwKernelIdeal.main_v0)),
      θ_run (Cert.InDwKernelIdeal.defs (F := Ideal)) (onTc (τ := Cert.InDwKernelIdeal.τ) (Cert.InDwKernelIdeal.main (F := Ideal))) ⟨m, fun _ => 0, g⟩ (fun r => ∀ c : Dev Cert.InDwKernelIdeal.nD,
          r.2.mem ((c.tc : Thread Cert.InDwKernelIdeal.nD Cert.InDwKernelIdeal.τ).loc Cert.InDwKernelIdeal.main_v0) = v0 c
          ∧ r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
          ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v5) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)) →
    ∃ (v0 : (c : Dev Cert.NormKernelIdeal.nD) → Buf (Elt Ideal) ((c.tc : Thread Cert.NormKernelIdeal.nD Cert.NormKernelIdeal.τ).loc Cert.NormKernelIdeal.main_v0_0)) (v1 : (c : Dev Cert.NormKernelIdeal.nD) → Buf (Elt Ideal) ((c.tc : Thread Cert.NormKernelIdeal.nD Cert.NormKernelIdeal.τ).loc Cert.NormKernelIdeal.main_v0_1)) (v2 : (c : Dev Cert.NormKernelIdeal.nD) → Buf (Elt Ideal) ((c.tc : Thread Cert.NormKernelIdeal.nD Cert.NormKernelIdeal.τ).loc Cert.NormKernelIdeal.main_v1_0)) (v3 : (c : Dev Cert.NormKernelIdeal.nD) → Buf (Elt Ideal) ((c.tc : Thread Cert.NormKernelIdeal.nD Cert.NormKernelIdeal.τ).loc Cert.NormKernelIdeal.main_v1_1)) (v4 : (c : Dev Cert.NormKernelIdeal.nD) → Buf (Elt Ideal) ((c.tc : Thread Cert.NormKernelIdeal.nD Cert.NormKernelIdeal.τ).loc Cert.NormKernelIdeal.main_v1_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0_0) = v0 c
          ∧ r.2.mem ((c.tc : Thread Cert.NormKernelIdeal.nD Cert.NormKernelIdeal.τ).loc Cert.NormKernelIdeal.main_v0_1) = v1 c
          ∧ r.2.mem ((c.tc : Thread Cert.NormKernelIdeal.nD Cert.NormKernelIdeal.τ).loc Cert.NormKernelIdeal.main_v1_0) = v2 c
          ∧ r.2.mem ((c.tc : Thread Cert.NormKernelIdeal.nD Cert.NormKernelIdeal.τ).loc Cert.NormKernelIdeal.main_v1_1) = v3 c
          ∧ r.2.mem ((c.tc : Thread Cert.NormKernelIdeal.nD Cert.NormKernelIdeal.τ).loc Cert.NormKernelIdeal.main_v1_2) = v4 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v0) = v0 c
          ∧ r.2.mem ((c.tc : Thread Cert.NormReferenceIdeal.nD Cert.NormReferenceIdeal.τ).loc Cert.NormReferenceIdeal.main_v36) = v1 c
          ∧ r.2.mem ((c.tc : Thread Cert.NormReferenceIdeal.nD Cert.NormReferenceIdeal.τ).loc Cert.NormReferenceIdeal.main_v35) = v2 c
          ∧ r.2.mem ((c.tc : Thread Cert.NormReferenceIdeal.nD Cert.NormReferenceIdeal.τ).loc Cert.NormReferenceIdeal.main_v37) = v3 c
          ∧ r.2.mem ((c.tc : Thread Cert.NormReferenceIdeal.nD Cert.NormReferenceIdeal.τ).loc Cert.NormReferenceIdeal.main_v18) = v4 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_GateKernel_GateKernelIdeal : Prop :=
  True

def algebraic_GateKernelIdeal_GateReferenceIdeal_pre_finite_gradient [hGateKernelIdeal : Cert.GateKernelIdeal.Facts] [hGateReferenceIdeal : Cert.GateReferenceIdeal.Facts] [hPre_finite_gradient : Cert.Pre_finite_gradient.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_finite_gradient m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v0)) (v1 : (c : Dev Cert.GateKernelIdeal.nD) → Buf (Elt Ideal) ((c.tc : Thread Cert.GateKernelIdeal.nD Cert.GateKernelIdeal.τ).loc Cert.GateKernelIdeal.main_v1_0)) (v2 : (c : Dev Cert.GateKernelIdeal.nD) → Buf (Elt Ideal) ((c.tc : Thread Cert.GateKernelIdeal.nD Cert.GateKernelIdeal.τ).loc Cert.GateKernelIdeal.main_v1_1)) (v3 : (c : Dev Cert.GateKernelIdeal.nD) → Buf (Elt Ideal) ((c.tc : Thread Cert.GateKernelIdeal.nD Cert.GateKernelIdeal.τ).loc Cert.GateKernelIdeal.main_v1_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0) = v0 c
          ∧ r.2.mem ((c.tc : Thread Cert.GateKernelIdeal.nD Cert.GateKernelIdeal.τ).loc Cert.GateKernelIdeal.main_v1_0) = v1 c
          ∧ r.2.mem ((c.tc : Thread Cert.GateKernelIdeal.nD Cert.GateKernelIdeal.τ).loc Cert.GateKernelIdeal.main_v1_1) = v2 c
          ∧ r.2.mem ((c.tc : Thread Cert.GateKernelIdeal.nD Cert.GateKernelIdeal.τ).loc Cert.GateKernelIdeal.main_v1_2) = v3 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v45) = v0 c
          ∧ r.2.mem ((c.tc : Thread Cert.GateReferenceIdeal.nD Cert.GateReferenceIdeal.τ).loc Cert.GateReferenceIdeal.main_v44) = v1 c
          ∧ r.2.mem ((c.tc : Thread Cert.GateReferenceIdeal.nD Cert.GateReferenceIdeal.τ).loc Cert.GateReferenceIdeal.main_v46) = v2 c
          ∧ r.2.mem ((c.tc : Thread Cert.GateReferenceIdeal.nD Cert.GateReferenceIdeal.τ).loc Cert.GateReferenceIdeal.main_v26) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)
      ∧ m' ((c.tc : Thread Cert.AdamReferenceIdeal.nD Cert.AdamReferenceIdeal.τ).loc Cert.AdamReferenceIdeal.main_arg5) = m ((c.tc : Thread Cert.AdamKernelIdeal.nD Cert.AdamKernelIdeal.τ).loc Cert.AdamKernelIdeal.main_arg5)
      ∧ m' ((c.tc : Thread Cert.AdamReferenceIdeal.nD Cert.AdamReferenceIdeal.τ).loc Cert.AdamReferenceIdeal.main_arg6) = m ((c.tc : Thread Cert.AdamKernelIdeal.nD Cert.AdamKernelIdeal.τ).loc Cert.AdamKernelIdeal.main_arg6)
      ∧ m' ((c.tc : Thread Cert.AdamReferenceIdeal.nD Cert.AdamReferenceIdeal.τ).loc Cert.AdamReferenceIdeal.main_arg7) = m ((c.tc : Thread Cert.AdamKernelIdeal.nD Cert.AdamKernelIdeal.τ).loc Cert.AdamKernelIdeal.main_arg7)
      ∧ m' ((c.tc : Thread Cert.AdamReferenceIdeal.nD Cert.AdamReferenceIdeal.τ).loc Cert.AdamReferenceIdeal.main_arg8) = m ((c.tc : Thread Cert.AdamKernelIdeal.nD Cert.AdamKernelIdeal.τ).loc Cert.AdamKernelIdeal.main_arg8)
      ∧ m' ((c.tc : Thread Cert.AdamReferenceIdeal.nD Cert.AdamReferenceIdeal.τ).loc Cert.AdamReferenceIdeal.main_arg9) = m ((c.tc : Thread Cert.AdamKernelIdeal.nD Cert.AdamKernelIdeal.τ).loc Cert.AdamKernelIdeal.main_arg9)
      ∧ m' ((c.tc : Thread Cert.AdamReferenceIdeal.nD Cert.AdamReferenceIdeal.τ).loc Cert.AdamReferenceIdeal.main_arg10) = m ((c.tc : Thread Cert.AdamKernelIdeal.nD Cert.AdamKernelIdeal.τ).loc Cert.AdamKernelIdeal.main_arg10)
      ∧ m' ((c.tc : Thread Cert.AdamReferenceIdeal.nD Cert.AdamReferenceIdeal.τ).loc Cert.AdamReferenceIdeal.main_arg11) = m ((c.tc : Thread Cert.AdamKernelIdeal.nD Cert.AdamKernelIdeal.τ).loc Cert.AdamKernelIdeal.main_arg11)
      ∧ m' ((c.tc : Thread Cert.AdamReferenceIdeal.nD Cert.AdamReferenceIdeal.τ).loc Cert.AdamReferenceIdeal.main_arg12) = m ((c.tc : Thread Cert.AdamKernelIdeal.nD Cert.AdamKernelIdeal.τ).loc Cert.AdamKernelIdeal.main_arg12)
      ∧ m' ((c.tc : Thread Cert.AdamReferenceIdeal.nD Cert.AdamReferenceIdeal.τ).loc Cert.AdamReferenceIdeal.main_arg13) = m ((c.tc : Thread Cert.AdamKernelIdeal.nD Cert.AdamKernelIdeal.τ).loc Cert.AdamKernelIdeal.main_arg13)
      ∧ m' ((c.tc : Thread Cert.AdamReferenceIdeal.nD Cert.AdamReferenceIdeal.τ).loc Cert.AdamReferenceIdeal.main_arg14) = m ((c.tc : Thread Cert.AdamKernelIdeal.nD Cert.AdamKernelIdeal.τ).loc Cert.AdamKernelIdeal.main_arg14)
      ∧ m' ((c.tc : Thread Cert.AdamReferenceIdeal.nD Cert.AdamReferenceIdeal.τ).loc Cert.AdamReferenceIdeal.main_arg15) = m ((c.tc : Thread Cert.AdamKernelIdeal.nD Cert.AdamKernelIdeal.τ).loc Cert.AdamKernelIdeal.main_arg15)
      ∧ m' ((c.tc : Thread Cert.AdamReferenceIdeal.nD Cert.AdamReferenceIdeal.τ).loc Cert.AdamReferenceIdeal.main_arg16) = m ((c.tc : Thread Cert.AdamKernelIdeal.nD Cert.AdamKernelIdeal.τ).loc Cert.AdamKernelIdeal.main_arg16)
      ∧ m' ((c.tc : Thread Cert.AdamReferenceIdeal.nD Cert.AdamReferenceIdeal.τ).loc Cert.AdamReferenceIdeal.main_arg17) = m ((c.tc : Thread Cert.AdamKernelIdeal.nD Cert.AdamKernelIdeal.τ).loc Cert.AdamKernelIdeal.main_arg17)
      ∧ m' ((c.tc : Thread Cert.AdamReferenceIdeal.nD Cert.AdamReferenceIdeal.τ).loc Cert.AdamReferenceIdeal.main_arg18) = m ((c.tc : Thread Cert.AdamKernelIdeal.nD Cert.AdamKernelIdeal.τ).loc Cert.AdamKernelIdeal.main_arg18)
      ∧ m' ((c.tc : Thread Cert.AdamReferenceIdeal.nD Cert.AdamReferenceIdeal.τ).loc Cert.AdamReferenceIdeal.main_arg19) = m ((c.tc : Thread Cert.AdamKernelIdeal.nD Cert.AdamKernelIdeal.τ).loc Cert.AdamKernelIdeal.main_arg19)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)) (v3 : (c : Dev Cert.AdamKernelIdeal.nD) → Buf (Elt Ideal) ((c.tc : Thread Cert.AdamKernelIdeal.nD Cert.AdamKernelIdeal.τ).loc Cert.AdamKernelIdeal.main_v0_4)) (v4 : (c : Dev Cert.AdamKernelIdeal.nD) → Buf (Elt Ideal) ((c.tc : Thread Cert.AdamKernelIdeal.nD Cert.AdamKernelIdeal.τ).loc Cert.AdamKernelIdeal.main_v0_5)) (v5 : (c : Dev Cert.AdamKernelIdeal.nD) → Buf (Elt Ideal) ((c.tc : Thread Cert.AdamKernelIdeal.nD Cert.AdamKernelIdeal.τ).loc Cert.AdamKernelIdeal.main_v0_6)) (v6 : (c : Dev Cert.AdamKernelIdeal.nD) → Buf (Elt Ideal) ((c.tc : Thread Cert.AdamKernelIdeal.nD Cert.AdamKernelIdeal.τ).loc Cert.AdamKernelIdeal.main_v0_8)) (v7 : (c : Dev Cert.AdamKernelIdeal.nD) → Buf (Elt Ideal) ((c.tc : Thread Cert.AdamKernelIdeal.nD Cert.AdamKernelIdeal.τ).loc Cert.AdamKernelIdeal.main_v0_9)) (v8 : (c : Dev Cert.AdamKernelIdeal.nD) → Buf (Elt Ideal) ((c.tc : Thread Cert.AdamKernelIdeal.nD Cert.AdamKernelIdeal.τ).loc Cert.AdamKernelIdeal.main_v0_10)) (v9 : (c : Dev Cert.AdamKernelIdeal.nD) → Buf (Elt Ideal) ((c.tc : Thread Cert.AdamKernelIdeal.nD Cert.AdamKernelIdeal.τ).loc Cert.AdamKernelIdeal.main_v0_12)) (v10 : (c : Dev Cert.AdamKernelIdeal.nD) → Buf (Elt Ideal) ((c.tc : Thread Cert.AdamKernelIdeal.nD Cert.AdamKernelIdeal.τ).loc Cert.AdamKernelIdeal.main_v0_13)) (v11 : (c : Dev Cert.AdamKernelIdeal.nD) → Buf (Elt Ideal) ((c.tc : Thread Cert.AdamKernelIdeal.nD Cert.AdamKernelIdeal.τ).loc Cert.AdamKernelIdeal.main_v0_14)) (v12 : (c : Dev Cert.AdamKernelIdeal.nD) → Buf (Elt Ideal) ((c.tc : Thread Cert.AdamKernelIdeal.nD Cert.AdamKernelIdeal.τ).loc Cert.AdamKernelIdeal.main_v0_16)) (v13 : (c : Dev Cert.AdamKernelIdeal.nD) → Buf (Elt Ideal) ((c.tc : Thread Cert.AdamKernelIdeal.nD Cert.AdamKernelIdeal.τ).loc Cert.AdamKernelIdeal.main_v0_17)) (v14 : (c : Dev Cert.AdamKernelIdeal.nD) → Buf (Elt Ideal) ((c.tc : Thread Cert.AdamKernelIdeal.nD Cert.AdamKernelIdeal.τ).loc Cert.AdamKernelIdeal.main_v0_18)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_v0_4) = v3 c
          ∧ r.2.mem ((c.tc : Thread Cert.AdamKernelIdeal.nD Cert.AdamKernelIdeal.τ).loc Cert.AdamKernelIdeal.main_v0_5) = v4 c
          ∧ r.2.mem ((c.tc : Thread Cert.AdamKernelIdeal.nD Cert.AdamKernelIdeal.τ).loc Cert.AdamKernelIdeal.main_v0_6) = v5 c
          ∧ r.2.mem ((c.tc : Thread Cert.AdamKernelIdeal.nD Cert.AdamKernelIdeal.τ).loc Cert.AdamKernelIdeal.main_v0_8) = v6 c
          ∧ r.2.mem ((c.tc : Thread Cert.AdamKernelIdeal.nD Cert.AdamKernelIdeal.τ).loc Cert.AdamKernelIdeal.main_v0_9) = v7 c
          ∧ r.2.mem ((c.tc : Thread Cert.AdamKernelIdeal.nD Cert.AdamKernelIdeal.τ).loc Cert.AdamKernelIdeal.main_v0_10) = v8 c
          ∧ r.2.mem ((c.tc : Thread Cert.AdamKernelIdeal.nD Cert.AdamKernelIdeal.τ).loc Cert.AdamKernelIdeal.main_v0_12) = v9 c
          ∧ r.2.mem ((c.tc : Thread Cert.AdamKernelIdeal.nD Cert.AdamKernelIdeal.τ).loc Cert.AdamKernelIdeal.main_v0_13) = v10 c
          ∧ r.2.mem ((c.tc : Thread Cert.AdamKernelIdeal.nD Cert.AdamKernelIdeal.τ).loc Cert.AdamKernelIdeal.main_v0_14) = v11 c
          ∧ r.2.mem ((c.tc : Thread Cert.AdamKernelIdeal.nD Cert.AdamKernelIdeal.τ).loc Cert.AdamKernelIdeal.main_v0_16) = v12 c
          ∧ r.2.mem ((c.tc : Thread Cert.AdamKernelIdeal.nD Cert.AdamKernelIdeal.τ).loc Cert.AdamKernelIdeal.main_v0_17) = v13 c
          ∧ r.2.mem ((c.tc : Thread Cert.AdamKernelIdeal.nD Cert.AdamKernelIdeal.τ).loc Cert.AdamKernelIdeal.main_v0_18) = v14 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
          ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
          ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
          ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7)
          ∧ r.2.mem ((c.tc : Thread Cert.AdamKernelIdeal.nD Cert.AdamKernelIdeal.τ).loc Cert.AdamKernelIdeal.main_arg8) = m ((c.tc : Thread Cert.AdamKernelIdeal.nD Cert.AdamKernelIdeal.τ).loc Cert.AdamKernelIdeal.main_arg8)
          ∧ r.2.mem ((c.tc : Thread Cert.AdamKernelIdeal.nD Cert.AdamKernelIdeal.τ).loc Cert.AdamKernelIdeal.main_arg9) = m ((c.tc : Thread Cert.AdamKernelIdeal.nD Cert.AdamKernelIdeal.τ).loc Cert.AdamKernelIdeal.main_arg9)
          ∧ r.2.mem ((c.tc : Thread Cert.AdamKernelIdeal.nD Cert.AdamKernelIdeal.τ).loc Cert.AdamKernelIdeal.main_arg10) = m ((c.tc : Thread Cert.AdamKernelIdeal.nD Cert.AdamKernelIdeal.τ).loc Cert.AdamKernelIdeal.main_arg10)
          ∧ r.2.mem ((c.tc : Thread Cert.AdamKernelIdeal.nD Cert.AdamKernelIdeal.τ).loc Cert.AdamKernelIdeal.main_arg11) = m ((c.tc : Thread Cert.AdamKernelIdeal.nD Cert.AdamKernelIdeal.τ).loc Cert.AdamKernelIdeal.main_arg11)
          ∧ r.2.mem ((c.tc : Thread Cert.AdamKernelIdeal.nD Cert.AdamKernelIdeal.τ).loc Cert.AdamKernelIdeal.main_arg12) = m ((c.tc : Thread Cert.AdamKernelIdeal.nD Cert.AdamKernelIdeal.τ).loc Cert.AdamKernelIdeal.main_arg12)
          ∧ r.2.mem ((c.tc : Thread Cert.AdamKernelIdeal.nD Cert.AdamKernelIdeal.τ).loc Cert.AdamKernelIdeal.main_arg13) = m ((c.tc : Thread Cert.AdamKernelIdeal.nD Cert.AdamKernelIdeal.τ).loc Cert.AdamKernelIdeal.main_arg13)
          ∧ r.2.mem ((c.tc : Thread Cert.AdamKernelIdeal.nD Cert.AdamKernelIdeal.τ).loc Cert.AdamKernelIdeal.main_arg14) = m ((c.tc : Thread Cert.AdamKernelIdeal.nD Cert.AdamKernelIdeal.τ).loc Cert.AdamKernelIdeal.main_arg14)
          ∧ r.2.mem ((c.tc : Thread Cert.AdamKernelIdeal.nD Cert.AdamKernelIdeal.τ).loc Cert.AdamKernelIdeal.main_arg15) = m ((c.tc : Thread Cert.AdamKernelIdeal.nD Cert.AdamKernelIdeal.τ).loc Cert.AdamKernelIdeal.main_arg15)
          ∧ r.2.mem ((c.tc : Thread Cert.AdamKernelIdeal.nD Cert.AdamKernelIdeal.τ).loc Cert.AdamKernelIdeal.main_arg16) = m ((c.tc : Thread Cert.AdamKernelIdeal.nD Cert.AdamKernelIdeal.τ).loc Cert.AdamKernelIdeal.main_arg16)
          ∧ r.2.mem ((c.tc : Thread Cert.AdamKernelIdeal.nD Cert.AdamKernelIdeal.τ).loc Cert.AdamKernelIdeal.main_arg17) = m ((c.tc : Thread Cert.AdamKernelIdeal.nD Cert.AdamKernelIdeal.τ).loc Cert.AdamKernelIdeal.main_arg17)
          ∧ r.2.mem ((c.tc : Thread Cert.AdamKernelIdeal.nD Cert.AdamKernelIdeal.τ).loc Cert.AdamKernelIdeal.main_arg18) = m ((c.tc : Thread Cert.AdamKernelIdeal.nD Cert.AdamKernelIdeal.τ).loc Cert.AdamKernelIdeal.main_arg18)
          ∧ r.2.mem ((c.tc : Thread Cert.AdamKernelIdeal.nD Cert.AdamKernelIdeal.τ).loc Cert.AdamKernelIdeal.main_arg19) = m ((c.tc : Thread Cert.AdamKernelIdeal.nD Cert.AdamKernelIdeal.τ).loc Cert.AdamKernelIdeal.main_arg19))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_v47) = v3 c
          ∧ r.2.mem ((c.tc : Thread Cert.AdamReferenceIdeal.nD Cert.AdamReferenceIdeal.τ).loc Cert.AdamReferenceIdeal.main_v28) = v4 c
          ∧ r.2.mem ((c.tc : Thread Cert.AdamReferenceIdeal.nD Cert.AdamReferenceIdeal.τ).loc Cert.AdamReferenceIdeal.main_v34) = v5 c
          ∧ r.2.mem ((c.tc : Thread Cert.AdamReferenceIdeal.nD Cert.AdamReferenceIdeal.τ).loc Cert.AdamReferenceIdeal.main_v71) = v6 c
          ∧ r.2.mem ((c.tc : Thread Cert.AdamReferenceIdeal.nD Cert.AdamReferenceIdeal.τ).loc Cert.AdamReferenceIdeal.main_v52) = v7 c
          ∧ r.2.mem ((c.tc : Thread Cert.AdamReferenceIdeal.nD Cert.AdamReferenceIdeal.τ).loc Cert.AdamReferenceIdeal.main_v58) = v8 c
          ∧ r.2.mem ((c.tc : Thread Cert.AdamReferenceIdeal.nD Cert.AdamReferenceIdeal.τ).loc Cert.AdamReferenceIdeal.main_v95) = v9 c
          ∧ r.2.mem ((c.tc : Thread Cert.AdamReferenceIdeal.nD Cert.AdamReferenceIdeal.τ).loc Cert.AdamReferenceIdeal.main_v76) = v10 c
          ∧ r.2.mem ((c.tc : Thread Cert.AdamReferenceIdeal.nD Cert.AdamReferenceIdeal.τ).loc Cert.AdamReferenceIdeal.main_v82) = v11 c
          ∧ r.2.mem ((c.tc : Thread Cert.AdamReferenceIdeal.nD Cert.AdamReferenceIdeal.τ).loc Cert.AdamReferenceIdeal.main_v119) = v12 c
          ∧ r.2.mem ((c.tc : Thread Cert.AdamReferenceIdeal.nD Cert.AdamReferenceIdeal.τ).loc Cert.AdamReferenceIdeal.main_v100) = v13 c
          ∧ r.2.mem ((c.tc : Thread Cert.AdamReferenceIdeal.nD Cert.AdamReferenceIdeal.τ).loc Cert.AdamReferenceIdeal.main_v106) = v14 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7)
          ∧ r.2.mem ((c.tc : Thread Cert.AdamReferenceIdeal.nD Cert.AdamReferenceIdeal.τ).loc Cert.AdamReferenceIdeal.main_arg8) = m' ((c.tc : Thread Cert.AdamReferenceIdeal.nD Cert.AdamReferenceIdeal.τ).loc Cert.AdamReferenceIdeal.main_arg8)
          ∧ r.2.mem ((c.tc : Thread Cert.AdamReferenceIdeal.nD Cert.AdamReferenceIdeal.τ).loc Cert.AdamReferenceIdeal.main_arg9) = m' ((c.tc : Thread Cert.AdamReferenceIdeal.nD Cert.AdamReferenceIdeal.τ).loc Cert.AdamReferenceIdeal.main_arg9)
          ∧ r.2.mem ((c.tc : Thread Cert.AdamReferenceIdeal.nD Cert.AdamReferenceIdeal.τ).loc Cert.AdamReferenceIdeal.main_arg10) = m' ((c.tc : Thread Cert.AdamReferenceIdeal.nD Cert.AdamReferenceIdeal.τ).loc Cert.AdamReferenceIdeal.main_arg10)
          ∧ r.2.mem ((c.tc : Thread Cert.AdamReferenceIdeal.nD Cert.AdamReferenceIdeal.τ).loc Cert.AdamReferenceIdeal.main_arg11) = m' ((c.tc : Thread Cert.AdamReferenceIdeal.nD Cert.AdamReferenceIdeal.τ).loc Cert.AdamReferenceIdeal.main_arg11)
          ∧ r.2.mem ((c.tc : Thread Cert.AdamReferenceIdeal.nD Cert.AdamReferenceIdeal.τ).loc Cert.AdamReferenceIdeal.main_arg12) = m' ((c.tc : Thread Cert.AdamReferenceIdeal.nD Cert.AdamReferenceIdeal.τ).loc Cert.AdamReferenceIdeal.main_arg12)
          ∧ r.2.mem ((c.tc : Thread Cert.AdamReferenceIdeal.nD Cert.AdamReferenceIdeal.τ).loc Cert.AdamReferenceIdeal.main_arg13) = m' ((c.tc : Thread Cert.AdamReferenceIdeal.nD Cert.AdamReferenceIdeal.τ).loc Cert.AdamReferenceIdeal.main_arg13)
          ∧ r.2.mem ((c.tc : Thread Cert.AdamReferenceIdeal.nD Cert.AdamReferenceIdeal.τ).loc Cert.AdamReferenceIdeal.main_arg14) = m' ((c.tc : Thread Cert.AdamReferenceIdeal.nD Cert.AdamReferenceIdeal.τ).loc Cert.AdamReferenceIdeal.main_arg14)
          ∧ r.2.mem ((c.tc : Thread Cert.AdamReferenceIdeal.nD Cert.AdamReferenceIdeal.τ).loc Cert.AdamReferenceIdeal.main_arg15) = m' ((c.tc : Thread Cert.AdamReferenceIdeal.nD Cert.AdamReferenceIdeal.τ).loc Cert.AdamReferenceIdeal.main_arg15)
          ∧ r.2.mem ((c.tc : Thread Cert.AdamReferenceIdeal.nD Cert.AdamReferenceIdeal.τ).loc Cert.AdamReferenceIdeal.main_arg16) = m' ((c.tc : Thread Cert.AdamReferenceIdeal.nD Cert.AdamReferenceIdeal.τ).loc Cert.AdamReferenceIdeal.main_arg16)
          ∧ r.2.mem ((c.tc : Thread Cert.AdamReferenceIdeal.nD Cert.AdamReferenceIdeal.τ).loc Cert.AdamReferenceIdeal.main_arg17) = m' ((c.tc : Thread Cert.AdamReferenceIdeal.nD Cert.AdamReferenceIdeal.τ).loc Cert.AdamReferenceIdeal.main_arg17)
          ∧ r.2.mem ((c.tc : Thread Cert.AdamReferenceIdeal.nD Cert.AdamReferenceIdeal.τ).loc Cert.AdamReferenceIdeal.main_arg18) = m' ((c.tc : Thread Cert.AdamReferenceIdeal.nD Cert.AdamReferenceIdeal.τ).loc Cert.AdamReferenceIdeal.main_arg18)
          ∧ r.2.mem ((c.tc : Thread Cert.AdamReferenceIdeal.nD Cert.AdamReferenceIdeal.τ).loc Cert.AdamReferenceIdeal.main_arg19) = m' ((c.tc : Thread Cert.AdamReferenceIdeal.nD Cert.AdamReferenceIdeal.τ).loc Cert.AdamReferenceIdeal.main_arg19))

def preserves_AdamSmallKernel_AdamSmallKernelIdeal : Prop :=
  True

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v0_0)) (v1 : (c : Dev Cert.AdamSmallKernelIdeal.nD) → Buf (Elt Ideal) ((c.tc : Thread Cert.AdamSmallKernelIdeal.nD Cert.AdamSmallKernelIdeal.τ).loc Cert.AdamSmallKernelIdeal.main_v0_1)) (v2 : (c : Dev Cert.AdamSmallKernelIdeal.nD) → Buf (Elt Ideal) ((c.tc : Thread Cert.AdamSmallKernelIdeal.nD Cert.AdamSmallKernelIdeal.τ).loc Cert.AdamSmallKernelIdeal.main_v0_2)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v0_0) = v0 c
          ∧ r.2.mem ((c.tc : Thread Cert.AdamSmallKernelIdeal.nD Cert.AdamSmallKernelIdeal.τ).loc Cert.AdamSmallKernelIdeal.main_v0_1) = v1 c
          ∧ r.2.mem ((c.tc : Thread Cert.AdamSmallKernelIdeal.nD Cert.AdamSmallKernelIdeal.τ).loc Cert.AdamSmallKernelIdeal.main_v0_2) = v2 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def Claim : Prop :=
  ∃ (hKernel : Cert.Kernel.Facts) (hKernelIdeal : Cert.KernelIdeal.Facts) (hReferenceIdeal : Cert.ReferenceIdeal.Facts) (hMlpKernel : Cert.MlpKernel.Facts) (hMlpKernelIdeal : Cert.MlpKernelIdeal.Facts) (hMlpReferenceIdeal : Cert.MlpReferenceIdeal.Facts) (hDownKernel : Cert.DownKernel.Facts) (hDownKernelIdeal : Cert.DownKernelIdeal.Facts) (hDownReferenceIdeal : Cert.DownReferenceIdeal.Facts) (hMixKernel : Cert.MixKernel.Facts) (hMixKernelIdeal : Cert.MixKernelIdeal.Facts) (hMixReferenceIdeal : Cert.MixReferenceIdeal.Facts) (hUpDxKernel : Cert.UpDxKernel.Facts) (hUpDxKernelIdeal : Cert.UpDxKernelIdeal.Facts) (hUpDxReferenceIdeal : Cert.UpDxReferenceIdeal.Facts) (hInDxKernel : Cert.InDxKernel.Facts) (hInDxKernelIdeal : Cert.InDxKernelIdeal.Facts) (hInDxReferenceIdeal : Cert.InDxReferenceIdeal.Facts) (hInDwKernel : Cert.InDwKernel.Facts) (hInDwKernelIdeal : Cert.InDwKernelIdeal.Facts) (hInDwReferenceIdeal : Cert.InDwReferenceIdeal.Facts) (hNormKernel : Cert.NormKernel.Facts) (hNormKernelIdeal : Cert.NormKernelIdeal.Facts) (hNormReferenceIdeal : Cert.NormReferenceIdeal.Facts) (hGateKernel : Cert.GateKernel.Facts) (hGateKernelIdeal : Cert.GateKernelIdeal.Facts) (hGateReferenceIdeal : Cert.GateReferenceIdeal.Facts) (hAdamInKernel : Cert.AdamInKernel.Facts) (hAdamInKernelIdeal : Cert.AdamInKernelIdeal.Facts) (hAdamInReferenceIdeal : Cert.AdamInReferenceIdeal.Facts) (hAdamKernel : Cert.AdamKernel.Facts) (hAdamKernelIdeal : Cert.AdamKernelIdeal.Facts) (hAdamReferenceIdeal : Cert.AdamReferenceIdeal.Facts) (hAdamSmallKernel : Cert.AdamSmallKernel.Facts) (hAdamSmallKernelIdeal : Cert.AdamSmallKernelIdeal.Facts) (hAdamSmallReferenceIdeal : Cert.AdamSmallReferenceIdeal.Facts) (hPre_gates_in_range : Cert.Pre_gates_in_range.Facts) (hPre_finite_gradient : Cert.Pre_finite_gradient.Facts),
    quiescent_Kernel (hKernel := hKernel)
    ∧ quiescent_KernelIdeal (hKernelIdeal := hKernelIdeal)
    ∧ quiescent_KernelIdeal_pre_gates_in_range (hKernelIdeal := hKernelIdeal) (hPre_gates_in_range := hPre_gates_in_range)
    ∧ quiescent_ReferenceIdeal (hReferenceIdeal := hReferenceIdeal)
    ∧ quiescent_ReferenceIdeal_pre_gates_in_range (hReferenceIdeal := hReferenceIdeal) (hPre_gates_in_range := hPre_gates_in_range)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_UpDxKernel (hUpDxKernel := hUpDxKernel)
    ∧ quiescent_UpDxKernelIdeal (hUpDxKernelIdeal := hUpDxKernelIdeal)
    ∧ quiescent_UpDxReferenceIdeal (hUpDxReferenceIdeal := hUpDxReferenceIdeal)
    ∧ quiescent_InDxKernel (hInDxKernel := hInDxKernel)
    ∧ quiescent_InDxKernelIdeal (hInDxKernelIdeal := hInDxKernelIdeal)
    ∧ quiescent_InDxReferenceIdeal (hInDxReferenceIdeal := hInDxReferenceIdeal)
    ∧ quiescent_InDwKernel (hInDwKernel := hInDwKernel)
    ∧ quiescent_InDwKernelIdeal (hInDwKernelIdeal := hInDwKernelIdeal)
    ∧ quiescent_InDwReferenceIdeal (hInDwReferenceIdeal := hInDwReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GateKernel (hGateKernel := hGateKernel)
    ∧ quiescent_GateKernelIdeal (hGateKernelIdeal := hGateKernelIdeal)
    ∧ quiescent_GateKernelIdeal_pre_finite_gradient (hGateKernelIdeal := hGateKernelIdeal) (hPre_finite_gradient := hPre_finite_gradient)
    ∧ quiescent_GateReferenceIdeal (hGateReferenceIdeal := hGateReferenceIdeal)
    ∧ quiescent_GateReferenceIdeal_pre_finite_gradient (hGateReferenceIdeal := hGateReferenceIdeal) (hPre_finite_gradient := hPre_finite_gradient)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ preserves_Kernel_KernelIdeal
    ∧ algebraic_KernelIdeal_ReferenceIdeal_pre_gates_in_range (hKernelIdeal := hKernelIdeal) (hReferenceIdeal := hReferenceIdeal) (hPre_gates_in_range := hPre_gates_in_range)
    ∧ preserves_MlpKernel_MlpKernelIdeal
    ∧ algebraic_MlpKernelIdeal_MlpReferenceIdeal (hMlpKernelIdeal := hMlpKernelIdeal) (hMlpReferenceIdeal := hMlpReferenceIdeal)
    ∧ preserves_DownKernel_DownKernelIdeal
    ∧ algebraic_DownKernelIdeal_DownReferenceIdeal (hDownKernelIdeal := hDownKernelIdeal) (hDownReferenceIdeal := hDownReferenceIdeal)
    ∧ preserves_MixKernel_MixKernelIdeal
    ∧ algebraic_MixKernelIdeal_MixReferenceIdeal (hMixKernelIdeal := hMixKernelIdeal) (hMixReferenceIdeal := hMixReferenceIdeal)
    ∧ preserves_UpDxKernel_UpDxKernelIdeal
    ∧ algebraic_UpDxKernelIdeal_UpDxReferenceIdeal (hUpDxKernelIdeal := hUpDxKernelIdeal) (hUpDxReferenceIdeal := hUpDxReferenceIdeal)
    ∧ preserves_InDxKernel_InDxKernelIdeal
    ∧ algebraic_InDxKernelIdeal_InDxReferenceIdeal (hInDxKernelIdeal := hInDxKernelIdeal) (hInDxReferenceIdeal := hInDxReferenceIdeal)
    ∧ preserves_InDwKernel_InDwKernelIdeal
    ∧ algebraic_InDwKernelIdeal_InDwReferenceIdeal (hInDwKernelIdeal := hInDwKernelIdeal) (hInDwReferenceIdeal := hInDwReferenceIdeal)
    ∧ preserves_NormKernel_NormKernelIdeal
    ∧ algebraic_NormKernelIdeal_NormReferenceIdeal (hNormKernelIdeal := hNormKernelIdeal) (hNormReferenceIdeal := hNormReferenceIdeal)
    ∧ preserves_GateKernel_GateKernelIdeal
    ∧ algebraic_GateKernelIdeal_GateReferenceIdeal_pre_finite_gradient (hGateKernelIdeal := hGateKernelIdeal) (hGateReferenceIdeal := hGateReferenceIdeal) (hPre_finite_gradient := hPre_finite_gradient)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
-- ==== Pre_finite_gradient.lean ====
abbrev S2176x512 : Shape := ⟨2, ![2176, 512]⟩
abbrev S2176x6144 : Shape := ⟨2, ![2176, 6144]⟩
abbrev S1x512 : Shape := ⟨2, ![1, 512]⟩
abbrev S_ : Shape := ⟨0, ![]⟩

class Facts : Prop where
  bcast_S1x512_S2176x512_0_1 : S1x512.BroadcastsInDim S2176x512 (![0, 1] : Fin 2 → Fin S2176x512.rank)
  bcast_S_S2176x512 : S_.BroadcastsInDim S2176x512 (![] : Fin 0 → Fin S2176x512.rank)

variable [Facts]

def fn {F : FTy → Type} [FloatOps F] (main_arg0 : FVec F S2176x512 .f32) (main_arg1 : FVec F S2176x512 .f32) (main_arg2 : FVec F S2176x6144 .f32) (main_arg3 : FVec F S1x512 .f32) (main_arg4 : FVec F S2176x512 .f32) : IVec S2176x512 1 :=
  let main_v0 : FVec F S2176x512 .f32 := broadcastInDim S2176x512 ![0, 1] bcast_S1x512_S2176x512_0_1 main_arg3
  let main_v1 : FVec F S2176x512 .f32 := Host.absf main_v0
  let main_cst : FVec F S_ .f32 := constant S_ .f32 0x7F800000#32
  let main_v2 : FVec F S2176x512 .f32 := broadcastInDim S2176x512 ![] bcast_S_S2176x512 main_cst
  let main_v3 : IVec S2176x512 1 := cmpf .olt main_v1 main_v2
  let main_v4 : FVec F S2176x512 .f32 := Host.absf main_arg4
  let main_cst_0 : FVec F S_ .f32 := constant S_ .f32 0x7F800000#32
  let main_v5 : FVec F S2176x512 .f32 := broadcastInDim S2176x512 ![] bcast_S_S2176x512 main_cst_0
  let main_v6 : IVec S2176x512 1 := cmpf .olt main_v4 main_v5
  let main_v7 : IVec S2176x512 1 := andi main_v3 main_v6
  main_v7
-- ==== Pre_gates_in_range.lean ====
abbrev S2176x6144 : Shape := ⟨2, ![2176, 6144]⟩
abbrev S512 : Shape := ⟨1, ![512]⟩
abbrev S2176x512 : Shape := ⟨2, ![2176, 512]⟩
abbrev S_ : Shape := ⟨0, ![]⟩

class Facts : Prop where
  slices_S2176x6144_S2176x512_0_1536 : S2176x6144.Slices ![0, 1536] S2176x512
  slices_S2176x6144_S2176x512_0_2048 : S2176x6144.Slices ![0, 2048] S2176x512
  slices_S2176x6144_S2176x512_0_3072 : S2176x6144.Slices ![0, 3072] S2176x512
  bcast_S512_S2176x512_1 : S512.BroadcastsInDim S2176x512 (![1] : Fin 1 → Fin S2176x512.rank)
  bcast_S_S2176x512 : S_.BroadcastsInDim S2176x512 (![] : Fin 0 → Fin S2176x512.rank)

variable [Facts]

def fn_part1 {F : FTy → Type} [FloatOps F] (main_v3 : FVec F S2176x512 .f32) (main_v18 : IVec S2176x512 1) (main_cst_3 : FVec F S_ .f32) : IVec S2176x512 1 :=
  let main_v19 : FVec F S2176x512 .f32 := broadcastInDim S2176x512 ![] bcast_S_S2176x512 main_cst_3
  let main_v20 : IVec S2176x512 1 := cmpf .oge main_v3 main_v19
  let main_v21 : IVec S2176x512 1 := andi main_v18 main_v20
  let main_cst_4 : FVec F S_ .f32 := constant S_ .f32 0x3F800000#32
  let main_v22 : FVec F S2176x512 .f32 := broadcastInDim S2176x512 ![] bcast_S_S2176x512 main_cst_4
  let main_v23 : IVec S2176x512 1 := cmpf .ole main_v3 main_v22
  let main_v24 : IVec S2176x512 1 := andi main_v21 main_v23
  main_v24

def fn {F : FTy → Type} [FloatOps F] (main_arg0 : FVec F S2176x6144 .f32) (main_arg1 : FVec F S512 .f32) (main_arg2 : FVec F S2176x512 .f32) : IVec S2176x512 1 :=
  let main_v0 : FVec F S2176x512 .f32 := (extractStridedSlice S2176x512 ![0, 1536] · slices_S2176x6144_S2176x512_0_1536) main_arg0
  let main_v1 : FVec F S2176x512 .f32 := (extractStridedSlice S2176x512 ![0, 2048] · slices_S2176x6144_S2176x512_0_2048) main_arg0
  let main_v2 : FVec F S2176x512 .f32 := (extractStridedSlice S2176x512 ![0, 3072] · slices_S2176x6144_S2176x512_0_3072) main_arg0
  let main_v3 : FVec F S2176x512 .f32 := broadcastInDim S2176x512 ![1] bcast_S512_S2176x512_1 main_arg1
  let main_v4 : FVec F S2176x512 .f32 := Host.absf main_v0
  let main_cst : FVec F S_ .f32 := constant S_ .f32 0x7F800000#32
  let main_v5 : FVec F S2176x512 .f32 := broadcastInDim S2176x512 ![] bcast_S_S2176x512 main_cst
  let main_v6 : IVec S2176x512 1 := cmpf .olt main_v4 main_v5
  let main_v7 : FVec F S2176x512 .f32 := Host.absf main_v1
  let main_cst_0 : FVec F S_ .f32 := constant S_ .f32 0x7F800000#32
  let main_v8 : FVec F S2176x512 .f32 := broadcastInDim S2176x512 ![] bcast_S_S2176x512 main_cst_0
  let main_v9 : IVec S2176x512 1 := cmpf .olt main_v7 main_v8
  let main_v10 : IVec S2176x512 1 := andi main_v6 main_v9
  let main_v11 : FVec F S2176x512 .f32 := Host.absf main_v2
  let main_cst_1 : FVec F S_ .f32 := constant S_ .f32 0x7F800000#32
  let main_v12 : FVec F S2176x512 .f32 := broadcastInDim S2176x512 ![] bcast_S_S2176x512 main_cst_1
  let main_v13 : IVec S2176x512 1 := cmpf .olt main_v11 main_v12
  let main_v14 : IVec S2176x512 1 := andi main_v10 main_v13
  let main_v15 : FVec F S2176x512 .f32 := Host.absf main_arg2
  let main_cst_2 : FVec F S_ .f32 := constant S_ .f32 0x7F800000#32
  let main_v16 : FVec F S2176x512 .f32 := broadcastInDim S2176x512 ![] bcast_S_S2176x512 main_cst_2
  let main_v17 : IVec S2176x512 1 := cmpf .olt main_v15 main_v16
  let main_v18 : IVec S2176x512 1 := andi main_v14 main_v17
  let main_cst_3 : FVec F S_ .f32 := constant S_ .f32 0x00000000#32
  fn_part1 (F := F) main_v3 main_v18 main_cst_3
-- ==== Kernel.lean ====
abbrev S2176x6144 : Shape := ⟨2, ![2176, 6144]⟩
abbrev S512 : Shape := ⟨1, ![512]⟩
abbrev S2176x512 : Shape := ⟨2, ![2176, 512]⟩
abbrev S4x1x128 : Shape := ⟨3, ![4, 1, 128]⟩
abbrev S4x17x128x128 : Shape := ⟨4, ![4, 17, 128, 128]⟩
abbrev S2176x128 : Shape := ⟨2, ![2176, 128]⟩
abbrev S1x1x128 : Shape := ⟨3, ![1, 1, 128]⟩
abbrev S1x17x128x128 : Shape := ⟨4, ![1, 17, 128, 128]⟩
abbrev S7x128x128 : Shape := ⟨3, ![7, 128, 128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S128 : Shape := ⟨1, ![128]⟩
abbrev S1x1x128x128 : Shape := ⟨4, ![1, 1, 128, 128]⟩

abbrev nBuf : Space → Nat
  | .hbm => 10
  | .vmem => 34
  | .smem => 0
  | _ => 0

abbrev bufTy : (tb : Table) → Fin (tcTables nBuf tb) → BufTy
  | .hbm, ⟨0, _⟩ => ⟨S2176x6144, .f32⟩
  | .hbm, ⟨1, _⟩ => ⟨S512, .f32⟩
  | .hbm, ⟨2, _⟩ => ⟨S2176x512, .f32⟩
  | .hbm, ⟨3, _⟩ => ⟨S4x1x128, .f32⟩
  | .hbm, ⟨4, _⟩ => ⟨S2176x512, .f32⟩
  | .hbm, ⟨5, _⟩ => ⟨S4x17x128x128, .f32⟩
  | .hbm, ⟨6, _⟩ => ⟨S2176x512, .f32⟩
  | .hbm, ⟨7, _⟩ => ⟨S2176x512, .bf16⟩
  | .hbm, ⟨8, _⟩ => ⟨S2176x512, .f32⟩
  | .hbm, ⟨9, _⟩ => ⟨S4x1x128, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S1x1x128, .f32⟩
  | .local _ .vmem, ⟨7, _⟩ => ⟨S1x1x128, .f32⟩
  | .local _ .vmem, ⟨8, _⟩ => ⟨S2176x128, .f32⟩
  | .local _ .vmem, ⟨9, _⟩ => ⟨S2176x128, .f32⟩
  | .local _ .vmem, ⟨10, _⟩ => ⟨S1x17x128x128, .f32⟩
  | .local _ .vmem, ⟨11, _⟩ => ⟨S1x17x128x128, .f32⟩
  | .local _ .vmem, ⟨12, _⟩ => ⟨S7x128x128, .f32⟩
  | .local _ .vmem, ⟨13, _⟩ => ⟨S2176x128, .f32⟩
  | .local _ .vmem, ⟨14, _⟩ => ⟨S2176x128, .f32⟩
  | .local _ .vmem, ⟨15, _⟩ => ⟨S2176x128, .f32⟩
  | .local _ .vmem, ⟨16, _⟩ => ⟨S2176x128, .f32⟩
  | .local _ .vmem, ⟨17, _⟩ => ⟨S2176x128, .f32⟩
  | .local _ .vmem, ⟨18, _⟩ => ⟨S2176x128, .f32⟩
  | .local _ .vmem, ⟨19, _⟩ => ⟨S1x1x128, .f32⟩
  | .local _ .vmem, ⟨20, _⟩ => ⟨S1x1x128, .f32⟩
  | .local _ .vmem, ⟨21, _⟩ => ⟨S1x17x128x128, .f32⟩
  | .local _ .vmem, ⟨22, _⟩ => ⟨S1x17x128x128, .f32⟩
  | .local _ .vmem, ⟨23, _⟩ => ⟨S2176x128, .f32⟩
  | .local _ .vmem, ⟨24, _⟩ => ⟨S2176x128, .f32⟩
  | .local _ .vmem, ⟨25, _⟩ => ⟨S2176x128, .f32⟩
  | .local _ .vmem, ⟨26, _⟩ => ⟨S2176x128, .f32⟩
  | .local _ .vmem, ⟨27, _⟩ => ⟨S2176x128, .bf16⟩
  | .local _ .vmem, ⟨28, _⟩ => ⟨S2176x128, .bf16⟩
  | .local _ .vmem, ⟨29, _⟩ => ⟨S2176x128, .f32⟩
  | .local _ .vmem, ⟨30, _⟩ => ⟨S2176x128, .f32⟩
  | .local _ .vmem, ⟨31, _⟩ => ⟨S1x1x128, .f32⟩
  | .local _ .vmem, ⟨32, _⟩ => ⟨S1x1x128, .f32⟩
  | .local _ .vmem, ⟨33, _⟩ => ⟨S7x128x128, .f32⟩
  | _, _ => ⟨S2176x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c17_i32 : BitVec 32 := 17#32
  let v85 : BitVec 32 := Scalar.addi c0_i32 c17_i32
  let c1_i32_38 : BitVec 32 := 1#32
  ⟨c0_i32, v85, c1_i32_38⟩
def k0_mult1 (k0_t1 : Fin k0_t1_loop.trips) : BitVec 32 :=
  let c0_i32 : BitVec 32 := 0#32
  let c1_i32_38 : BitVec 32 := 1#32
  let arg8 : BitVec 32 := Scf.iv c0_i32 c1_i32_38 k0_t1
  let c128_i32 : BitVec 32 := 128#32
  let v87 : BitVec 32 := Scalar.muli arg8 c128_i32
  v87
def k0_off1 (k0_t1 : Fin k0_t1_loop.trips) : Fin 2 → Nat :=
  let c0_i32 : BitVec 32 := 0#32
  let c1_i32_38 : BitVec 32 := 1#32
  let arg8 : BitVec 32 := Scf.iv c0_i32 c1_i32_38 k0_t1
  let c128_i32 : BitVec 32 := 128#32
  let v87 : BitVec 32 := Scalar.muli arg8 c128_i32
  let v88 : BitVec 32 := v87
  let v89 : Index := Scalar.indexCast v88
  let c0_40 : Index := 0#32
  ![v89.toNat, 0]
def k0_off2 (k0_t1 : Fin k0_t1_loop.trips) : Fin 4 → Nat :=
  let c0_143 : Index := 0#32
  let c0_i32 : BitVec 32 := 0#32
  let c1_i32_38 : BitVec 32 := 1#32
  let arg8 : BitVec 32 := Scf.iv c0_i32 c1_i32_38 k0_t1
  let v427 : Index := Scalar.indexCast arg8
  let c0_144 : Index := 0#32
  let c0_145 : Index := 0#32
  ![0, v427.toNat, 0, 0]
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x17x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

@[reducible] def k1_t1_loop : Scf.Loop 32 :=
  let c0_i32 : BitVec 32 := 0#32
  let c17_i32 : BitVec 32 := 17#32
  let v86 : BitVec 32 := Scalar.addi c0_i32 c17_i32
  let c1_i32_39 : BitVec 32 := 1#32
  ⟨c0_i32, v86, c1_i32_39⟩
def k1_mult1 (k1_t1 : Fin k1_t1_loop.trips) : BitVec 32 :=
  let c16_i32 : BitVec 32 := 16#32
  let c0_i32 : BitVec 32 := 0#32
  let c1_i32_39 : BitVec 32 := 1#32
  let arg12 : BitVec 32 := Scf.iv c0_i32 c1_i32_39 k1_t1
  let v91 : BitVec 32 := Scalar.subi c16_i32 arg12
  let c128_i32 : BitVec 32 := 128#32
  let v92 : BitVec 32 := Scalar.muli v91 c128_i32
  v92
def k1_off1 (k1_t1 : Fin k1_t1_loop.trips) : Fin 2 → Nat :=
  let c16_i32 : BitVec 32 := 16#32
  let c0_i32 : BitVec 32 := 0#32
  let c1_i32_39 : BitVec 32 := 1#32
  let arg12 : BitVec 32 := Scf.iv c0_i32 c1_i32_39 k1_t1
  let v91 : BitVec 32 := Scalar.subi c16_i32 arg12
  let c128_i32 : BitVec 32 := 128#32
  let v92 : BitVec 32 := Scalar.muli v91 c128_i32
  let v93 : BitVec 32 := v92
  let v94 : Index := Scalar.indexCast v93
  let c0_44 : Index := 0#32
  ![v94.toNat, 0]
def k1_off2 (k1_t1 : Fin k1_t1_loop.trips) : Fin 4 → Nat :=
  let c0_75 : Index := 0#32
  let c16_i32 : BitVec 32 := 16#32
  let c0_i32 : BitVec 32 := 0#32
  let c1_i32_39 : BitVec 32 := 1#32
  let arg12 : BitVec 32 := Scf.iv c0_i32 c1_i32_39 k1_t1
  let v91 : BitVec 32 := Scalar.subi c16_i32 arg12
  let v198 : Index := Scalar.indexCast v91
  let c0_76 : Index := 0#32
  let c0_77 : Index := 0#32
  ![0, v198.toNat, 0, 0]
def cc1_transform_0 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2176x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2176x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2176x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x17x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2176x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2176x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2176x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2176x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S2176x6144 : Shape := ⟨2, ![2176, 6144]⟩
abbrev S512 : Shape := ⟨1, ![512]⟩
abbrev S2176x512 : Shape := ⟨2, ![2176, 512]⟩
abbrev S2176x4x128 : Shape := ⟨3, ![2176, 4, 128]⟩
abbrev S_ : Shape := ⟨0, ![]⟩
abbrev S4x128 : Shape := ⟨2, ![4, 128]⟩
abbrev S1x4x128 : Shape := ⟨3, ![1, 4, 128]⟩
abbrev S2176x2176 : Shape := ⟨2, ![2176, 2176]⟩
abbrev S2176x2176x1x1 : Shape := ⟨4, ![2176, 2176, 1, 1]⟩
abbrev S2176x1x4x128 : Shape := ⟨4, ![2176, 1, 4, 128]⟩
abbrev S1x2176x4x128 : Shape := ⟨4, ![1, 2176, 4, 128]⟩
abbrev S2176x2176x4x128 : Shape := ⟨4, ![2176, 2176, 4, 128]⟩
abbrev S2176x2176x4 : Shape := ⟨3, ![2176, 2176, 4]⟩
abbrev S4x128x2176 : Shape := ⟨3, ![4, 128, 2176]⟩
abbrev S4x2176x2176 : Shape := ⟨3, ![4, 2176, 2176]⟩
abbrev S4x1x128 : Shape := ⟨3, ![4, 1, 128]⟩

abbrev nBuf : Space → Nat
  | .hbm => 168
  | .vmem => 0
  | .smem => 0
  | _ => 0

abbrev hbmTy0_0 (i : Nat) : BufTy := match i % 128 with
  | 0 => ⟨S2176x6144, .f32⟩
  | 1 => ⟨S512, .f32⟩
  | 2 => ⟨S2176x512, .f32⟩
  | 3 => ⟨S2176x512, .f32⟩
  | 4 => ⟨S2176x512, .f32⟩
  | 5 => ⟨S2176x512, .f32⟩
  | 6 => ⟨S2176x4x128, .f32⟩
  | 7 => ⟨S2176x4x128, .f32⟩
  | 8 => ⟨S2176x4x128, .f32⟩
  | 9 => ⟨S_, .f32⟩
  | 10 => ⟨S2176x4x128, .f32⟩
  | 11 => ⟨S2176x4x128, .f32⟩
  | 12 => ⟨S_, .f32⟩
  | 13 => ⟨S2176x4x128, .f32⟩
  | 14 => ⟨S2176x4x128, .f32⟩
  | 15 => ⟨S_, .f32⟩
  | 16 => ⟨S2176x4x128, .f32⟩
  | 17 => ⟨S2176x4x128, .f32⟩
  | 18 => ⟨S2176x4x128, .f32⟩
  | 19 => ⟨S2176x4x128, .f32⟩
  | 20 => ⟨S2176x4x128, .f32⟩
  | 21 => ⟨S4x128, .f32⟩
  | 22 => ⟨S_, .f32⟩
  | 23 => ⟨S4x128, .f32⟩
  | 24 => ⟨S4x128, .f32⟩
  | 25 => ⟨S2176x4x128, .f32⟩
  | 26 => ⟨S2176x4x128, .f32⟩
  | 27 => ⟨S2176x4x128, .f32⟩
  | 28 => ⟨S_, .f32⟩
  | 29 => ⟨S2176x4x128, .f32⟩
  | 30 => ⟨S2176x4x128, .f32⟩
  | 31 => ⟨S_, .f32⟩
  | 32 => ⟨S2176x4x128, .f32⟩
  | 33 => ⟨S2176x4x128, .f32⟩
  | 34 => ⟨S_, .f32⟩
  | 35 => ⟨S2176x4x128, .f32⟩
  | 36 => ⟨S2176x4x128, .f32⟩
  | 37 => ⟨S2176x4x128, .f32⟩
  | 38 => ⟨S1x4x128, .f32⟩
  | 39 => ⟨S2176x4x128, .f32⟩
  | 40 => ⟨S2176x4x128, .f32⟩
  | 41 => ⟨S1x4x128, .f32⟩
  | 42 => ⟨S2176x4x128, .f32⟩
  | 43 => ⟨S2176x4x128, .f32⟩
  | 44 => ⟨S_, .f32⟩
  | 45 => ⟨S2176x4x128, .f32⟩
  | 46 => ⟨S2176x4x128, .f32⟩
  | 47 => ⟨S2176x4x128, .f32⟩
  | 48 => ⟨S_, .f32⟩
  | 49 => ⟨S_, .f32⟩
  | 50 => ⟨S2176x4x128, .f32⟩
  | 51 => ⟨S_, .i1⟩
  | 52 => ⟨S2176x2176, .i1⟩
  | 53 => ⟨S2176x2176, .i32⟩
  | 54 => ⟨S_, .i32⟩
  | 55 => ⟨S2176x2176, .i32⟩
  | 56 => ⟨S2176x2176, .i32⟩
  | 57 => ⟨S2176x2176, .i32⟩
  | 58 => ⟨S2176x2176, .i1⟩
  | 59 => ⟨S_, .i1⟩
  | 60 => ⟨S2176x2176, .i1⟩
  | 61 => ⟨S2176x2176, .i1⟩
  | 62 => ⟨S2176x2176x1x1, .i1⟩
  | 63 => ⟨S2176x1x4x128, .f32⟩
  | 64 => ⟨S1x2176x4x128, .f32⟩
  | 65 => ⟨S2176x2176x4x128, .f32⟩
  | 66 => ⟨S2176x2176x4x128, .f32⟩
  | 67 => ⟨S2176x2176x4x128, .f32⟩
  | 68 => ⟨S_, .f32⟩
  | 69 => ⟨S_, .f32⟩
  | 70 => ⟨S2176x2176x4x128, .i1⟩
  | 71 => ⟨S2176x2176x4x128, .f32⟩
  | 72 => ⟨S2176x2176x4x128, .f32⟩
  | 73 => ⟨S_, .f32⟩
  | 74 => ⟨S2176x2176x4x128, .f32⟩
  | 75 => ⟨S2176x2176x4x128, .f32⟩
  | 76 => ⟨S_, .f32⟩
  | 77 => ⟨S_, .f32⟩
  | 78 => ⟨S2176x2176x4x128, .i1⟩
  | 79 => ⟨S2176x2176x4x128, .f32⟩
  | 80 => ⟨S2176x2176x4x128, .f32⟩
  | 81 => ⟨S_, .f32⟩
  | 82 => ⟨S2176x2176x4x128, .f32⟩
  | 83 => ⟨S2176x1x4x128, .f32⟩
  | 84 => ⟨S1x2176x4x128, .f32⟩
  | 85 => ⟨S2176x2176x4x128, .f32⟩
  | 86 => ⟨S2176x2176x4x128, .f32⟩
  | 87 => ⟨S2176x2176x4x128, .f32⟩
  | 88 => ⟨S2176x2176x4x128, .f32⟩
  | 89 => ⟨S_, .f32⟩
  | 90 => ⟨S2176x2176x4, .f32⟩
  | 91 => ⟨S4x128x2176, .f32⟩
  | 92 => ⟨S2176x4x128, .f32⟩
  | 93 => ⟨S2176x512, .f32⟩
  | 94 => ⟨S2176x4x128, .f32⟩
  | 95 => ⟨S4x128x2176, .f32⟩
  | 96 => ⟨S4x2176x2176, .f32⟩
  | 97 => ⟨S2176x2176x4, .f32⟩
  | 98 => ⟨S4x128x2176, .f32⟩
  | 99 => ⟨S2176x4x128, .f32⟩
  | 100 => ⟨S2176x2176x4x128, .f32⟩
  | 101 => ⟨S2176x2176x4x128, .f32⟩
  | 102 => ⟨S2176x2176x4x128, .f32⟩
  | 103 => ⟨S2176x2176x4x128, .f32⟩
  | 104 => ⟨S2176x2176x4x128, .f32⟩
  | 105 => ⟨S_, .f32⟩
  | 106 => ⟨S2176x4x128, .f32⟩
  | 107 => ⟨S1x2176x4x128, .f32⟩
  | 108 => ⟨S2176x2176x4x128, .f32⟩
  | 109 => ⟨S2176x2176x4x128, .f32⟩
  | 110 => ⟨S_, .f32⟩
  | 111 => ⟨S2176x4x128, .f32⟩
  | 112 => ⟨S2176x1x4x128, .f32⟩
  | 113 => ⟨S_, .f32⟩
  | 114 => ⟨S2176x4x128, .f32⟩
  | 115 => ⟨S_, .f32⟩
  | 116 => ⟨S2176x4x128, .f32⟩
  | 117 => ⟨S_, .f32⟩
  | 118 => ⟨S2176x2176x4x128, .f32⟩
  | 119 => ⟨S2176x2176x4x128, .f32⟩
  | 120 => ⟨S2176x2176x4x128, .f32⟩
  | 121 => ⟨S_, .f32⟩
  | 122 => ⟨S2176x2176x4x128, .f32⟩
  | 123 => ⟨S2176x2176x4x128, .f32⟩
  | 124 => ⟨S_, .f32⟩
  | 125 => ⟨S2176x4x128, .f32⟩
  | 126 => ⟨S2176x1x4x128, .f32⟩
  | 127 => ⟨S2176x2176x4x128, .f32⟩
  | _ => ⟨S2176x6144, .f32⟩

abbrev hbmTy0_1 (i : Nat) : BufTy := match i % 128 with
  | 0 => ⟨S_, .f32⟩
  | 1 => ⟨S2176x4x128, .f32⟩
  | 2 => ⟨S1x2176x4x128, .f32⟩
  | 3 => ⟨S_, .f32⟩
  | 4 => ⟨S2176x4x128, .f32⟩
  | 5 => ⟨S_, .f32⟩
  | 6 => ⟨S2176x4x128, .f32⟩
  | 7 => ⟨S2176x4x128, .f32⟩
  | 8 => ⟨S_, .f32⟩
  | 9 => ⟨S_, .f32⟩
  | 10 => ⟨S2176x4x128, .f32⟩
  | 11 => ⟨S2176x4x128, .f32⟩
  | 12 => ⟨S2176x4x128, .f32⟩
  | 13 => ⟨S2176x4x128, .f32⟩
  | 14 => ⟨S_, .f32⟩
  | 15 => ⟨S4x128, .f32⟩
  | 16 => ⟨S1x4x128, .f32⟩
  | 17 => ⟨S_, .f32⟩
  | 18 => ⟨S4x128, .f32⟩
  | 19 => ⟨S2176x4x128, .f32⟩
  | 20 => ⟨S2176x4x128, .f32⟩
  | 21 => ⟨S2176x4x128, .f32⟩
  | 22 => ⟨S_, .f32⟩
  | 23 => ⟨S4x128, .f32⟩
  | 24 => ⟨S1x4x128, .f32⟩
  | 25 => ⟨S_, .f32⟩
  | 26 => ⟨S4x128, .f32⟩
  | 27 => ⟨S2176x4x128, .f32⟩
  | 28 => ⟨S2176x512, .f32⟩
  | 29 => ⟨S4x128, .f32⟩
  | 30 => ⟨S4x128, .f32⟩
  | 31 => ⟨S512, .f32⟩
  | 32 => ⟨S2176x512, .f32⟩
  | 33 => ⟨S2176x4x128, .f32⟩
  | 34 => ⟨S2176x4x128, .f32⟩
  | 35 => ⟨S2176x4x128, .f32⟩
  | 36 => ⟨S2176x4x128, .f32⟩
  | 37 => ⟨S2176x512, .f32⟩
  | 38 => ⟨S2176x512, .bf16⟩
  | 39 => ⟨S4x1x128, .f32⟩
  | _ => ⟨S2176x6144, .f32⟩

abbrev hbmTy (i : Nat) : BufTy := match i / 128 with
  | 0 => hbmTy0_0 i
  | 1 => hbmTy0_1 i
  | _ => ⟨S2176x6144, .f32⟩

abbrev bufTy : (tb : Table) → Fin (tcTables nBuf tb) → BufTy
  | .hbm, ⟨i, _⟩ => hbmTy i
  | _, _ => ⟨S2176x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_call0_cst : Ref sig .tc := ⟨.hbm, 48, rfl⟩
abbrev main_call1_call0_v0 : Ref sig .tc := ⟨.hbm, 49, rfl⟩
abbrev main_v28 : Ref sig .tc := ⟨.hbm, 50, rfl⟩
abbrev main_c : Ref sig .tc := ⟨.hbm, 51, rfl⟩
abbrev main_v29 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_0 : Ref sig .tc := ⟨.hbm, 59, rfl⟩
abbrev main_call2_v5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_4 : Ref sig .tc := ⟨.hbm, 68, rfl⟩
abbrev main_call3_v0 : Ref sig .tc := ⟨.hbm, 69, rfl⟩
abbrev main_v37_1 : Ref sig .tc := ⟨.hbm, 70, rfl⟩
abbrev main_call3_v2 : Ref sig .tc := ⟨.hbm, 71, rfl⟩
abbrev main_v37_0 : Ref sig .tc := ⟨.hbm, 72, rfl⟩
abbrev main_call3_cst : Ref sig .tc := ⟨.hbm, 73, rfl⟩
abbrev main_v37_2 : Ref sig .tc := ⟨.hbm, 74, rfl⟩
abbrev main_v38 : Ref sig .tc := ⟨.hbm, 75, rfl⟩
abbrev main_cst_5 : Ref sig .tc := ⟨.hbm, 76, rfl⟩
abbrev main_call4_v0 : Ref sig .tc := ⟨.hbm, 77, rfl⟩
abbrev main_v39_1 : Ref sig .tc := ⟨.hbm, 78, rfl⟩
abbrev main_call4_v2 : Ref sig .tc := ⟨.hbm, 79, rfl⟩
abbrev main_v39_0 : Ref sig .tc := ⟨.hbm, 80, rfl⟩
abbrev main_call4_cst : Ref sig .tc := ⟨.hbm, 81, rfl⟩
abbrev main_v39_2 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_6 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_7 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_8 : Ref sig .tc := ⟨.hbm, 110, rfl⟩
abbrev main_v65 : Ref sig .tc := ⟨.hbm, 111, rfl⟩
abbrev main_v66 : Ref sig .tc := ⟨.hbm, 112, rfl⟩
abbrev main_cst_9 : Ref sig .tc := ⟨.hbm, 113, rfl⟩
abbrev main_v67 : Ref sig .tc := ⟨.hbm, 114, rfl⟩
abbrev main_cst_10 : Ref sig .tc := ⟨.hbm, 115, rfl⟩
abbrev main_v68 : Ref sig .tc := ⟨.hbm, 116, rfl⟩
abbrev main_call5_cst : Ref sig .tc := ⟨.hbm, 117, rfl⟩
abbrev main_call5_v0 : Ref sig .tc := ⟨.hbm, 118, rfl⟩
abbrev main_v69 : Ref sig .tc := ⟨.hbm, 119, rfl⟩
abbrev main_v70 : Ref sig .tc := ⟨.hbm, 120, rfl⟩
abbrev main_call6_cst : Ref sig .tc := ⟨.hbm, 121, rfl⟩
abbrev main_call6_v0 : Ref sig .tc := ⟨.hbm, 122, rfl⟩
abbrev main_v71 : Ref sig .tc := ⟨.hbm, 123, rfl⟩
abbrev main_cst_11 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_12 : Ref sig .tc := ⟨.hbm, 128, rfl⟩
abbrev main_v75 : Ref sig .tc := ⟨.hbm, 129, rfl⟩
abbrev main_v76 : Ref sig .tc := ⟨.hbm, 130, rfl⟩
abbrev main_cst_13 : Ref sig .tc := ⟨.hbm, 131, rfl⟩
abbrev main_v77 : Ref sig .tc := ⟨.hbm, 132, rfl⟩
abbrev main_cst_14 : Ref sig .tc := ⟨.hbm, 133, rfl⟩
abbrev main_v78 : Ref sig .tc := ⟨.hbm, 134, rfl⟩
abbrev main_v79 : Ref sig .tc := ⟨.hbm, 135, rfl⟩
abbrev main_call7_call0_cst : Ref sig .tc := ⟨.hbm, 136, rfl⟩
abbrev main_call7_call0_v0 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_cst_15 : Ref sig .tc := ⟨.hbm, 142, rfl⟩
abbrev main_v84 : Ref sig .tc := ⟨.hbm, 143, rfl⟩
abbrev main_v85 : Ref sig .tc := ⟨.hbm, 144, rfl⟩
abbrev main_cst_16 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_17 : Ref sig .tc := ⟨.hbm, 150, rfl⟩
abbrev main_v90 : Ref sig .tc := ⟨.hbm, 151, rfl⟩
abbrev main_v91 : Ref sig .tc := ⟨.hbm, 152, rfl⟩
abbrev main_cst_18 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_call8_v0 : Ref sig .tc := ⟨.hbm, 161, rfl⟩
abbrev main_call8_v1 : Ref sig .tc := ⟨.hbm, 162, rfl⟩
abbrev main_call8_v2 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩

abbrev nD : Nat := 1
abbrev τ : Topo := Topo.v7x

variable {F : FTy → Type} [FloatOps F]
-- ==== MlpKernel.lean ====
abbrev S2176x1024 : Shape := ⟨2, ![2176, 1024]⟩
abbrev S1024x4096 : Shape := ⟨2, ![1024, 4096]⟩
abbrev S4096x1024 : Shape := ⟨2, ![4096, 1024]⟩
abbrev S2176x4096 : Shape := ⟨2, ![2176, 4096]⟩
abbrev S1088x1024 : Shape := ⟨2, ![1088, 1024]⟩
abbrev S1024x1024 : Shape := ⟨2, ![1024, 1024]⟩
abbrev S2176x512 : Shape := ⟨2, ![2176, 512]⟩
abbrev S1024x512 : Shape := ⟨2, ![1024, 512]⟩

abbrev nBuf : Space → Nat
  | .hbm => 9
  | .vmem => 27
  | .smem => 0
  | _ => 0

abbrev bufTy : (tb : Table) → Fin (tcTables nBuf tb) → BufTy
  | .hbm, ⟨0, _⟩ => ⟨S2176x1024, .bf16⟩
  | .hbm, ⟨1, _⟩ => ⟨S1024x4096, .bf16⟩
  | .hbm, ⟨2, _⟩ => ⟨S4096x1024, .bf16⟩
  | .hbm, ⟨3, _⟩ => ⟨S2176x1024, .bf16⟩
  | .hbm, ⟨4, _⟩ => ⟨S2176x4096, .bf16⟩
  | .hbm, ⟨5, _⟩ => ⟨S2176x4096, .bf16⟩
  | .hbm, ⟨6, _⟩ => ⟨S2176x4096, .bf16⟩
  | .hbm, ⟨7, _⟩ => ⟨S4096x1024, .f32⟩
  | .hbm, ⟨8, _⟩ => ⟨S1024x4096, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | .local _ .vmem, ⟨8, _⟩ => ⟨S1088x1024, .bf16⟩
  | .local _ .vmem, ⟨9, _⟩ => ⟨S1088x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1088x1024, .bf16⟩
  | .local _ .vmem, ⟨13, _⟩ => ⟨S1088x1024, .bf16⟩
  | .local _ .vmem, ⟨14, _⟩ => ⟨S1088x1024, .bf16⟩
  | .local _ .vmem, ⟨15, _⟩ => ⟨S1088x1024, .bf16⟩
  | .local _ .vmem, ⟨16, _⟩ => ⟨S2176x1024, .bf16⟩
  | .local _ .vmem, ⟨17, _⟩ => ⟨S2176x1024, .bf16⟩
  | .local _ .vmem, ⟨18, _⟩ => ⟨S2176x512, .bf16⟩
  | .local _ .vmem, ⟨19, _⟩ => ⟨S2176x512, .bf16⟩
  | .local _ .vmem, ⟨20, _⟩ => ⟨S1024x512, .f32⟩
  | .local _ .vmem, ⟨21, _⟩ => ⟨S1024x512, .f32⟩
  | .local _ .vmem, ⟨22, _⟩ => ⟨S2176x1024, .bf16⟩
  | .local _ .vmem, ⟨23, _⟩ => ⟨S2176x512, .bf16⟩
  | .local _ .vmem, ⟨24, _⟩ => ⟨S2176x512, .bf16⟩
  | .local _ .vmem, ⟨25, _⟩ => ⟨S1024x512, .f32⟩
  | .local _ .vmem, ⟨26, _⟩ => ⟨S1024x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem1_0 : DmaSem sig := 23
abbrev cc3_sem1_1 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1088x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1088x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1088x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2176x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2176x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2176x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2176x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== MlpReferenceIdeal.lean ====
abbrev S2176x1024 : Shape := ⟨2, ![2176, 1024]⟩
abbrev S1024x4096 : Shape := ⟨2, ![1024, 4096]⟩
abbrev S4096x1024 : Shape := ⟨2, ![4096, 1024]⟩
abbrev S2176x4096 : Shape := ⟨2, ![2176, 4096]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x4096, .bf16⟩
  | .hbm, ⟨2, _⟩ => ⟨S4096x1024, .bf16⟩
  | .hbm, ⟨3, _⟩ => ⟨S2176x1024, .bf16⟩
  | .hbm, ⟨4, _⟩ => ⟨S2176x1024, .f32⟩
  | .hbm, ⟨5, _⟩ => ⟨S1024x4096, .f32⟩
  | .hbm, ⟨6, _⟩ => ⟨S4096x1024, .f32⟩
  | .hbm, ⟨7, _⟩ => ⟨S2176x1024, .f32⟩
  | .hbm, ⟨8, _⟩ => ⟨S2176x4096, .f32⟩
  | .hbm, ⟨9, _⟩ => ⟨S_, .f32⟩
  | .hbm, ⟨10, _⟩ => ⟨S2176x4096, .f32⟩
  | .hbm, ⟨11, _⟩ => ⟨S2176x4096, .f32⟩
  | .hbm, ⟨12, _⟩ => ⟨S_, .f32⟩
  | .hbm, ⟨13, _⟩ => ⟨S2176x4096, .f32⟩
  | .hbm, ⟨14, _⟩ => ⟨S2176x4096, .i1⟩
  | .hbm, ⟨15, _⟩ => ⟨S_, .f32⟩
  | .hbm, ⟨16, _⟩ => ⟨S2176x4096, .f32⟩
  | .hbm, ⟨17, _⟩ => ⟨S2176x4096, .f32⟩
  | .hbm, ⟨18, _⟩ => ⟨S_, .f32⟩
  | .hbm, ⟨19, _⟩ => ⟨S2176x4096, .f32⟩
  | .hbm, ⟨20, _⟩ => ⟨S2176x4096, .f32⟩
  | .hbm, ⟨21, _⟩ => ⟨S2176x1024, .f32⟩
  | .hbm, ⟨22, _⟩ => ⟨S1024x4096, .f32⟩
  | .hbm, ⟨23, _⟩ => ⟨S4096x1024, .f32⟩
  | .hbm, ⟨24, _⟩ => ⟨S2176x4096, .f32⟩
  | .hbm, ⟨25, _⟩ => ⟨S2176x4096, .f32⟩
  | .hbm, ⟨26, _⟩ => ⟨S_, .f32⟩
  | .hbm, ⟨27, _⟩ => ⟨S2176x4096, .f32⟩
  | .hbm, ⟨28, _⟩ => ⟨S2176x4096, .f32⟩
  | .hbm, ⟨29, _⟩ => ⟨S4096x1024, .f32⟩
  | .hbm, ⟨30, _⟩ => ⟨S1024x4096, .f32⟩
  | .hbm, ⟨31, _⟩ => ⟨S2176x1024, .f32⟩
  | .hbm, ⟨32, _⟩ => ⟨S_, .f32⟩
  | .hbm, ⟨33, _⟩ => ⟨S2176x4096, .f32⟩
  | .hbm, ⟨34, _⟩ => ⟨S2176x4096, .f32⟩
  | .hbm, ⟨35, _⟩ => ⟨S2176x4096, .f32⟩
  | .hbm, ⟨36, _⟩ => ⟨S2176x4096, .bf16⟩
  | .hbm, ⟨37, _⟩ => ⟨S2176x4096, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_cst : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== DownKernel.lean ====
abbrev S2176x4096 : Shape := ⟨2, ![2176, 4096]⟩
abbrev S4096x1024 : Shape := ⟨2, ![4096, 1024]⟩
abbrev S2176x1024 : Shape := ⟨2, ![2176, 1024]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x4096, .bf16⟩
  | .hbm, ⟨1, _⟩ => ⟨S4096x1024, .bf16⟩
  | .hbm, ⟨2, _⟩ => ⟨S2176x1024, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S2176x4096 : Shape := ⟨2, ![2176, 4096]⟩
abbrev S4096x1024 : Shape := ⟨2, ![4096, 1024]⟩
abbrev S2176x1024 : Shape := ⟨2, ![2176, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x4096, .bf16⟩
  | .hbm, ⟨1, _⟩ => ⟨S4096x1024, .bf16⟩
  | .hbm, ⟨2, _⟩ => ⟨S2176x4096, .f32⟩
  | .hbm, ⟨3, _⟩ => ⟨S4096x1024, .f32⟩
  | .hbm, ⟨4, _⟩ => ⟨S2176x1024, .f32⟩
  | _, _ => ⟨S2176x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixKernel.lean ====
abbrev S2176x512 : Shape := ⟨2, ![2176, 512]⟩
abbrev S2176x6144 : Shape := ⟨2, ![2176, 6144]⟩
abbrev S512x1024 : Shape := ⟨2, ![512, 1024]⟩
abbrev S1024x1024 : Shape := ⟨2, ![1024, 1024]⟩
abbrev S2176x1024 : Shape := ⟨2, ![2176, 1024]⟩
abbrev S1088x512 : Shape := ⟨2, ![1088, 512]⟩
abbrev S1088x1024 : Shape := ⟨2, ![1088, 1024]⟩
abbrev S512x512 : Shape := ⟨2, ![512, 512]⟩
abbrev S1024x512 : Shape := ⟨2, ![1024, 512]⟩

abbrev nBuf : Space → Nat
  | .hbm => 20
  | .vmem => 69
  | .smem => 0
  | _ => 0

abbrev bufTy : (tb : Table) → Fin (tcTables nBuf tb) → BufTy
  | .hbm, ⟨0, _⟩ => ⟨S2176x512, .f32⟩
  | .hbm, ⟨1, _⟩ => ⟨S2176x512, .bf16⟩
  | .hbm, ⟨2, _⟩ => ⟨S2176x6144, .f32⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S2176x1024, .bf16⟩
  | .hbm, ⟨7, _⟩ => ⟨S2176x1024, .bf16⟩
  | .hbm, ⟨8, _⟩ => ⟨S2176x1024, .bf16⟩
  | .hbm, ⟨9, _⟩ => ⟨S2176x1024, .bf16⟩
  | .hbm, ⟨10, _⟩ => ⟨S2176x1024, .f32⟩
  | .hbm, ⟨11, _⟩ => ⟨S2176x1024, .bf16⟩
  | .hbm, ⟨12, _⟩ => ⟨S2176x1024, .bf16⟩
  | .hbm, ⟨13, _⟩ => ⟨S2176x1024, .bf16⟩
  | .hbm, ⟨14, _⟩ => ⟨S2176x1024, .bf16⟩
  | .hbm, ⟨15, _⟩ => ⟨S1024x1024, .f32⟩
  | .hbm, ⟨16, _⟩ => ⟨S2176x512, .f32⟩
  | .hbm, ⟨17, _⟩ => ⟨S512x1024, .f32⟩
  | .hbm, ⟨18, _⟩ => ⟨S2176x512, .f32⟩
  | .hbm, ⟨19, _⟩ => ⟨S512x1024, .f32⟩
  | .local _ .vmem, ⟨0, _⟩ => ⟨S1088x512, .f32⟩
  | .local _ .vmem, ⟨1, _⟩ => ⟨S1088x512, .f32⟩
  | .local _ .vmem, ⟨2, _⟩ => ⟨S512x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x512, .bf16⟩
  | .local _ .vmem, ⟨6, _⟩ => ⟨S1088x512, .bf16⟩
  | .local _ .vmem, ⟨7, _⟩ => ⟨S512x512, .bf16⟩
  | .local _ .vmem, ⟨8, _⟩ => ⟨S512x512, .bf16⟩
  | .local _ .vmem, ⟨9, _⟩ => ⟨S1088x512, .f32⟩
  | .local _ .vmem, ⟨10, _⟩ => ⟨S1088x512, .f32⟩
  | .local _ .vmem, ⟨11, _⟩ => ⟨S1088x512, .f32⟩
  | .local _ .vmem, ⟨12, _⟩ => ⟨S1088x512, .f32⟩
  | .local _ .vmem, ⟨13, _⟩ => ⟨S1088x512, .bf16⟩
  | .local _ .vmem, ⟨14, _⟩ => ⟨S1088x512, .bf16⟩
  | .local _ .vmem, ⟨15, _⟩ => ⟨S1088x512, .bf16⟩
  | .local _ .vmem, ⟨16, _⟩ => ⟨S1088x512, .bf16⟩
  | .local _ .vmem, ⟨17, _⟩ => ⟨S1088x512, .bf16⟩
  | .local _ .vmem, ⟨18, _⟩ => ⟨S1088x512, .bf16⟩
  | .local _ .vmem, ⟨19, _⟩ => ⟨S1088x1024, .bf16⟩
  | .local _ .vmem, ⟨20, _⟩ => ⟨S1088x1024, .bf16⟩
  | .local _ .vmem, ⟨21, _⟩ => ⟨S1024x1024, .bf16⟩
  | .local _ .vmem, ⟨22, _⟩ => ⟨S1088x1024, .f32⟩
  | .local _ .vmem, ⟨23, _⟩ => ⟨S1088x1024, .f32⟩
  | .local _ .vmem, ⟨24, _⟩ => ⟨S1088x1024, .bf16⟩
  | .local _ .vmem, ⟨25, _⟩ => ⟨S1088x1024, .bf16⟩
  | .local _ .vmem, ⟨26, _⟩ => ⟨S512x1024, .bf16⟩
  | .local _ .vmem, ⟨27, _⟩ => ⟨S512x1024, .bf16⟩
  | .local _ .vmem, ⟨28, _⟩ => ⟨S1088x512, .f32⟩
  | .local _ .vmem, ⟨29, _⟩ => ⟨S1088x512, .f32⟩
  | .local _ .vmem, ⟨30, _⟩ => ⟨S1088x512, .f32⟩
  | .local _ .vmem, ⟨31, _⟩ => ⟨S1088x512, .f32⟩
  | .local _ .vmem, ⟨32, _⟩ => ⟨S1088x512, .bf16⟩
  | .local _ .vmem, ⟨33, _⟩ => ⟨S1088x512, .bf16⟩
  | .local _ .vmem, ⟨34, _⟩ => ⟨S1088x512, .bf16⟩
  | .local _ .vmem, ⟨35, _⟩ => ⟨S1088x512, .bf16⟩
  | .local _ .vmem, ⟨36, _⟩ => ⟨S1088x512, .bf16⟩
  | .local _ .vmem, ⟨37, _⟩ => ⟨S1088x512, .bf16⟩
  | .local _ .vmem, ⟨38, _⟩ => ⟨S1088x512, .bf16⟩
  | .local _ .vmem, ⟨39, _⟩ => ⟨S1088x512, .bf16⟩
  | .local _ .vmem, ⟨40, _⟩ => ⟨S1088x512, .bf16⟩
  | .local _ .vmem, ⟨41, _⟩ => ⟨S1088x512, .bf16⟩
  | .local _ .vmem, ⟨42, _⟩ => ⟨S1088x512, .bf16⟩
  | .local _ .vmem, ⟨43, _⟩ => ⟨S1088x512, .bf16⟩
  | .local _ .vmem, ⟨44, _⟩ => ⟨S2176x1024, .bf16⟩
  | .local _ .vmem, ⟨45, _⟩ => ⟨S2176x512, .bf16⟩
  | .local _ .vmem, ⟨46, _⟩ => ⟨S2176x512, .bf16⟩
  | .local _ .vmem, ⟨47, _⟩ => ⟨S1024x512, .f32⟩
  | .local _ .vmem, ⟨48, _⟩ => ⟨S1024x512, .f32⟩
  | .local _ .vmem, ⟨49, _⟩ => ⟨S1088x1024, .bf16⟩
  | .local _ .vmem, ⟨50, _⟩ => ⟨S1088x1024, .bf16⟩
  | .local _ .vmem, ⟨51, _⟩ => ⟨S512x1024, .bf16⟩
  | .local _ .vmem, ⟨52, _⟩ => ⟨S1088x512, .f32⟩
  | .local _ .vmem, ⟨53, _⟩ => ⟨S1088x512, .f32⟩
  | .local _ .vmem, ⟨54, _⟩ => ⟨S2176x512, .f32⟩
  | .local _ .vmem, ⟨55, _⟩ => ⟨S2176x512, .bf16⟩
  | .local _ .vmem, ⟨56, _⟩ => ⟨S2176x512, .bf16⟩
  | .local _ .vmem, ⟨57, _⟩ => ⟨S512x512, .f32⟩
  | .local _ .vmem, ⟨58, _⟩ => ⟨S512x512, .f32⟩
  | .local _ .vmem, ⟨59, _⟩ => ⟨S1088x1024, .bf16⟩
  | .local _ .vmem, ⟨60, _⟩ => ⟨S1088x1024, .bf16⟩
  | .local _ .vmem, ⟨61, _⟩ => ⟨S512x1024, .bf16⟩
  | .local _ .vmem, ⟨62, _⟩ => ⟨S1088x512, .f32⟩
  | .local _ .vmem, ⟨63, _⟩ => ⟨S1088x512, .f32⟩
  | .local _ .vmem, ⟨64, _⟩ => ⟨S2176x512, .bf16⟩
  | .local _ .vmem, ⟨65, _⟩ => ⟨S2176x512, .bf16⟩
  | .local _ .vmem, ⟨66, _⟩ => ⟨S2176x512, .bf16⟩
  | .local _ .vmem, ⟨67, _⟩ => ⟨S512x512, .f32⟩
  | .local _ .vmem, ⟨68, _⟩ => ⟨S512x512, .f32⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg9_1 : Ref sig .tc := ⟨.vmem, 43, rfl⟩
abbrev cc4_stg0_0 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg2_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg2_1 : Ref sig .tc := ⟨.vmem, 63, rfl⟩
abbrev cc8_stg0_0 : Ref sig .tc := ⟨.vmem, 64, rfl⟩
abbrev cc8_stg1_0 : Ref sig .tc := ⟨.vmem, 65, rfl⟩
abbrev cc8_stg1_1 : Ref sig .tc := ⟨.vmem, 66, rfl⟩
abbrev cc8_stg2_0 : Ref sig .tc := ⟨.vmem, 67, rfl⟩
abbrev cc8_stg2_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem7_1 : DmaSem sig := 39
abbrev cc3_sem8_0 : DmaSem sig := 40
abbrev cc3_sem8_1 : DmaSem sig := 41
abbrev cc3_sem9_0 : DmaSem sig := 42
abbrev cc3_sem9_1 : DmaSem sig := 43
abbrev cc4_sem0_0 : DmaSem sig := 44
abbrev cc4_sem1_0 : DmaSem sig := 45
abbrev cc4_sem1_1 : DmaSem sig := 46
abbrev cc4_sem2_0 : DmaSem sig := 47
abbrev cc4_sem2_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem2_1 : DmaSem sig := 53
abbrev cc6_sem0_0 : DmaSem sig := 54
abbrev cc6_sem1_0 : DmaSem sig := 55
abbrev cc6_sem1_1 : DmaSem sig := 56
abbrev cc6_sem2_0 : DmaSem sig := 57
abbrev cc6_sem2_1 : DmaSem sig := 58
abbrev cc7_sem0_0 : DmaSem sig := 59
abbrev cc7_sem0_1 : DmaSem sig := 60
abbrev cc7_sem1_0 : DmaSem sig := 61
abbrev cc7_sem2_0 : DmaSem sig := 62
abbrev cc7_sem2_1 : DmaSem sig := 63
abbrev cc8_sem0_0 : DmaSem sig := 64
abbrev cc8_sem1_0 : DmaSem sig := 65
abbrev cc8_sem1_1 : DmaSem sig := 66
abbrev cc8_sem2_0 : DmaSem sig := 67
abbrev cc8_sem2_1 : DmaSem sig := 68

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1088x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1088x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1088x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1088x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1088x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1088x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1088x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1088x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_8 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_9 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1088x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1088x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1088x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1088x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1088x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S1088x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

abbrev stage3_7 : Fin 2 → Memref sig .tc .vmem S1088x512 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true, false]

abbrev stage3_8 : Fin 2 → Memref sig .tc .vmem S1088x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true, false]

abbrev stage3_9 : Fin 2 → Memref sig .tc .vmem S1088x512 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2176x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2176x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1088x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S512x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1088x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S2176x512 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S2176x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1088x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S512x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1088x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S2176x512 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S2176x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== MixReferenceIdeal.lean ====
abbrev S2176x512 : Shape := ⟨2, ![2176, 512]⟩
abbrev S2176x6144 : Shape := ⟨2, ![2176, 6144]⟩
abbrev S512x1024 : Shape := ⟨2, ![512, 1024]⟩
abbrev S1024x1024 : Shape := ⟨2, ![1024, 1024]⟩
abbrev S2176x1024 : Shape := ⟨2, ![2176, 1024]⟩
abbrev S_ : Shape := ⟨0, ![]⟩
abbrev S1024x512 : Shape := ⟨2, ![1024, 512]⟩

abbrev nBuf : Space → Nat
  | .hbm => 61
  | .vmem => 0
  | .smem => 0
  | _ => 0

abbrev bufTy : (tb : Table) → Fin (tcTables nBuf tb) → BufTy
  | .hbm, ⟨0, _⟩ => ⟨S2176x512, .f32⟩
  | .hbm, ⟨1, _⟩ => ⟨S2176x512, .bf16⟩
  | .hbm, ⟨2, _⟩ => ⟨S2176x6144, .f32⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S2176x1024, .bf16⟩
  | .hbm, ⟨7, _⟩ => ⟨S2176x1024, .f32⟩
  | .hbm, ⟨8, _⟩ => ⟨S2176x1024, .f32⟩
  | .hbm, ⟨9, _⟩ => ⟨S2176x512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S_, .f32⟩
  | .hbm, ⟨17, _⟩ => ⟨S2176x1024, .f32⟩
  | .hbm, ⟨18, _⟩ => ⟨S2176x1024, .f32⟩
  | .hbm, ⟨19, _⟩ => ⟨S_, .f32⟩
  | .hbm, ⟨20, _⟩ => ⟨S2176x1024, .f32⟩
  | .hbm, ⟨21, _⟩ => ⟨S2176x1024, .f32⟩
  | .hbm, ⟨22, _⟩ => ⟨S_, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S2176x1024, .f32⟩
  | .hbm, ⟨32, _⟩ => ⟨S2176x1024, .f32⟩
  | .hbm, ⟨33, _⟩ => ⟨S_, .f32⟩
  | .hbm, ⟨34, _⟩ => ⟨S2176x1024, .f32⟩
  | .hbm, ⟨35, _⟩ => ⟨S2176x1024, .f32⟩
  | .hbm, ⟨36, _⟩ => ⟨S_, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S1024x1024, .f32⟩
  | .hbm, ⟨45, _⟩ => ⟨S1024x1024, .f32⟩
  | .hbm, ⟨46, _⟩ => ⟨S2176x1024, .f32⟩
  | .hbm, ⟨47, _⟩ => ⟨S2176x1024, .f32⟩
  | .hbm, ⟨48, _⟩ => ⟨S2176x1024, .f32⟩
  | .hbm, ⟨49, _⟩ => ⟨S1024x512, .f32⟩
  | .hbm, ⟨50, _⟩ => ⟨S512x1024, .f32⟩
  | .hbm, ⟨51, _⟩ => ⟨S2176x512, .f32⟩
  | .hbm, ⟨52, _⟩ => ⟨S2176x1024, .f32⟩
  | .hbm, ⟨53, _⟩ => ⟨S2176x1024, .f32⟩
  | .hbm, ⟨54, _⟩ => ⟨S2176x1024, .f32⟩
  | .hbm, ⟨55, _⟩ => ⟨S1024x512, .f32⟩
  | .hbm, ⟨56, _⟩ => ⟨S512x1024, .f32⟩
  | .hbm, ⟨57, _⟩ => ⟨S2176x512, .f32⟩
  | .hbm, ⟨58, _⟩ => ⟨S2176x1024, .f32⟩
  | .hbm, ⟨59, _⟩ => ⟨S2176x1024, .bf16⟩
  | .hbm, ⟨60, _⟩ => ⟨S2176x1024, .bf16⟩
  | _, _ => ⟨S2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== UpDxKernel.lean ====
abbrev S2176x4096 : Shape := ⟨2, ![2176, 4096]⟩
abbrev S1024x4096 : Shape := ⟨2, ![1024, 4096]⟩
abbrev S2176x1024 : Shape := ⟨2, ![2176, 1024]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x4096, .bf16⟩
  | .hbm, ⟨1, _⟩ => ⟨S1024x4096, .bf16⟩
  | .hbm, ⟨2, _⟩ => ⟨S2176x1024, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S2176x4096 : Shape := ⟨2, ![2176, 4096]⟩
abbrev S1024x4096 : Shape := ⟨2, ![1024, 4096]⟩
abbrev S_ : Shape := ⟨0, ![]⟩
abbrev S2176x1024 : Shape := ⟨2, ![2176, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2176x4096, .bf16⟩
  | .hbm, ⟨1, _⟩ => ⟨S1024x4096, .bf16⟩
  | .hbm, ⟨2, _⟩ => ⟨S_, .f32⟩
  | .hbm, ⟨3, _⟩ => ⟨S2176x1024, .f32⟩
  | .hbm, ⟨4, _⟩ => ⟨S1024x4096, .f32⟩
  | .hbm, ⟨5, _⟩ => ⟨S2176x4096, .f32⟩
  | .hbm, ⟨6, _⟩ => ⟨S2176x4096, .f32⟩
  | .hbm, ⟨7, _⟩ => ⟨S2176x1024, .f32⟩
  | _, _ => ⟨S2176x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDxKernel.lean ====
abbrev S2176x6144 : Shape := ⟨2, ![2176, 6144]⟩
abbrev S1024x6144 : Shape := ⟨2, ![1024, 6144]⟩
abbrev S2176x1024 : Shape := ⟨2, ![2176, 1024]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x6144, .bf16⟩
  | .hbm, ⟨1, _⟩ => ⟨S1024x6144, .bf16⟩
  | .hbm, ⟨2, _⟩ => ⟨S2176x1024, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S2176x6144 : Shape := ⟨2, ![2176, 6144]⟩
abbrev S1024x6144 : Shape := ⟨2, ![1024, 6144]⟩
abbrev S_ : Shape := ⟨0, ![]⟩
abbrev S2176x1024 : Shape := ⟨2, ![2176, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2176x6144, .bf16⟩
  | .hbm, ⟨1, _⟩ => ⟨S1024x6144, .bf16⟩
  | .hbm, ⟨2, _⟩ => ⟨S_, .f32⟩
  | .hbm, ⟨3, _⟩ => ⟨S2176x1024, .f32⟩
  | .hbm, ⟨4, _⟩ => ⟨S1024x6144, .f32⟩
  | .hbm, ⟨5, _⟩ => ⟨S2176x6144, .f32⟩
  | .hbm, ⟨6, _⟩ => ⟨S2176x6144, .f32⟩
  | .hbm, ⟨7, _⟩ => ⟨S2176x1024, .f32⟩
  | _, _ => ⟨S2176x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDwKernel.lean ====
abbrev S2176x1024 : Shape := ⟨2, ![2176, 1024]⟩
abbrev S2176x6144 : Shape := ⟨2, ![2176, 6144]⟩
abbrev S1024x6144 : Shape := ⟨2, ![1024, 6144]⟩
abbrev S2176x512 : Shape := ⟨2, ![2176, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S2176x6144, .bf16⟩
  | .hbm, ⟨2, _⟩ => ⟨S1024x6144, .f32⟩
  | .local _ .vmem, ⟨0, _⟩ => ⟨S2176x1024, .bf16⟩
  | .local _ .vmem, ⟨1, _⟩ => ⟨S2176x512, .bf16⟩
  | .local _ .vmem, ⟨2, _⟩ => ⟨S2176x512, .bf16⟩
  | .local _ .vmem, ⟨3, _⟩ => ⟨S1024x512, .f32⟩
  | .local _ .vmem, ⟨4, _⟩ => ⟨S1024x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S2176x1024 : Shape := ⟨2, ![2176, 1024]⟩
abbrev S2176x6144 : Shape := ⟨2, ![2176, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x6144, .bf16⟩
  | .hbm, ⟨2, _⟩ => ⟨S_, .f32⟩
  | .hbm, ⟨3, _⟩ => ⟨S1024x6144, .f32⟩
  | .hbm, ⟨4, _⟩ => ⟨S2176x1024, .f32⟩
  | .hbm, ⟨5, _⟩ => ⟨S2176x6144, .f32⟩
  | .hbm, ⟨6, _⟩ => ⟨S2176x6144, .f32⟩
  | .hbm, ⟨7, _⟩ => ⟨S6144x1024, .f32⟩
  | .hbm, ⟨8, _⟩ => ⟨S1024x6144, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NormKernel.lean ====
abbrev S2176x1024 : Shape := ⟨2, ![2176, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 10
  | .vmem => 21
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S2176x1024, .f32⟩
  | .hbm, ⟨4, _⟩ => ⟨S2176x1024, .f32⟩
  | .hbm, ⟨5, _⟩ => ⟨S2176x1024, .f32⟩
  | .hbm, ⟨6, _⟩ => ⟨S2176x1024, .bf16⟩
  | .hbm, ⟨7, _⟩ => ⟨S2176x1024, .f32⟩
  | .hbm, ⟨8, _⟩ => ⟨S2176x1024, .bf16⟩
  | .hbm, ⟨9, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .bf16⟩
  | .local _ .vmem, ⟨8, _⟩ => ⟨S544x1024, .bf16⟩
  | .local _ .vmem, ⟨9, _⟩ => ⟨S544x1024, .f32⟩
  | .local _ .vmem, ⟨10, _⟩ => ⟨S544x1024, .f32⟩
  | .local _ .vmem, ⟨11, _⟩ => ⟨S1x1024, .f32⟩
  | .local _ .vmem, ⟨12, _⟩ => ⟨S544x1024, .f32⟩
  | .local _ .vmem, ⟨13, _⟩ => ⟨S544x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .f32⟩
  | .local _ .vmem, ⟨17, _⟩ => ⟨S544x1024, .f32⟩
  | .local _ .vmem, ⟨18, _⟩ => ⟨S544x1024, .bf16⟩
  | .local _ .vmem, ⟨19, _⟩ => ⟨S544x1024, .bf16⟩
  | .local _ .vmem, ⟨20, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S544x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S544x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S544x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S544x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S544x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== NormReferenceIdeal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S2176x1024, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S_, .f32⟩
  | .hbm, ⟨8, _⟩ => ⟨S2176, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S_, .f32⟩
  | .hbm, ⟨33, _⟩ => ⟨S2176, .f32⟩
  | .hbm, ⟨34, _⟩ => ⟨S2176x1, .f32⟩
  | .hbm, ⟨35, _⟩ => ⟨S2176x1024, .f32⟩
  | .hbm, ⟨36, _⟩ => ⟨S2176x1024, .f32⟩
  | .hbm, ⟨37, _⟩ => ⟨S2176x1, .f32⟩
  | .hbm, ⟨38, _⟩ => ⟨S_, .f32⟩
  | .hbm, ⟨39, _⟩ => ⟨S2176x1, .f32⟩
  | .hbm, ⟨40, _⟩ => ⟨S2176x1, .f32⟩
  | .hbm, ⟨41, _⟩ => ⟨S_, .f32⟩
  | .hbm, ⟨42, _⟩ => ⟨S2176, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S2176x1024, .f32⟩
  | .hbm, ⟨48, _⟩ => ⟨S2176x1024, .f32⟩
  | .hbm, ⟨49, _⟩ => ⟨S2176x1024, .bf16⟩
  | .hbm, ⟨50, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== GateKernel.lean ====
abbrev S2176x512 : Shape := ⟨2, ![2176, 512]⟩
abbrev S2176x6144 : Shape := ⟨2, ![2176, 6144]⟩
abbrev S1x512 : Shape := ⟨2, ![1, 512]⟩
abbrev S544x512 : Shape := ⟨2, ![544, 512]⟩
abbrev S544x128 : Shape := ⟨2, ![544, 128]⟩
abbrev S544 : Shape := ⟨1, ![544]⟩
abbrev S544x1 : Shape := ⟨2, ![544, 1]⟩
abbrev S1x128 : Shape := ⟨2, ![1, 128]⟩
abbrev S128 : Shape := ⟨1, ![128]⟩

abbrev nBuf : Space → Nat
  | .hbm => 9
  | .vmem => 23
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S2176x6144, .f32⟩
  | .hbm, ⟨3, _⟩ => ⟨S1x512, .f32⟩
  | .hbm, ⟨4, _⟩ => ⟨S2176x512, .f32⟩
  | .hbm, ⟨5, _⟩ => ⟨S2176x512, .bf16⟩
  | .hbm, ⟨6, _⟩ => ⟨S2176x512, .f32⟩
  | .hbm, ⟨7, _⟩ => ⟨S2176x512, .bf16⟩
  | .hbm, ⟨8, _⟩ => ⟨S1x512, .f32⟩
  | .local _ .vmem, ⟨0, _⟩ => ⟨S544x512, .f32⟩
  | .local _ .vmem, ⟨1, _⟩ => ⟨S544x512, .f32⟩
  | .local _ .vmem, ⟨2, _⟩ => ⟨S544x512, .f32⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S1x512, .f32⟩
  | .local _ .vmem, ⟨7, _⟩ => ⟨S544x512, .bf16⟩
  | .local _ .vmem, ⟨8, _⟩ => ⟨S544x512, .bf16⟩
  | .local _ .vmem, ⟨9, _⟩ => ⟨S544x512, .f32⟩
  | .local _ .vmem, ⟨10, _⟩ => ⟨S544x512, .f32⟩
  | .local _ .vmem, ⟨11, _⟩ => ⟨S544x512, .f32⟩
  | .local _ .vmem, ⟨12, _⟩ => ⟨S544x512, .f32⟩
  | .local _ .vmem, ⟨13, _⟩ => ⟨S544x512, .f32⟩
  | .local _ .vmem, ⟨14, _⟩ => ⟨S544x512, .f32⟩
  | .local _ .vmem, ⟨15, _⟩ => ⟨S1x512, .f32⟩
  | .local _ .vmem, ⟨16, _⟩ => ⟨S544x512, .f32⟩
  | .local _ .vmem, ⟨17, _⟩ => ⟨S544x512, .f32⟩
  | .local _ .vmem, ⟨18, _⟩ => ⟨S544x512, .f32⟩
  | .local _ .vmem, ⟨19, _⟩ => ⟨S544x512, .f32⟩
  | .local _ .vmem, ⟨20, _⟩ => ⟨S544x512, .bf16⟩
  | .local _ .vmem, ⟨21, _⟩ => ⟨S544x512, .bf16⟩
  | .local _ .vmem, ⟨22, _⟩ => ⟨S1x512, .f32⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c7_i32 : BitVec 32 := 7#32
  let c0_i32 : BitVec 32 := 0#32
  ![arg0.toNat, c7_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S544x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S544x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S544x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S544x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S544x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S544x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== GateReferenceIdeal.lean ====
abbrev S2176x512 : Shape := ⟨2, ![2176, 512]⟩
abbrev S2176x6144 : Shape := ⟨2, ![2176, 6144]⟩
abbrev S1x512 : Shape := ⟨2, ![1, 512]⟩
abbrev S2176x4x128 : Shape := ⟨3, ![2176, 4, 128]⟩
abbrev S_ : Shape := ⟨0, ![]⟩
abbrev S2176x4 : Shape := ⟨2, ![2176, 4]⟩
abbrev S2176x4x1 : Shape := ⟨3, ![2176, 4, 1]⟩
abbrev S512 : Shape := ⟨1, ![512]⟩

abbrev nBuf : Space → Nat
  | .hbm => 75
  | .vmem => 0
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S2176x6144, .f32⟩
  | .hbm, ⟨3, _⟩ => ⟨S1x512, .f32⟩
  | .hbm, ⟨4, _⟩ => ⟨S2176x512, .f32⟩
  | .hbm, ⟨5, _⟩ => ⟨S2176x512, .f32⟩
  | .hbm, ⟨6, _⟩ => ⟨S2176x512, .f32⟩
  | .hbm, ⟨7, _⟩ => ⟨S2176x4x128, .f32⟩
  | .hbm, ⟨8, _⟩ => ⟨S2176x4x128, .f32⟩
  | .hbm, ⟨9, _⟩ => ⟨S_, .f32⟩
  | .hbm, ⟨10, _⟩ => ⟨S2176x4, .f32⟩
  | .hbm, ⟨11, _⟩ => ⟨S2176x4x1, .f32⟩
  | .hbm, ⟨12, _⟩ => ⟨S_, .f32⟩
  | .hbm, ⟨13, _⟩ => ⟨S2176x4x1, .f32⟩
  | .hbm, ⟨14, _⟩ => ⟨S2176x4x1, .f32⟩
  | .hbm, ⟨15, _⟩ => ⟨S_, .f32⟩
  | .hbm, ⟨16, _⟩ => ⟨S2176x4x1, .f32⟩
  | .hbm, ⟨17, _⟩ => ⟨S2176x4x1, .f32⟩
  | .hbm, ⟨18, _⟩ => ⟨S2176x4x1, .f32⟩
  | .hbm, ⟨19, _⟩ => ⟨S2176x4x1, .f32⟩
  | .hbm, ⟨20, _⟩ => ⟨S_, .f32⟩
  | .hbm, ⟨21, _⟩ => ⟨S2176x4x1, .f32⟩
  | .hbm, ⟨22, _⟩ => ⟨S2176x4x1, .f32⟩
  | .hbm, ⟨23, _⟩ => ⟨S2176x4x128, .f32⟩
  | .hbm, ⟨24, _⟩ => ⟨S2176x4x128, .f32⟩
  | .hbm, ⟨25, _⟩ => ⟨S2176x512, .f32⟩
  | .hbm, ⟨26, _⟩ => ⟨S2176x512, .f32⟩
  | .hbm, ⟨27, _⟩ => ⟨S2176x512, .f32⟩
  | .hbm, ⟨28, _⟩ => ⟨S2176x512, .f32⟩
  | .hbm, ⟨29, _⟩ => ⟨S2176x512, .f32⟩
  | .hbm, ⟨30, _⟩ => ⟨S_, .f32⟩
  | .hbm, ⟨31, _⟩ => ⟨S2176x512, .f32⟩
  | .hbm, ⟨32, _⟩ => ⟨S2176x512, .f32⟩
  | .hbm, ⟨33, _⟩ => ⟨S_, .f32⟩
  | .hbm, ⟨34, _⟩ => ⟨S2176x512, .f32⟩
  | .hbm, ⟨35, _⟩ => ⟨S2176x512, .f32⟩
  | .hbm, ⟨36, _⟩ => ⟨S_, .f32⟩
  | .hbm, ⟨37, _⟩ => ⟨S2176x512, .f32⟩
  | .hbm, ⟨38, _⟩ => ⟨S2176x512, .f32⟩
  | .hbm, ⟨39, _⟩ => ⟨S2176x512, .f32⟩
  | .hbm, ⟨40, _⟩ => ⟨S2176x512, .f32⟩
  | .hbm, ⟨41, _⟩ => ⟨S2176x512, .f32⟩
  | .hbm, ⟨42, _⟩ => ⟨S2176x512, .f32⟩
  | .hbm, ⟨43, _⟩ => ⟨S2176x512, .f32⟩
  | .hbm, ⟨44, _⟩ => ⟨S2176x512, .f32⟩
  | .hbm, ⟨45, _⟩ => ⟨S2176x512, .f32⟩
  | .hbm, ⟨46, _⟩ => ⟨S2176x512, .f32⟩
  | .hbm, ⟨47, _⟩ => ⟨S2176x512, .f32⟩
  | .hbm, ⟨48, _⟩ => ⟨S2176x512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S2176x512, .f32⟩
  | .hbm, ⟨53, _⟩ => ⟨S2176x512, .f32⟩
  | .hbm, ⟨54, _⟩ => ⟨S2176x4x128, .f32⟩
  | .hbm, ⟨55, _⟩ => ⟨S2176x4x128, .f32⟩
  | .hbm, ⟨56, _⟩ => ⟨S_, .f32⟩
  | .hbm, ⟨57, _⟩ => ⟨S2176x4, .f32⟩
  | .hbm, ⟨58, _⟩ => ⟨S2176x4x1, .f32⟩
  | .hbm, ⟨59, _⟩ => ⟨S2176x4x128, .f32⟩
  | .hbm, ⟨60, _⟩ => ⟨S2176x4x128, .f32⟩
  | .hbm, ⟨61, _⟩ => ⟨S2176x4x1, .f32⟩
  | .hbm, ⟨62, _⟩ => ⟨S_, .f32⟩
  | .hbm, ⟨63, _⟩ => ⟨S2176x4x1, .f32⟩
  | .hbm, ⟨64, _⟩ => ⟨S2176x4x1, .f32⟩
  | .hbm, ⟨65, _⟩ => ⟨S_, .f32⟩
  | .hbm, ⟨66, _⟩ => ⟨S2176x4, .f32⟩
  | .hbm, ⟨67, _⟩ => ⟨S2176x4x128, .f32⟩
  | .hbm, ⟨68, _⟩ => ⟨S2176x4x128, .f32⟩
  | .hbm, ⟨69, _⟩ => ⟨S2176x4x128, .f32⟩
  | .hbm, ⟨70, _⟩ => ⟨S2176x4x128, .f32⟩
  | .hbm, ⟨71, _⟩ => ⟨S2176x4x128, .f32⟩
  | .hbm, ⟨72, _⟩ => ⟨S2176x512, .f32⟩
  | .hbm, ⟨73, _⟩ => ⟨S2176x512, .bf16⟩
  | .hbm, ⟨74, _⟩ => ⟨S2176x512, .bf16⟩
  | _, _ => ⟨S2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== AdamInKernel.lean ====
abbrev S1024x1536 : Shape := ⟨2, ![1024, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKernel.lean ====
abbrev S512x256 : Shape := ⟨2, ![512, 256]⟩
abbrev S256x1024 : Shape := ⟨2, ![256, 1024]⟩
abbrev S1024x1024 : Shape := ⟨2, ![1024, 1024]⟩
abbrev S64x256 : Shape := ⟨2, ![64, 256]⟩
abbrev S32x1024 : Shape := ⟨2, ![32, 1024]⟩
abbrev S128x1024 : Shape := ⟨2, ![128, 1024]⟩

abbrev nBuf : Space → Nat
  | .hbm => 40
  | .vmem => 80
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S64x256, .f32⟩
  | .local _ .vmem, ⟨41, _⟩ => ⟨S64x256, .f32⟩
  | .local _ .vmem, ⟨42, _⟩ => ⟨S64x256, .f32⟩
  | .local _ .vmem, ⟨43, _⟩ => ⟨S64x256, .f32⟩
  | .local _ .vmem, ⟨44, _⟩ => ⟨S64x256, .f32⟩
  | .local _ .vmem, ⟨45, _⟩ => ⟨S64x256, .f32⟩
  | .local _ .vmem, ⟨46, _⟩ => ⟨S64x256, .f32⟩
  | .local _ .vmem, ⟨47, _⟩ => ⟨S64x256, .f32⟩
  | .local _ .vmem, ⟨48, _⟩ => ⟨S64x256, .f32⟩
  | .local _ .vmem, ⟨49, _⟩ => ⟨S64x256, .f32⟩
  | .local _ .vmem, ⟨50, _⟩ => ⟨S64x256, .f32⟩
  | .local _ .vmem, ⟨51, _⟩ => ⟨S64x256, .f32⟩
  | .local _ .vmem, ⟨52, _⟩ => ⟨S64x256, .f32⟩
  | .local _ .vmem, ⟨53, _⟩ => ⟨S64x256, .f32⟩
  | .local _ .vmem, ⟨54, _⟩ => ⟨S64x256, .f32⟩
  | .local _ .vmem, ⟨55, _⟩ => ⟨S64x256, .f32⟩
  | .local _ .vmem, ⟨56, _⟩ => ⟨S32x1024, .f32⟩
  | .local _ .vmem, ⟨57, _⟩ => ⟨S32x1024, .f32⟩
  | .local _ .vmem, ⟨58, _⟩ => ⟨S32x1024, .f32⟩
  | .local _ .vmem, ⟨59, _⟩ => ⟨S32x1024, .f32⟩
  | .local _ .vmem, ⟨60, _⟩ => ⟨S32x1024, .f32⟩
  | .local _ .vmem, ⟨61, _⟩ => ⟨S32x1024, .f32⟩
  | .local _ .vmem, ⟨62, _⟩ => ⟨S32x1024, .f32⟩
  | .local _ .vmem, ⟨63, _⟩ => ⟨S32x1024, .f32⟩
  | .local _ .vmem, ⟨64, _⟩ => ⟨S128x1024, .f32⟩
  | .local _ .vmem, ⟨65, _⟩ => ⟨S128x1024, .f32⟩
  | .local _ .vmem, ⟨66, _⟩ => ⟨S128x1024, .f32⟩
  | .local _ .vmem, ⟨67, _⟩ => ⟨S128x1024, .f32⟩
  | .local _ .vmem, ⟨68, _⟩ => ⟨S128x1024, .f32⟩
  | .local _ .vmem, ⟨69, _⟩ => ⟨S128x1024, .f32⟩
  | .local _ .vmem, ⟨70, _⟩ => ⟨S128x1024, .f32⟩
  | .local _ .vmem, ⟨71, _⟩ => ⟨S128x1024, .f32⟩
  | .local _ .vmem, ⟨72, _⟩ => ⟨S128x1024, .f32⟩
  | .local _ .vmem, ⟨73, _⟩ => ⟨S128x1024, .f32⟩
  | .local _ .vmem, ⟨74, _⟩ => ⟨S128x1024, .f32⟩
  | .local _ .vmem, ⟨75, _⟩ => ⟨S128x1024, .f32⟩
  | .local _ .vmem, ⟨76, _⟩ => ⟨S128x1024, .f32⟩
  | .local _ .vmem, ⟨77, _⟩ => ⟨S128x1024, .f32⟩
  | .local _ .vmem, ⟨78, _⟩ => ⟨S128x1024, .f32⟩
  | .local _ .vmem, ⟨79, _⟩ => ⟨S128x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev main_v0_5 : Ref sig .tc := ⟨.hbm, 25, rfl⟩
abbrev main_v0_6 : Ref sig .tc := ⟨.hbm, 26, rfl⟩
abbrev main_v0_7 : Ref sig .tc := ⟨.hbm, 27, rfl⟩
abbrev main_v0_8 : Ref sig .tc := ⟨.hbm, 28, rfl⟩
abbrev main_v0_9 : Ref sig .tc := ⟨.hbm, 29, rfl⟩
abbrev main_v0_10 : Ref sig .tc := ⟨.hbm, 30, rfl⟩
abbrev main_v0_11 : Ref sig .tc := ⟨.hbm, 31, rfl⟩
abbrev main_v0_12 : Ref sig .tc := ⟨.hbm, 32, rfl⟩
abbrev main_v0_13 : Ref sig .tc := ⟨.hbm, 33, rfl⟩
abbrev main_v0_14 : Ref sig .tc := ⟨.hbm, 34, rfl⟩
abbrev main_v0_15 : Ref sig .tc := ⟨.hbm, 35, rfl⟩
abbrev main_v0_16 : Ref sig .tc := ⟨.hbm, 36, rfl⟩
abbrev main_v0_17 : Ref sig .tc := ⟨.hbm, 37, rfl⟩
abbrev main_v0_18 : Ref sig .tc := ⟨.hbm, 38, rfl⟩
abbrev main_v0_19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S64x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S64x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S64x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S32x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S32x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S32x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S32x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S128x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S128x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S128x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S128x1024 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S128x1024 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S128x1024 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S128x1024 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S128x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]
-- ==== AdamReferenceIdeal.lean ====
abbrev S512x256 : Shape := ⟨2, ![512, 256]⟩
abbrev S256x1024 : Shape := ⟨2, ![256, 1024]⟩
abbrev S1024x1024 : Shape := ⟨2, ![1024, 1024]⟩
abbrev S_ : Shape := ⟨0, ![]⟩

abbrev nBuf : Space → Nat
  | .hbm => 185
  | .vmem => 0
  | .smem => 0
  | _ => 0

abbrev hbmTy0_0 (i : Nat) : BufTy := match i % 128 with
  | 0 => ⟨S512x256, .f32⟩
  | 1 => ⟨S512x256, .f32⟩
  | 2 => ⟨S512x256, .f32⟩
  | 3 => ⟨S512x256, .f32⟩
  | 4 => ⟨S512x256, .f32⟩
  | 5 => ⟨S512x256, .f32⟩
  | 6 => ⟨S512x256, .f32⟩
  | 7 => ⟨S512x256, .f32⟩
  | 8 => ⟨S256x1024, .f32⟩
  | 9 => ⟨S256x1024, .f32⟩
  | 10 => ⟨S256x1024, .f32⟩
  | 11 => ⟨S256x1024, .f32⟩
  | 12 => ⟨S1024x1024, .f32⟩
  | 13 => ⟨S1024x1024, .f32⟩
  | 14 => ⟨S1024x1024, .f32⟩
  | 15 => ⟨S1024x1024, .f32⟩
  | 16 => ⟨S1024x1024, .f32⟩
  | 17 => ⟨S1024x1024, .f32⟩
  | 18 => ⟨S1024x1024, .f32⟩
  | 19 => ⟨S1024x1024, .f32⟩
  | 20 => ⟨S_, .f32⟩
  | 21 => ⟨S512x256, .f32⟩
  | 22 => ⟨S512x256, .f32⟩
  | 23 => ⟨S_, .f32⟩
  | 24 => ⟨S512x256, .f32⟩
  | 25 => ⟨S512x256, .f32⟩
  | 26 => ⟨S512x256, .f32⟩
  | 27 => ⟨S_, .f32⟩
  | 28 => ⟨S512x256, .f32⟩
  | 29 => ⟨S512x256, .f32⟩
  | 30 => ⟨S512x256, .f32⟩
  | 31 => ⟨S_, .f32⟩
  | 32 => ⟨S512x256, .f32⟩
  | 33 => ⟨S512x256, .f32⟩
  | 34 => ⟨S512x256, .f32⟩
  | 35 => ⟨S_, .f32⟩
  | 36 => ⟨S512x256, .f32⟩
  | 37 => ⟨S512x256, .f32⟩
  | 38 => ⟨S_, .f32⟩
  | 39 => ⟨S512x256, .f32⟩
  | 40 => ⟨S512x256, .f32⟩
  | 41 => ⟨S512x256, .f32⟩
  | 42 => ⟨S_, .f32⟩
  | 43 => ⟨S512x256, .f32⟩
  | 44 => ⟨S512x256, .f32⟩
  | 45 => ⟨S512x256, .f32⟩
  | 46 => ⟨S_, .f32⟩
  | 47 => ⟨S512x256, .f32⟩
  | 48 => ⟨S512x256, .f32⟩
  | 49 => ⟨S512x256, .f32⟩
  | 50 => ⟨S_, .f32⟩
  | 51 => ⟨S512x256, .f32⟩
  | 52 => ⟨S512x256, .f32⟩
  | 53 => ⟨S_, .f32⟩
  | 54 => ⟨S512x256, .f32⟩
  | 55 => ⟨S512x256, .f32⟩
  | 56 => ⟨S_, .f32⟩
  | 57 => ⟨S512x256, .f32⟩
  | 58 => ⟨S512x256, .f32⟩
  | 59 => ⟨S512x256, .f32⟩
  | 60 => ⟨S_, .f32⟩
  | 61 => ⟨S512x256, .f32⟩
  | 62 => ⟨S512x256, .f32⟩
  | 63 => ⟨S512x256, .f32⟩
  | 64 => ⟨S_, .f32⟩
  | 65 => ⟨S512x256, .f32⟩
  | 66 => ⟨S512x256, .f32⟩
  | 67 => ⟨S512x256, .f32⟩
  | 68 => ⟨S_, .f32⟩
  | 69 => ⟨S512x256, .f32⟩
  | 70 => ⟨S512x256, .f32⟩
  | 71 => ⟨S_, .f32⟩
  | 72 => ⟨S512x256, .f32⟩
  | 73 => ⟨S512x256, .f32⟩
  | 74 => ⟨S512x256, .f32⟩
  | 75 => ⟨S_, .f32⟩
  | 76 => ⟨S512x256, .f32⟩
  | 77 => ⟨S512x256, .f32⟩
  | 78 => ⟨S512x256, .f32⟩
  | 79 => ⟨S_, .f32⟩
  | 80 => ⟨S512x256, .f32⟩
  | 81 => ⟨S512x256, .f32⟩
  | 82 => ⟨S512x256, .f32⟩
  | 83 => ⟨S_, .f32⟩
  | 84 => ⟨S512x256, .f32⟩
  | 85 => ⟨S512x256, .f32⟩
  | 86 => ⟨S_, .f32⟩
  | 87 => ⟨S256x1024, .f32⟩
  | 88 => ⟨S256x1024, .f32⟩
  | 89 => ⟨S_, .f32⟩
  | 90 => ⟨S256x1024, .f32⟩
  | 91 => ⟨S256x1024, .f32⟩
  | 92 => ⟨S256x1024, .f32⟩
  | 93 => ⟨S_, .f32⟩
  | 94 => ⟨S256x1024, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S256x1024, .f32⟩
  | 101 => ⟨S_, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S256x1024, .f32⟩
  | 108 => ⟨S_, .f32⟩
  | 109 => ⟨S256x1024, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S256x1024, .f32⟩
  | 116 => ⟨S_, .f32⟩
  | 117 => ⟨S256x1024, .f32⟩
  | 118 => ⟨S256x1024, .f32⟩
  | 119 => ⟨S_, .f32⟩
  | 120 => ⟨S1024x1024, .f32⟩
  | 121 => ⟨S1024x1024, .f32⟩
  | 122 => ⟨S_, .f32⟩
  | 123 => ⟨S1024x1024, .f32⟩
  | 124 => ⟨S1024x1024, .f32⟩
  | 125 => ⟨S1024x1024, .f32⟩
  | 126 => ⟨S_, .f32⟩
  | 127 => ⟨S1024x1024, .f32⟩
  | _ => ⟨S512x256, .f32⟩

abbrev hbmTy0_1 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S_, .f32⟩
  | 7 => ⟨S1024x1024, .f32⟩
  | 8 => ⟨S1024x1024, .f32⟩
  | 9 => ⟨S_, .f32⟩
  | 10 => ⟨S1024x1024, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S1024x1024, .f32⟩
  | 31 => ⟨S_, .f32⟩
  | 32 => ⟨S1024x1024, .f32⟩
  | 33 => ⟨S1024x1024, .f32⟩
  | 34 => ⟨S1024x1024, .f32⟩
  | 35 => ⟨S_, .f32⟩
  | 36 => ⟨S1024x1024, .f32⟩
  | 37 => ⟨S1024x1024, .f32⟩
  | 38 => ⟨S1024x1024, .f32⟩
  | 39 => ⟨S_, .f32⟩
  | 40 => ⟨S1024x1024, .f32⟩
  | 41 => ⟨S1024x1024, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S_, .f32⟩
  | 51 => ⟨S1024x1024, .f32⟩
  | 52 => ⟨S1024x1024, .f32⟩
  | 53 => ⟨S1024x1024, .f32⟩
  | 54 => ⟨S_, .f32⟩
  | 55 => ⟨S1024x1024, .f32⟩
  | 56 => ⟨S1024x1024, .f32⟩
  | _ => ⟨S512x256, .f32⟩

abbrev hbmTy (i : Nat) : BufTy := match i / 128 with
  | 0 => hbmTy0_0 i
  | 1 => hbmTy0_1 i
  | _ => ⟨S512x256, .f32⟩

abbrev bufTy : (tb : Table) → Fin (tcTables nBuf tb) → BufTy
  | .hbm, ⟨i, _⟩ => hbmTy i
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_cst_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_14 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_28 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_29 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_30 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_33 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_cst_35 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_37 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_38 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_39 : Ref sig .tc := ⟨.hbm, 167, rfl⟩
abbrev main_v107 : Ref sig .tc := ⟨.hbm, 168, rfl⟩
abbrev main_v108 : Ref sig .tc := ⟨.hbm, 169, rfl⟩
abbrev main_cst_40 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_41 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_42 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_43 : Ref sig .tc := ⟨.hbm, 182, rfl⟩
abbrev main_v118 : Ref sig .tc := ⟨.hbm, 183, rfl⟩
abbrev main_v119 : Ref sig .tc := ⟨.hbm, 184, rfl⟩

abbrev nD : Nat := 1
abbrev τ : Topo := Topo.v7x

variable {F : FTy → Type} [FloatOps F]
-- ==== AdamSmallKernel.lean ====
abbrev S104x128 : Shape := ⟨2, ![104, 128]⟩

abbrev nBuf : Space → Nat
  | .hbm => 8
  | .vmem => 8
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S104x128, .f32⟩
  | .hbm, ⟨5, _⟩ => ⟨S104x128, .f32⟩
  | .hbm, ⟨6, _⟩ => ⟨S104x128, .f32⟩
  | .hbm, ⟨7, _⟩ => ⟨S104x128, .f32⟩
  | .local _ .vmem, ⟨0, _⟩ => ⟨S104x128, .f32⟩
  | .local _ .vmem, ⟨1, _⟩ => ⟨S104x128, .f32⟩
  | .local _ .vmem, ⟨2, _⟩ => ⟨S104x128, .f32⟩
  | .local _ .vmem, ⟨3, _⟩ => ⟨S104x128, .f32⟩
  | .local _ .vmem, ⟨4, _⟩ => ⟨S104x128, .f32⟩
  | .local _ .vmem, ⟨5, _⟩ => ⟨S104x128, .f32⟩
  | .local _ .vmem, ⟨6, _⟩ => ⟨S104x128, .f32⟩
  | .local _ .vmem, ⟨7, _⟩ => ⟨S104x128, .f32⟩
  | _, _ => ⟨S104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S104x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallReferenceIdeal.lean ====
abbrev S104x128 : Shape := ⟨2, ![104, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S_, .f32⟩
  | .hbm, ⟨5, _⟩ => ⟨S104x128, .f32⟩
  | .hbm, ⟨6, _⟩ => ⟨S104x128, .f32⟩
  | .hbm, ⟨7, _⟩ => ⟨S_, .f32⟩
  | .hbm, ⟨8, _⟩ => ⟨S104x128, .f32⟩
  | .hbm, ⟨9, _⟩ => ⟨S104x128, .f32⟩
  | .hbm, ⟨10, _⟩ => ⟨S104x128, .f32⟩
  | .hbm, ⟨11, _⟩ => ⟨S_, .f32⟩
  | .hbm, ⟨12, _⟩ => ⟨S104x128, .f32⟩
  | .hbm, ⟨13, _⟩ => ⟨S104x128, .f32⟩
  | .hbm, ⟨14, _⟩ => ⟨S104x128, .f32⟩
  | .hbm, ⟨15, _⟩ => ⟨S_, .f32⟩
  | .hbm, ⟨16, _⟩ => ⟨S104x128, .f32⟩
  | .hbm, ⟨17, _⟩ => ⟨S104x128, .f32⟩
  | .hbm, ⟨18, _⟩ => ⟨S104x128, .f32⟩
  | .hbm, ⟨19, _⟩ => ⟨S_, .f32⟩
  | .hbm, ⟨20, _⟩ => ⟨S104x128, .f32⟩
  | .hbm, ⟨21, _⟩ => ⟨S104x128, .f32⟩
  | .hbm, ⟨22, _⟩ => ⟨S_, .f32⟩
  | .hbm, ⟨23, _⟩ => ⟨S104x128, .f32⟩
  | .hbm, ⟨24, _⟩ => ⟨S104x128, .f32⟩
  | .hbm, ⟨25, _⟩ => ⟨S104x128, .f32⟩
  | .hbm, ⟨26, _⟩ => ⟨S_, .f32⟩
  | .hbm, ⟨27, _⟩ => ⟨S104x128, .f32⟩
  | .hbm, ⟨28, _⟩ => ⟨S104x128, .f32⟩
  | .hbm, ⟨29, _⟩ => ⟨S104x128, .f32⟩
  | .hbm, ⟨30, _⟩ => ⟨S_, .f32⟩
  | .hbm, ⟨31, _⟩ => ⟨S104x128, .f32⟩
  | .hbm, ⟨32, _⟩ => ⟨S104x128, .f32⟩
  | .hbm, ⟨33, _⟩ => ⟨S104x128, .f32⟩
  | .hbm, ⟨34, _⟩ => ⟨S_, .f32⟩
  | .hbm, ⟨35, _⟩ => ⟨S104x128, .f32⟩
  | .hbm, ⟨36, _⟩ => ⟨S104x128, .f32⟩
  | _, _ => ⟨S104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Product.lean ====
/-
  Products of matrices of extended reals: what a matrix unit or a host product computes, a block of a product, and a product whose long side
  is cut into parts.
-/
module

public import Idealize.ShloMosaic.Lib.ValueIdx
public import Idealize.ShloMosaic.Lib.MatmulPlain
public import Idealize.ShloMosaic.Lib.Pipeline.Value

@[expose] public section

set_option backward.isDefEq.respectTransparency false

noncomputable section

namespace Cert.Step

open Idealize.ShloMosaic Finset
open Idealize.ShloMosaic.ValueIdx (ix2 contrEquiv1 contrEquiv1_symm_val)

/-- The shape of an `m` by `n` matrix. -/
abbrev M2 (m n : ℕ) : Shape := ⟨2, ![m, n]⟩

/-- The product `A B`. -/
def nn {m k n : ℕ} (A : (M2 m k).Idx → EReal) (B : (M2 k n).Idx → EReal) : (M2 m n).Idx → EReal :=
  fun y => ∑ j : Fin k, A (ix2 (y 0) j) * B (ix2 j (y 1))
/-- The product `A Bᵀ`. -/
def nt {m k n : ℕ} (A : (M2 m k).Idx → EReal) (B : (M2 n k).Idx → EReal) : (M2 m n).Idx → EReal :=
  fun y => ∑ j : Fin k, A (ix2 (y 0) j) * B (ix2 (y 1) j)
/-- The product `Aᵀ B`. -/
def tn {m k n : ℕ} (A : (M2 k m).Idx → EReal) (B : (M2 k n).Idx → EReal) : (M2 m n).Idx → EReal :=
  fun y => ∑ j : Fin k, A (ix2 j (y 0)) * B (ix2 j (y 1))

variable {m k n : ℕ} {φ₁ φ₂ : FTy}

/-- The matrix unit's product into zeros is `A B`. -/
theorem mul_nn (wf) (A : FVec Ideal (M2 m k) φ₁) (B : FVec Ideal (M2 k n) φ₂) :
    FloatOps.matmul (F := Ideal) ⟨[1], [0], [0], [1], [], [], wf⟩ none A B (constant (F := Ideal) (M2 m n) .f32 0x00000000#32) = nn A B := by
  funext y
  rw [Ideal.matmul_constant_zero_apply, ← Equiv.sum_comp (contrEquiv1 _ k rfl rfl).symm]
  refine Finset.sum_congr rfl fun j _ => ?_
  congr 2 <;> · funext a; refine Fin.ext ?_; match a with | 0 => rfl | 1 => rfl

/-- The same with the right factor read by rows. -/
theorem mul_nt (wf) (A : FVec Ideal (M2 m k) φ₁) (B : FVec Ideal (M2 n k) φ₂) :
    FloatOps.matmul (F := Ideal) ⟨[1], [1], [0], [0], [], [], wf⟩ none A B (constant (F := Ideal) (M2 m n) .f32 0x00000000#32) = nt A B := by
  funext y
  rw [Ideal.matmul_constant_zero_apply, ← Equiv.sum_comp (contrEquiv1 _ k rfl rfl).symm]
  refine Finset.sum_congr rfl fun j _ => ?_
  congr 2 <;> · funext a; refine Fin.ext ?_; match a with | 0 => rfl | 1 => rfl

/-- The same with the left factor read by columns. -/
theorem mul_tn (wf) (A : FVec Ideal (M2 k m) φ₁) (B : FVec Ideal (M2 k n) φ₂) :
    FloatOps.matmul (F := Ideal) ⟨[0], [0], [1], [1], [], [], wf⟩ none A B (constant (F := Ideal) (M2 m n) .f32 0x00000000#32) = tn A B := by
  funext y
  rw [Ideal.matmul_constant_zero_apply, ← Equiv.sum_comp (contrEquiv1 _ k rfl rfl).symm]
  refine Finset.sum_congr rfl fun j _ => ?_
  congr 2 <;> · funext a; refine Fin.ext ?_; match a with | 0 => rfl | 1 => rfl

/-- The host's product `A B`. -/
theorem dot_nn (wf) (A : FVec Ideal (M2 m k) φ₁) (B : FVec Ideal (M2 k n) φ₂) :
    Host.dotGeneral (F := Ideal) (φ₁ := φ₁) (φ₂ := φ₂) (so := M2 m n) ⟨[1], [0], [0], [1], [], [], wf⟩ none A B = nn A B := by
  funext y
  simp only [Host.dotGeneral]
  rw [Ideal.dotGeneral_apply, ← Equiv.sum_comp (contrEquiv1 _ k rfl rfl).symm]
  refine Finset.sum_congr rfl fun j _ => ?_
  congr 2 <;> · funext a; refine Fin.ext ?_; match a with | 0 => rfl | 1 => rfl

/-- The host's product with the right factor read by rows. -/
theorem dot_nt (wf) (A : FVec Ideal (M2 m k) φ₁) (B : FVec Ideal (M2 n k) φ₂) :
    Host.dotGeneral (F := Ideal) (φ₁ := φ₁) (φ₂ := φ₂) (so := M2 m n) ⟨[1], [1], [0], [0], [], [], wf⟩ none A B = nt A B := by
  funext y
  simp only [Host.dotGeneral]
  rw [Ideal.dotGeneral_apply, ← Equiv.sum_comp (contrEquiv1 _ k rfl rfl).symm]
  refine Finset.sum_congr rfl fun j _ => ?_
  congr 2 <;> · funext a; refine Fin.ext ?_; match a with | 0 => rfl | 1 => rfl

/-- The host's product with the left factor read by columns. -/
theorem dot_tn (wf) (A : FVec Ideal (M2 k m) φ₁) (B : FVec Ideal (M2 k n) φ₂) :
    Host.dotGeneral (F := Ideal) (φ₁ := φ₁) (φ₂ := φ₂) (so := M2 m n) ⟨[0], [0], [1], [1], [], [], wf⟩ none A B = tn A B := by
  funext y
  simp only [Host.dotGeneral]
  rw [Ideal.dotGeneral_apply, ← Equiv.sum_comp (contrEquiv1 _ k rfl rfl).symm]
  refine Finset.sum_congr rfl fun j _ => ?_
  congr 2 <;> · funext a; refine Fin.ext ?_; match a with | 0 => rfl | 1 => rfl

/-- `Bᵀ A` turned over is `Aᵀ B`. -/
theorem tr_tn (h) (A : (M2 k m).Idx → EReal) (B : (M2 k n).Idx → EReal) :
    transpose (M2 m n) [1, 0] (tn B A : (⟨M2 n m, .f32⟩ : BufTy).Contents (Elt Ideal)) h = tn A B := by
  funext y
  refine (transpose_apply [1, 0] _ h y (ix2 (y 1) (y 0)) (fun b => match b with | ⟨0, _⟩ => rfl | ⟨1, _⟩ => rfl)).trans ?_
  exact Finset.sum_congr rfl fun j _ => mul_comm _ _

/-- A derivative's product, taken the other way round and turned over, is `Aᵀ B`. -/
theorem dot_tr (wf) (h) (A : FVec Ideal (M2 k m) φ₁) (B : FVec Ideal (M2 k n) φ₂) :
    transpose (M2 m n) [1, 0] (Host.dotGeneral (F := Ideal) (φ₁ := φ₂) (φ₂ := φ₁) (so := M2 n m) ⟨[0], [0], [1], [1], [], [], wf⟩ none B A) h = tn A B :=
  (congrArg (fun X : (M2 n m).Idx → EReal => transpose (M2 m n) [1, 0] X h) (dot_tn (φ₁ := φ₂) (φ₂ := φ₁) wf B A)).trans (tr_tn h A B)

/-- `e` puts block `i` into the whole array: a coordinate is the block's number times the block's side, plus the place in the block. -/
abbrev At {m n b₀ b₁ : ℕ} (e : (M2 b₀ b₁).Idx → (M2 m n).Idx) (i : Fin 2 → ℕ) : Prop :=
  ∀ x a, ((e x a : Fin _) : ℕ) = i a * (M2 b₀ b₁).size a + ((x a : Fin _) : ℕ)

theorem eq_of_vals {m n : ℕ} {x y : (M2 m n).Idx} (h0 : ((x 0 : Fin _) : ℕ) = ((y 0 : Fin _) : ℕ)) (h1 : ((x 1 : Fin _) : ℕ) = ((y 1 : Fin _) : ℕ)) : x = y := by
  funext a; refine Fin.ext ?_; match a with | 0 => exact h0 | 1 => exact h1

variable {bm bn bk : ℕ} {ia ib ic : Fin 2 → ℕ}

/-- A block of `A B` is the product of a band of rows of `A` and a band of columns of `B`. -/
theorem nn_block (A : (M2 m k).Idx → EReal) (B : (M2 k n).Idx → EReal) {ea : (M2 bm k).Idx → (M2 m k).Idx} {eb : (M2 k bn).Idx → (M2 k n).Idx}
    {ec : (M2 bm bn).Idx → (M2 m n).Idx} (ha : At ea ia) (hb : At eb ib) (hc : At ec ic)
    (h : ia 0 = ic 0 ∧ ia 1 = 0 ∧ ib 0 = 0 ∧ ib 1 = ic 1) (y : (M2 bm bn).Idx) :
    nn (fun x => A (ea x)) (fun x => B (eb x)) y = nn A B (ec y) := by
  obtain ⟨h0, h1, h2, h3⟩ := h
  refine Finset.sum_congr rfl fun j _ => ?_
  exact congrArg₂ (fun p q => A p * B q) (show ea (ix2 (y 0) j) = ix2 (ec y 0) j from eq_of_vals ((ha _ 0).trans ((hc y 0).trans (by rw [h0]; rfl)).symm)
      ((ha _ 1).trans (by rw [h1, Nat.zero_mul, Nat.zero_add]; rfl)))
    (show eb (ix2 j (y 1)) = ix2 j (ec y 1) from eq_of_vals ((hb _ 0).trans (by rw [h2, Nat.zero_mul, Nat.zero_add]; rfl))
      ((hb _ 1).trans ((hc y 1).trans (by rw [h3]; rfl)).symm))

/-- A block of `A Bᵀ` is the product of two bands of rows. -/
theorem nt_block (A : (M2 m k).Idx → EReal) (B : (M2 n k).Idx → EReal) {ea : (M2 bm k).Idx → (M2 m k).Idx} {eb : (M2 bn k).Idx → (M2 n k).Idx}
    {ec : (M2 bm bn).Idx → (M2 m n).Idx} (ha : At ea ia) (hb : At eb ib) (hc : At ec ic)
    (h : ia 0 = ic 0 ∧ ia 1 = 0 ∧ ib 0 = ic 1 ∧ ib 1 = 0) (y : (M2 bm bn).Idx) :
    nt (fun x => A (ea x)) (fun x => B (eb x)) y = nt A B (ec y) := by
  obtain ⟨h0, h1, h2, h3⟩ := h
  refine Finset.sum_congr rfl fun j _ => ?_
  exact congrArg₂ (fun p q => A p * B q) (show ea (ix2 (y 0) j) = ix2 (ec y 0) j from eq_of_vals ((ha _ 0).trans ((hc y 0).trans (by rw [h0]; rfl)).symm)
      ((ha _ 1).trans (by rw [h1, Nat.zero_mul, Nat.zero_add]; rfl)))
    (show eb (ix2 (y 1) j) = ix2 (ec y 1) j from eq_of_vals ((hb _ 0).trans ((hc y 1).trans (by rw [h2]; rfl)).symm)
      ((hb _ 1).trans (by rw [h3, Nat.zero_mul, Nat.zero_add]; rfl)))

/-- A block of `Aᵀ B` is the product of two bands of columns. -/
theorem tn_block (A : (M2 k m).Idx → EReal) (B : (M2 k n).Idx → EReal) {ea : (M2 k bm).Idx → (M2 k m).Idx} {eb : (M2 k bn).Idx → (M2 k n).Idx}
    {ec : (M2 bm bn).Idx → (M2 m n).Idx} (ha : At ea ia) (hb : At eb ib) (hc : At ec ic)
    (h : ia 0 = 0 ∧ ia 1 = ic 0 ∧ ib 0 = 0 ∧ ib 1 = ic 1) (y : (M2 bm bn).Idx) :
    tn (fun x => A (ea x)) (fun x => B (eb x)) y = tn A B (ec y) := by
  obtain ⟨h0, h1, h2, h3⟩ := h
  refine Finset.sum_congr rfl fun j _ => ?_
  exact congrArg₂ (fun p q => A p * B q) (show ea (ix2 j (y 0)) = ix2 j (ec y 0) from eq_of_vals ((ha _ 0).trans (by rw [h0, Nat.zero_mul, Nat.zero_add]; rfl))
      ((ha _ 1).trans ((hc y 0).trans (by rw [h1]; rfl)).symm))
    (show eb (ix2 j (y 1)) = ix2 j (ec y 1) from eq_of_vals ((hb _ 0).trans (by rw [h2, Nat.zero_mul, Nat.zero_add]; rfl))
      ((hb _ 1).trans ((hc y 1).trans (by rw [h3]; rfl)).symm))

/-- A point of one array's block and the same point of another's are the same place when the blocks have the same number. -/
theorem at_eq {e e' : (M2 bm bn).Idx → (M2 m n).Idx} (h : At e ia) (h' : At e' ic) (hi : ia 0 = ic 0 ∧ ia 1 = ic 1) (y : (M2 bm bn).Idx) : e y = e' y :=
  eq_of_vals ((h y 0).trans ((h' y 0).trans (by rw [hi.1])).symm) ((h y 1).trans ((h' y 1).trans (by rw [hi.2])).symm)

/-- The columns of part `q` when the long side is cut into parts of `bk`. -/
def part {q : ℕ} (p : Fin q) (j : Fin bk) : Fin (q * bk) :=
  ⟨p.val * bk + j.val, Nat.lt_of_lt_of_le (Nat.add_lt_add_left j.isLt _) (by rw [← Nat.succ_mul]; exact Nat.mul_le_mul_right _ p.isLt)⟩

/-- A sum over the long side is the sum over the parts. -/
theorem sum_parts {q : ℕ} (f : Fin (q * bk) → EReal) : ∑ j, f j = ∑ p : Fin q, ∑ j : Fin bk, f (part p j) := by
  rw [← Equiv.sum_comp finProdFinEquiv, Fintype.sum_prod_type]
  exact Finset.sum_congr rfl fun p _ => Finset.sum_congr rfl fun j _ => congrArg f (Fin.ext (by
    show j.val + bk * p.val = p.val * bk + j.val; rw [Nat.mul_comm, Nat.add_comm]))

/-- The share of one part of the long side in a block of `A B`. -/
theorem nn_part {q : ℕ} (A : (M2 m (q * bk)).Idx → EReal) (B : (M2 (q * bk) n).Idx → EReal) {ea : (M2 bm bk).Idx → (M2 m (q * bk)).Idx}
    {eb : (M2 bk bn).Idx → (M2 (q * bk) n).Idx} {ec : (M2 bm bn).Idx → (M2 m n).Idx} (ha : At ea ia) (hb : At eb ib) (hc : At ec ic) (p : Fin q)
    (h : ia 0 = ic 0 ∧ ia 1 = p.val ∧ ib 0 = p.val ∧ ib 1 = ic 1) (y : (M2 bm bn).Idx) :
    nn (fun x => A (ea x)) (fun x => B (eb x)) y = ∑ j : Fin bk, A (ix2 (ec y 0) (part p j)) * B (ix2 (part p j) (ec y 1)) := by
  obtain ⟨h0, h1, h2, h3⟩ := h
  refine Finset.sum_congr rfl fun j _ => ?_
  exact congrArg₂ (fun p q => A p * B q) (show ea (ix2 (y 0) j) = ix2 (ec y 0) (part p j) from eq_of_vals ((ha _ 0).trans ((hc y 0).trans (by rw [h0]; rfl)).symm)
      ((ha _ 1).trans (by rw [h1]; rfl)))
    (show eb (ix2 j (y 1)) = ix2 (part p j) (ec y 1) from eq_of_vals ((hb _ 0).trans (by rw [h2]; rfl))
      ((hb _ 1).trans ((hc y 1).trans (by rw [h3]; rfl)).symm))

/-- The share of one part of the long side in a block of `A Bᵀ`. -/
theorem nt_part {q : ℕ} (A : (M2 m (q * bk)).Idx → EReal) (B : (M2 n (q * bk)).Idx → EReal) {ea : (M2 bm bk).Idx → (M2 m (q * bk)).Idx}
    {eb : (M2 bn bk).Idx → (M2 n (q * bk)).Idx} {ec : (M2 bm bn).Idx → (M2 m n).Idx} (ha : At ea ia) (hb : At eb ib) (hc : At ec ic) (p : Fin q)
    (h : ia 0 = ic 0 ∧ ia 1 = p.val ∧ ib 0 = ic 1 ∧ ib 1 = p.val) (y : (M2 bm bn).Idx) :
    nt (fun x => A (ea x)) (fun x => B (eb x)) y = ∑ j : Fin bk, A (ix2 (ec y 0) (part p j)) * B (ix2 (ec y 1) (part p j)) := by
  obtain ⟨h0, h1, h2, h3⟩ := h
  refine Finset.sum_congr rfl fun j _ => ?_
  exact congrArg₂ (fun p q => A p * B q) (show ea (ix2 (y 0) j) = ix2 (ec y 0) (part p j) from eq_of_vals ((ha _ 0).trans ((hc y 0).trans (by rw [h0]; rfl)).symm)
      ((ha _ 1).trans (by rw [h1]; rfl)))
    (show eb (ix2 (y 1) j) = ix2 (ec y 1) (part p j) from eq_of_vals ((hb _ 0).trans ((hc y 1).trans (by rw [h2]; rfl)).symm)
      ((hb _ 1).trans (by rw [h3]; rfl)))

/-- A product over two parts of the long side, one after the other. -/
theorem nn_two (A : (M2 m (2 * bk)).Idx → EReal) (B : (M2 (2 * bk) n).Idx → EReal) (y : (M2 m n).Idx) :
    nn A B y = (∑ j : Fin bk, A (ix2 (y 0) (part (q := 2) 0 j)) * B (ix2 (part (q := 2) 0 j) (y 1)))
      + ∑ j : Fin bk, A (ix2 (y 0) (part (q := 2) 1 j)) * B (ix2 (part (q := 2) 1 j) (y 1)) :=
  (sum_parts (q := 2) _).trans (Fin.sum_univ_two _)

theorem nt_two (A : (M2 m (2 * bk)).Idx → EReal) (B : (M2 n (2 * bk)).Idx → EReal) (y : (M2 m n).Idx) :
    nt A B y = (∑ j : Fin bk, A (ix2 (y 0) (part (q := 2) 0 j)) * B (ix2 (y 1) (part (q := 2) 0 j)))
      + ∑ j : Fin bk, A (ix2 (y 0) (part (q := 2) 1 j)) * B (ix2 (y 1) (part (q := 2) 1 j)) :=
  (sum_parts (q := 2) _).trans (Fin.sum_univ_two _)

/-- A product over three parts. -/
theorem nt_three (A : (M2 m (3 * bk)).Idx → EReal) (B : (M2 n (3 * bk)).Idx → EReal) (y : (M2 m n).Idx) :
    nt A B y = (∑ j : Fin bk, A (ix2 (y 0) (part (q := 3) 0 j)) * B (ix2 (y 1) (part (q := 3) 0 j)))
      + (∑ j : Fin bk, A (ix2 (y 0) (part (q := 3) 1 j)) * B (ix2 (y 1) (part (q := 3) 1 j)))
      + ∑ j : Fin bk, A (ix2 (y 0) (part (q := 3) 2 j)) * B (ix2 (y 1) (part (q := 3) 2 j)) :=
  (sum_parts (q := 3) _).trans (Fin.sum_univ_three _)

end Cert.Step

end
-- ==== Proof.Mlp.lean ====
/-
  The MLP around its gradient: the first layer forward with the squared rectifier, the gradient through the second layer and the rectifier, and
  the gradients of both weights.
-/
module

public import proofs.«01_k».proof.Proof.Product
public import Idealize.ShloMosaic.Lib.Pipeline.ValueKit.Geometry
public import Idealize.ShloMosaic.Lib.Pipeline.ValueKit.Acc
public import proofs.«01_k».proof.Proof.Gen.MlpKernelIdeal.Frame
public import proofs.«01_k».proof.Proof.Gen.MlpReferenceIdeal.Read
public import proofs.«01_k».proof.Proof.Gen.MlpReferenceIdeal.Run
public import proofs.«01_k».proof.Proof.Gen.MlpReferenceIdeal
public import proofs.«01_k».proof.Defs

@[expose] public section

set_option backward.isDefEq.respectTransparency false

noncomputable section

namespace Cert.Step.Mlp

open Idealize.ShloMosaic Idealize.ShloMosaic.TcCoe Idealize.SL.Sem Cert.MlpKernelIdeal Cert.MlpKernelIdeal.Gen

/-- The number two, as the programs write it. -/
abbrev two : EReal := Ideal.ofBits .f32 0x40000000#32

/-- What the program computes from its arguments: the layer before the rectifier, its squared rectifier, the gradient before the rectifier, and
the two weights' gradients. -/
def pre (a : (M2 2176 1024).Idx → EReal) (wu : (M2 1024 4096).Idx → EReal) : (M2 2176 4096).Idx → EReal := nn a wu
def act (u : (M2 2176 4096).Idx → EReal) : (M2 2176 4096).Idx → EReal := fun i => max (u i) 0 * max (u i) 0
def grad (g : (M2 2176 1024).Idx → EReal) (wd : (M2 4096 1024).Idx → EReal) (u : (M2 2176 4096).Idx → EReal) : (M2 2176 4096).Idx → EReal :=
  fun i => nt g wd i * two * max (u i) 0

theorem zero_bf16 : Ideal.ofBits .bf16 0x0000#16 = 0 := by simp [Ideal.ofBits, Ideal.ieee]

/-! ## The blocks -/

theorem tiles0 : ∀ t : Fin cfg0.N, win0_0.index t 0 = win0_2.index t 0 ∧ win0_0.index t 1 = 0 ∧ win0_1.index t 0 = 0 ∧ win0_1.index t 1 = win0_2.index t 1 := by
  decide +kernel
theorem tiles0' : ∀ t : Fin cfg0.N, win0_0.index t 0 = win0_3.index t 0 ∧ win0_0.index t 1 = 0 ∧ win0_1.index t 0 = 0 ∧ win0_1.index t 1 = win0_3.index t 1 := by
  decide +kernel
theorem tiles1 : ∀ t : Fin cfg1.N, (win1_0.index t 0 = win1_3.index t 0 ∧ win1_0.index t 1 = 0 ∧ win1_1.index t 0 = win1_3.index t 1 ∧ win1_1.index t 1 = 0)
    ∧ win1_2.index t 0 = win1_3.index t 0 ∧ win1_2.index t 1 = win1_3.index t 1 := by decide +kernel
theorem tiles2 : ∀ t : Fin cfg2.N, win2_0.index t 0 = 0 ∧ win2_0.index t 1 = win2_2.index t 0 ∧ win2_1.index t 0 = 0 ∧ win2_1.index t 1 = win2_2.index t 1 := by
  decide +kernel
theorem tiles3 : ∀ t : Fin cfg3.N, win3_0.index t 0 = 0 ∧ win3_0.index t 1 = win3_2.index t 0 ∧ win3_1.index t 0 = 0 ∧ win3_1.index t 1 = win3_2.index t 1 := by
  decide +kernel

/-! ## What a point computes -/

theorem pay0 (x0 : FVec Ideal S1088x1024 .bf16) (x1 : FVec Ideal S1024x1024 .bf16) : k0_pay1 (F := Ideal) x0 x1 = nn x0 x1 := mul_nn _ _ _

theorem pay0' (x0 : FVec Ideal S1088x1024 .bf16) (x1 : FVec Ideal S1024x1024 .bf16) (y) : k0_pay3 (F := Ideal) x0 x1 y = max (nn x0 x1 y) 0 * max (nn x0 x1 y) 0 := by
  rw [← pay0, ← Ideal.ofBits_zero_f32]; rfl

theorem pay1 (x0 : FVec Ideal S1088x1024 .bf16) (x1 : FVec Ideal S1024x1024 .bf16) (x2 : FVec Ideal S1088x1024 .bf16) (y) :
    k1_pay1 (F := Ideal) x0 x1 x2 y = nt x0 x1 y * two * max (x2 y) 0 := by
  rw [← zero_bf16]
  exact congrArg₂ (fun p q => p * two * max q (Ideal.ofBits .bf16 0x0000#16)) (congrFun (mul_nt _ x0 x1) y) (congrFun (shapeCast_self x2 _) y)

theorem pay2 (x0 : FVec Ideal S2176x1024 .bf16) (x1 : FVec Ideal S2176x512 .bf16) : k2_pay1 (F := Ideal) x0 x1 = tn x0 x1 :=
  (mul_tn _ (shapeCast S2176x1024 x0 shapeCasts_S2176x1024_S2176x1024) x1).trans (congrArg (tn · x1) (shapeCast_self x0 _))

theorem pay3 (x0 : FVec Ideal S2176x1024 .bf16) (x1 : FVec Ideal S2176x512 .bf16) : k3_pay1 (F := Ideal) x0 x1 = tn x0 x1 :=
  (mul_tn _ x0 (shapeCast S2176x512 x1 shapeCasts_S2176x512_S2176x512)).trans (congrArg (tn x0 ·) (shapeCast_self x1 _))

/-! ## What each call leaves in its arrays -/

section
variable (V : (c : Dev nD) → (b : Ref Cert.MlpKernelIdeal.sig .tc) → Buf (Elt Ideal) ((c : Thread nD τ).loc b)) (c : Dev nD)

theorem arr_pre : (dat0 (F := Ideal) V c).arrAt 2 cfg0.N = pre (V c main_arg0) (V c main_arg1) := by
  refine (dat0 (F := Ideal) V c).arrAt_eq_of_covers 2 _ (by decide +kernel) fun t hf y => ?_
  show (dat0 (F := Ideal) V c).after 2 t y = _
  rw [after0_2]
  frame_out
  exact (congrFun (pay0 _ _) y).trans
    (nn_block (V c main_arg0) (V c main_arg1) ((cfg0.win 0).rect_emb_val t) ((cfg0.win 1).rect_emb_val t) ((cfg0.win 2).rect_emb_val t) (tiles0 t) y)

theorem arr_act : (dat0 (F := Ideal) V c).arrAt 3 cfg0.N = act (pre (V c main_arg0) (V c main_arg1)) := by
  refine (dat0 (F := Ideal) V c).arrAt_eq_of_covers 3 _ (by decide +kernel) fun t hf y => ?_
  show (dat0 (F := Ideal) V c).after 3 t y = _
  rw [after0_3]
  frame_out
  exact (pay0' _ _ y).trans (congrArg (fun p : EReal => max p 0 * max p 0)
    (nn_block (V c main_arg0) (V c main_arg1) ((cfg0.win 0).rect_emb_val t) ((cfg0.win 1).rect_emb_val t) ((cfg0.win 3).rect_emb_val t) (tiles0' t) y))

theorem arr_grad : (dat1 (F := Ideal) V c).arrAt 3 cfg1.N = grad (V c main_arg3) (V c main_arg2) (V c main_v0_0) := by
  refine (dat1 (F := Ideal) V c).arrAt_eq_of_covers 3 _ (by decide +kernel) fun t hf y => ?_
  show (dat1 (F := Ideal) V c).after 3 t y = _
  rw [after1_3]
  frame_out
  exact (pay1 _ _ _ y).trans (congrArg₂ (fun p q : EReal => p * two * max q 0)
    (nt_block (V c main_arg3) (V c main_arg2) ((cfg1.win 0).rect_emb_val t) ((cfg1.win 1).rect_emb_val t) ((cfg1.win 3).rect_emb_val t) (tiles1 t).1 y)
    (congrArg (V c main_v0_0) (at_eq ((cfg1.win 2).rect_emb_val t) ((cfg1.win 3).rect_emb_val t) (tiles1 t).2 y)))

theorem arr_down : (dat2 (F := Ideal) V c).arrAt 2 cfg2.N = tn (V c main_v0_1) (V c main_arg3) := by
  refine (dat2 (F := Ideal) V c).arrAt_eq_of_covers 2 _ (by decide +kernel) fun t hf y => ?_
  show (dat2 (F := Ideal) V c).after 2 t y = _
  rw [after2_2]
  frame_out
  exact (congrFun (pay2 _ _) y).trans
    (tn_block (V c main_v0_1) (V c main_arg3) ((cfg2.win 0).rect_emb_val t) ((cfg2.win 1).rect_emb_val t) ((cfg2.win 2).rect_emb_val t) (tiles2 t) y)

theorem arr_up : (dat3 (F := Ideal) V c).arrAt 2 cfg3.N = tn (V c main_arg0) (V c main_v1) := by
  refine (dat3 (F := Ideal) V c).arrAt_eq_of_covers 2 _ (by decide +kernel) fun t hf y => ?_
  show (dat3 (F := Ideal) V c).after 2 t y = _
  rw [after3_2]
  frame_out
  exact (congrFun (pay3 _ _) y).trans
    (tn_block (V c main_arg0) (V c main_v1) ((cfg3.win 0).rect_emb_val t) ((cfg3.win 1).rect_emb_val t) ((cfg3.win 2).rect_emb_val t) (tiles3 t) y)

end

end Cert.Step.Mlp

end
-- ==== Proof.MlpRun.lean ====
/-
  The MLP program: the run, what its results hold, and the two programs compared.
-/
module

public import proofs.«01_k».proof.Proof.Mlp

@[expose] public section

set_option maxRecDepth 16384

noncomputable section

namespace Cert.Step.Mlp

open Idealize.ShloMosaic Idealize.ShloMosaic.TcCoe Cert.MlpKernelIdeal Cert.MlpKernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

section
variable {F : FTy → Type} [FloatOps F]
variable (m : (ℓ : Loc nD τ Cert.MlpKernelIdeal.sig) → Buf (Elt F) ℓ) (ρ : Dev nD → PrngReg)

set_option backward.isDefEq.respectTransparency.types false in
/-- The program runs, and every array ends as the calls leave it. -/
theorem run_arrays : θ_run defs (onTc (τ := τ) (main (F := F))) ⟨m, fun _ => 0, ρ⟩ (fun r => ∀ c : Dev nD,
      ∀ b ∈ Pipeline.ucRefs τ Cert.MlpKernelIdeal.sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ Cert.MlpKernelIdeal.sig Unit (Elt F) ℕ (UR Cert.MlpKernelIdeal.sig nD τ) ℕ))
            ⊢ BI.own (emb₁ (initOf (Pipeline.cells cfgs cellOf_inj) (Pipeline.launchToks cfgs cellOf_inj))) from .rfl)
        iexact Hu
      iapply (show (BI.emp : sProp (MT nD τ Cert.MlpKernelIdeal.sig Unit (Elt F) ℕ (UR Cert.MlpKernelIdeal.sig nD τ) ℕ)) ⊢ bigSep Finset.univ (fun _ : Dev nD => (BI.emp : sProp (MT nD τ Cert.MlpKernelIdeal.sig Unit (Elt F) ℕ (UR Cert.MlpKernelIdeal.sig nD τ) ℕ))) from by rw [BI.bigSep_emp_const])
      iempintro)
    (T₀ := fun c => iprop(StableHlo.held (c : Thread nD τ) (Pipeline.ucRefs τ Cert.MlpKernelIdeal.sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ Cert.MlpKernelIdeal.sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ Cert.MlpKernelIdeal.sig, s.mem (((c : Thread nD τ)).1, b) = W4 m ρ c b)
    (hfin := fun c s' => by
      iintro ⟨⟨Hh, -⟩, HSI⟩
      unfold StableHlo.held
      imodintro
      iapply (pointsTo_read_all (Pipeline.ucRefs τ Cert.MlpKernelIdeal.sig) (fun b => (((c : Thread nD τ)).1, b)) (W4 m ρ c) s')
      isplitl [Hh] <;> iassumption)
    (hQ := fun s h _ c b hb => h c b hb)

end

section
variable (m : (ℓ : Loc nD τ Cert.MlpKernelIdeal.sig) → Buf (Elt Ideal) ℓ) (ρ : Dev nD → PrngReg) (c : Dev nD)

/-- The four arguments: the layer's input, the two weights, and the gradient of the second layer's output. -/
def a0 : (M2 2176 1024).Idx → EReal := m ((c.tc : Thread nD τ).loc main_arg0)
def a1 : (M2 1024 4096).Idx → EReal := m ((c.tc : Thread nD τ).loc main_arg1)
def a2 : (M2 4096 1024).Idx → EReal := m ((c.tc : Thread nD τ).loc main_arg2)
def a3 : (M2 2176 1024).Idx → EReal := m ((c.tc : Thread nD τ).loc main_arg3)

theorem u_eq : W1 m ρ c main_v0_0 = pre (a0 m c) (a1 m c) := (W1_arr m ρ c 2).trans (arr_pre (V0 m ρ) c)
theorem act_eq1 : W1 m ρ c main_v0_1 = act (pre (a0 m c) (a1 m c)) := (W1_arr m ρ c 3).trans (arr_act (V0 m ρ) c)
theorem act_eq2 : W2 m ρ c main_v0_1 = act (pre (a0 m c) (a1 m c)) := (W2_of m ρ c main_v0_1 (by decide)).trans (act_eq1 m ρ c)
theorem act_eq : W4 m ρ c main_v0_1 = act (pre (a0 m c) (a1 m c)) :=
  (W4_of m ρ c main_v0_1 (by decide)).trans ((W3_of m ρ c main_v0_1 (by decide)).trans (act_eq2 m ρ c))
theorem grad_eq2 : W2 m ρ c main_v1 = grad (a3 m c) (a2 m c) (pre (a0 m c) (a1 m c)) :=
  (W2_arr m ρ c 3).trans ((arr_grad (V1 m ρ) c).trans (by
    rw [show V1 m ρ c main_arg3 = a3 m c from W1_args m ρ c _ (by decide), show V1 m ρ c main_arg2 = a2 m c from W1_args m ρ c _ (by decide),
      show V1 m ρ c main_v0_0 = _ from u_eq m ρ c]))
theorem grad_eq3 : W3 m ρ c main_v1 = grad (a3 m c) (a2 m c) (pre (a0 m c) (a1 m c)) := (W3_of m ρ c main_v1 (by decide)).trans (grad_eq2 m ρ c)
theorem grad_eq : W4 m ρ c main_v1 = grad (a3 m c) (a2 m c) (pre (a0 m c) (a1 m c)) := (W4_of m ρ c main_v1 (by decide)).trans (grad_eq3 m ρ c)
theorem down_eq : W4 m ρ c main_v2 = tn (act (pre (a0 m c) (a1 m c))) (a3 m c) :=
  (W4_of m ρ c main_v2 (by decide)).trans ((W3_arr m ρ c 2).trans ((arr_down (V2 m ρ) c).trans (by
    rw [show V2 m ρ c main_arg3 = a3 m c from W2_args m ρ c _ (by decide), show V2 m ρ c main_v0_1 = _ from act_eq2 m ρ c])))
theorem up_eq : W4 m ρ c main_v3 = tn (a0 m c) (grad (a3 m c) (a2 m c) (pre (a0 m c) (a1 m c))) :=
  (W4_arr m ρ c 2).trans ((arr_up (V3 m ρ) c).trans (by
    rw [show V3 m ρ c main_arg0 = a0 m c from W3_args m ρ c _ (by decide), show V3 m ρ c main_v1 = _ from grad_eq3 m ρ c]))

end

/-! ## The reference -/

open Cert.MlpReferenceIdeal.Read

section
variable (x0 : FVec Ideal S2176x1024 .bf16) (x1 : FVec Ideal S1024x4096 .bf16) (x2 : FVec Ideal S4096x1024 .bf16) (x3 : FVec Ideal S2176x1024 .bf16)

theorem ref_pre : val_main_v4 (F := Ideal) x0 x1 = pre x0 x1 := dot_nn _ x0 x1

theorem ref_relu : val_main_v5 (F := Ideal) x0 x1 = fun i => max (pre x0 x1 i) 0 := by
  funext i
  rw [← ref_pre, ← Ideal.ofBits_zero_f32]; rfl

theorem ref_square : val_main_v9 (F := Ideal) x0 x1 = act (pre x0 x1) := by
  funext i
  show val_main_v5 (F := Ideal) x0 x1 i * val_main_v5 (F := Ideal) x0 x1 i = _
  rw [ref_relu]; rfl

theorem ref_act : val_main_v24 (F := Ideal) x0 x1 = act (pre x0 x1) := ref_square x0 x1

/-- The derivative of the squared rectifier is chosen by sign in the reference; where it is zero, the kernel's product is zero. -/
theorem ref_grad : val_main_v18 (F := Ideal) x0 x1 x2 x3 = grad x3 x2 (pre x0 x1) := by
  funext i
  show Scalar.select (FloatOps.cmpf (F := Ideal) (φ := .f32) .ogt (val_main_v4 (F := Ideal) x0 x1 i) (Ideal.ofBits .f32 0x00000000#32))
    (val_main_v15 (F := Ideal) x2 x3 i * (two * val_main_v5 (F := Ideal) x0 x1 i)) (Ideal.ofBits .f32 0x00000000#32) = _
  rw [ref_relu, ref_pre, Ideal.ofBits_zero_f32, show val_main_v15 (F := Ideal) x2 x3 = nt x3 x2 from dot_nt _ x3 x2]
  show Scalar.select (BitVec.ofBool (decide (0 < pre x0 x1 i))) _ _ = nt x3 x2 i * two * max (pre x0 x1 i) 0
  by_cases h : 0 < pre x0 x1 i
  · rw [decide_eq_true h]
    exact (mul_assoc _ _ _).symm
  · rw [decide_eq_false h, max_eq_right (not_lt.mp h), mul_zero]
    rfl

theorem ref_grad' : val_main_v25 (F := Ideal) x0 x1 x2 x3 = grad x3 x2 (pre x0 x1) := ref_grad x0 x1 x2 x3

theorem ref_down : val_main_v14 (F := Ideal) x0 x1 x3 = tn (act (pre x0 x1)) x3 := by
  unfold val_main_v14 val_main_v13
  rw [ref_square]
  exact dot_tr (φ₁ := .f32) (φ₂ := .f32) _ _ (act (pre x0 x1)) x3

theorem ref_up : val_main_v20 (F := Ideal) x0 x1 x2 x3 = tn x0 (grad x3 x2 (pre x0 x1)) := by
  unfold val_main_v20 val_main_v19
  rw [ref_grad]
  exact dot_tr (φ₁ := .f32) (φ₂ := .f32) _ _ x0 (grad x3 x2 (pre x0 x1))

end

/-- The reference ends with its arguments as they were and no semaphore raised. -/
theorem ref_frame : Cert.quiescent_MlpReferenceIdeal := fun m g _ =>
  (θ_run _ _ _).mono (fun r h => ⟨fun c => (h c).2.2.2.2, sem_eq_zero_of_no_sems (by decide) _⟩) (Cert.MlpReferenceIdeal.Value.run m g)

/-- From arguments that agree, both programs run and end with the same results. -/
theorem same_results : Cert.algebraic_MlpKernelIdeal_MlpReferenceIdeal := by
  intro m g m' g' _ ha
  refine ⟨_, _, _, _, (θ_run _ _ _).mono (fun r h c =>
    ⟨(h c _ (mem_uc main_v0_1 (by decide))).trans (act_eq m g c), (h c _ (mem_uc main_v1 (by decide))).trans (grad_eq m g c),
     (h c _ (mem_uc main_v3 (by decide))).trans (up_eq m g c), (h c _ (mem_uc main_v2 (by decide))).trans (down_eq m g c),
     (h c _ (mem_uc main_arg0 (by decide))).trans (W4_main_arg0 m g c), (h c _ (mem_uc main_arg1 (by decide))).trans (W4_main_arg1 m g c),
     (h c _ (mem_uc main_arg2 (by decide))).trans (W4_main_arg2 m g c), (h c _ (mem_uc main_arg3 (by decide))).trans (W4_main_arg3 m g c)⟩) (run_arrays m g),
    (θ_run _ _ _).mono (fun r h c => ?_) (Cert.MlpReferenceIdeal.Value.run m' g')⟩
  obtain ⟨h0, h1, h2, h3, h4⟩ := h c
  obtain ⟨e0, e1, e2, e3⟩ := ha c
  refine ⟨h0.trans ((ref_act _ _).trans ?_), h1.trans ((ref_grad' _ _ _ _).trans ?_), h2.trans ((ref_up _ _ _ _).trans ?_),
    h3.trans ((ref_down _ _ _).trans ?_), h4⟩
  all_goals simp only [e0, e1, e2, e3]; rfl

end Cert.Step.Mlp

end
-- ==== Proof.Down.lean ====
/-
  The second layer of the MLP forward: a block of `act · w_down` is the sum over two parts of the long side, the first kept in a scratch block
  between two points.
-/
module

public import proofs.«01_k».proof.Proof.Product
public import Idealize.ShloMosaic.Lib.Pipeline.ValueKit.Geometry
public import Idealize.ShloMosaic.Lib.Pipeline.ValueKit.Acc
public import proofs.«01_k».proof.Proof.Gen.DownKernelIdeal.Value
public import proofs.«01_k».proof.Proof.Gen.DownReferenceIdeal.Read
public import proofs.«01_k».proof.Proof.Gen.DownReferenceIdeal.Run
public import proofs.«01_k».proof.Proof.Gen.DownReferenceIdeal
public import proofs.«01_k».proof.Defs

@[expose] public section

set_option backward.isDefEq.respectTransparency false

noncomputable section

namespace Cert.Step.Down

open Idealize.ShloMosaic Idealize.ShloMosaic.TcCoe Idealize.SL.Sem Cert.DownKernelIdeal Cert.DownKernelIdeal.Gen

variable (m : (ℓ : Loc nD τ Cert.DownKernelIdeal.sig) → Buf (Elt Ideal) ℓ) (ρ : Dev nD → PrngReg)

/-- The blocks a point reads: its own rows, its own columns, and the part of the long side whose turn it is. -/
theorem tiles : ∀ t : Fin cfg0.N, win0_0.index t 0 = win0_2.index t 0 ∧ win0_0.index t 1 = t.val % 2 ∧ win0_1.index t 0 = t.val % 2
    ∧ win0_1.index t 1 = win0_2.index t 1 := by decide +kernel

/-- A block is written back at the second of its two points. -/
theorem flushes : ∀ t : Fin cfg0.N, (cfg0.win 2).flush t = true → t.val % 2 = 1 := by decide +kernel

/-- The point before works on the same block of the result. -/
theorem before : ∀ t : Fin cfg0.N, t.val % 2 = 1 → ∀ h : t.val - 1 < cfg0.N, win0_2.index ⟨t.val - 1, h⟩ 0 = win0_2.index t 0
    ∧ win0_2.index ⟨t.val - 1, h⟩ 1 = win0_2.index t 1 := by decide +kernel

/-- What a point multiplies. -/
theorem pay (x0 : FVec Ideal S1088x2048 .bf16) (x1 : FVec Ideal S2048x1024 .bf16) : k0_pay1 (F := Ideal) x0 x1 = nn x0 x1 := mul_nn _ _ _

theorem first (x0 : FVec Ideal S1088x2048 .bf16) (x1 : FVec Ideal S2048x1024 .bf16) : k0_pay2 (F := Ideal) x0 x1 = nn x0 x1 :=
  (shapeCast_self _ _).trans (pay x0 x1)

theorem last (x0 : FVec Ideal S1088x2048 .bf16) (x1 : FVec Ideal S2048x1024 .bf16) (a : FVec Ideal S1088x1024 .f32) (y) :
    k0_pay4 (F := Ideal) x0 x1 a y = a y + nn x0 x1 y := congrArg (a y + ·) (congrFun (pay x0 x1) y)

/-- What the scratch block holds after the first point of a block. -/
theorem carried (c : Dev nD) (t : Fin cfg0.N) (h : t.val % 2 = 0) : (outsAt0 (F := Ideal) m c t.val t.isLt).2 = nn (iblk m c 0 t) (iblk m c 1 t) := by
  rw [outsAt0_A m c t h (by omega)]
  frame_out
  exact first _ _

/-- What is written back after the second. -/
theorem written (c : Dev nD) (t : Fin cfg0.N) (h : t.val % 2 = 1) (y) : (outsAt0 (F := Ideal) m c t.val t.isLt).1 y
    = (outsAt0 (F := Ideal) m c (t.val - 1) (Nat.lt_of_le_of_lt (Nat.sub_le _ _) t.isLt)).2 y + nn (iblk m c 0 t) (iblk m c 1 t) y := by
  rw [outsAt0_B m c t (by omega) h]
  frame_out
  rw [(Memref.isWhole_whole _).read_unread]
  exact last _ _ _ _

/-- The kernel's result array is the product. -/
theorem arr (c : Dev nD) : (dats (F := Ideal) m 0 c).arrAt 2 cfg0.N = nn (m ((c : Thread nD τ).loc main_arg0)) (m ((c : Thread nD τ).loc main_arg1)) := by
  refine (dats (F := Ideal) m 0 c).arrAt_eq_of_covers 2 _ (by decide +kernel) fun t hf y => ?_
  have h := flushes t hf
  have hp : t.val - 1 < cfg0.N := Nat.lt_of_le_of_lt (Nat.sub_le _ _) t.isLt
  have h0 : (t.val - 1) % 2 = 0 := by omega
  have g := tiles t
  have g' := tiles ⟨t.val - 1, hp⟩
  have e := before t h hp
  show (dats (F := Ideal) m 0 c).after 2 t y = _
  rw [after0_2, written m c t h y, carried m c ⟨t.val - 1, hp⟩ h0]
  refine (congrArg₂ (· + ·)
    (nn_part (q := 2) (bk := 2048) (m ((c : Thread nD τ).loc main_arg0)) (m ((c : Thread nD τ).loc main_arg1)) ((cfg0.win 0).rect_emb_val ⟨t.val - 1, hp⟩)
      ((cfg0.win 1).rect_emb_val ⟨t.val - 1, hp⟩) ((cfg0.win 2).rect_emb_val t) 0 ⟨g'.1.trans e.1, g'.2.1.trans h0, g'.2.2.1.trans h0, g'.2.2.2.trans e.2⟩ y)
    (nn_part (q := 2) (bk := 2048) (m ((c : Thread nD τ).loc main_arg0)) (m ((c : Thread nD τ).loc main_arg1)) ((cfg0.win 0).rect_emb_val t)
      ((cfg0.win 1).rect_emb_val t) ((cfg0.win 2).rect_emb_val t) 1 ⟨g.1, g.2.1.trans h, g.2.2.1.trans h, g.2.2.2⟩ y)).trans ?_
  exact (nn_two (bk := 2048) (m ((c : Thread nD τ).loc main_arg0)) (m ((c : Thread nD τ).loc main_arg1)) (((cfg0.win 2).blk t).view.emb y)).symm

/-- The reference's result is the same product. -/
theorem ref (x0 : FVec Ideal S2176x4096 .bf16) (x1 : FVec Ideal S4096x1024 .bf16) :
    Cert.DownReferenceIdeal.Read.val_main_v2 (F := Ideal) x0 x1 = nn x0 x1 := dot_nn _ x0 x1

/-- The reference ends with its arguments as they were and no semaphore raised. -/
theorem ref_frame : Cert.quiescent_DownReferenceIdeal := fun m g _ =>
  (θ_run _ _ _).mono (fun r h => ⟨fun c => (h c).2, sem_eq_zero_of_no_sems (by decide) _⟩) (Cert.DownReferenceIdeal.Value.run m g)

/-- From arguments that agree, both programs run and end with the same results. -/
theorem same_results : Cert.algebraic_DownKernelIdeal_DownReferenceIdeal := by
  intro m g m' g' _ ha
  refine ⟨_, (θ_run _ _ _).mono (fun r h c => ⟨(h c).1.trans (arr m c), (h c).2⟩) (Cert.DownKernelIdeal.Value.run_blocks m g),
    (θ_run _ _ _).mono (fun r h c => ⟨(h c).1.trans ((ref _ _).trans ?_), (h c).2⟩) (Cert.DownReferenceIdeal.Value.run m' g')⟩
  exact congrArg₂ nn (ha c).1 (ha c).2

end Cert.Step.Down

end
-- ==== Proof.Block.lean ====
/-
  One trip of each scan's loop as functions of the block it works on: the gates, the running sums, the pair decays of
  the seven levels, the forward block's output and state, and the backward block's gradients. Every function is a term of
  the vector operations the kernel applies, read at the extended reals.
-/
module

public import proofs.«01_k».proof.Proof.Gen.KernelIdeal.Loops
public import Idealize.ShloMosaic.PureOps.Ideal

@[expose] public section

noncomputable section

namespace Cert.Scan

open Idealize.ShloMosaic Cert.KernelIdeal Cert.KernelIdeal.Gen

/-- A block's matrix. -/
abbrev VM := FVec Ideal S128x128 .f32
/-- A block's matrix in the narrow format. -/
abbrev VB := FVec Ideal S128x128 .bf16
/-- A block's row. -/
abbrev VR := FVec Ideal S1x128 .f32
/-- The rows' numbers, as a column of words. -/
abbrev VP := IVec S128x1 32
/-- Matrices of words. -/
abbrev VI := IVec S128x128 32

/-- The matrix that holds one number everywhere. -/
def splat (w : BitVec 32) : VM := broadcast S128x128 (Scalar.ofBits (F := Ideal) .f32 w)

/-- A row repeated down the block. -/
def down (x : VR) : VM := broadcastTo S128x128 x broadcasts_S1x128_S128x128

/-- The logistic function by way of the hyperbolic tangent. -/
def sigV (x : VM) : VM :=
  addf (mulf (splat 0x3F000000#32) (tanh (mulf (splat 0x3F000000#32) x))) (splat 0x3F000000#32)

/-- One minus a row. -/
def oneMinus (lb : VR) : VR := subf (broadcast S1x128 (Scalar.ofBits (F := Ideal) .f32 0x3F800000#32)) lb

/-- The queries through their gate. -/
def qV (q : VM) : VM := mulf q (sigV q)

/-- The keys. -/
def kV (lb : VR) (z : VM) : VM := mulf (down (oneMinus lb)) (subf (splat 0x3F800000#32) (sigV z))

/-- The gates. -/
def fV (lb : VR) (z : VM) : VM := addf (down lb) (mulf (down (oneMinus lb)) (sigV z))

/-- A column of bits repeated along the block's rows. -/
def along (x : IVec S128x1 1) : IVec S128x128 1 :=
  broadcastTo S128x128 (shapeCast S128x1 x shapeCasts_S128x1_S128x1) broadcasts_S128x1_S128x128

/-- A column of numbers repeated along the block's rows. -/
def alongF (x : FVec Ideal S128x1 .f32) : VM := broadcastTo S128x128 x broadcasts_S128x1_S128x128

/-- A block's rows moved down cyclically. -/
def rollV (n : ℕ) (x : VM) : VM := dynamicRotate 0 (BitVec.ofNat 32 n) none x rotates_S128x128_d0

/-- One doubling step of the running sum from above. -/
def preStepV (n : ℕ) (pos : VP) (x : VM) : VM :=
  addf x (select (along (cmpi .sge pos (broadcast S128x1 (BitVec.ofNat 32 n)))) (rollV n x) (splat 0x00000000#32))

/-- One doubling step of the running sum from below. -/
def sufStepV (n : ℕ) (pos : VP) (x : VM) : VM :=
  addf x (select (along (cmpi .slt pos (broadcast S128x1 (BitVec.ofNat 32 (128 - n))))) (rollV (128 - n) x)
    (splat 0x00000000#32))

/-- The running sum from above. -/
def preSumV (pos : VP) (x : VM) : VM :=
  preStepV 64 pos (preStepV 32 pos (preStepV 16 pos (preStepV 8 pos (preStepV 4 pos (preStepV 2 pos (preStepV 1 pos x))))))

/-- The running sum from below. -/
def sufSumV (pos : VP) (x : VM) : VM :=
  sufStepV 64 pos (sufStepV 32 pos (sufStepV 16 pos (sufStepV 8 pos (sufStepV 4 pos (sufStepV 2 pos (sufStepV 1 pos x))))))

/-- The rows in the upper half of their group of `2 * n`. -/
def upperV (n : ℕ) (pos : VP) : IVec S128x128 1 :=
  along (cmpi .sge (andi pos (broadcast S128x1 (BitVec.ofNat 32 (2 * n - 1)))) (broadcast S128x1 (BitVec.ofNat 32 n)))

/-- The groups' first rows, from those of the half-size groups. -/
def firstStepV (n : ℕ) (pos : VP) (x : VM) : VM := select (upperV n pos) (rollV n x) x

/-- The groups' first rows at each level. -/
def firstsV (pos : VP) (b : VM) : ℕ → VM
  | 0 => b
  | i + 1 => firstStepV (2 ^ i) pos (firstsV pos b i)

/-- The query side's decays on one level. -/
def qDecayV (n : ℕ) (pos : VP) (b x : VM) : VM := select (upperV n pos) (exp (subf b x)) (splat 0x00000000#32)

/-- The key side's decays on one level. -/
def kDecayV (n : ℕ) (pos : VP) (b x : VM) : VM :=
  select (upperV n pos) (splat 0x00000000#32) (exp (subf (rollV (128 - n) x) b))

/-- The query side's decays on level `i`. -/
def eqV (pos : VP) (b : VM) (i : ℕ) : VM := qDecayV (2 ^ i) pos b (firstsV pos b i)

/-- The key side's decays on level `i`. -/
def ekV (pos : VP) (b : VM) (i : ℕ) : VM := kDecayV (2 ^ i) pos b (firstsV pos b i)

/-- To the narrow format. -/
def nar (x : VM) : VB := truncf .bf16 x bitsLt_bf16_f32

/-- `X · Yᵀ`. -/
def ntV (x y : VB) : VM := matmul dot_S128x128_S128x128_S128x128_1_1_0_0_n_n none x y (constant S128x128 .f32 0x00000000#32)
/-- `X · Y`. -/
def nnV (x y : VB) : VM := matmul dot_S128x128_S128x128_S128x128_1_0_0_1_n_n none x y (constant S128x128 .f32 0x00000000#32)
/-- `Xᵀ · Y`. -/
def tnV (x y : VB) : VM := matmul dot_S128x128_S128x128_S128x128_0_0_1_1_n_n none x y (constant S128x128 .f32 0x00000000#32)

/-- The sums of a block's rows, as a column. -/
def rowSumV (x : VM) : FVec Ideal S128x1 .f32 :=
  shapeCast S128x1 (multiReduction .add [1] S128 x 0x00000000#32 reduces_S128x128_S128 (.inl rfl) rfl) shapeCasts_S128_S128x1

/-- The sums of a block's columns, as a row. -/
def colSumV (x : VM) : VR :=
  shapeCast S1x128 (multiReduction .add [0] S128 x 0x00000000#32 reduces_S128x128_S128_2 (.inl rfl) rfl) shapeCasts_S128_S1x128

/-- The last row. -/
def lastV (x : VM) : VR := extractStridedSlice S1x128 ![127, 0] x slices_S128x128_o127_0_S1x128

/-- A level's mask off its slot. -/
def maskV (x : FVec Ideal S1x128x128 .f32) : VM := shapeCast S128x128 x shapeCasts_S1x128x128_S128x128

/-- The pairs' scores on the diagonal. -/
def diagV (ri ci : VI) (q k : VM) : VM :=
  select (cmpi .eq ri ci) (alongF (shapeCast S128x1 (rowSumV (mulf q k)) shapeCasts_S128x1_S128x1)) (splat 0x00000000#32)

/-- The scores after the first `i` levels. -/
def scoresV (ri ci : VI) (mk : Fin 7 → FVec Ideal S1x128x128 .f32) (eq ek : ℕ → VM) (q k : VM) : (i : ℕ) → i ≤ 7 → VM
  | 0, _ => diagV ri ci q k
  | i + 1, h => addf (scoresV ri ci mk eq ek q k i (Nat.le_of_succ_le h))
      (mulf (maskV (mk ⟨i, h⟩)) (ntV (nar (mulf q (eq i))) (nar (mulf k (ek i)))))

/-- The sums of the gates' logarithms. -/
def bV (pos : VP) (lb : VR) (z : VM) : VM := preSumV pos (log (fV lb z))

/-- The decays from each row to the block's end. -/
def endV (b : VM) : VM := exp (subf (down (lastV b)) b)

/-- The forward block's scores. -/
def aV (pos : VP) (ri ci : VI) (mk : Fin 7 → FVec Ideal S1x128x128 .f32) (lb : VR) (q z : VM) : VM :=
  scoresV ri ci mk (eqV pos (bV pos lb z)) (ekV pos (bV pos lb z)) (qV q) (kV lb z) 7 le_rfl

/-- The forward block's output. -/
def outV (pos : VP) (ri ci : VI) (mk : Fin 7 → FVec Ideal S1x128x128 .f32) (lb : VR) (q z v st : VM) : VM :=
  addf (nnV (nar (aV pos ri ci mk lb q z)) (nar v)) (ntV (nar (mulf (qV q) (exp (bV pos lb z)))) (nar st))

/-- The state after the forward block. -/
def nextV (pos : VP) (lb : VR) (z v st : VM) : VM :=
  addf (mulf (down (exp (lastV (bV pos lb z)))) st) (tnV (nar v) (nar (mulf (kV lb z) (endV (bV pos lb z)))))

/-- The backward block's gradient of a pair's score. -/
def daV (w v : VM) : VM := ntV (nar w) (nar v)

/-- Its diagonal, as a column. -/
def daDiagV (ri ci : VI) (w v : VM) : FVec Ideal S128x1 .f32 :=
  rowSumV (select (cmpi .eq ri ci) (daV w v) (splat 0x00000000#32))

/-- The query's gradient through the state before the block. -/
def dqStateV (b w st : VM) : VM := mulf (exp b) (nnV (nar w) (nar st))

/-- The key's gradient through the state after the block. -/
def dkStateV (b v dst : VM) : VM := mulf (endV b) (nnV (nar v) (nar dst))

/-- One level's masked gradients of the scores. -/
def daMaskV (mk : FVec Ideal S1x128x128 .f32) (w v : VM) : VB := nar (mulf (maskV mk) (daV w v))

/-- The query's gradient after the first `i` levels. -/
def dqV (ri ci : VI) (mk : Fin 7 → FVec Ideal S1x128x128 .f32) (eq ek : ℕ → VM) (b k w v st : VM) : (i : ℕ) → i ≤ 7 → VM
  | 0, _ => addf (dqStateV b w st) (mulf (alongF (daDiagV ri ci w v)) k)
  | i + 1, h => addf (dqV ri ci mk eq ek b k w v st i (Nat.le_of_succ_le h))
      (mulf (eq i) (nnV (daMaskV (mk ⟨i, h⟩) w v) (nar (mulf k (ek i)))))

/-- The key's gradient after the first `i` levels. -/
def dkV (ri ci : VI) (mk : Fin 7 → FVec Ideal S1x128x128 .f32) (eq ek : ℕ → VM) (b q w v dst : VM) : (i : ℕ) → i ≤ 7 → VM
  | 0, _ => addf (dkStateV b v dst) (mulf (alongF (daDiagV ri ci w v)) q)
  | i + 1, h => addf (dkV ri ci mk eq ek b q w v dst i (Nat.le_of_succ_le h))
      (mulf (ek i) (tnV (daMaskV (mk ⟨i, h⟩) w v) (nar (mulf q (eq i)))))

/-- The gradient of the block's last running sum through the state after the block. -/
def dblV (b k v st dst : VM) : VR :=
  addf (mulf (exp (lastV b)) (colSumV (mulf st dst))) (colSumV (mulf k (dkStateV b v dst)))

/-- The running sums' gradient after the first `i` levels. -/
def dbV (pos : VP) (mk : Fin 7 → FVec Ideal S1x128x128 .f32) (eq ek : ℕ → VM) (b q k w v st dst : VM) :
    (i : ℕ) → i ≤ 7 → VM
  | 0, _ => addf (subf (mulf q (dqStateV b w st)) (mulf k (dkStateV b v dst)))
      (select (along (cmpi .eq pos (broadcast S128x1 127#32)))
        (down (shapeCast S1x128 (dblV b k v st dst) shapeCasts_S1x128_S1x128)) (splat 0x00000000#32))
  | i + 1, h => addf (dbV pos mk eq ek b q k w v st dst i (Nat.le_of_succ_le h))
      (subf (mulf (extf .f32 (nar (mulf q (eq i))) bitsLt_bf16_f32) (nnV (daMaskV (mk ⟨i, h⟩) w v) (nar (mulf k (ek i)))))
        (mulf (extf .f32 (nar (mulf k (ek i))) bitsLt_bf16_f32) (tnV (daMaskV (mk ⟨i, h⟩) w v) (nar (mulf q (eq i))))))

/-- The gates' gradient. -/
def dfV (pos : VP) (ri ci : VI) (mk : Fin 7 → FVec Ideal S1x128x128 .f32) (lb : VR) (q z v w st dst : VM) : VM :=
  subf (divf (sufSumV pos (dbV pos mk (eqV pos (bV pos lb z)) (ekV pos (bV pos lb z)) (bV pos lb z) (qV q) (kV lb z) w v st dst
      7 le_rfl)) (fV lb z))
    (dkV ri ci mk (eqV pos (bV pos lb z)) (ekV pos (bV pos lb z)) (bV pos lb z) (qV q) w v dst 7 le_rfl)

/-- The queries' gradient, before their gate. -/
def dqOutV (pos : VP) (ri ci : VI) (mk : Fin 7 → FVec Ideal S1x128x128 .f32) (lb : VR) (q z v w st : VM) : VM :=
  mulf (dqV ri ci mk (eqV pos (bV pos lb z)) (ekV pos (bV pos lb z)) (bV pos lb z) (kV lb z) w v st 7 le_rfl)
    (addf (sigV q) (mulf (mulf q (sigV q)) (subf (splat 0x3F800000#32) (sigV q))))

/-- The gates' inputs' gradient. -/
def dzOutV (pos : VP) (ri ci : VI) (mk : Fin 7 → FVec Ideal S1x128x128 .f32) (lb : VR) (q z v w st dst : VM) : VB :=
  nar (mulf (mulf (mulf (dfV pos ri ci mk lb q z v w st dst) (down (oneMinus lb))) (sigV z)) (subf (splat 0x3F800000#32) (sigV z)))

/-- The values' gradient. -/
def dvOutV (pos : VP) (ri ci : VI) (mk : Fin 7 → FVec Ideal S1x128x128 .f32) (lb : VR) (q z w dst : VM) : VM :=
  addf (ntV (nar (mulf (kV lb z) (endV (bV pos lb z)))) (nar dst)) (tnV (nar (aV pos ri ci mk lb q z)) (nar w))

/-- The state's gradient before the block. -/
def dstV (pos : VP) (lb : VR) (q z w dst : VM) : VM :=
  addf (mulf (down (exp (lastV (bV pos lb z)))) dst) (tnV (nar w) (nar (mulf (qV q) (exp (bV pos lb z)))))

/-- The lower bounds' gradient with the block's part. -/
def dlbV (pos : VP) (ri ci : VI) (mk : Fin 7 → FVec Ideal S1x128x128 .f32) (lb : VR) (q z v w st dst : VM) (acc : VR) : VR :=
  addf acc (colSumV (mulf (dfV pos ri ci mk lb q z v w st dst) (subf (splat 0x3F800000#32) (sigV z))))

end Cert.Scan

end
-- ==== Proof.Levels.lean ====
/-
  One block of 128 rows on real numbers: the doubling sums, and the seven levels by which a pair of rows is
  reached. Level `i` serves the pairs `c < r` that lie in one group of `2 ^ (i + 1)` rows, `r` in its upper half
  and `c` in its lower half; every pair `c < r` lies on exactly one level.
-/
module

public import Mathlib.Analysis.SpecialFunctions.Exp
public import Mathlib.Algebra.BigOperators.Fin

@[expose] public section

noncomputable section

namespace Cert.Scan

/-- A block's 128 × 128 matrix of reals. -/
abbrev Mat := Fin 128 → Fin 128 → ℝ

/-- The row `s` places above row `r`, cyclically. -/
def back (s : ℕ) (r : Fin 128) : Fin 128 := ⟨(r.val + (128 - s % 128)) % 128, Nat.mod_lt _ (by decide)⟩

/-- The rows of `X` moved down by `s` places, cyclically. -/
def roll (s : ℕ) (X : Mat) : Mat := fun r j => X (back s r) j

/-- One doubling step of a running sum from above. -/
def preStep (m : ℕ) (X : Mat) : Mat := fun r j => X r j + if m ≤ r.val then roll m X r j else 0

/-- One doubling step of a running sum from below. -/
def sufStep (m : ℕ) (X : Mat) : Mat := fun r j => X r j + if r.val < 128 - m then roll (128 - m) X r j else 0

/-- The running sum from above in seven doubling steps. -/
def preSum (X : Mat) : Mat :=
  preStep 64 (preStep 32 (preStep 16 (preStep 8 (preStep 4 (preStep 2 (preStep 1 X))))))

/-- The running sum from below in seven doubling steps. -/
def sufSum (X : Mat) : Mat :=
  sufStep 64 (sufStep 32 (sufStep 16 (sufStep 8 (sufStep 4 (sufStep 2 (sufStep 1 X))))))

theorem back_of_le {s : ℕ} {r : Fin 128} (hs : 0 < s) (h : s ≤ r.val) : (back s r).val = r.val - s := by
  have := r.isLt
  simp only [back]; omega

theorem back_comp_of_lt {m : ℕ} {r : Fin 128} (h : r.val < 128 - m) (hm : 0 < m) : (back (128 - m) r).val = r.val + m := by
  simp only [back]; omega

/-- A step doubles the window of a running sum from above. -/
theorem preStep_window {m : ℕ} (hm : 0 < m) {X Y : Mat}
    (h : ∀ r j, X r j = ∑ c : Fin 128, if c.val ≤ r.val ∧ r.val < c.val + m then Y c j else 0) (r j : Fin 128) :
    preStep m X r j = ∑ c : Fin 128, if c.val ≤ r.val ∧ r.val < c.val + 2 * m then Y c j else 0 := by
  unfold preStep roll
  by_cases hr : m ≤ r.val
  · rw [if_pos hr, h, h, ← Finset.sum_add_distrib, back_of_le hm hr]
    refine Finset.sum_congr rfl fun c _ => ?_
    split_ifs <;> first | omega | simp
  · rw [if_neg hr, h, add_zero]
    refine Finset.sum_congr rfl fun c _ => ?_
    split_ifs <;> first | omega | simp

/-- A step doubles the window of a running sum from below. -/
theorem sufStep_window {m : ℕ} (hm : 0 < m) {X Y : Mat}
    (h : ∀ r j, X r j = ∑ c : Fin 128, if r.val ≤ c.val ∧ c.val < r.val + m then Y c j else 0) (r j : Fin 128) :
    sufStep m X r j = ∑ c : Fin 128, if r.val ≤ c.val ∧ c.val < r.val + 2 * m then Y c j else 0 := by
  unfold sufStep roll
  by_cases hr : r.val < 128 - m
  · rw [if_pos hr, h, h, ← Finset.sum_add_distrib, back_comp_of_lt hr hm]
    refine Finset.sum_congr rfl fun c _ => ?_
    split_ifs <;> first | omega | simp
  · rw [if_neg hr, h, add_zero]
    refine Finset.sum_congr rfl fun c _ => ?_
    have := c.isLt
    split_ifs <;> first | omega | simp

/-- The seven steps from above sum the rows up to and with the own. -/
theorem preSum_apply (X : Mat) (r j : Fin 128) : preSum X r j = ∑ c : Fin 128, if c ≤ r then X c j else 0 := by
  have h0 : ∀ r j, X r j = ∑ c : Fin 128, if c.val ≤ r.val ∧ r.val < c.val + 1 then X c j else 0 := fun r j => by
    rw [Finset.sum_eq_single r (fun c _ hc => if_neg fun h => hc (Fin.ext (by omega))) (by simp)]
    simp
  rw [preSum, preStep_window (by decide) (preStep_window (by decide) (preStep_window (by decide) (preStep_window (by decide)
    (preStep_window (by decide) (preStep_window (by decide) (preStep_window (by decide) h0))))))]
  refine Finset.sum_congr rfl fun c _ => ?_
  have := r.isLt
  simp only [Fin.le_def]
  split_ifs <;> first | omega | rfl

/-- The seven steps from below sum the rows from the own on. -/
theorem sufSum_apply (X : Mat) (r j : Fin 128) : sufSum X r j = ∑ c : Fin 128, if r ≤ c then X c j else 0 := by
  have h0 : ∀ r j, X r j = ∑ c : Fin 128, if r.val ≤ c.val ∧ c.val < r.val + 1 then X c j else 0 := fun r j => by
    rw [Finset.sum_eq_single r (fun c _ hc => if_neg fun h => hc (Fin.ext (by omega))) (by simp)]
    simp
  rw [sufSum, sufStep_window (by decide) (sufStep_window (by decide) (sufStep_window (by decide) (sufStep_window (by decide)
    (sufStep_window (by decide) (sufStep_window (by decide) (sufStep_window (by decide) h0))))))]
  refine Finset.sum_congr rfl fun c _ => ?_
  have := c.isLt
  simp only [Fin.le_def]
  split_ifs <;> first | omega | rfl

/-- Row `r` lies in the upper half of its group of `2 * m` rows. -/
def Upper (m : ℕ) (r : Fin 128) : Prop := m ≤ r.val % (2 * m)

instance (m : ℕ) (r : Fin 128) : Decidable (Upper m r) := inferInstanceAs (Decidable (_ ≤ _))

/-- Rows `r` and `c` lie in one group of `2 * m` rows. -/
def Same (m : ℕ) (r c : Fin 128) : Prop := r.val / (2 * m) = c.val / (2 * m)

instance (m : ℕ) (r c : Fin 128) : Decidable (Same m r c) := inferInstanceAs (Decidable (_ = _))

/-- The halves' sizes at the seven levels. -/
def half (i : Fin 7) : ℕ := 2 ^ i.val

/-- From the rows of `X`, those of the half-size groups' first rows: the step that doubles the group. -/
def firstStep (m : ℕ) (X : Mat) : Mat := fun r j => if Upper m r then roll m X r j else X r j

/-- The row that begins `r`'s group of `m` rows. -/
def head (m : ℕ) (r : Fin 128) : Fin 128 := ⟨r.val / m * m, lt_of_le_of_lt (Nat.div_mul_le_self _ _) r.isLt⟩

theorem head_one (r : Fin 128) : head 1 r = r := Fin.ext (by simp [head])

/-- The doubling step takes a group's first row to the doubled group's. -/
theorem firstStep_head (i : Fin 7) (b : Mat) (r j : Fin 128) :
    firstStep (half i) (fun r j => b (head (half i) r) j) r j = b (head (2 * half i) r) j := by
  have key : ∀ (i : Fin 7) (r : Fin 128), (if Upper (half i) r then head (half i) (back (half i) r) else head (half i) r)
      = head (2 * half i) r := by decide +kernel
  rw [← key i r]
  unfold firstStep roll
  split_ifs <;> rfl

/-- The decay from a group's first row down to row `r`, for the rows of an upper half. -/
def qDecay (m : ℕ) (b F : Mat) : Mat := fun r j => if Upper m r then Real.exp (b r j - F r j) else 0

/-- The decay from row `c` down to the first row of the next group, for the rows of a lower half. -/
def kDecay (m : ℕ) (b F : Mat) : Mat := fun c j => if Upper m c then 0 else Real.exp (roll (128 - m) F c j - b c j)

/-- The first rows at level `i`. -/
def firsts (b : Mat) (i : Fin 7) : Mat := fun r j => b (head (half i) r) j

/-- Level `i` serves the pair `(r, c)`. -/
def Serves (i : Fin 7) (r c : Fin 128) : Prop := Same (half i) r c ∧ Upper (half i) r ∧ ¬ Upper (half i) c

instance (i : Fin 7) (r c : Fin 128) : Decidable (Serves i r c) := inferInstanceAs (Decidable (_ ∧ _))

/-- On the pairs a level serves, the two decays multiply to the decay from `c` to `r`; elsewhere the mask or a decay is 0. -/
theorem decays_mul (i : Fin 7) (b : Mat) (r c j : Fin 128) :
    (if Same (half i) r c then (1 : ℝ) else 0) * (qDecay (half i) b (firsts b i) r j * kDecay (half i) b (firsts b i) c j)
      = if Serves i r c then Real.exp (b r j - b c j) else 0 := by
  have key : ∀ (i : Fin 7) (r c : Fin 128), Serves i r c → head (half i) (back (128 - half i) c) = head (half i) r := by
    decide +kernel
  by_cases hs : Serves i r c
  · rw [if_pos hs, if_pos hs.1, qDecay, if_pos hs.2.1, kDecay, if_neg hs.2.2, one_mul, ← Real.exp_add, roll, firsts, firsts,
      key i r c hs]
    congr 1; ring
  · rw [if_neg hs]
    unfold qDecay kDecay
    by_cases h1 : Same (half i) r c
    · by_cases h2 : Upper (half i) r
      · have h3 : Upper (half i) c := by by_contra h; exact hs ⟨h1, h2, h⟩
        simp [h3]
      · simp [h2]
    · simp [h1]

/-- Every pair `c < r` is served by exactly one level, and no other pair is. -/
theorem sum_serves (r c : Fin 128) (x : ℝ) : (∑ i : Fin 7, if Serves i r c then x else 0) = if c < r then x else 0 := by
  have key : ∀ r c : Fin 128, (Finset.univ.filter fun i : Fin 7 => Serves i r c).card = if c < r then 1 else 0 := by
    decide +kernel
  rw [← Finset.sum_filter, Finset.sum_const, key]
  split_ifs <;> simp

end Cert.Scan

end
-- ==== Proof.Up.lean ====
/-
  A block of real numbers as a block of extended reals, and what each vector operation does to it: on real blocks the
  operations of `Block.lean` are the operations on real matrices.
-/
module

public import proofs.«01_k».proof.Proof.Block
public import proofs.«01_k».proof.Proof.Levels
public import Idealize.ShloMosaic.Lib.ValueIdx
public import Idealize.ShloMosaic.Lib.Pipeline.Value
public import Idealize.ShloMosaic.PureOps.Ideal.Laws
public import Mathlib.Analysis.SpecialFunctions.Trigonometric.DerivHyp

@[expose] public section

set_option backward.isDefEq.respectTransparency false

noncomputable section

namespace Cert.Scan

open Idealize.ShloMosaic Idealize.ShloMosaic.ValueIdx Cert.KernelIdeal Cert.KernelIdeal.Gen

/-- A real matrix as a block. -/
def up (X : Mat) : VM := fun i => ((X (i 0) (i 1) : ℝ) : EReal)
/-- A real matrix as a block of the narrow format. -/
def upB (X : Mat) : VB := fun i => ((X (i 0) (i 1) : ℝ) : EReal)
/-- A real vector as a row. -/
def upR (x : Fin 128 → ℝ) : VR := fun i => ((x (i 1) : ℝ) : EReal)
/-- A real vector as a column. -/
def upC (x : Fin 128 → ℝ) : FVec Ideal S128x1 .f32 := fun i => ((x (i 0) : ℝ) : EReal)
/-- A condition on the rows as a column of bits. -/
def bit (p : Fin 128 → Prop) [DecidablePred p] : IVec S128x1 1 := fun i => if p (i 0) then 1#1 else 0#1
/-- A condition on the entries as a matrix of bits. -/
def bits (p : Fin 128 → Fin 128 → Prop) [∀ r c, Decidable (p r c)] : IVec S128x128 1 := fun i => if p (i 0) (i 1) then 1#1 else 0#1

theorem ext2 {φ : FTy} {a b : FVec Ideal S128x128 φ} (h : ∀ r c : Fin 128, a (ix2 r c) = b (ix2 r c)) : a = b := by
  funext i; rw [eq_ix2 i]; exact h _ _

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem half_word : Ideal.ofBits .f32 0x3F000000#32 = ((1 / 2 : ℝ) : EReal) := by
  simp [Ideal.ofBits, Ideal.ieee, -EReal.coe_mul]; norm_num
theorem one_word : Ideal.ofBits .f32 0x3F800000#32 = ((1 : ℝ) : EReal) := by
  simp [Ideal.ofBits, Ideal.ieee, -EReal.coe_mul]; norm_num

theorem splat_half : splat 0x3F000000#32 = up fun _ _ => 1 / 2 := ext2 fun _ _ => half_word
theorem splat_one : splat 0x3F800000#32 = up fun _ _ => 1 := ext2 fun _ _ => one_word
theorem splat_zero : splat 0x00000000#32 = up fun _ _ => 0 := ext2 fun _ _ => Ideal.ofBits_zero_f32

theorem addf_up (X Y : Mat) : addf (up X) (up Y) = up fun r j => X r j + Y r j := ext2 fun _ _ => (EReal.coe_add _ _).symm
theorem subf_up (X Y : Mat) : subf (up X) (up Y) = up fun r j => X r j - Y r j := ext2 fun _ _ => (EReal.coe_sub _ _).symm
theorem mulf_up (X Y : Mat) : mulf (up X) (up Y) = up fun r j => X r j * Y r j := ext2 fun _ _ => (EReal.coe_mul _ _).symm
theorem exp_up (X : Mat) : exp (up X) = up fun r j => Real.exp (X r j) := ext2 fun _ _ => rfl
theorem tanh_up (X : Mat) : tanh (up X) = up fun r j => Real.tanh (X r j) := ext2 fun _ _ => rfl
theorem log_up (X : Mat) (h : ∀ r j, 0 < X r j) : log (up X) = up fun r j => Real.log (X r j) :=
  ext2 fun r j => if_neg (not_le.2 (h r j))
theorem divf_up (X Y : Mat) (h : ∀ r j, Y r j ≠ 0) : divf (up X) (up Y) = up fun r j => X r j / Y r j :=
  ext2 fun r j => by
    show Ideal.div ((X r j : ℝ) : EReal) ((Y r j : ℝ) : EReal) = _
    unfold Ideal.div
    rw [if_neg (by simpa using h r j)]
    show _ = ((X r j / Y r j : ℝ) : EReal)
    rw [div_eq_mul_inv, EReal.coe_mul, EReal.coe_inv]

theorem addf_upR (x y : Fin 128 → ℝ) : addf (upR x) (upR y) = upR fun j => x j + y j := funext fun _ => (EReal.coe_add _ _).symm
theorem mulf_upR (x y : Fin 128 → ℝ) : mulf (upR x) (upR y) = upR fun j => x j * y j := funext fun _ => (EReal.coe_mul _ _).symm
theorem exp_upR (x : Fin 128 → ℝ) : exp (upR x) = upR fun j => Real.exp (x j) := funext fun _ => rfl

theorem nar_up (X : Mat) : nar (up X) = upB X := rfl
theorem ext_upB (X : Mat) : extf .f32 (upB X) bitsLt_bf16_f32 = up X := rfl

theorem down_up (x : Fin 128 → ℝ) : down (upR x) = up fun _ j => x j :=
  ext2 fun r c => broadcastTo_apply _ _ _ (ix2 0 c) fun a => match a with | ⟨0, _⟩ => rfl | ⟨1, _⟩ => rfl

theorem alongF_up (x : Fin 128 → ℝ) : alongF (upC x) = up fun r _ => x r :=
  ext2 fun r c => broadcastTo_apply _ _ _ (ix2 r 0) fun a => match a with | ⟨0, _⟩ => rfl | ⟨1, _⟩ => rfl

theorem along_bit (p : Fin 128 → Prop) [DecidablePred p] : along (bit p) = bits fun r _ => p r := by
  unfold along
  rw [shapeCast_self]
  funext i
  rw [eq_ix2 i]
  exact broadcastTo_apply _ _ _ (ix2 (i 0) 0) fun a => match a with | ⟨0, _⟩ => rfl | ⟨1, _⟩ => rfl

theorem select_bits (p : Fin 128 → Fin 128 → Prop) [∀ r c, Decidable (p r c)] (X Y : Mat) :
    select (bits p) (up X) (up Y) = up fun r j => if p r j then X r j else Y r j :=
  ext2 fun r j => by
    show Scalar.select (if p r j then 1#1 else 0#1) _ _ = _
    show _ = (((if p r j then X r j else Y r j : ℝ)) : EReal)
    by_cases h : p r j
    · rw [if_pos h, if_pos h]; rfl
    · rw [if_neg h, if_neg h]; rfl

theorem oneMinus_up (x : Fin 128 → ℝ) : oneMinus (upR x) = upR fun j => 1 - x j :=
  funext fun i => by
    show Ideal.ofBits .f32 0x3F800000#32 - ((x (i 1) : ℝ) : EReal) = ((1 - x (i 1) : ℝ) : EReal)
    rw [one_word, EReal.coe_sub]

theorem rollV_up (n : ℕ) (hn : n < 2 ^ 32) (X : Mat) : rollV n (up X) = up (roll n X) :=
  ext2 fun r c => by
    unfold rollV dynamicRotate
    show ((X _ _ : ℝ) : EReal) = ((X (back n r) c : ℝ) : EReal)
    congr 2
    apply Fin.ext
    show (r.val + 128 - ((BitVec.ofNat 32 n).toNat + 0) % 128) % 128 = (r.val + (128 - n % 128)) % 128
    rw [BitVec.toNat_ofNat, Nat.mod_eq_of_lt hn]
    have := r.isLt
    omega

theorem lastV_up (X : Mat) : lastV (up X) = upR (X 127) :=
  funext fun i => by
    rw [eq_ix2 i]
    exact extractStridedSlice_apply _ _ _ _ (ix2 127 (i 1)) fun a => match a with
      | ⟨0, _⟩ => by
          have h : (i 0).val < 1 := (i 0).isLt
          show 127 = 127 + (i 0).val
          omega
      | ⟨1, _⟩ => by show (i 1).val = 0 + (i 1).val; omega

theorem ntV_up (X Y : Mat) : ntV (upB X) (upB Y) = up fun r c => ∑ j : Fin 128, X r j * Y c j :=
  ext2 fun r c => by
    show FloatOps.matmul (F := Ideal) _ _ _ _ _ _ = ((∑ j : Fin 128, X r j * Y c j : ℝ) : EReal)
    rw [Ideal.matmul_constant_zero_apply, coe_sum,
      ← Equiv.sum_comp (contrEquiv1 dot_S128x128_S128x128_S128x128_1_1_0_0_n_n 128 rfl rfl).symm]
    refine Finset.sum_congr rfl fun k _ => ?_
    rw [EReal.coe_mul]
    rfl

theorem nnV_up (X Y : Mat) : nnV (upB X) (upB Y) = up fun r c => ∑ j : Fin 128, X r j * Y j c :=
  ext2 fun r c => by
    show FloatOps.matmul (F := Ideal) _ _ _ _ _ _ = ((∑ j : Fin 128, X r j * Y j c : ℝ) : EReal)
    rw [Ideal.matmul_constant_zero_apply, coe_sum,
      ← Equiv.sum_comp (contrEquiv1 dot_S128x128_S128x128_S128x128_1_0_0_1_n_n 128 rfl rfl).symm]
    refine Finset.sum_congr rfl fun k _ => ?_
    rw [EReal.coe_mul]
    rfl

theorem tnV_up (X Y : Mat) : tnV (upB X) (upB Y) = up fun r c => ∑ j : Fin 128, X j r * Y j c :=
  ext2 fun r c => by
    show FloatOps.matmul (F := Ideal) _ _ _ _ _ _ = ((∑ j : Fin 128, X j r * Y j c : ℝ) : EReal)
    rw [Ideal.matmul_constant_zero_apply, coe_sum,
      ← Equiv.sum_comp (contrEquiv1 dot_S128x128_S128x128_S128x128_0_0_1_1_n_n 128 rfl rfl).symm]
    refine Finset.sum_congr rfl fun k _ => ?_
    rw [EReal.coe_mul]
    rfl

theorem rowSumV_up (X : Mat) : rowSumV (up X) = upC fun r => ∑ j : Fin 128, X r j :=
  funext fun i => by
    rw [eq_ix2 i]
    unfold rowSumV
    rw [shapeCast_apply _ _ _ (ix1 (i 0)) (by
      have h : (i 1).val < 1 := (i 1).isLt
      rw [Shape.rowMajor_val_one, Shape.rowMajor_val_two]
      show (i 0).val = (i 0).val * 1 + (i 1).val
      omega), Ideal.multiReduction_add_single]
    show _ = ((∑ j : Fin 128, X (i 0) j : ℝ) : EReal)
    rw [coe_sum]
    rfl

theorem colSumV_up (X : Mat) : colSumV (up X) = upR fun j => ∑ r : Fin 128, X r j :=
  funext fun i => by
    rw [eq_ix2 i]
    unfold colSumV
    rw [shapeCast_apply _ _ _ (ix1 (i 1)) (by
      have h : (i 0).val < 1 := (i 0).isLt
      rw [Shape.rowMajor_val_one, Shape.rowMajor_val_two]
      show (i 1).val = (i 0).val * 128 + (i 1).val
      omega), Ideal.multiReduction_add_single]
    show _ = ((∑ r : Fin 128, X r (i 1) : ℝ) : EReal)
    rw [coe_sum]
    rfl

/-- The rows' numbers. -/
def posW : VP := fun i => BitVec.ofNat 32 (i 0).val
/-- The entries' row numbers. -/
def riW : VI := fun i => BitVec.ofNat 32 (i 0).val
/-- The entries' column numbers. -/
def ciW : VI := fun i => BitVec.ofNat 32 (i 1).val

theorem sge_word (n : Fin 129) (r : Fin 128) :
    IntOp.cmpi .sge (BitVec.ofNat 32 r.val) (BitVec.ofNat 32 n.val) = if n.val ≤ r.val then 1#1 else 0#1 := by
  have key : ∀ (n : Fin 129) (r : Fin 128),
      IntOp.cmpi .sge (BitVec.ofNat 32 r.val) (BitVec.ofNat 32 n.val) = if n.val ≤ r.val then 1#1 else 0#1 := by decide +kernel
  exact key n r

theorem slt_word (n : Fin 129) (r : Fin 128) :
    IntOp.cmpi .slt (BitVec.ofNat 32 r.val) (BitVec.ofNat 32 n.val) = if r.val < n.val then 1#1 else 0#1 := by
  have key : ∀ (n : Fin 129) (r : Fin 128),
      IntOp.cmpi .slt (BitVec.ofNat 32 r.val) (BitVec.ofNat 32 n.val) = if r.val < n.val then 1#1 else 0#1 := by decide +kernel
  exact key n r

theorem upper_word (i : Fin 7) (r : Fin 128) :
    IntOp.cmpi .sge (IntOp.andi (BitVec.ofNat 32 r.val) (BitVec.ofNat 32 (2 * half i - 1))) (BitVec.ofNat 32 (half i))
      = if Upper (half i) r then 1#1 else 0#1 := by
  have key : ∀ (i : Fin 7) (r : Fin 128),
      IntOp.cmpi .sge (IntOp.andi (BitVec.ofNat 32 r.val) (BitVec.ofNat 32 (2 * half i - 1))) (BitVec.ofNat 32 (half i))
        = if Upper (half i) r then 1#1 else 0#1 := by decide +kernel
  exact key i r

theorem eq_word (r c : Fin 128) :
    IntOp.cmpi .eq (BitVec.ofNat 32 r.val) (BitVec.ofNat 32 c.val) = if r = c then 1#1 else 0#1 := by
  show BitVec.ofBool (BitVec.ofNat 32 r.val == BitVec.ofNat 32 c.val) = _
  by_cases h : r = c
  · subst h; simp
  · have : BitVec.ofNat 32 r.val ≠ BitVec.ofNat 32 c.val := fun e => h (Fin.ext (by
      have := congrArg BitVec.toNat e
      rw [BitVec.toNat_ofNat, BitVec.toNat_ofNat] at this
      have := r.isLt
      have := c.isLt
      omega))
    rw [if_neg h, beq_eq_false_iff_ne.2 this]; rfl

theorem diag_bits : cmpi .eq riW ciW = bits fun r c => r = c := funext fun i => eq_word (i 0) (i 1)

theorem last_bit : cmpi .eq posW (broadcast S128x1 127#32) = bit fun r => r = 127 := funext fun i => eq_word (i 0) 127

theorem upperV_bits (i : Fin 7) : upperV (half i) posW = bits fun r _ => Upper (half i) r := by
  unfold upperV
  rw [← along_bit]
  exact congrArg along (funext fun k => upper_word i (k 0))

theorem preStepV_up (n : ℕ) (hn : n ≤ 128) (X : Mat) : preStepV n posW (up X) = up (preStep n X) := by
  unfold preStepV
  rw [show cmpi .sge posW (broadcast S128x1 (BitVec.ofNat 32 n)) = bit fun r => n ≤ r.val from
    funext fun i => sge_word ⟨n, by omega⟩ (i 0), along_bit, rollV_up n (by omega), splat_zero, select_bits, addf_up]
  rfl

theorem sufStepV_up (n : ℕ) (X : Mat) : sufStepV n posW (up X) = up (sufStep n X) := by
  unfold sufStepV
  rw [show cmpi .slt posW (broadcast S128x1 (BitVec.ofNat 32 (128 - n))) = bit fun r => r.val < 128 - n from
    funext fun i => slt_word ⟨128 - n, by omega⟩ (i 0), along_bit, rollV_up (128 - n) (by omega), splat_zero, select_bits, addf_up]
  rfl

theorem preSumV_up (X : Mat) : preSumV posW (up X) = up (preSum X) := by
  unfold preSumV preSum
  simp only [preStepV_up _ (by decide : 1 ≤ 128), preStepV_up _ (by decide : 2 ≤ 128), preStepV_up _ (by decide : 4 ≤ 128),
    preStepV_up _ (by decide : 8 ≤ 128), preStepV_up _ (by decide : 16 ≤ 128), preStepV_up _ (by decide : 32 ≤ 128),
    preStepV_up _ (by decide : 64 ≤ 128)]

theorem sufSumV_up (X : Mat) : sufSumV posW (up X) = up (sufSum X) := by
  unfold sufSumV sufSum
  simp only [sufStepV_up]

theorem firstsV_up (b : Mat) : ∀ (i : ℕ) (h : i < 7), firstsV posW (up b) i = up (firsts b ⟨i, h⟩)
  | 0, _ => by
    show up b = _
    congr 1
    funext r j
    show _ = b (head 1 r) j
    rw [head_one]
  | i + 1, h => by
    have ih := firstsV_up b i (by omega)
    show firstStepV (half ⟨i, by omega⟩) posW (firstsV posW (up b) i) = _
    unfold firstStepV
    rw [ih, upperV_bits, rollV_up _ (by simp only [half]; exact Nat.pow_lt_pow_right (by decide) (by omega)), select_bits]
    congr 1
    funext r j
    have := firstStep_head ⟨i, by omega⟩ b r j
    unfold firstStep at this
    rw [show firsts b ⟨i + 1, h⟩ r j = b (head (2 * half ⟨i, by omega⟩) r) j by
      unfold firsts half; rw [pow_succ']]
    exact this

theorem eqV_up (b : Mat) (i : Fin 7) : eqV posW (up b) i = up (qDecay (half i) b (firsts b i)) := by
  show qDecayV (half i) posW (up b) (firstsV posW (up b) i) = _
  unfold qDecayV
  rw [firstsV_up b i i.isLt, subf_up, exp_up, splat_zero, upperV_bits, select_bits]
  rfl

theorem ekV_up (b : Mat) (i : Fin 7) : ekV posW (up b) i = up (kDecay (half i) b (firsts b i)) := by
  show kDecayV (half i) posW (up b) (firstsV posW (up b) i) = _
  unfold kDecayV
  rw [firstsV_up b i i.isLt, rollV_up _ (by omega), subf_up, exp_up, splat_zero, upperV_bits, select_bits]
  rfl

theorem half_tanh (x : ℝ) : 1 / 2 * Real.tanh (1 / 2 * x) + 1 / 2 = 1 / (1 + Real.exp (-x)) := by
  have e : Real.exp (-x) = Real.exp (-(1 / 2 * x)) * Real.exp (-(1 / 2 * x)) := by rw [← Real.exp_add]; congr 1; ring
  have h : Real.exp (1 / 2 * x) * Real.exp (-(1 / 2 * x)) = 1 := by rw [← Real.exp_add]; simp
  have p := Real.exp_pos (1 / 2 * x)
  have p' := Real.exp_pos (-(1 / 2 * x))
  rw [Real.tanh_eq_sinh_div_cosh, Real.sinh_eq, Real.cosh_eq, e]
  generalize Real.exp (1 / 2 * x) = w at h p ⊢
  generalize Real.exp (-(1 / 2 * x)) = u at h p' ⊢
  have s : w + u ≠ 0 := by positivity
  have t : 1 + u * u ≠ 0 := by positivity
  have e' : 1 / 2 * ((w - u) / 2 / ((w + u) / 2)) + 1 / 2 = w / (w + u) := by field_simp; ring
  rw [e', div_eq_div_iff s t]
  linear_combination u * h

/-- The logistic function. -/
def sig (x : ℝ) : ℝ := 1 / (1 + Real.exp (-x))

theorem sigV_up (X : Mat) : sigV (up X) = up fun r j => sig (X r j) := by
  unfold sigV
  rw [splat_half, mulf_up, tanh_up, mulf_up, addf_up]
  congr 1
  funext r j
  exact half_tanh _

end Cert.Scan

end
-- ==== Proof.Logistic.lean ====
/-
  The logistic function on the extended reals: the form with the hyperbolic tangent and the form with the exponential.
-/
module

public import Idealize.ShloMosaic.PureOps
public import proofs.«01_k».proof.Proof.Up

@[expose] public section

noncomputable section

namespace Cert.Step

open Idealize.ShloMosaic

/-- One half and one, as the programs write them. -/
abbrev hlf : EReal := Ideal.ofBits .f32 0x3F000000#32
abbrev one : EReal := Ideal.ofBits .f32 0x3F800000#32

/-- The logistic function, by way of the hyperbolic tangent. -/
def sg (x : EReal) : EReal := hlf * Ideal.tanh (hlf * x) + hlf

theorem hlf_eq : hlf = ((1 / 2 : ℝ) : EReal) := Cert.Scan.half_word
theorem one_eq : one = ((1 : ℝ) : EReal) := Cert.Scan.one_word

/-- It is one over one plus the exponential of the argument's negative, at the infinities as well. -/
theorem sg_eq (x : EReal) : sg x = Ideal.div one (one + Ideal.exp (-x)) := by
  unfold sg
  rw [hlf_eq, one_eq]
  induction x using EReal.rec with
  | bot =>
    rw [EReal.coe_mul_bot_of_pos (by norm_num), EReal.neg_bot]
    show ((1 / 2 : ℝ) : EReal) * ((-1 : ℝ) : EReal) + ((1 / 2 : ℝ) : EReal) = Ideal.div _ (((1 : ℝ) : EReal) + ⊤)
    rw [EReal.coe_add_top, Ideal.div, if_neg EReal.top_ne_zero, EReal.inv_top, mul_zero, ← EReal.coe_mul, ← EReal.coe_add]
    norm_num
  | top =>
    rw [EReal.coe_mul_top_of_pos (by norm_num), EReal.neg_top]
    show ((1 / 2 : ℝ) : EReal) * ((1 : ℝ) : EReal) + ((1 / 2 : ℝ) : EReal) = Ideal.div _ (((1 : ℝ) : EReal) + 0)
    rw [add_zero, Ideal.div, if_neg (by norm_num), ← EReal.coe_inv, ← EReal.coe_mul, ← EReal.coe_mul, ← EReal.coe_add]
    norm_num
  | coe r =>
    have p : (1 + Real.exp (-r)) ≠ 0 := by positivity
    show ((1 / 2 : ℝ) : EReal) * ((Real.tanh (1 / 2 * r) : ℝ) : EReal) + ((1 / 2 : ℝ) : EReal) = Ideal.div ((1 : ℝ) : EReal) (((1 : ℝ) : EReal) + ((Real.exp (-r) : ℝ) : EReal))
    rw [← EReal.coe_add, Ideal.div, if_neg (by exact_mod_cast p), ← EReal.coe_inv, ← EReal.coe_mul, ← EReal.coe_mul, ← EReal.coe_add]
    exact congrArg _ ((Cert.Scan.half_tanh r).trans (one_div _) |>.trans (one_mul _).symm)

end Cert.Step

end
-- ==== Proof.Mix.lean ====
/-
  The output of the mixing layer: the two branches' projections, their gated sum and its projection, forward, and the gradients of all of them.
-/
module

public import proofs.«01_k».proof.Proof.Product
public import Idealize.ShloMosaic.Lib.Pipeline.ValueKit.Geometry
public import Idealize.ShloMosaic.Lib.Pipeline.ValueKit.Acc
public import proofs.«01_k».proof.Proof.Gen.MixKernelIdeal.Frame
public import proofs.«01_k».proof.Proof.Gen.MixReferenceIdeal.Read
public import proofs.«01_k».proof.Proof.Gen.MixReferenceIdeal.Run
public import proofs.«01_k».proof.Proof.Gen.MixReferenceIdeal
public import proofs.«01_k».proof.Proof.Logistic
public import proofs.«01_k».proof.Defs

@[expose] public section

set_option backward.isDefEq.respectTransparency false

noncomputable section

namespace Cert.Step.Mix

open Idealize.ShloMosaic Idealize.ShloMosaic.TcCoe Idealize.SL.Sem Cert.MixKernelIdeal Cert.MixKernelIdeal.Gen
open Idealize.ShloMosaic.ValueIdx (ix2)

/-- The arguments of the two gates: columns 4096 on and columns 5120 on of the input projection. -/
def gn (P : (M2 2176 6144).Idx → EReal) : (M2 2176 1024).Idx → EReal := fun i =>
  P (ix2 (i 0) ⟨4096 + (i 1).val, by have h1 : (i 1).val < 1024 := (i 1).isLt; omega⟩)
def gh (P : (M2 2176 6144).Idx → EReal) : (M2 2176 1024).Idx → EReal := fun i =>
  P (ix2 (i 0) ⟨5120 + (i 1).val, by have h1 : (i 1).val < 1024 := (i 1).isLt; omega⟩)

/-- The gated sum of two branches, the share of a gradient that a gate lets through, and the gradient of a gate's argument. -/
def mix (P : (M2 2176 6144).Idx → EReal) (a b : (M2 2176 1024).Idx → EReal) : (M2 2176 1024).Idx → EReal := fun i => sg (gn P i) * a i + sg (gh P i) * b i
def thru (d g : (M2 2176 1024).Idx → EReal) : (M2 2176 1024).Idx → EReal := fun i => d i * sg (g i)
def dgate (d a g : (M2 2176 1024).Idx → EReal) : (M2 2176 1024).Idx → EReal := fun i => d i * a i * sg (g i) * (one - sg (g i))

/-! ## The blocks -/

theorem tiles0 : ∀ t : Fin cfg0.N, win0_0.index t 0 = win0_2.index t 0 ∧ win0_0.index t 1 = 0 ∧ win0_1.index t 0 = 0 ∧ win0_1.index t 1 = win0_2.index t 1 := by
  decide +kernel
theorem tiles1 : ∀ t : Fin cfg1.N, win1_0.index t 0 = win1_5.index t 0 ∧ win1_0.index t 1 = 0 ∧ win1_1.index t 0 = 0 ∧ win1_1.index t 1 = win1_5.index t 1 := by
  decide +kernel
theorem tiles1' : ∀ t : Fin cfg1.N, (win1_0.index t 0 = win1_6.index t 0 ∧ win1_0.index t 1 = 0 ∧ win1_1.index t 0 = 0 ∧ win1_1.index t 1 = win1_6.index t 1)
    ∧ (win1_2.index t 0 = win1_6.index t 0 ∧ win1_2.index t 1 * 512 = 4096 + win1_6.index t 1 * 512)
    ∧ (win1_3.index t 0 = win1_6.index t 0 ∧ win1_3.index t 1 * 512 = 5120 + win1_6.index t 1 * 512)
    ∧ win1_4.index t 0 = win1_6.index t 0 ∧ win1_4.index t 1 = win1_6.index t 1 := by decide +kernel
theorem tiles2 : ∀ t : Fin cfg2.N, win2_0.index t 0 = win2_2.index t 0 ∧ win2_0.index t 1 = 0 ∧ win2_1.index t 0 = 0 ∧ win2_1.index t 1 = win2_2.index t 1 := by
  decide +kernel
theorem tiles3a : ∀ t : Fin cfg3.N, (win3_0.index t 0 = win3_6.index t 0 ∧ win3_0.index t 1 = 0 ∧ win3_1.index t 0 = win3_6.index t 1 ∧ win3_1.index t 1 = 0)
    ∧ win3_2.index t 0 = win3_6.index t 0 ∧ win3_2.index t 1 * 512 = 4096 + win3_6.index t 1 * 512 := by decide +kernel
theorem tiles3b : ∀ t : Fin cfg3.N, (win3_0.index t 0 = win3_7.index t 0 ∧ win3_0.index t 1 = 0 ∧ win3_1.index t 0 = win3_7.index t 1 ∧ win3_1.index t 1 = 0)
    ∧ win3_3.index t 0 = win3_7.index t 0 ∧ win3_3.index t 1 * 512 = 5120 + win3_7.index t 1 * 512 := by decide +kernel
theorem tiles3c : ∀ t : Fin cfg3.N, (win3_0.index t 0 = win3_8.index t 0 ∧ win3_0.index t 1 = 0 ∧ win3_1.index t 0 = win3_8.index t 1 ∧ win3_1.index t 1 = 0)
    ∧ (win3_2.index t 0 = win3_8.index t 0 ∧ win3_2.index t 1 * 512 = 4096 + win3_8.index t 1 * 512)
    ∧ win3_4.index t 0 = win3_8.index t 0 ∧ win3_4.index t 1 = win3_8.index t 1 := by decide +kernel
theorem tiles3d : ∀ t : Fin cfg3.N, (win3_0.index t 0 = win3_9.index t 0 ∧ win3_0.index t 1 = 0 ∧ win3_1.index t 0 = win3_9.index t 1 ∧ win3_1.index t 1 = 0)
    ∧ (win3_3.index t 0 = win3_9.index t 0 ∧ win3_3.index t 1 * 512 = 5120 + win3_9.index t 1 * 512)
    ∧ win3_5.index t 0 = win3_9.index t 0 ∧ win3_5.index t 1 = win3_9.index t 1 := by decide +kernel
theorem tiles4 : ∀ t : Fin cfg4.N, win4_0.index t 0 = 0 ∧ win4_0.index t 1 = win4_2.index t 0 ∧ win4_1.index t 0 = 0 ∧ win4_1.index t 1 = win4_2.index t 1 := by
  decide +kernel
theorem tiles5 : ∀ t : Fin cfg5.N, win5_0.index t 0 = win5_2.index t 0 ∧ win5_0.index t 1 = 0 ∧ win5_1.index t 0 = win5_2.index t 1 ∧ win5_1.index t 1 = 0 := by
  decide +kernel
theorem tiles6 : ∀ t : Fin cfg6.N, win6_0.index t 0 = 0 ∧ win6_0.index t 1 = win6_2.index t 0 ∧ win6_1.index t 0 = 0 ∧ win6_1.index t 1 = win6_2.index t 1 := by
  decide +kernel
theorem tiles7 : ∀ t : Fin cfg7.N, win7_0.index t 0 = win7_2.index t 0 ∧ win7_0.index t 1 = 0 ∧ win7_1.index t 0 = win7_2.index t 1 ∧ win7_1.index t 1 = 0 := by
  decide +kernel
theorem tiles8 : ∀ t : Fin cfg8.N, win8_0.index t 0 = 0 ∧ win8_0.index t 1 = win8_2.index t 0 ∧ win8_1.index t 0 = 0 ∧ win8_1.index t 1 = win8_2.index t 1 := by
  decide +kernel

/-- A gate's block holds the gate's arguments of the result's block. -/
theorem gn_at (P : (M2 2176 6144).Idx → EReal) {e : (M2 1088 512).Idx → (M2 2176 6144).Idx} {e' : (M2 1088 512).Idx → (M2 2176 1024).Idx} {ia ic : Fin 2 → ℕ}
    (h : At e ia) (h' : At e' ic) (hi : ia 0 = ic 0 ∧ ia 1 * 512 = 4096 + ic 1 * 512) (y) : P (e y) = gn P (e' y) := by
  refine congrArg P (eq_of_vals ((h y 0).trans ((h' y 0).trans (by rw [hi.1])).symm) ?_)
  have h1 : ((e y 1 : Fin _) : ℕ) = ia 1 * 512 + ((y 1 : Fin _) : ℕ) := h y 1
  have h2 : ((e' y 1 : Fin _) : ℕ) = ic 1 * 512 + ((y 1 : Fin _) : ℕ) := h' y 1
  show ((e y 1 : Fin _) : ℕ) = 4096 + ((e' y 1 : Fin _) : ℕ)
  omega
theorem gh_at (P : (M2 2176 6144).Idx → EReal) {e : (M2 1088 512).Idx → (M2 2176 6144).Idx} {e' : (M2 1088 512).Idx → (M2 2176 1024).Idx} {ia ic : Fin 2 → ℕ}
    (h : At e ia) (h' : At e' ic) (hi : ia 0 = ic 0 ∧ ia 1 * 512 = 5120 + ic 1 * 512) (y) : P (e y) = gh P (e' y) := by
  refine congrArg P (eq_of_vals ((h y 0).trans ((h' y 0).trans (by rw [hi.1])).symm) ?_)
  have h1 : ((e y 1 : Fin _) : ℕ) = ia 1 * 512 + ((y 1 : Fin _) : ℕ) := h y 1
  have h2 : ((e' y 1 : Fin _) : ℕ) = ic 1 * 512 + ((y 1 : Fin _) : ℕ) := h' y 1
  show ((e y 1 : Fin _) : ℕ) = 5120 + ((e' y 1 : Fin _) : ℕ)
  omega

/-! ## What a point computes -/

theorem pay0 (x0 : FVec Ideal S1088x512 .f32) (x1 : FVec Ideal S512x1024 .bf16) : k0_pay1 (F := Ideal) x0 x1 = nn x0 x1 :=
  mul_nn (φ₁ := .bf16) _ (truncf .bf16 x0 bitsLt_bf16_f32) x1

theorem pay1 (x0 : FVec Ideal S1088x512 .bf16) (x1 : FVec Ideal S512x512 .bf16) : k1_pay2 (F := Ideal) x0 x1 = nn x0 x1 := mul_nn _ x0 x1

theorem pay1' (x0 : FVec Ideal S1088x512 .bf16) (x1 : FVec Ideal S512x512 .bf16) (x2 x3 : FVec Ideal S1088x512 .f32) (x4 : FVec Ideal S1088x512 .bf16) (y) :
    k1_pay3 (F := Ideal) x0 x1 x2 x3 x4 y = sg (x2 y) * x4 y + sg (x3 y) * nn x0 x1 y :=
  congrArg₂ (fun p q => sg (x2 y) * p + sg (x3 y) * q) (congrFun (shapeCast_self x4 shapeCasts_S1088x512_S1088x512) y) (congrFun (mul_nn _ x0 x1) y)

theorem pay2 (x0 : FVec Ideal S1088x1024 .bf16) (x1 : FVec Ideal S1024x1024 .bf16) : k2_pay1 (F := Ideal) x0 x1 = nn x0 x1 :=
  (mul_nn _ (shapeCast S1088x1024 x0 shapeCasts_S1088x1024_S1088x1024) x1).trans (congrArg (nn · x1) (shapeCast_self x0 _))

theorem pay3a (x0 : FVec Ideal S1088x1024 .bf16) (x1 : FVec Ideal S512x1024 .bf16) (x2 : FVec Ideal S1088x512 .f32) (y) :
    k3_pay1 (F := Ideal) (k3_pay8 (F := Ideal) x0 x1 x2) y = nt x0 x1 y * sg (x2 y) :=
  congrArg (fun p => p * sg (x2 y)) (congrFun (mul_nt _ x0 x1) y)

theorem pay3b (x0 : FVec Ideal S1088x1024 .bf16) (x1 : FVec Ideal S512x1024 .bf16) (x2 : FVec Ideal S1088x512 .f32) (y) :
    k3_pay2 (F := Ideal) (k3_pay9 (F := Ideal) x0 x1 x2) y = nt x0 x1 y * sg (x2 y) :=
  congrArg (fun p => p * sg (x2 y)) (congrFun (mul_nt _ x0 x1) y)

theorem pay3c (x0 : FVec Ideal S1088x1024 .bf16) (x1 : FVec Ideal S512x1024 .bf16) (x2 : FVec Ideal S1088x512 .f32) (x4 : FVec Ideal S1088x512 .bf16) (y) :
    k3_pay3 (F := Ideal) (k3_pay10 (F := Ideal) x0 x1 x2 x4) y = nt x0 x1 y * x4 y * sg (x2 y) * (one - sg (x2 y)) :=
  congrArg₂ (fun p q => p * q * sg (x2 y) * (one - sg (x2 y))) (congrFun (mul_nt _ x0 x1) y) (congrFun (shapeCast_self x4 shapeCasts_S1088x512_S1088x512) y)

theorem pay3d (x0 : FVec Ideal S1088x1024 .bf16) (x1 : FVec Ideal S512x1024 .bf16) (x2 : FVec Ideal S1088x512 .f32) (x4 : FVec Ideal S1088x512 .bf16) (y) :
    k3_pay4 (F := Ideal) (k3_pay11 (F := Ideal) x0 x1 x2 x4) (k3_pay12 (F := Ideal) x2) y = nt x0 x1 y * x4 y * sg (x2 y) * (one - sg (x2 y)) :=
  congrArg₂ (fun p q => p * q * sg (x2 y) * (one - sg (x2 y))) (congrFun (mul_nt _ x0 x1) y) (congrFun (shapeCast_self x4 shapeCasts_S1088x512_S1088x512) y)

theorem pay4 (x0 : FVec Ideal S2176x1024 .bf16) (x1 : FVec Ideal S2176x512 .bf16) : k4_pay1 (F := Ideal) x0 x1 = tn x0 x1 :=
  (mul_tn _ (shapeCast S2176x1024 x0 shapeCasts_S2176x1024_S2176x1024) x1).trans (congrArg (tn · x1) (shapeCast_self x0 _))

theorem pay5 (x0 : FVec Ideal S1088x1024 .bf16) (x1 : FVec Ideal S512x1024 .bf16) : k5_pay1 (F := Ideal) x0 x1 = nt x0 x1 :=
  (mul_nt _ (shapeCast S1088x1024 x0 shapeCasts_S1088x1024_S1088x1024) x1).trans (congrArg (nt · x1) (shapeCast_self x0 _))

theorem pay6 (x0 : FVec Ideal S2176x512 .f32) (x1 : FVec Ideal S2176x512 .bf16) : k6_pay1 (F := Ideal) x0 x1 = tn x0 x1 :=
  (mul_tn (φ₁ := .bf16) _ (truncf .bf16 x0 bitsLt_bf16_f32) (shapeCast S2176x512 x1 shapeCasts_S2176x512_S2176x512)).trans (congrArg (tn x0 ·) (shapeCast_self x1 _))

theorem pay7 (x0 : FVec Ideal S1088x1024 .bf16) (x1 : FVec Ideal S512x1024 .bf16) : k7_pay1 (F := Ideal) x0 x1 = nt x0 x1 :=
  (mul_nt _ (shapeCast S1088x1024 x0 shapeCasts_S1088x1024_S1088x1024) x1).trans (congrArg (nt · x1) (shapeCast_self x0 _))

theorem pay8 (x0 : FVec Ideal S2176x512 .bf16) (x1 : FVec Ideal S2176x512 .bf16) : k8_pay1 (F := Ideal) x0 x1 = tn x0 x1 :=
  (mul_tn _ x0 (shapeCast S2176x512 x1 shapeCasts_S2176x512_S2176x512)).trans (congrArg (tn x0 ·) (shapeCast_self x1 _))

/-! ## What each call leaves in its arrays -/

section
variable (V : (c : Dev nD) → (b : Ref Cert.MixKernelIdeal.sig .tc) → Buf (Elt Ideal) ((c : Thread nD τ).loc b)) (c : Dev nD)

theorem arr_yn : (dat0 (F := Ideal) V c).arrAt 2 cfg0.N = nn (V c main_arg0) (V c main_arg3) := by
  refine (dat0 (F := Ideal) V c).arrAt_eq_of_covers 2 _ (by decide +kernel) fun t hf y => ?_
  show (dat0 (F := Ideal) V c).after 2 t y = _
  rw [after0_2]
  frame_out
  exact (congrFun (pay0 _ _) y).trans
    (nn_block (V c main_arg0) (V c main_arg3) ((cfg0.win 0).rect_emb_val t) ((cfg0.win 1).rect_emb_val t) ((cfg0.win 2).rect_emb_val t) (tiles0 t) y)

theorem arr_yh : (dat1 (F := Ideal) V c).arrAt 5 cfg1.N = nn (V c main_arg1) (V c main_arg4) := by
  refine (dat1 (F := Ideal) V c).arrAt_eq_of_covers 5 _ (by decide +kernel) fun t hf y => ?_
  show (dat1 (F := Ideal) V c).after 5 t y = _
  rw [after1_5]
  frame_out
  exact (congrFun (pay1 _ _) y).trans
    (nn_block (V c main_arg1) (V c main_arg4) ((cfg1.win 0).rect_emb_val t) ((cfg1.win 1).rect_emb_val t) ((cfg1.win 5).rect_emb_val t) (tiles1 t) y)

theorem arr_mix : (dat1 (F := Ideal) V c).arrAt 6 cfg1.N = mix (V c main_arg2) (V c main_v0) (nn (V c main_arg1) (V c main_arg4)) := by
  refine (dat1 (F := Ideal) V c).arrAt_eq_of_covers 6 _ (by decide +kernel) fun t hf y => ?_
  show (dat1 (F := Ideal) V c).after 6 t y = _
  rw [after1_6]
  frame_out
  have o := (cfg1.win 6).rect_emb_val t
  obtain ⟨k, k2, k3, k4⟩ := tiles1' t
  exact (pay1' _ _ _ _ _ y).trans (congrArg₂ (fun p q : EReal => p + q)
    (congrArg₂ (fun p q : EReal => sg p * q) (gn_at (V c main_arg2) ((cfg1.win 2).rect_emb_val t) o k2 y)
      (congrArg (V c main_v0) (at_eq ((cfg1.win 4).rect_emb_val t) o k4 y)))
    (congrArg₂ (fun p q : EReal => sg p * q) (gh_at (V c main_arg2) ((cfg1.win 3).rect_emb_val t) o k3 y)
      (nn_block (V c main_arg1) (V c main_arg4) ((cfg1.win 0).rect_emb_val t) ((cfg1.win 1).rect_emb_val t) o k y)))

theorem arr_t1 : (dat2 (F := Ideal) V c).arrAt 2 cfg2.N = nn (V c main_v1_1) (V c main_arg5) := by
  refine (dat2 (F := Ideal) V c).arrAt_eq_of_covers 2 _ (by decide +kernel) fun t hf y => ?_
  show (dat2 (F := Ideal) V c).after 2 t y = _
  rw [after2_2]
  frame_out
  exact (congrFun (pay2 _ _) y).trans
    (nn_block (V c main_v1_1) (V c main_arg5) ((cfg2.win 0).rect_emb_val t) ((cfg2.win 1).rect_emb_val t) ((cfg2.win 2).rect_emb_val t) (tiles2 t) y)

theorem arr_dyn : (dat3 (F := Ideal) V c).arrAt 6 cfg3.N = thru (nt (V c main_arg6) (V c main_arg5)) (gn (V c main_arg2)) := by
  refine (dat3 (F := Ideal) V c).arrAt_eq_of_covers 6 _ (by decide +kernel) fun t hf y => ?_
  show (dat3 (F := Ideal) V c).after 6 t y = _
  rw [after3_6]
  frame_out
  have o := (cfg3.win 6).rect_emb_val t
  obtain ⟨k, k2⟩ := tiles3a t
  exact (pay3a _ _ _ y).trans (congrArg₂ (fun p q : EReal => p * sg q)
    (nt_block (V c main_arg6) (V c main_arg5) ((cfg3.win 0).rect_emb_val t) ((cfg3.win 1).rect_emb_val t) o k y)
    (gn_at (V c main_arg2) ((cfg3.win 2).rect_emb_val t) o k2 y))

theorem arr_dyh : (dat3 (F := Ideal) V c).arrAt 7 cfg3.N = thru (nt (V c main_arg6) (V c main_arg5)) (gh (V c main_arg2)) := by
  refine (dat3 (F := Ideal) V c).arrAt_eq_of_covers 7 _ (by decide +kernel) fun t hf y => ?_
  show (dat3 (F := Ideal) V c).after 7 t y = _
  rw [after3_7]
  frame_out
  have o := (cfg3.win 7).rect_emb_val t
  obtain ⟨k, k2⟩ := tiles3b t
  exact (pay3b _ _ _ y).trans (congrArg₂ (fun p q : EReal => p * sg q)
    (nt_block (V c main_arg6) (V c main_arg5) ((cfg3.win 0).rect_emb_val t) ((cfg3.win 1).rect_emb_val t) o k y)
    (gh_at (V c main_arg2) ((cfg3.win 3).rect_emb_val t) o k2 y))

theorem arr_dgn : (dat3 (F := Ideal) V c).arrAt 8 cfg3.N = dgate (nt (V c main_arg6) (V c main_arg5)) (V c main_v0) (gn (V c main_arg2)) := by
  refine (dat3 (F := Ideal) V c).arrAt_eq_of_covers 8 _ (by decide +kernel) fun t hf y => ?_
  show (dat3 (F := Ideal) V c).after 8 t y = _
  rw [after3_8]
  frame_out
  have o := (cfg3.win 8).rect_emb_val t
  obtain ⟨k, k2, k4⟩ := tiles3c t
  exact (pay3c _ _ _ _ y).trans (congrArg₂ (fun p q : EReal => p * sg q * (one - sg q))
    (congrArg₂ (fun p q : EReal => p * q) (nt_block (V c main_arg6) (V c main_arg5) ((cfg3.win 0).rect_emb_val t) ((cfg3.win 1).rect_emb_val t) o k y)
      (congrArg (V c main_v0) (at_eq ((cfg3.win 4).rect_emb_val t) o k4 y)))
    (gn_at (V c main_arg2) ((cfg3.win 2).rect_emb_val t) o k2 y))

theorem arr_dgh : (dat3 (F := Ideal) V c).arrAt 9 cfg3.N = dgate (nt (V c main_arg6) (V c main_arg5)) (V c main_v1_0) (gh (V c main_arg2)) := by
  refine (dat3 (F := Ideal) V c).arrAt_eq_of_covers 9 _ (by decide +kernel) fun t hf y => ?_
  show (dat3 (F := Ideal) V c).after 9 t y = _
  rw [after3_9]
  frame_out
  have o := (cfg3.win 9).rect_emb_val t
  obtain ⟨k, k2, k4⟩ := tiles3d t
  exact (pay3d _ _ _ _ y).trans (congrArg₂ (fun p q : EReal => p * sg q * (one - sg q))
    (congrArg₂ (fun p q : EReal => p * q) (nt_block (V c main_arg6) (V c main_arg5) ((cfg3.win 0).rect_emb_val t) ((cfg3.win 1).rect_emb_val t) o k y)
      (congrArg (V c main_v1_0) (at_eq ((cfg3.win 5).rect_emb_val t) o k4 y)))
    (gh_at (V c main_arg2) ((cfg3.win 3).rect_emb_val t) o k2 y))

theorem arr_dwo : (dat4 (F := Ideal) V c).arrAt 2 cfg4.N = tn (V c main_v1_1) (V c main_arg6) := by
  refine (dat4 (F := Ideal) V c).arrAt_eq_of_covers 2 _ (by decide +kernel) fun t hf y => ?_
  show (dat4 (F := Ideal) V c).after 2 t y = _
  rw [after4_2]
  frame_out
  exact (congrFun (pay4 _ _) y).trans
    (tn_block (V c main_v1_1) (V c main_arg6) ((cfg4.win 0).rect_emb_val t) ((cfg4.win 1).rect_emb_val t) ((cfg4.win 2).rect_emb_val t) (tiles4 t) y)

theorem arr_don : (dat5 (F := Ideal) V c).arrAt 2 cfg5.N = nt (V c main_v3_0) (V c main_arg3) := by
  refine (dat5 (F := Ideal) V c).arrAt_eq_of_covers 2 _ (by decide +kernel) fun t hf y => ?_
  show (dat5 (F := Ideal) V c).after 2 t y = _
  rw [after5_2]
  frame_out
  exact (congrFun (pay5 _ _) y).trans
    (nt_block (V c main_v3_0) (V c main_arg3) ((cfg5.win 0).rect_emb_val t) ((cfg5.win 1).rect_emb_val t) ((cfg5.win 2).rect_emb_val t) (tiles5 t) y)

theorem arr_dwn : (dat6 (F := Ideal) V c).arrAt 2 cfg6.N = tn (V c main_arg0) (V c main_v3_0) := by
  refine (dat6 (F := Ideal) V c).arrAt_eq_of_covers 2 _ (by decide +kernel) fun t hf y => ?_
  show (dat6 (F := Ideal) V c).after 2 t y = _
  rw [after6_2]
  frame_out
  exact (congrFun (pay6 _ _) y).trans
    (tn_block (V c main_arg0) (V c main_v3_0) ((cfg6.win 0).rect_emb_val t) ((cfg6.win 1).rect_emb_val t) ((cfg6.win 2).rect_emb_val t) (tiles6 t) y)

theorem arr_doh : (dat7 (F := Ideal) V c).arrAt 2 cfg7.N = nt (V c main_v3_1) (V c main_arg4) := by
  refine (dat7 (F := Ideal) V c).arrAt_eq_of_covers 2 _ (by decide +kernel) fun t hf y => ?_
  show (dat7 (F := Ideal) V c).after 2 t y = _
  rw [after7_2]
  frame_out
  exact (congrFun (pay7 _ _) y).trans
    (nt_block (V c main_v3_1) (V c main_arg4) ((cfg7.win 0).rect_emb_val t) ((cfg7.win 1).rect_emb_val t) ((cfg7.win 2).rect_emb_val t) (tiles7 t) y)

theorem arr_dwh : (dat8 (F := Ideal) V c).arrAt 2 cfg8.N = tn (V c main_arg1) (V c main_v3_1) := by
  refine (dat8 (F := Ideal) V c).arrAt_eq_of_covers 2 _ (by decide +kernel) fun t hf y => ?_
  show (dat8 (F := Ideal) V c).after 2 t y = _
  rw [after8_2]
  frame_out
  exact (congrFun (pay8 _ _) y).trans
    (tn_block (V c main_arg1) (V c main_v3_1) ((cfg8.win 0).rect_emb_val t) ((cfg8.win 1).rect_emb_val t) ((cfg8.win 2).rect_emb_val t) (tiles8 t) y)

end

end Cert.Step.Mix

end
-- ==== Proof.MixRun.lean ====
/-
  The mixing program: the run, what its results hold, and the two programs compared.
-/
module

public import proofs.«01_k».proof.Proof.Mix

@[expose] public section

set_option maxRecDepth 16384

noncomputable section

namespace Cert.Step.Mix

open Idealize.ShloMosaic Idealize.ShloMosaic.TcCoe Cert.MixKernelIdeal Cert.MixKernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

section
variable {F : FTy → Type} [FloatOps F]
variable (m : (ℓ : Loc nD τ Cert.MixKernelIdeal.sig) → Buf (Elt F) ℓ) (ρ : Dev nD → PrngReg)

set_option backward.isDefEq.respectTransparency.types false in
/-- The program runs, and every array ends as the calls leave it. -/
theorem run_arrays : θ_run defs (onTc (τ := τ) (main (F := F))) ⟨m, fun _ => 0, ρ⟩ (fun r => ∀ c : Dev nD,
      ∀ b ∈ Pipeline.ucRefs τ Cert.MixKernelIdeal.sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ Cert.MixKernelIdeal.sig Unit (Elt F) ℕ (UR Cert.MixKernelIdeal.sig nD τ) ℕ))
            ⊢ BI.own (emb₁ (initOf (Pipeline.cells cfgs cellOf_inj) (Pipeline.launchToks cfgs cellOf_inj))) from .rfl)
        iexact Hu
      iapply (show (BI.emp : sProp (MT nD τ Cert.MixKernelIdeal.sig Unit (Elt F) ℕ (UR Cert.MixKernelIdeal.sig nD τ) ℕ)) ⊢ bigSep Finset.univ (fun _ : Dev nD => (BI.emp : sProp (MT nD τ Cert.MixKernelIdeal.sig Unit (Elt F) ℕ (UR Cert.MixKernelIdeal.sig nD τ) ℕ))) from by rw [BI.bigSep_emp_const])
      iempintro)
    (T₀ := fun c => iprop(StableHlo.held (c : Thread nD τ) (Pipeline.ucRefs τ Cert.MixKernelIdeal.sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ Cert.MixKernelIdeal.sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ Cert.MixKernelIdeal.sig, s.mem (((c : Thread nD τ)).1, b) = W9 m ρ c b)
    (hfin := fun c s' => by
      iintro ⟨⟨Hh, -⟩, HSI⟩
      unfold StableHlo.held
      imodintro
      iapply (pointsTo_read_all (Pipeline.ucRefs τ Cert.MixKernelIdeal.sig) (fun b => (((c : Thread nD τ)).1, b)) (W9 m ρ c) s')
      isplitl [Hh] <;> iassumption)
    (hQ := fun s h _ c b hb => h c b hb)

end

section
variable (m : (ℓ : Loc nD τ Cert.MixKernelIdeal.sig) → Buf (Elt Ideal) ℓ) (ρ : Dev nD → PrngReg) (c : Dev nD)

/-- The arguments: the two branches' outputs, the input projection, the three weights, and the gradient of the result. -/
def a0 : (M2 2176 512).Idx → EReal := m ((c.tc : Thread nD τ).loc main_arg0)
def a1 : (M2 2176 512).Idx → EReal := m ((c.tc : Thread nD τ).loc main_arg1)
def a2 : (M2 2176 6144).Idx → EReal := m ((c.tc : Thread nD τ).loc main_arg2)
def a3 : (M2 512 1024).Idx → EReal := m ((c.tc : Thread nD τ).loc main_arg3)
def a4 : (M2 512 1024).Idx → EReal := m ((c.tc : Thread nD τ).loc main_arg4)
def a5 : (M2 1024 1024).Idx → EReal := m ((c.tc : Thread nD τ).loc main_arg5)
def a6 : (M2 2176 1024).Idx → EReal := m ((c.tc : Thread nD τ).loc main_arg6)

/-- What the program computes from them: the branches' projections, their gated sum, the gradient of that sum, and the gradients of the projections. -/
def yn : (M2 2176 1024).Idx → EReal := nn (a0 m c) (a3 m c)
def yh : (M2 2176 1024).Idx → EReal := nn (a1 m c) (a4 m c)
def mx : (M2 2176 1024).Idx → EReal := mix (a2 m c) (yn m c) (yh m c)
def dm : (M2 2176 1024).Idx → EReal := nt (a6 m c) (a5 m c)
def dyn : (M2 2176 1024).Idx → EReal := thru (dm m c) (gn (a2 m c))
def dyh : (M2 2176 1024).Idx → EReal := thru (dm m c) (gh (a2 m c))

theorem yn_1 : W1 m ρ c main_v0 = yn m c := (W1_arr m ρ c 2).trans (arr_yn (V0 m ρ) c)
theorem yh_2 : W2 m ρ c main_v1_0 = yh m c := (W2_arr m ρ c 5).trans ((arr_yh (V1 m ρ) c).trans (by
    rw [show V1 m ρ c main_arg1 = a1 m c from W1_args m ρ c _ (by decide), show V1 m ρ c main_arg4 = a4 m c from W1_args m ρ c _ (by decide)]; rfl))
theorem mx_2 : W2 m ρ c main_v1_1 = mx m c := (W2_arr m ρ c 6).trans ((arr_mix (V1 m ρ) c).trans (by
    rw [show V1 m ρ c main_arg2 = a2 m c from W1_args m ρ c _ (by decide), show V1 m ρ c main_v0 = _ from yn_1 m ρ c, show V1 m ρ c main_arg1 = a1 m c from W1_args m ρ c _ (by decide), show V1 m ρ c main_arg4 = a4 m c from W1_args m ρ c _ (by decide)]; rfl))
theorem t1_3 : W3 m ρ c main_v2 = nn (mx m c) (a5 m c) := (W3_arr m ρ c 2).trans ((arr_t1 (V2 m ρ) c).trans (by
    rw [show V2 m ρ c main_v1_1 = _ from mx_2 m ρ c, show V2 m ρ c main_arg5 = a5 m c from W2_args m ρ c _ (by decide)]))
theorem mx_3 : W3 m ρ c main_v1_1 = mx m c := (W3_of m ρ c main_v1_1 (by decide)).trans (mx_2 m ρ c)
theorem mx_4 : W4 m ρ c main_v1_1 = mx m c := (W4_of m ρ c main_v1_1 (by decide)).trans (mx_3 m ρ c)
theorem yn_2 : W2 m ρ c main_v0 = yn m c := (W2_of m ρ c main_v0 (by decide)).trans (yn_1 m ρ c)
theorem yn_3 : W3 m ρ c main_v0 = yn m c := (W3_of m ρ c main_v0 (by decide)).trans (yn_2 m ρ c)
theorem yh_3 : W3 m ρ c main_v1_0 = yh m c := (W3_of m ρ c main_v1_0 (by decide)).trans (yh_2 m ρ c)
theorem dyn_4 : W4 m ρ c main_v3_0 = dyn m c := (W4_arr m ρ c 6).trans ((arr_dyn (V3 m ρ) c).trans (by
    rw [show V3 m ρ c main_arg6 = a6 m c from W3_args m ρ c _ (by decide), show V3 m ρ c main_arg5 = a5 m c from W3_args m ρ c _ (by decide), show V3 m ρ c main_arg2 = a2 m c from W3_args m ρ c _ (by decide)]; rfl))
theorem dyh_4 : W4 m ρ c main_v3_1 = dyh m c := (W4_arr m ρ c 7).trans ((arr_dyh (V3 m ρ) c).trans (by
    rw [show V3 m ρ c main_arg6 = a6 m c from W3_args m ρ c _ (by decide), show V3 m ρ c main_arg5 = a5 m c from W3_args m ρ c _ (by decide), show V3 m ρ c main_arg2 = a2 m c from W3_args m ρ c _ (by decide)]; rfl))
theorem dgn_4 : W4 m ρ c main_v3_2 = dgate (dm m c) (yn m c) (gn (a2 m c)) := (W4_arr m ρ c 8).trans ((arr_dgn (V3 m ρ) c).trans (by
    rw [show V3 m ρ c main_arg6 = a6 m c from W3_args m ρ c _ (by decide), show V3 m ρ c main_arg5 = a5 m c from W3_args m ρ c _ (by decide), show V3 m ρ c main_arg2 = a2 m c from W3_args m ρ c _ (by decide), show V3 m ρ c main_v0 = _ from yn_3 m ρ c]; rfl))
theorem dgh_4 : W4 m ρ c main_v3_3 = dgate (dm m c) (yh m c) (gh (a2 m c)) := (W4_arr m ρ c 9).trans ((arr_dgh (V3 m ρ) c).trans (by
    rw [show V3 m ρ c main_arg6 = a6 m c from W3_args m ρ c _ (by decide), show V3 m ρ c main_arg5 = a5 m c from W3_args m ρ c _ (by decide), show V3 m ρ c main_arg2 = a2 m c from W3_args m ρ c _ (by decide), show V3 m ρ c main_v1_0 = _ from yh_3 m ρ c]; rfl))
theorem dwo_5 : W5 m ρ c main_v4 = tn (mx m c) (a6 m c) := (W5_arr m ρ c 2).trans ((arr_dwo (V4 m ρ) c).trans (by
    rw [show V4 m ρ c main_v1_1 = _ from mx_4 m ρ c, show V4 m ρ c main_arg6 = a6 m c from W4_args m ρ c _ (by decide)]))
theorem dyn_5 : W5 m ρ c main_v3_0 = dyn m c := (W5_of m ρ c main_v3_0 (by decide)).trans (dyn_4 m ρ c)
theorem dyn_6 : W6 m ρ c main_v3_0 = dyn m c := (W6_of m ρ c main_v3_0 (by decide)).trans (dyn_5 m ρ c)
theorem dyh_5 : W5 m ρ c main_v3_1 = dyh m c := (W5_of m ρ c main_v3_1 (by decide)).trans (dyh_4 m ρ c)
theorem dyh_6 : W6 m ρ c main_v3_1 = dyh m c := (W6_of m ρ c main_v3_1 (by decide)).trans (dyh_5 m ρ c)
theorem dyh_7 : W7 m ρ c main_v3_1 = dyh m c := (W7_of m ρ c main_v3_1 (by decide)).trans (dyh_6 m ρ c)
theorem dyh_8 : W8 m ρ c main_v3_1 = dyh m c := (W8_of m ρ c main_v3_1 (by decide)).trans (dyh_7 m ρ c)
theorem don_6 : W6 m ρ c main_v5 = nt (dyn m c) (a3 m c) := (W6_arr m ρ c 2).trans ((arr_don (V5 m ρ) c).trans (by
    rw [show V5 m ρ c main_v3_0 = _ from dyn_5 m ρ c, show V5 m ρ c main_arg3 = a3 m c from W5_args m ρ c _ (by decide)]))
theorem dwn_7 : W7 m ρ c main_v6 = tn (a0 m c) (dyn m c) := (W7_arr m ρ c 2).trans ((arr_dwn (V6 m ρ) c).trans (by
    rw [show V6 m ρ c main_v3_0 = _ from dyn_6 m ρ c, show V6 m ρ c main_arg0 = a0 m c from W6_args m ρ c _ (by decide)]))
theorem doh_8 : W8 m ρ c main_v7 = nt (dyh m c) (a4 m c) := (W8_arr m ρ c 2).trans ((arr_doh (V7 m ρ) c).trans (by
    rw [show V7 m ρ c main_v3_1 = _ from dyh_7 m ρ c, show V7 m ρ c main_arg4 = a4 m c from W7_args m ρ c _ (by decide)]))
theorem dwh_9 : W9 m ρ c main_v8 = tn (a1 m c) (dyh m c) := (W9_arr m ρ c 2).trans ((arr_dwh (V8 m ρ) c).trans (by
    rw [show V8 m ρ c main_v3_1 = _ from dyh_8 m ρ c, show V8 m ρ c main_arg1 = a1 m c from W8_args m ρ c _ (by decide)]))
theorem t1_4 : W4 m ρ c main_v2 = nn (mx m c) (a5 m c) := (W4_of m ρ c main_v2 (by decide)).trans (t1_3 m ρ c)
theorem t1_5 : W5 m ρ c main_v2 = nn (mx m c) (a5 m c) := (W5_of m ρ c main_v2 (by decide)).trans (t1_4 m ρ c)
theorem t1_6 : W6 m ρ c main_v2 = nn (mx m c) (a5 m c) := (W6_of m ρ c main_v2 (by decide)).trans (t1_5 m ρ c)
theorem t1_7 : W7 m ρ c main_v2 = nn (mx m c) (a5 m c) := (W7_of m ρ c main_v2 (by decide)).trans (t1_6 m ρ c)
theorem t1_8 : W8 m ρ c main_v2 = nn (mx m c) (a5 m c) := (W8_of m ρ c main_v2 (by decide)).trans (t1_7 m ρ c)
theorem t1_9 : W9 m ρ c main_v2 = nn (mx m c) (a5 m c) := (W9_of m ρ c main_v2 (by decide)).trans (t1_8 m ρ c)
theorem dgn_5 : W5 m ρ c main_v3_2 = dgate (dm m c) (yn m c) (gn (a2 m c)) := (W5_of m ρ c main_v3_2 (by decide)).trans (dgn_4 m ρ c)
theorem dgn_6 : W6 m ρ c main_v3_2 = dgate (dm m c) (yn m c) (gn (a2 m c)) := (W6_of m ρ c main_v3_2 (by decide)).trans (dgn_5 m ρ c)
theorem dgn_7 : W7 m ρ c main_v3_2 = dgate (dm m c) (yn m c) (gn (a2 m c)) := (W7_of m ρ c main_v3_2 (by decide)).trans (dgn_6 m ρ c)
theorem dgn_8 : W8 m ρ c main_v3_2 = dgate (dm m c) (yn m c) (gn (a2 m c)) := (W8_of m ρ c main_v3_2 (by decide)).trans (dgn_7 m ρ c)
theorem dgn_9 : W9 m ρ c main_v3_2 = dgate (dm m c) (yn m c) (gn (a2 m c)) := (W9_of m ρ c main_v3_2 (by decide)).trans (dgn_8 m ρ c)
theorem dgh_5 : W5 m ρ c main_v3_3 = dgate (dm m c) (yh m c) (gh (a2 m c)) := (W5_of m ρ c main_v3_3 (by decide)).trans (dgh_4 m ρ c)
theorem dgh_6 : W6 m ρ c main_v3_3 = dgate (dm m c) (yh m c) (gh (a2 m c)) := (W6_of m ρ c main_v3_3 (by decide)).trans (dgh_5 m ρ c)
theorem dgh_7 : W7 m ρ c main_v3_3 = dgate (dm m c) (yh m c) (gh (a2 m c)) := (W7_of m ρ c main_v3_3 (by decide)).trans (dgh_6 m ρ c)
theorem dgh_8 : W8 m ρ c main_v3_3 = dgate (dm m c) (yh m c) (gh (a2 m c)) := (W8_of m ρ c main_v3_3 (by decide)).trans (dgh_7 m ρ c)
theorem dgh_9 : W9 m ρ c main_v3_3 = dgate (dm m c) (yh m c) (gh (a2 m c)) := (W9_of m ρ c main_v3_3 (by decide)).trans (dgh_8 m ρ c)
theorem dwo_6 : W6 m ρ c main_v4 = tn (mx m c) (a6 m c) := (W6_of m ρ c main_v4 (by decide)).trans (dwo_5 m ρ c)
theorem dwo_7 : W7 m ρ c main_v4 = tn (mx m c) (a6 m c) := (W7_of m ρ c main_v4 (by decide)).trans (dwo_6 m ρ c)
theorem dwo_8 : W8 m ρ c main_v4 = tn (mx m c) (a6 m c) := (W8_of m ρ c main_v4 (by decide)).trans (dwo_7 m ρ c)
theorem dwo_9 : W9 m ρ c main_v4 = tn (mx m c) (a6 m c) := (W9_of m ρ c main_v4 (by decide)).trans (dwo_8 m ρ c)
theorem don_7 : W7 m ρ c main_v5 = nt (dyn m c) (a3 m c) := (W7_of m ρ c main_v5 (by decide)).trans (don_6 m ρ c)
theorem don_8 : W8 m ρ c main_v5 = nt (dyn m c) (a3 m c) := (W8_of m ρ c main_v5 (by decide)).trans (don_7 m ρ c)
theorem don_9 : W9 m ρ c main_v5 = nt (dyn m c) (a3 m c) := (W9_of m ρ c main_v5 (by decide)).trans (don_8 m ρ c)
theorem dwn_8 : W8 m ρ c main_v6 = tn (a0 m c) (dyn m c) := (W8_of m ρ c main_v6 (by decide)).trans (dwn_7 m ρ c)
theorem dwn_9 : W9 m ρ c main_v6 = tn (a0 m c) (dyn m c) := (W9_of m ρ c main_v6 (by decide)).trans (dwn_8 m ρ c)
theorem doh_9 : W9 m ρ c main_v7 = nt (dyh m c) (a4 m c) := (W9_of m ρ c main_v7 (by decide)).trans (doh_8 m ρ c)

end

/-! ## The reference -/

open Cert.MixReferenceIdeal.Read

section
variable (x0 : FVec Ideal S2176x512 .f32) (x1 : FVec Ideal S2176x512 .bf16) (x2 : FVec Ideal S2176x6144 .f32) (x3 x4 : FVec Ideal S512x1024 .bf16)
  (x5 : FVec Ideal S1024x1024 .bf16) (x6 : FVec Ideal S2176x1024 .bf16)

/-- The two gates. -/
theorem ref_gn (i) : val_main_v12 (F := Ideal) x2 i = sg (gn x2 i) := by
  rw [sg_eq]
  show Ideal.div one (one + Ideal.exp (-(val_main_v0 (F := Ideal) x2 i))) = _
  rw [val_main_v0_apply]
  refine congrArg (fun p => Ideal.div one (one + Ideal.exp (-(x2 p)))) (eq_of_vals rfl rfl)
theorem ref_gh (i) : val_main_v23 (F := Ideal) x2 i = sg (gh x2 i) := by
  rw [sg_eq]
  show Ideal.div one (one + Ideal.exp (-(val_main_v1 (F := Ideal) x2 i))) = _
  rw [val_main_v1_apply]
  refine congrArg (fun p => Ideal.div one (one + Ideal.exp (-(x2 p)))) (eq_of_vals rfl rfl)

theorem ref_yn : val_main_v16 (F := Ideal) x0 x3 = nn x0 x3 := dot_nn (φ₁ := .f32) (φ₂ := .f32) _ x0 (val_main_v3 (F := Ideal) x3)
theorem ref_yh : val_main_v27 (F := Ideal) x1 x4 = nn x1 x4 := dot_nn (φ₁ := .f32) (φ₂ := .f32) _ (val_main_v2 (F := Ideal) x1) (val_main_v4 (F := Ideal) x4)
theorem ref_dm : val_main_v33 (F := Ideal) x5 x6 = nt x6 x5 := dot_nt (φ₁ := .f32) (φ₂ := .f32) _ (val_main_v6 (F := Ideal) x6) (val_main_v5 (F := Ideal) x5)

/-- The gated sum. -/
theorem ref_mix : val_main_v29 (F := Ideal) x0 x1 x2 x3 x4 = mix x2 (nn x0 x3) (nn x1 x4) := by
  funext i
  show val_main_v12 (F := Ideal) x2 i * val_main_v16 (F := Ideal) x0 x3 i + val_main_v23 (F := Ideal) x2 i * val_main_v27 (F := Ideal) x1 x4 i = _
  rw [ref_gn, ref_gh, ref_yn, ref_yh]; rfl

theorem ref_t1 : val_main_v30 (F := Ideal) x0 x1 x2 x3 x4 x5 = nn (mix x2 (nn x0 x3) (nn x1 x4)) x5 := by
  unfold val_main_v30
  rw [ref_mix]
  exact dot_nn (φ₁ := .f32) (φ₂ := .f32) _ (mix x2 (nn x0 x3) (nn x1 x4)) x5

theorem ref_dwo : val_main_v32 (F := Ideal) x0 x1 x2 x3 x4 x6 = tn (mix x2 (nn x0 x3) (nn x1 x4)) x6 := by
  unfold val_main_v32 val_main_v31
  rw [ref_mix]
  exact dot_tr (φ₁ := .f32) (φ₂ := .f32) _ _ (mix x2 (nn x0 x3) (nn x1 x4)) x6

/-- The gradients of the two projections. -/
theorem ref_dyn : val_main_v40 (F := Ideal) x2 x5 x6 = thru (nt x6 x5) (gn x2) := by
  funext i
  show val_main_v12 (F := Ideal) x2 i * val_main_v33 (F := Ideal) x5 x6 i = _
  rw [ref_gn, ref_dm]; exact mul_comm _ _
theorem ref_dyh : val_main_v34 (F := Ideal) x2 x5 x6 = thru (nt x6 x5) (gh x2) := by
  funext i
  show val_main_v23 (F := Ideal) x2 i * val_main_v33 (F := Ideal) x5 x6 i = _
  rw [ref_gh, ref_dm]; exact mul_comm _ _

theorem ref_don : val_main_v44 (F := Ideal) x2 x3 x5 x6 = nt (thru (nt x6 x5) (gn x2)) x3 := by
  unfold val_main_v44
  rw [ref_dyn]
  exact dot_nt (φ₁ := .f32) (φ₂ := .f32) _ (thru (nt x6 x5) (gn x2)) x3
theorem ref_doh : val_main_v38 (F := Ideal) x2 x4 x5 x6 = nt (thru (nt x6 x5) (gh x2)) x4 := by
  unfold val_main_v38
  rw [ref_dyh]
  exact dot_nt (φ₁ := .f32) (φ₂ := .f32) _ (thru (nt x6 x5) (gh x2)) x4
theorem ref_dwn : val_main_v43 (F := Ideal) x0 x2 x5 x6 = tn x0 (thru (nt x6 x5) (gn x2)) := by
  unfold val_main_v43 val_main_v42
  rw [ref_dyn]
  exact dot_tr (φ₁ := .f32) (φ₂ := .f32) _ _ x0 (thru (nt x6 x5) (gn x2))
theorem ref_dwh : val_main_v37 (F := Ideal) x1 x2 x5 x6 = tn x1 (thru (nt x6 x5) (gh x2)) := by
  unfold val_main_v37 val_main_v36
  rw [ref_dyh]
  exact dot_tr (φ₁ := .f32) (φ₂ := .f32) _ _ x1 (thru (nt x6 x5) (gh x2))

/-- The gradients of the gates' arguments. -/
theorem ref_dgn : val_main_v46 (F := Ideal) x0 x2 x3 x5 x6 = dgate (nt x6 x5) (nn x0 x3) (gn x2) := by
  funext i
  show val_main_v33 (F := Ideal) x5 x6 i * val_main_v16 (F := Ideal) x0 x3 i * (val_main_v12 (F := Ideal) x2 i * (one - val_main_v12 (F := Ideal) x2 i)) = _
  rw [ref_gn, ref_dm, ref_yn]; exact (mul_assoc _ _ _).symm
theorem ref_dgh : val_main_v47 (F := Ideal) x1 x2 x4 x5 x6 = dgate (nt x6 x5) (nn x1 x4) (gh x2) := by
  funext i
  show val_main_v33 (F := Ideal) x5 x6 i * val_main_v27 (F := Ideal) x1 x4 i * (val_main_v23 (F := Ideal) x2 i * (one - val_main_v23 (F := Ideal) x2 i)) = _
  rw [ref_gh, ref_dm, ref_yh]; exact (mul_assoc _ _ _).symm

end

/-- The reference ends with its arguments as they were and no semaphore raised. -/
theorem ref_frame : Cert.quiescent_MixReferenceIdeal := fun m g _ =>
  (θ_run _ _ _).mono (fun r h => ⟨fun c => (h c).2.2.2.2.2.2.2.2, sem_eq_zero_of_no_sems (by decide) _⟩) (Cert.MixReferenceIdeal.Value.run m g)

/-- From arguments that agree, both programs run and end with the same results. -/
theorem same_results : Cert.algebraic_MixKernelIdeal_MixReferenceIdeal := by
  intro m g m' g' _ ha
  refine ⟨_, _, _, _, _, _, _, _, (θ_run _ _ _).mono (fun r h c =>
    ⟨(h c _ (mem_uc main_v2 (by decide))).trans (t1_9 m g c),
     (h c _ (mem_uc main_v5 (by decide))).trans (don_9 m g c),
     (h c _ (mem_uc main_v7 (by decide))).trans (doh_9 m g c),
     (h c _ (mem_uc main_v3_2 (by decide))).trans (dgn_9 m g c),
     (h c _ (mem_uc main_v3_3 (by decide))).trans (dgh_9 m g c),
     (h c _ (mem_uc main_v6 (by decide))).trans (dwn_9 m g c),
     (h c _ (mem_uc main_v8 (by decide))).trans (dwh_9 m g c),
     (h c _ (mem_uc main_v4 (by decide))).trans (dwo_9 m g c),
     (h c _ (mem_uc main_arg0 (by decide))).trans (W9_main_arg0 m g c),
     (h c _ (mem_uc main_arg1 (by decide))).trans (W9_main_arg1 m g c),
     (h c _ (mem_uc main_arg2 (by decide))).trans (W9_main_arg2 m g c),
     (h c _ (mem_uc main_arg3 (by decide))).trans (W9_main_arg3 m g c),
     (h c _ (mem_uc main_arg4 (by decide))).trans (W9_main_arg4 m g c),
     (h c _ (mem_uc main_arg5 (by decide))).trans (W9_main_arg5 m g c),
     (h c _ (mem_uc main_arg6 (by decide))).trans (W9_main_arg6 m g c)⟩) (run_arrays m g),
    (θ_run _ _ _).mono (fun r h c => ?_) (Cert.MixReferenceIdeal.Value.run m' g')⟩
  obtain ⟨h0, h1, h2, h3, h4, h5, h6, h7, hf⟩ := h c
  obtain ⟨e0, e1, e2, e3, e4, e5, e6⟩ := ha c
  refine ⟨h0.trans ((ref_t1 _ _ _ _ _ _).trans ?_), h1.trans ((ref_don _ _ _ _).trans ?_), h2.trans ((ref_doh _ _ _ _).trans ?_),
    h3.trans ((ref_dgn _ _ _ _ _).trans ?_), h4.trans ((ref_dgh _ _ _ _ _).trans ?_), h5.trans ((ref_dwn _ _ _ _).trans ?_),
    h6.trans ((ref_dwh _ _ _ _).trans ?_), h7.trans ((ref_dwo _ _ _ _ _ _).trans ?_), hf⟩
  all_goals simp only [e0, e1, e2, e3, e4, e5, e6]; rfl

end Cert.Step.Mix

end
-- ==== Proof.UpDx.lean ====
/-
  The gradient into the first layer of the MLP: a block of `du · w_upᵀ` is the sum over two parts of the long side, the first kept in a scratch block
  between two points.
-/
module

public import proofs.«01_k».proof.Proof.Product
public import Idealize.ShloMosaic.Lib.Pipeline.ValueKit.Geometry
public import Idealize.ShloMosaic.Lib.Pipeline.ValueKit.Acc
public import proofs.«01_k».proof.Proof.Gen.UpDxKernelIdeal.Value
public import proofs.«01_k».proof.Proof.Gen.UpDxReferenceIdeal.Read
public import proofs.«01_k».proof.Proof.Gen.UpDxReferenceIdeal.Run
public import proofs.«01_k».proof.Proof.Gen.UpDxReferenceIdeal
public import proofs.«01_k».proof.Defs

@[expose] public section

set_option backward.isDefEq.respectTransparency false

noncomputable section

namespace Cert.Step.UpDx

open Idealize.ShloMosaic Idealize.ShloMosaic.TcCoe Idealize.SL.Sem Cert.UpDxKernelIdeal Cert.UpDxKernelIdeal.Gen

variable (m : (ℓ : Loc nD τ Cert.UpDxKernelIdeal.sig) → Buf (Elt Ideal) ℓ) (ρ : Dev nD → PrngReg)

/-- The blocks a point reads: its own rows of the first factor and of the second, and the part of the long side whose turn it is. -/
theorem tiles : ∀ t : Fin cfg0.N, win0_0.index t 0 = win0_2.index t 0 ∧ win0_0.index t 1 = t.val % 2 ∧ win0_1.index t 0 = win0_2.index t 1
    ∧ win0_1.index t 1 = t.val % 2 := by decide +kernel

/-- A block is written back at the second of its two points. -/
theorem flushes : ∀ t : Fin cfg0.N, (cfg0.win 2).flush t = true → t.val % 2 = 1 := by decide +kernel

/-- The point before works on the same block of the result. -/
theorem before : ∀ t : Fin cfg0.N, t.val % 2 = 1 → ∀ h : t.val - 1 < cfg0.N, win0_2.index ⟨t.val - 1, h⟩ 0 = win0_2.index t 0
    ∧ win0_2.index ⟨t.val - 1, h⟩ 1 = win0_2.index t 1 := by decide +kernel

/-- What a point multiplies. -/
theorem pay (x0 : FVec Ideal S1088x2048 .bf16) (x1 : FVec Ideal S1024x2048 .bf16) : k0_pay1 (F := Ideal) x0 x1 = nt x0 x1 := mul_nt _ _ _

theorem first (x0 : FVec Ideal S1088x2048 .bf16) (x1 : FVec Ideal S1024x2048 .bf16) : k0_pay2 (F := Ideal) x0 x1 = nt x0 x1 :=
  (shapeCast_self _ _).trans (pay x0 x1)

theorem last (x0 : FVec Ideal S1088x2048 .bf16) (x1 : FVec Ideal S1024x2048 .bf16) (a : FVec Ideal S1088x1024 .f32) (y) :
    k0_pay4 (F := Ideal) x0 x1 a y = a y + nt x0 x1 y := congrArg (a y + ·) (congrFun (pay x0 x1) y)

/-- What the scratch block holds after the first point of a block. -/
theorem carried (c : Dev nD) (t : Fin cfg0.N) (h : t.val % 2 = 0) : (outsAt0 (F := Ideal) m c t.val t.isLt).2 = nt (iblk m c 0 t) (iblk m c 1 t) := by
  rw [outsAt0_A m c t h (by omega)]
  frame_out
  exact first _ _

/-- What is written back after the second. -/
theorem written (c : Dev nD) (t : Fin cfg0.N) (h : t.val % 2 = 1) (y) : (outsAt0 (F := Ideal) m c t.val t.isLt).1 y
    = (outsAt0 (F := Ideal) m c (t.val - 1) (Nat.lt_of_le_of_lt (Nat.sub_le _ _) t.isLt)).2 y + nt (iblk m c 0 t) (iblk m c 1 t) y := by
  rw [outsAt0_B m c t (by omega) h]
  frame_out
  rw [(Memref.isWhole_whole _).read_unread]
  exact last _ _ _ _

/-- The kernel's result array is the product. -/
theorem arr (c : Dev nD) : (dats (F := Ideal) m 0 c).arrAt 2 cfg0.N = nt (m ((c : Thread nD τ).loc main_arg0)) (m ((c : Thread nD τ).loc main_arg1)) := by
  refine (dats (F := Ideal) m 0 c).arrAt_eq_of_covers 2 _ (by decide +kernel) fun t hf y => ?_
  have h := flushes t hf
  have hp : t.val - 1 < cfg0.N := Nat.lt_of_le_of_lt (Nat.sub_le _ _) t.isLt
  have h0 : (t.val - 1) % 2 = 0 := by omega
  have g := tiles t
  have g' := tiles ⟨t.val - 1, hp⟩
  have e := before t h hp
  show (dats (F := Ideal) m 0 c).after 2 t y = _
  rw [after0_2, written m c t h y, carried m c ⟨t.val - 1, hp⟩ h0]
  refine (congrArg₂ (· + ·)
    (nt_part (q := 2) (bk := 2048) (m ((c : Thread nD τ).loc main_arg0)) (m ((c : Thread nD τ).loc main_arg1)) ((cfg0.win 0).rect_emb_val ⟨t.val - 1, hp⟩)
      ((cfg0.win 1).rect_emb_val ⟨t.val - 1, hp⟩) ((cfg0.win 2).rect_emb_val t) 0 ⟨g'.1.trans e.1, g'.2.1.trans h0, g'.2.2.1.trans e.2, g'.2.2.2.trans h0⟩ y)
    (nt_part (q := 2) (bk := 2048) (m ((c : Thread nD τ).loc main_arg0)) (m ((c : Thread nD τ).loc main_arg1)) ((cfg0.win 0).rect_emb_val t)
      ((cfg0.win 1).rect_emb_val t) ((cfg0.win 2).rect_emb_val t) 1 ⟨g.1, g.2.1.trans h, g.2.2.1, g.2.2.2.trans h⟩ y)).trans ?_
  exact (nt_two (bk := 2048) (m ((c : Thread nD τ).loc main_arg0)) (m ((c : Thread nD τ).loc main_arg1)) (((cfg0.win 2).blk t).view.emb y)).symm

/-- The reference's result is the same product. -/
theorem ref (x0 : FVec Ideal S2176x4096 .bf16) (x1 : FVec Ideal S1024x4096 .bf16) :
    Cert.UpDxReferenceIdeal.Read.val_main_v4 (F := Ideal) x0 x1 = nt x0 x1 := dot_nt _ x0 x1

/-- The reference ends with its arguments as they were and no semaphore raised. -/
theorem ref_frame : Cert.quiescent_UpDxReferenceIdeal := fun m g _ =>
  (θ_run _ _ _).mono (fun r h => ⟨fun c => (h c).2, sem_eq_zero_of_no_sems (by decide) _⟩) (Cert.UpDxReferenceIdeal.Value.run m g)

/-- From arguments that agree, both programs run and end with the same results. -/
theorem same_results : Cert.algebraic_UpDxKernelIdeal_UpDxReferenceIdeal := by
  intro m g m' g' _ ha
  refine ⟨_, (θ_run _ _ _).mono (fun r h c => ⟨(h c).1.trans (arr m c), (h c).2⟩) (Cert.UpDxKernelIdeal.Value.run_blocks m g),
    (θ_run _ _ _).mono (fun r h c => ⟨(h c).1.trans ((ref _ _).trans ?_), (h c).2⟩) (Cert.UpDxReferenceIdeal.Value.run m' g')⟩
  exact congrArg₂ nt (ha c).1 (ha c).2

end Cert.Step.UpDx

end
-- ==== Proof.InDx.lean ====
/-
  The gradient into the input projection: a block of `dproj · w_inᵀ` is the sum over three parts of the long side, kept in a scratch block
  between three points.
-/
module

public import proofs.«01_k».proof.Proof.Product
public import Idealize.ShloMosaic.Lib.Pipeline.ValueKit.Geometry
public import Idealize.ShloMosaic.Lib.Pipeline.ValueKit.Acc
public import proofs.«01_k».proof.Proof.Gen.InDxKernelIdeal.Value
public import proofs.«01_k».proof.Proof.Gen.InDxReferenceIdeal.Read
public import proofs.«01_k».proof.Proof.Gen.InDxReferenceIdeal.Run
public import proofs.«01_k».proof.Proof.Gen.InDxReferenceIdeal
public import proofs.«01_k».proof.Defs

@[expose] public section

set_option backward.isDefEq.respectTransparency false

noncomputable section

namespace Cert.Step.InDx

open Idealize.ShloMosaic Idealize.ShloMosaic.TcCoe Idealize.SL.Sem Cert.InDxKernelIdeal Cert.InDxKernelIdeal.Gen

variable (m : (ℓ : Loc nD τ Cert.InDxKernelIdeal.sig) → Buf (Elt Ideal) ℓ) (ρ : Dev nD → PrngReg)

/-- The blocks a point reads: its own rows of the first factor and of the second, and the part of the long side whose turn it is. -/
theorem tiles : ∀ t : Fin cfg0.N, win0_0.index t 0 = win0_2.index t 0 ∧ win0_0.index t 1 = t.val % 3 ∧ win0_1.index t 0 = win0_2.index t 1
    ∧ win0_1.index t 1 = t.val % 3 := by decide +kernel

/-- A block is written back at the third of its three points. -/
theorem flushes : ∀ t : Fin cfg0.N, (cfg0.win 2).flush t = true → t.val % 3 = 2 := by decide +kernel

/-- The two points before work on the same block of the result. -/
theorem before : ∀ t : Fin cfg0.N, t.val % 3 = 2 → ∀ (h : t.val - 1 < cfg0.N) (h' : t.val - 1 - 1 < cfg0.N),
    (win0_2.index ⟨t.val - 1, h⟩ 0 = win0_2.index t 0 ∧ win0_2.index ⟨t.val - 1, h⟩ 1 = win0_2.index t 1)
    ∧ win0_2.index ⟨t.val - 1 - 1, h'⟩ 0 = win0_2.index t 0 ∧ win0_2.index ⟨t.val - 1 - 1, h'⟩ 1 = win0_2.index t 1 := by decide +kernel

/-- What a point multiplies. -/
theorem pay (x0 : FVec Ideal S1088x2048 .bf16) (x1 : FVec Ideal S1024x2048 .bf16) : k0_pay1 (F := Ideal) x0 x1 = nt x0 x1 := mul_nt _ _ _

theorem first (x0 : FVec Ideal S1088x2048 .bf16) (x1 : FVec Ideal S1024x2048 .bf16) : k0_pay2 (F := Ideal) x0 x1 = nt x0 x1 :=
  (shapeCast_self _ _).trans (pay x0 x1)

theorem mid (x0 : FVec Ideal S1088x2048 .bf16) (x1 : FVec Ideal S1024x2048 .bf16) (a : FVec Ideal S1088x1024 .f32) (y) :
    k0_pay3 (F := Ideal) x0 x1 a y = a y + nt x0 x1 y :=
  (congrFun (shapeCast_self (addf a (k0_pay1 (F := Ideal) x0 x1)) _) y).trans (congrArg (a y + ·) (congrFun (pay x0 x1) y))

theorem last (x0 : FVec Ideal S1088x2048 .bf16) (x1 : FVec Ideal S1024x2048 .bf16) (a : FVec Ideal S1088x1024 .f32) (y) :
    k0_pay4 (F := Ideal) x0 x1 a y = a y + nt x0 x1 y := congrArg (a y + ·) (congrFun (pay x0 x1) y)

/-- What the scratch block holds after the first point of a block. -/
theorem carried (c : Dev nD) (t : Fin cfg0.N) (h : t.val % 3 = 0) : (outsAt0 (F := Ideal) m c t.val t.isLt).2 = nt (iblk m c 0 t) (iblk m c 1 t) := by
  rw [outsAt0_A m c t h (by omega) (by omega)]
  frame_out
  exact first _ _

/-- What the second point adds. -/
theorem carried' (c : Dev nD) (t : Fin cfg0.N) (h : t.val % 3 = 1) (y) : (outsAt0 (F := Ideal) m c t.val t.isLt).2 y
    = (outsAt0 (F := Ideal) m c (t.val - 1) (Nat.lt_of_le_of_lt (Nat.sub_le _ _) t.isLt)).2 y + nt (iblk m c 0 t) (iblk m c 1 t) y := by
  rw [outsAt0_B m c t (by omega) h (by omega)]
  frame_out
  rw [(Memref.isWhole_whole _).read_unread]
  exact mid _ _ _ _

/-- What is written back after the third. -/
theorem written (c : Dev nD) (t : Fin cfg0.N) (h : t.val % 3 = 2) (y) : (outsAt0 (F := Ideal) m c t.val t.isLt).1 y
    = (outsAt0 (F := Ideal) m c (t.val - 1) (Nat.lt_of_le_of_lt (Nat.sub_le _ _) t.isLt)).2 y + nt (iblk m c 0 t) (iblk m c 1 t) y := by
  rw [outsAt0_C m c t (by omega) (by omega) h]
  frame_out
  rw [(Memref.isWhole_whole _).read_unread]
  exact last _ _ _ _

/-- The two arguments. -/
def argA (c : Dev nD) : (M2 2176 6144).Idx → EReal := m ((c : Thread nD τ).loc main_arg0)
def argB (c : Dev nD) : (M2 1024 6144).Idx → EReal := m ((c : Thread nD τ).loc main_arg1)

/-- One part's share of a block of the result, from the blocks a point of the run reads. -/
theorem share (c : Dev nD) (s t : Fin cfg0.N) (p : Fin 3) (h : s.val % 3 = p.val) (e : win0_2.index s 0 = win0_2.index t 0 ∧ win0_2.index s 1 = win0_2.index t 1)
    (y : S1088x1024.Idx) : nt (iblk (F := Ideal) m c 0 s) (iblk (F := Ideal) m c 1 s) y
      = ∑ j : Fin 2048, argA m c (ValueIdx.ix2 (((cfg0.win 2).blk t).view.emb y 0) (part p j))
          * argB m c (ValueIdx.ix2 (((cfg0.win 2).blk t).view.emb y 1) (part p j)) :=
  have g := tiles s
  nt_part (q := 3) (bk := 2048) (argA m c) (argB m c) ((cfg0.win 0).rect_emb_val s)
    ((cfg0.win 1).rect_emb_val s) ((cfg0.win 2).rect_emb_val t) p ⟨g.1.trans e.1, g.2.1.trans h, g.2.2.1.trans e.2, g.2.2.2.trans h⟩ y

/-- The kernel's result array is the product. -/
theorem arr (c : Dev nD) : (dats (F := Ideal) m 0 c).arrAt 2 cfg0.N = nt (argA m c) (argB m c) := by
  refine (dats (F := Ideal) m 0 c).arrAt_eq_of_covers 2 _ (by decide +kernel) fun t hf y => ?_
  have h := flushes t hf
  have hp : t.val - 1 < cfg0.N := Nat.lt_of_le_of_lt (Nat.sub_le _ _) t.isLt
  have hp' : t.val - 1 - 1 < cfg0.N := Nat.lt_of_le_of_lt (Nat.sub_le _ _) hp
  have e := before t h hp hp'
  show (dats (F := Ideal) m 0 c).after 2 t y = _
  rw [after0_2, written m c t h y, carried' m c ⟨t.val - 1, hp⟩ (show (t.val - 1) % 3 = 1 by omega), carried m c ⟨t.val - 1 - 1, hp'⟩ (show (t.val - 1 - 1) % 3 = 0 by omega)]
  refine (congrArg₂ (· + ·) (congrArg₂ (· + ·) (share m c ⟨t.val - 1 - 1, hp'⟩ t 0 (show (t.val - 1 - 1) % 3 = 0 by omega) e.2 y)
    (share m c ⟨t.val - 1, hp⟩ t 1 (show (t.val - 1) % 3 = 1 by omega) e.1 y)) (share m c t t 2 h ⟨rfl, rfl⟩ y)).trans ?_
  exact (nt_three (bk := 2048) (argA m c) (argB m c) (((cfg0.win 2).blk t).view.emb y)).symm

/-- The reference's result is the same product. -/
theorem ref (x0 : FVec Ideal S2176x6144 .bf16) (x1 : FVec Ideal S1024x6144 .bf16) :
    Cert.InDxReferenceIdeal.Read.val_main_v4 (F := Ideal) x0 x1 = nt x0 x1 := dot_nt _ x0 x1

/-- The reference ends with its arguments as they were and no semaphore raised. -/
theorem ref_frame : Cert.quiescent_InDxReferenceIdeal := fun m g _ =>
  (θ_run _ _ _).mono (fun r h => ⟨fun c => (h c).2, sem_eq_zero_of_no_sems (by decide) _⟩) (Cert.InDxReferenceIdeal.Value.run m g)

/-- From arguments that agree, both programs run and end with the same results. -/
theorem same_results : Cert.algebraic_InDxKernelIdeal_InDxReferenceIdeal := by
  intro m g m' g' _ ha
  refine ⟨_, (θ_run _ _ _).mono (fun r h c => ⟨(h c).1.trans (arr m c), (h c).2⟩) (Cert.InDxKernelIdeal.Value.run_blocks m g),
    (θ_run _ _ _).mono (fun r h c => ⟨(h c).1.trans ((ref _ _).trans ?_), (h c).2⟩) (Cert.InDxReferenceIdeal.Value.run m' g')⟩
  exact congrArg₂ nt (ha c).1 (ha c).2

end Cert.Step.InDx

end
-- ==== Proof.InDw.lean ====
/-
  The input projection's weight gradient: twelve column tiles of `aᵀ dproj`, each one product over all the rows.
-/
module

public import proofs.«01_k».proof.Proof.Product
public import Idealize.ShloMosaic.Lib.Pipeline.ValueKit.Geometry
public import Idealize.ShloMosaic.Lib.Pipeline.ValueKit.Acc
public import proofs.«01_k».proof.Proof.Gen.InDwKernelIdeal.Value
public import proofs.«01_k».proof.Proof.Gen.InDwReferenceIdeal.Read
public import proofs.«01_k».proof.Proof.Gen.InDwReferenceIdeal.Run
public import proofs.«01_k».proof.Proof.Gen.InDwReferenceIdeal
public import proofs.«01_k».proof.Defs

@[expose] public section

set_option backward.isDefEq.respectTransparency false

noncomputable section

namespace Cert.Step.InDw

open Idealize.ShloMosaic Idealize.ShloMosaic.TcCoe Idealize.SL.Sem Cert.InDwKernelIdeal Cert.InDwKernelIdeal.Gen

variable (m : (ℓ : Loc nD τ Cert.InDwKernelIdeal.sig) → Buf (Elt Ideal) ℓ) (ρ : Dev nD → PrngReg)

/-- A tile has all the rows of both factors, all the columns of the first, and its own columns of the second. -/
theorem tiles : ∀ t : Fin cfg0.N, win0_0.index t 0 = 0 ∧ win0_0.index t 1 = win0_2.index t 0 ∧ win0_1.index t 0 = 0 ∧ win0_1.index t 1 = win0_2.index t 1 := by
  decide +kernel

/-- What a tile's point computes is a product of the blocks. -/
theorem pay (x0 : FVec Ideal S2176x1024 .bf16) (x1 : FVec Ideal S2176x512 .bf16) : k0_pay1 (F := Ideal) x0 x1 = tn x0 x1 := mul_tn _ _ _

/-- The kernel's result array is the product. -/
theorem arr (c : Dev nD) : (dats (F := Ideal) m 0 c).arrAt 2 cfg0.N = tn (m ((c : Thread nD τ).loc main_arg0)) (m ((c : Thread nD τ).loc main_arg1)) := by
  refine (dats (F := Ideal) m 0 c).arrAt_eq_of_covers 2 _ (by decide +kernel) fun t hf y => ?_
  show (dats (F := Ideal) m 0 c).after 2 t y = _
  rw [after0_2]
  frame_out
  rw [pay]
  exact tn_block _ _ ((cfg0.win 0).rect_emb_val t) ((cfg0.win 1).rect_emb_val t) ((cfg0.win 2).rect_emb_val t) (tiles t) y

/-- The reference's result is the same product: the derivative's product taken the other way round, then turned over. -/
theorem ref (x0 : FVec Ideal S2176x1024 .bf16) (x1 : FVec Ideal S2176x6144 .bf16) :
    Cert.InDwReferenceIdeal.Read.val_main_v5 (F := Ideal) x0 x1 = tn x0 x1 :=
  dot_tr _ _ x0 x1

/-- The reference ends with its arguments as they were and no semaphore raised. -/
theorem ref_frame : Cert.quiescent_InDwReferenceIdeal := fun m g _ =>
  (θ_run _ _ _).mono (fun r h => ⟨fun c => (h c).2, sem_eq_zero_of_no_sems (by decide) _⟩) (Cert.InDwReferenceIdeal.Value.run m g)

/-- From arguments that agree, both programs run and end with the same results. -/
theorem same_results : Cert.algebraic_InDwKernelIdeal_InDwReferenceIdeal := by
  intro m g m' g' _ ha
  refine ⟨_, (θ_run _ _ _).mono (fun r h c => ⟨(h c).1.trans (arr m c), (h c).2⟩) (Cert.InDwKernelIdeal.Value.run_blocks m g),
    (θ_run _ _ _).mono (fun r h c => ⟨(h c).1.trans ((ref _ _).trans ?_), (h c).2⟩) (Cert.InDwReferenceIdeal.Value.run m' g')⟩
  exact congrArg₂ tn (ha c).1 (ha c).2

end Cert.Step.InDw

end
-- ==== Proof.Rms.lean ====
/-
  The gradient of a row divided by its root mean square, on the extended reals.
-/
module

public import Idealize.ShloMosaic.PureOps
public import proofs.«01_k».proof.Proof.Logistic

@[expose] public section

noncomputable section

namespace Cert.Step

open Idealize.ShloMosaic

/-- The small number added to a mean square, the negative half, and the two lengths of a row, as the programs write them. -/
abbrev eps : EReal := Ideal.ofBits .f32 0x358637BD#32
abbrev nhlf : EReal := Ideal.ofBits .f32 0xBF000000#32
abbrev len1024 : EReal := Ideal.ofBits .f32 0x44800000#32
abbrev len128 : EReal := Ideal.ofBits .f32 0x43000000#32

theorem eps_pos : ∃ e : ℝ, 0 < e ∧ eps = (e : EReal) := by
  refine ⟨8796093 / 2 ^ 43, by norm_num, ?_⟩
  simp [eps, Ideal.ofBits, Ideal.ieee, -EReal.coe_mul]
  norm_num
theorem nhlf_eq : nhlf = ((-1 / 2 : ℝ) : EReal) := by
  simp [nhlf, Ideal.ofBits, Ideal.ieee, -EReal.coe_mul]; norm_num
theorem len1024_eq : len1024 = ((1024 : ℝ) : EReal) := by
  simp [len1024, Ideal.ofBits, Ideal.ieee, -EReal.coe_mul]; norm_num
theorem len128_eq : len128 = ((128 : ℝ) : EReal) := by
  simp [len128, Ideal.ofBits, Ideal.ieee, -EReal.coe_mul]; norm_num

variable {n : ℕ}

/-- The mean square of a row, with the small number, and one over its root. -/
def msq (N : EReal) (x : Fin n → EReal) : EReal := Ideal.div (∑ j, x j * x j) N + eps
def rms (N : EReal) (x : Fin n → EReal) : EReal := Ideal.rsqrt (msq N x)

theorem mul_self_nonneg' (a : EReal) : 0 ≤ a * a := by
  rcases le_total 0 a with h | h
  · exact EReal.mul_nonneg h h
  · rw [← neg_mul_neg]; exact EReal.mul_nonneg (EReal.neg_nonneg.2 h) (EReal.neg_nonneg.2 h)

theorem div_real {N : ℝ} (hN : 0 < N) (a : EReal) : Ideal.div a (N : EReal) = a * ((N⁻¹ : ℝ) : EReal) := by
  rw [Ideal.div, if_neg (by exact_mod_cast hN.ne'), EReal.coe_inv]

/-- The mean square is a positive number or infinite. -/
theorem msq_cases {N : ℝ} (hN : 0 < N) (x : Fin n → EReal) : msq (N : EReal) x = ⊤ ∨ ∃ d : ℝ, 0 < d ∧ msq (N : EReal) x = (d : EReal) := by
  obtain ⟨e, he, hee⟩ := eps_pos
  have h : 0 ≤ Ideal.div (∑ j, x j * x j) (N : EReal) := by
    rw [div_real hN]
    exact EReal.mul_nonneg (Finset.sum_nonneg fun j _ => mul_self_nonneg' (x j)) (by exact_mod_cast (inv_pos.2 hN).le)
  unfold msq
  rw [hee]
  revert h
  induction Ideal.div (∑ j, x j * x j) (N : EReal) using EReal.rec with
  | bot => intro h; exact absurd h (by simp)
  | top => intro _; exact Or.inl (EReal.top_add_coe _)
  | coe r => intro h; exact Or.inr ⟨r + e, add_pos_of_nonneg_of_pos (by exact_mod_cast h) he, (EReal.coe_add _ _).symm⟩

theorem sum_mul_real {ρ : ℝ} (hρ : 0 ≤ ρ) (s : Finset (Fin n)) (a : Fin n → EReal) : ∑ j ∈ s, a j * (ρ : EReal) = (∑ j ∈ s, a j) * (ρ : EReal) := by
  induction s using Finset.induction_on with
  | empty => simp
  | insert i s hi ih =>
    rw [Finset.sum_insert hi, Finset.sum_insert hi, ih, EReal.right_distrib_of_nonneg_of_ne_top (by exact_mod_cast hρ) (EReal.coe_ne_top _)]

/-- Twice a product with a real factor. -/
theorem twice (P : EReal) (q : ℝ) : P * (q : EReal) + P * (q : EReal) = P * ((2 * q : ℝ) : EReal) := by
  rw [two_mul, EReal.coe_add]
  rcases lt_trichotomy q 0 with h | h | h
  · induction P using EReal.rec with
    | bot => rw [EReal.bot_mul_coe_of_neg h, ← EReal.coe_add, EReal.bot_mul_coe_of_neg (by linarith)]; rfl
    | top => rw [EReal.top_mul_coe_of_neg h, ← EReal.coe_add, EReal.top_mul_coe_of_neg (by linarith)]; rfl
    | coe p => norm_cast; ring
  · subst h; simp
  · induction P using EReal.rec with
    | bot => rw [EReal.bot_mul_coe_of_pos h, ← EReal.coe_add, EReal.bot_mul_coe_of_pos (by linarith)]; rfl
    | top => rw [EReal.top_mul_coe_of_pos h, ← EReal.coe_add, EReal.top_mul_coe_of_pos (by linarith)]; rfl
    | coe p => norm_cast; ring

/-- The share of the mean square in the gradient of a row, from the row and the gradient of the divided row. -/
def share (N : EReal) (x c : Fin n → EReal) : EReal := Ideal.div ((∑ j, x j * c j) * (nhlf * Ideal.div (rms N x) (msq N x))) N

/-- The gradient in the form with the mean taken of the divided row is the one that the chain rule gives, at the infinities as well. -/
theorem rms_grad {N : ℝ} (hN : 0 < N) (x c : Fin n → EReal) (k : Fin n) :
    rms N x * (c k - x k * rms N x * Ideal.div (∑ j, c j * (x j * rms N x)) N) = c k * rms N x + x k * share N x c + share N x c * x k := by
  unfold share
  rcases msq_cases hN x with h | ⟨d, hd, h⟩
  · have hr : rms N x = 0 := by unfold rms; rw [h]; rfl
    rw [hr, h]
    simp [Ideal.div, hN.ne']
  · have hr : rms N x = (((Real.sqrt d)⁻¹ : ℝ) : EReal) := by
      unfold rms; rw [h]; show (if d < 0 then _ else if d = 0 then _ else _) = _
      rw [if_neg hd.le.not_gt, if_neg hd.ne']
    have hρ : 0 < (Real.sqrt d)⁻¹ := inv_pos.2 (Real.sqrt_pos.2 hd)
    have hdd : d⁻¹ = (Real.sqrt d)⁻¹ * (Real.sqrt d)⁻¹ := by rw [← mul_inv, Real.mul_self_sqrt hd.le]
    rw [hr, h, nhlf_eq, div_real hN, div_real hN, div_real hd, hdd]
    generalize (Real.sqrt d)⁻¹ = ρ at hρ
    have e1 : ∑ j, c j * (x j * (ρ : EReal)) = (∑ j, x j * c j) * (ρ : EReal) := by
      rw [← sum_mul_real hρ.le]; exact Finset.sum_congr rfl fun j _ => by rw [← mul_assoc, mul_comm (c j)]
    rw [e1]
    generalize (∑ j, x j * c j) = S
    have e2 : S * (((-1 / 2 : ℝ) : EReal) * ((ρ : EReal) * ((ρ * ρ : ℝ) : EReal))) * ((N⁻¹ : ℝ) : EReal) = S * ((-1 / 2 * (ρ * (ρ * ρ)) * N⁻¹ : ℝ) : EReal) := by
      rw [mul_assoc, ← EReal.coe_mul, ← EReal.coe_mul, ← EReal.coe_mul]
    rw [e2, mul_comm (S * _) (x k), ← mul_assoc (x k), add_assoc, twice]
    have e3 : x k * (ρ : EReal) * (S * (ρ : EReal) * ((N⁻¹ : ℝ) : EReal)) = x k * S * ((ρ * ρ * N⁻¹ : ℝ) : EReal) := by
      rw [EReal.coe_mul, EReal.coe_mul]; ac_rfl
    rw [e3, sub_eq_add_neg, EReal.left_distrib_of_nonneg_of_ne_top (by exact_mod_cast hρ.le) (EReal.coe_ne_top _), mul_comm (ρ : EReal)]
    refine congrArg (c k * (ρ : EReal) + ·) ?_
    rw [← mul_neg, ← EReal.coe_neg, mul_left_comm, ← EReal.coe_mul]
    exact congrArg (fun q : ℝ => x k * S * (q : EReal)) (by ring)

/-- A number times its logistic times the complement is a real number, at the infinities as well. -/
theorem sg_real (g : EReal) : ∃ s t : ℝ, sg g = (s : EReal) ∧ g * sg g * (one - sg g) = (t : EReal) := by
  rw [one_eq]
  unfold sg
  rw [hlf_eq]
  induction g using EReal.rec with
  | bot =>
    have h : ((1 / 2 : ℝ) : EReal) * Ideal.tanh (((1 / 2 : ℝ) : EReal) * ⊥) + ((1 / 2 : ℝ) : EReal) = ((0 : ℝ) : EReal) := by
      rw [EReal.coe_mul_bot_of_pos (by norm_num)]
      show ((1 / 2 : ℝ) : EReal) * ((-1 : ℝ) : EReal) + _ = _
      norm_cast; norm_num
    exact ⟨0, 0, h, by rw [h]; simp⟩
  | top =>
    have h : ((1 / 2 : ℝ) : EReal) * Ideal.tanh (((1 / 2 : ℝ) : EReal) * ⊤) + ((1 / 2 : ℝ) : EReal) = ((1 : ℝ) : EReal) := by
      rw [EReal.coe_mul_top_of_pos (by norm_num)]
      show ((1 / 2 : ℝ) : EReal) * ((1 : ℝ) : EReal) + _ = _
      norm_cast; norm_num
    exact ⟨1, 0, h, by rw [h, ← EReal.coe_sub, sub_self, EReal.coe_zero, mul_zero]⟩
  | coe r =>
    have h : ((1 / 2 : ℝ) : EReal) * Ideal.tanh (((1 / 2 : ℝ) : EReal) * (r : EReal)) + ((1 / 2 : ℝ) : EReal) = ((1 / 2 * Real.tanh (1 / 2 * r) + 1 / 2 : ℝ) : EReal) := by
      show ((1 / 2 : ℝ) : EReal) * ((Real.tanh (1 / 2 * r) : ℝ) : EReal) + _ = _
      norm_cast
    exact ⟨_, _, h, by rw [h, ← EReal.coe_sub, ← EReal.coe_mul, ← EReal.coe_mul]⟩

/-- The derivative of the product of a number and its logistic, times a factor that is a number. -/
theorem silu_grad {u : EReal} (hu : ∃ r : ℝ, u = (r : EReal)) (g : EReal) :
    u * (sg g + g * sg g * (one - sg g)) = u * sg g + g * u * (sg g * (one - sg g)) := by
  obtain ⟨r, rfl⟩ := hu
  have e : g * (r : EReal) * (sg g * (one - sg g)) = (r : EReal) * (g * sg g * (one - sg g)) := by ac_rfl
  obtain ⟨s, t, hs, ht⟩ := sg_real g
  rw [e, ht, hs, ← EReal.coe_add, ← EReal.coe_mul, ← EReal.coe_mul, ← EReal.coe_mul, ← EReal.coe_add, mul_add]

/-- An entry of a row divided by its root mean square is a real number. -/
theorem unit_real {N : ℝ} (hN : 0 < N) (x : Fin n → EReal) (k : Fin n) : ∃ r : ℝ, x k * rms (N : EReal) x = (r : EReal) := by
  rcases msq_cases hN x with h | ⟨d, hd, h⟩
  · refine ⟨0, ?_⟩
    have hr : rms (N : EReal) x = 0 := by unfold rms; rw [h]; rfl
    rw [hr, mul_zero]; rfl
  · have hr : rms (N : EReal) x = (((Real.sqrt d)⁻¹ : ℝ) : EReal) := by
      unfold rms; rw [h]; show (if d < 0 then _ else if d = 0 then _ else _) = _
      rw [if_neg hd.le.not_gt, if_neg hd.ne']
    have hk : ∃ a : ℝ, x k = (a : EReal) := by
      by_contra hx
      have hxx : x k * x k = ⊤ := by
        revert hx
        induction x k using EReal.rec with
        | bot => intro _; rfl
        | top => intro _; rfl
        | coe a => intro hx; exact absurd ⟨a, rfl⟩ hx
      have hs : ∑ j, x j * x j = ⊤ := by
        refine top_le_iff.1 (hxx.symm.le.trans ?_)
        exact Finset.single_le_sum (f := fun j => x j * x j) (fun j _ => mul_self_nonneg' (x j)) (Finset.mem_univ k)
      obtain ⟨e, he, hee⟩ := eps_pos
      unfold msq at h
      rw [hs, div_real hN, hee, EReal.top_mul_coe_of_pos (inv_pos.2 hN), EReal.top_add_coe] at h
      exact EReal.coe_ne_top d h.symm
    obtain ⟨a, ha⟩ := hk
    exact ⟨a * (Real.sqrt d)⁻¹, by rw [ha, hr, ← EReal.coe_mul]⟩

end Cert.Step

end
-- ==== Proof.Rows.lean ====
/-
  Arrays normalised row by row: what a block computes for its rows, and that a block of rows of an array has the rows of the array.
-/
module

public import proofs.«01_k».proof.Proof.Product
public import proofs.«01_k».proof.Proof.Rms
public import Idealize.ShloMosaic.Lib.ValueLayout
public import Idealize.ShloMosaic.Lib.ValueLayoutCasts

@[expose] public section

set_option backward.isDefEq.respectTransparency false

noncomputable section

namespace Cert.Step

open Idealize.ShloMosaic Finset
open Idealize.ShloMosaic.ValueIdx (ix1 ix2 eq_ix2 shapeCast_a_a1_apply)

variable {m n : ℕ}

/-- Row `i` of an array. -/
def row (X : (M2 m n).Idx → EReal) (i : Fin m) : Fin n → EReal := fun j => X (ix2 i j)

/-- Every row divided by its root mean square, and the gradient of that division. -/
def unitR (N : EReal) (X : (M2 m n).Idx → EReal) : (M2 m n).Idx → EReal := fun y => X y * rms N (row X (y 0))
def gradR (N : EReal) (X C : (M2 m n).Idx → EReal) : (M2 m n).Idx → EReal := fun y =>
  rms N (row X (y 0)) * (C y - unitR N X y * Ideal.div (∑ j, C (ix2 (y 0) j) * unitR N X (ix2 (y 0) j)) N)

/-- The one row of a `1 × n` array laid along every row. -/
def along (g : (M2 1 n).Idx → EReal) : (M2 m n).Idx → EReal := fun y => g (ix2 0 (y 1))

/-- Column sums as a `1 × n` array. -/
def down (X : (M2 m n).Idx → EReal) : (M2 1 n).Idx → EReal := fun y => ∑ i, X (ix2 i (y 1))

theorem eta2 (y : (M2 m n).Idx) : ix2 (y 0) (y 1) = y := (eq_ix2 y).symm

/-- The gradient of the division, written as the sum a derivative rule gives. -/
theorem grad_eq {N : ℝ} (hN : 0 < N) (X C : (M2 m n).Idx → EReal) (y : (M2 m n).Idx) : gradR (N : EReal) X C y
    = C y * rms (N : EReal) (row X (y 0)) + X y * share (N : EReal) (row X (y 0)) (row C (y 0)) + share (N : EReal) (row X (y 0)) (row C (y 0)) * X y := by
  have h := rms_grad hN (row X (y 0)) (row C (y 0)) (y 1)
  have ex : row X (y 0) (y 1) = X y := congrArg X (eta2 y)
  have ec : row C (y 0) (y 1) = C y := congrArg C (eta2 y)
  rw [ex, ec] at h
  exact h

/-! ## What a block computes -/

theorem row_sum (x : FVec Ideal (M2 m n) .f32) (h) (h') (i : Fin m) (u : Fin 1) :
    shapeCast (M2 m 1) (multiReduction (F := Ideal) .add [1] ⟨1, ![m]⟩ x 0x00000000#32 h (.inl rfl) rfl) h' (ix2 i u) = ∑ j, x (ix2 i j) := by
  refine (shapeCast_a_a1_apply _ _ _ _).trans ((Ideal.multiReduction_add_single _ _ _ _ _ _).trans ?_)
  exact Finset.sum_congr rfl fun j _ => congrArg x (by funext a; refine Fin.ext ?_; match a with | 0 => rfl | 1 => rfl)

theorem col_sum (x : FVec Ideal (M2 m n) .f32) (h) (h') (u : Fin 1) (j : Fin n) :
    shapeCast (M2 1 n) (multiReduction (F := Ideal) .add [0] ⟨1, ![n]⟩ x 0x00000000#32 h (.inl rfl) rfl) h' (ix2 u j) = ∑ i, x (ix2 i j) := by
  refine (ValueIdx.shapeCast_a_1a_apply _ _ _ _).trans ((Ideal.multiReduction_add_single _ _ _ _ _ _).trans ?_)
  exact Finset.sum_congr rfl fun j _ => congrArg x (by funext a; refine Fin.ext ?_; match a with | 0 => rfl | 1 => rfl)

theorem spread (v : (M2 m 1).Idx → EReal) (h) (i : Fin m) (j : Fin n) : broadcastTo (M2 m n) v h (ix2 i j) = v (ix2 i 0) := by
  refine broadcastTo_apply v h (ix2 i j) (ix2 i 0) fun ax => ?_
  match ax with
  | ⟨0, _⟩ =>
    show i.val = if m = 1 then 0 else i.val
    split
    · have := i.isLt; omega
    · rfl
  | ⟨1, _⟩ => rfl

theorem spread_row (g : (M2 1 n).Idx → EReal) (h) : broadcastTo (M2 m n) g h = along g := by
  funext y; rw [← eta2 y]; exact ValueIdx.broadcastTo_1b_ab_apply g h _ _

/-- The reciprocal root mean squares of a block's rows. -/
theorem rms_at (w : BitVec 32) (x : FVec Ideal (M2 m n) .f32) (h) (h') (i : Fin m) (u : Fin 1) :
    rsqrt (F := Ideal) (addf (divf (shapeCast (M2 m 1) (multiReduction (F := Ideal) .add [1] ⟨1, ![m]⟩ (mulf x x) 0x00000000#32 h (.inl rfl) rfl) h')
        (broadcast (M2 m 1) (Scalar.ofBits (F := Ideal) .f32 w))) (broadcast (M2 m 1) (Scalar.ofBits (F := Ideal) .f32 0x358637BD#32))) (ix2 i u)
      = rms (Ideal.ofBits .f32 w) (row x i) := by
  show Ideal.rsqrt (Ideal.div (shapeCast (M2 m 1) _ h' (ix2 i u)) (Ideal.ofBits .f32 w) + Ideal.ofBits .f32 0x358637BD#32) = _
  rw [row_sum]; rfl

/-- Rows times a column of reciprocal root mean squares. -/
theorem unit_of (N : EReal) (x : FVec Ideal (M2 m n) .f32) (r : FVec Ideal (M2 m 1) .f32) (hr : ∀ i u, r (ix2 i u) = rms N (row x i)) (h) :
    mulf (F := Ideal) x (broadcastTo (M2 m n) r h) = unitR N x := by
  funext y
  show x y * broadcastTo (M2 m n) r h y = _
  rw [← eta2 y, spread, hr]; rfl

/-- The gradient of the division, as a block computes it. -/
theorem grad_of (w : BitVec 32) (x c u : FVec Ideal (M2 m n) .f32) (r : FVec Ideal (M2 m 1) .f32)
    (hr : ∀ i k, r (ix2 i k) = rms (Ideal.ofBits .f32 w) (row x i)) (hu : u = unitR (Ideal.ofBits .f32 w) x) (h) (h') (h₁) (h₂) :
    mulf (F := Ideal) (broadcastTo (M2 m n) r h₁) (subf c (mulf u (broadcastTo (M2 m n)
        (divf (shapeCast (M2 m 1) (multiReduction (F := Ideal) .add [1] ⟨1, ![m]⟩ (mulf c u) 0x00000000#32 h (.inl rfl) rfl) h')
          (broadcast (M2 m 1) (Scalar.ofBits (F := Ideal) .f32 w))) h₂))) = gradR (Ideal.ofBits .f32 w) x c := by
  subst hu
  funext y
  show broadcastTo (M2 m n) r h₁ y * (c y - unitR (Ideal.ofBits .f32 w) x y * broadcastTo (M2 m n) _ h₂ y) = _
  rw [← eta2 y, spread, spread, hr]
  show rms _ _ * (_ - _ * Ideal.div (shapeCast (M2 m 1) _ h' (ix2 (y 0) 0)) (Ideal.ofBits .f32 w)) = _
  rw [row_sum]; rfl

/-! ## A block of an array -/

variable {bm : ℕ} {ia ic : Fin 2 → ℕ}

/-- A block of whole rows has the array's rows. -/
theorem row_block (X : (M2 m n).Idx → EReal) {e : (M2 bm n).Idx → (M2 m n).Idx} (h : At e ia) (hi : ia 1 = 0) (y : (M2 bm n).Idx) :
    row (fun x => X (e x)) (y 0) = row X (e y 0) :=
  funext fun j => congrArg X (eq_of_vals ((h _ 0).trans (h y 0).symm) ((h _ 1).trans (by rw [hi, Nat.zero_mul, Nat.zero_add]; rfl)))

theorem row_block' (X : (M2 m n).Idx → EReal) {e : (M2 bm n).Idx → (M2 m n).Idx} (h : At e ia) (hi : ia 1 = 0) (y : (M2 bm n).Idx) (j : Fin n) :
    e (ix2 (y 0) j) = ix2 (e y 0) j :=
  eq_of_vals ((h _ 0).trans (h y 0).symm) ((h _ 1).trans (by rw [hi, Nat.zero_mul, Nat.zero_add]; rfl))

theorem unit_block (N : EReal) (X : (M2 m n).Idx → EReal) {e : (M2 bm n).Idx → (M2 m n).Idx} (h : At e ia) (hi : ia 1 = 0) (y : (M2 bm n).Idx) :
    unitR N (fun x => X (e x)) y = unitR N X (e y) := by
  unfold unitR; rw [row_block X h hi]

theorem grad_block (N : EReal) (X C : (M2 m n).Idx → EReal) {e : (M2 bm n).Idx → (M2 m n).Idx} (h : At e ia) (hi : ia 1 = 0) (y : (M2 bm n).Idx) :
    gradR N (fun x => X (e x)) (fun x => C (e x)) y = gradR N X C (e y) := by
  unfold gradR; rw [row_block X h hi, unit_block N X h hi]
  simp only [unit_block N X h hi, row_block' X h hi]
  rfl

/-- The row of a `1 × n` array is itself. -/
theorem along_block (g : (M2 1 n).Idx → EReal) {e : (M2 1 n).Idx → (M2 1 n).Idx} {e' : (M2 bm n).Idx → (M2 m n).Idx} (h : At e ia) (h' : At e' ic)
    (hi : ia 1 = 0 ∧ ic 1 = 0) (y : (M2 bm n).Idx) : along (fun x => g (e x)) y = along g (e' y) :=
  congrArg g (eq_of_vals (by
      have h0 : ((e (ix2 0 (y 1)) 0 : Fin _) : ℕ) < 1 := (e (ix2 0 (y 1)) 0).isLt
      show ((e (ix2 0 (y 1)) 0 : Fin _) : ℕ) = 0
      omega)
    ((h _ 1).trans (by rw [hi.1, Nat.zero_mul, Nat.zero_add]; exact ((h' y 1).trans (by rw [hi.2, Nat.zero_mul, Nat.zero_add]; rfl)).symm)))

end Cert.Step

end
-- ==== Proof.Norm.lean ====
/-
  The norm before the branch of the hidden layer: the residual sum and its normalised rows, forward, and the gradients of both.
-/
module

public import proofs.«01_k».proof.Proof.Rows
public import Idealize.ShloMosaic.Lib.Pipeline.ValueKit.Geometry
public import Idealize.ShloMosaic.Lib.Pipeline.ValueKit.Acc
public import proofs.«01_k».proof.Proof.Gen.NormKernelIdeal.Frame
public import proofs.«01_k».proof.Proof.Gen.NormReferenceIdeal.Read
public import proofs.«01_k».proof.Proof.Gen.NormReferenceIdeal.Run
public import proofs.«01_k».proof.Proof.Gen.NormReferenceIdeal
public import proofs.«01_k».proof.Defs

@[expose] public section

set_option backward.isDefEq.respectTransparency false

noncomputable section

namespace Cert.Step.Norm

open Idealize.ShloMosaic Idealize.ShloMosaic.TcCoe Idealize.SL.Sem Cert.NormKernelIdeal Cert.NormKernelIdeal.Gen
open Idealize.ShloMosaic.ValueIdx (ix2)

variable {m n : ℕ}

/-- The residual sum, its normalised rows scaled by the gain, the gradient passed on, and what the gain's gradient adds up. -/
def res (h t : (M2 m n).Idx → EReal) : (M2 m n).Idx → EReal := fun y => h y + t y
def nrm (x : (M2 m n).Idx → EReal) (g : (M2 1 n).Idx → EReal) : (M2 m n).Idx → EReal := fun y => unitR len1024 x y * along g y
def back (x d d' : (M2 m n).Idx → EReal) (g : (M2 1 n).Idx → EReal) : (M2 m n).Idx → EReal :=
  fun y => d' y + gradR len1024 x (fun z => d z * along g z) y
def gsum (x d : (M2 m n).Idx → EReal) : (M2 1 n).Idx → EReal := down fun z => d z * unitR len1024 x z

/-! ## What the blocks compute -/

theorem pay_m (h t : FVec Ideal S544x1024 .f32) (g : FVec Ideal S1x1024 .f32) : k0_pay2 (F := Ideal) h t g = nrm (res h t) g := by
  have e := unit_of len1024 (k0_pay1 (F := Ideal) h t) _ (rms_at 0x44800000#32 (k0_pay1 (F := Ideal) h t) reduces_S544x1024_S544 shapeCasts_S544_S544x1)
    broadcasts_S544x1_S544x1024
  unfold k0_pay2
  funext y
  refine congrArg₂ (· * ·) (congrFun e y) (congrFun (spread_row g _) y)

theorem pay_r (x : FVec Ideal S544x1024 .f32) (i : Fin 544) (u : Fin 1) : k1_pay5 (F := Ideal) x (ix2 i u) = rms len1024 (row x i) := by
  have e : k1_pay4 (F := Ideal) x = x := shapeCast_self _ _
  unfold k1_pay5
  rw [e]
  exact rms_at 0x44800000#32 x _ _ i u

theorem pay_u (x : FVec Ideal S544x1024 .f32) : k1_pay6 (F := Ideal) x = unitR len1024 x := by
  have e : k1_pay4 (F := Ideal) x = x := shapeCast_self _ _
  unfold k1_pay6
  rw [e]
  exact unit_of len1024 x _ (pay_r x) _

theorem pay_dx (x d : FVec Ideal S544x1024 .f32) (g : FVec Ideal S1x1024 .f32) :
    k1_pay8 (F := Ideal) x d g = gradR len1024 x (fun z => d z * along g z) := by
  have e : mulf (F := Ideal) (φ := .f32) d (broadcastTo S544x1024 g broadcasts_S1x1024_S544x1024) = fun z => d z * along g z := by
    rw [spread_row]; rfl
  exact (grad_of 0x44800000#32 x _ _ _ (pay_r x) (pay_u x) _ _ _ _).trans (congrArg (gradR len1024 x) e)

theorem pay_out (x d d' : FVec Ideal S544x1024 .f32) (g : FVec Ideal S1x1024 .f32) : k1_pay1 (F := Ideal) d' (k1_pay8 (F := Ideal) x d g) = back x d d' g :=
  funext fun y => congrArg (d' y + ·) (congrFun (pay_dx x d g) y)
theorem pay_out16 (x d d' : FVec Ideal S544x1024 .f32) (g : FVec Ideal S1x1024 .f32) : k1_pay2 (F := Ideal) d' (k1_pay8 (F := Ideal) x d g) = back x d d' g :=
  pay_out x d d' g

theorem pay_dg (x d : FVec Ideal S544x1024 .f32) (a : FVec Ideal S1x1024 .f32) (y) :
    k1_pay7 (F := Ideal) x d a y = a y + gsum x d y := by
  unfold k1_pay7
  rw [pay_u]
  refine congrArg₂ (· + ·) (congrFun (shapeCast_self a _) y) ?_
  rw [← eta2 y]
  exact col_sum (mulf (F := Ideal) (φ := .f32) d (unitR len1024 x)) _ _ _ _

/-! ## Blocks of rows -/

section
variable {bm : ℕ} {ia ib ic ig : Fin 2 → ℕ} (X D D' : (M2 m n).Idx → EReal) (g : (M2 1 n).Idx → EReal) {e e' e₁ e₂ : (M2 bm n).Idx → (M2 m n).Idx}
  {eg : (M2 1 n).Idx → (M2 1 n).Idx}

theorem res_block (h : At e ia) (h' : At e' ib) (h₁ : At e₁ ic) (hi : ia 0 = ic 0 ∧ ia 1 = ic 1) (hi' : ib 0 = ic 0 ∧ ib 1 = ic 1) (y) :
    res (fun x => X (e x)) (fun x => D (e' x)) y = res X D (e₁ y) :=
  congrArg₂ (fun p q => X p + D q) (at_eq h h₁ hi y) (at_eq h' h₁ hi' y)

theorem nrm_block (h : At e ia) (h₁ : At eg ig) (hi : ia 1 = 0) (hg : ig 1 = 0) (y) :
    nrm (fun x => X (e x)) (fun x => g (eg x)) y = nrm X g (e y) :=
  congrArg₂ (· * ·) (unit_block _ X h hi y) (along_block g h₁ h ⟨hg, hi⟩ y)

theorem back_block (h : At e ia) (h₁ : At eg ig) (hi : ia 1 = 0) (hg : ig 1 = 0) (y) :
    back (fun x => X (e x)) (fun x => D (e x)) (fun x => D' (e x)) (fun x => g (eg x)) y = back X D D' g (e y) := by
  have ea : (fun z => D (e z) * along (fun x => g (eg x)) z) = fun z => (fun z => D z * along g z) (e z) :=
    funext fun z => congrArg (D (e z) * ·) (along_block g h₁ h ⟨hg, hi⟩ z)
  unfold back
  rw [ea, grad_block len1024 X (fun z => D z * along g z) h hi]

/-- The share of the rows of one part, when the rows are cut into four parts. -/
def share4 (X D : (M2 (4 * bm) n).Idx → EReal) (p : Fin 4) (j : Fin n) : EReal :=
  ∑ i : Fin bm, D (ix2 (part p i) j) * unitR len1024 X (ix2 (part p i) j)

theorem gsum_part (X D : (M2 (4 * bm) n).Idx → EReal) {e : (M2 bm n).Idx → (M2 (4 * bm) n).Idx} (h : At e ia) (p : Fin 4) (h0 : ia 0 = p.val) (hi : ia 1 = 0) (y) :
    gsum (fun x => X (e x)) (fun x => D (e x)) y = share4 X D p (y 1) := by
  unfold share4
  unfold gsum down
  refine Finset.sum_congr rfl fun i _ => ?_
  have ee : e (ix2 i (y 1)) = ix2 (part p i) (y 1) := eq_of_vals ((h _ 0).trans (by rw [h0]; rfl)) ((h _ 1).trans (by rw [hi, Nat.zero_mul, Nat.zero_add]; rfl))
  exact congrArg₂ (· * ·) (congrArg D ee) ((unit_block len1024 X h hi _).trans (congrArg (unitR len1024 X) ee))

theorem gsum_four (X D : (M2 (4 * bm) n).Idx → EReal) (y) :
    gsum X D y = share4 X D 0 (y 1) + share4 X D 1 (y 1) + share4 X D 2 (y 1) + share4 X D 3 (y 1) :=
  (sum_parts (q := 4) _).trans (Fin.sum_univ_four _)

end

/-! ## The arrays the calls leave -/

theorem tiles0 : ∀ t : Fin cfg0.N, (win0_0.index t 0 = win0_3.index t 0 ∧ win0_0.index t 1 = win0_3.index t 1)
    ∧ (win0_1.index t 0 = win0_3.index t 0 ∧ win0_1.index t 1 = win0_3.index t 1) ∧ win0_3.index t 1 = 0 := by decide +kernel
theorem tiles0' : ∀ t : Fin cfg0.N, (win0_0.index t 0 = win0_4.index t 0 ∧ win0_0.index t 1 = win0_4.index t 1)
    ∧ (win0_1.index t 0 = win0_4.index t 0 ∧ win0_1.index t 1 = win0_4.index t 1) ∧ win0_2.index t 1 = 0 ∧ win0_4.index t 1 = 0 := by decide +kernel
theorem tiles1 : ∀ t : Fin cfg1.N, (win1_0.index t 0 = win1_4.index t 0 ∧ win1_0.index t 1 = win1_4.index t 1)
    ∧ (win1_2.index t 0 = win1_4.index t 0 ∧ win1_2.index t 1 = win1_4.index t 1)
    ∧ (win1_3.index t 0 = win1_4.index t 0 ∧ win1_3.index t 1 = win1_4.index t 1) ∧ win1_1.index t 1 = 0 ∧ win1_4.index t 1 = 0 := by decide +kernel
theorem tiles1' : ∀ t : Fin cfg1.N, (win1_0.index t 0 = win1_5.index t 0 ∧ win1_0.index t 1 = win1_5.index t 1)
    ∧ (win1_2.index t 0 = win1_5.index t 0 ∧ win1_2.index t 1 = win1_5.index t 1)
    ∧ (win1_3.index t 0 = win1_5.index t 0 ∧ win1_3.index t 1 = win1_5.index t 1) ∧ win1_1.index t 1 = 0 ∧ win1_5.index t 1 = 0 := by decide +kernel
theorem tiles1s : ∀ t : Fin cfg1.N, (win1_0.index t 0 = t.val ∧ win1_0.index t 1 = 0) ∧ (win1_2.index t 0 = t.val ∧ win1_2.index t 1 = 0) := by decide +kernel
theorem flushes : ∀ t : Fin cfg1.N, (cfg1.win 6).flush t = true → t.val = 3 ∧ win1_6.index t 0 = 0 ∧ win1_6.index t 1 = 0 := by decide +kernel

section
variable (V : (c : Dev nD) → (b : Ref sig .tc) → Buf (Elt Ideal) ((c : Thread nD τ).loc b)) (c : Dev nD)

theorem arr_h1 : (dat0 (F := Ideal) V c).arrAt 3 cfg0.N = res (m := 2176) (n := 1024) (V c main_arg0) (V c main_arg1) := by
  refine (dat0 (F := Ideal) V c).arrAt_eq_of_covers 3 _ (by decide +kernel) fun t hf y => ?_
  show (dat0 (F := Ideal) V c).after 3 t y = _
  rw [after0_3]
  frame_out
  have g := tiles0 t
  exact res_block (V c main_arg0) (V c main_arg1) ((cfg0.win 0).rect_emb_val t) ((cfg0.win 1).rect_emb_val t) ((cfg0.win 3).rect_emb_val t) g.1 g.2.1 y

theorem arr_m : (dat0 (F := Ideal) V c).arrAt 4 cfg0.N = nrm (res (m := 2176) (n := 1024) (V c main_arg0) (V c main_arg1)) (V c main_arg2) := by
  refine (dat0 (F := Ideal) V c).arrAt_eq_of_covers 4 _ (by decide +kernel) fun t hf y => ?_
  show (dat0 (F := Ideal) V c).after 4 t y = _
  rw [after0_4]
  frame_out
  have g := tiles0' t
  refine (congrFun (pay_m _ _ _) y).trans ?_
  refine (congrArg (fun x => nrm x _ y) (funext fun z => res_block (V c main_arg0) (V c main_arg1) ((cfg0.win 0).rect_emb_val t) ((cfg0.win 1).rect_emb_val t)
    ((cfg0.win 4).rect_emb_val t) g.1 g.2.1 z)).trans ?_
  exact nrm_block (res (m := 2176) (n := 1024) (V c main_arg0) (V c main_arg1)) (V c main_arg2) ((cfg0.win 4).rect_emb_val t) ((cfg0.win 2).rect_emb_val t) g.2.2.2 g.2.2.1 y

/-- The gradient passed on at a point, whichever of the two cases the point is. -/
theorem dx_at (t : Fin cfg1.N) : (outsAt1 (F := Ideal) V c t.val t.isLt).1 = back (iblk1 V c 0 t) (iblk1 V c 2 t) (iblk1 V c 3 t) (iblk1 V c 1 t) := by
  by_cases h : t.val % 4 = 0
  · rw [outsAt1_A V c t h]
    frame_out
    exact pay_out _ _ _ _
  · rw [outsAt1_B V c t h]
    frame_out
    exact pay_out _ _ _ _
theorem dx16_at (t : Fin cfg1.N) : (outsAt1 (F := Ideal) V c t.val t.isLt).2.1 = back (iblk1 V c 0 t) (iblk1 V c 2 t) (iblk1 V c 3 t) (iblk1 V c 1 t) := by
  by_cases h : t.val % 4 = 0
  · rw [outsAt1_A V c t h]
    frame_out
    exact pay_out16 _ _ _ _
  · rw [outsAt1_B V c t h]
    frame_out
    exact pay_out16 _ _ _ _

/-- The gain's gradient: the first point's share, and what a later point adds. -/
theorem dg_first (t : Fin cfg1.N) (h : t.val % 4 = 0) : (outsAt1 (F := Ideal) V c t.val t.isLt).2.2 = gsum (iblk1 V c 0 t) (iblk1 V c 2 t) := by
  rw [outsAt1_A V c t h]
  frame_out
  funext y
  refine (pay_dg _ _ _ _).trans ?_
  show Ideal.ofBits .f32 0x00000000#32 + _ = _
  rw [Ideal.ofBits_zero_f32, zero_add]
theorem dg_next (k : ℕ) (hk : k + 1 < cfg1.N) (h : ¬(k + 1) % 4 = 0) (y) : (outsAt1 (F := Ideal) V c (k + 1) hk).2.2 y
    = (outsAt1 (F := Ideal) V c k (Nat.lt_of_succ_lt hk)).2.2 y + gsum (iblk1 V c 0 ⟨k + 1, hk⟩) (iblk1 V c 2 ⟨k + 1, hk⟩) y := by
  rw [show outsAt1 (F := Ideal) V c (k + 1) hk = _ from outsAt1_B V c ⟨k + 1, hk⟩ h]
  frame_out
  exact pay_dg _ _ _ _

theorem arr_dx : (dat1 (F := Ideal) V c).arrAt 4 cfg1.N = back (m := 2176) (n := 1024) (V c main_v0_0) (V c main_arg3) (V c main_arg4) (V c main_arg2) := by
  refine (dat1 (F := Ideal) V c).arrAt_eq_of_covers 4 _ (by decide +kernel) fun t hf y => ?_
  show (dat1 (F := Ideal) V c).after 4 t y = _
  rw [after1_4, dx_at]
  have g := tiles1 t
  refine Eq.trans ?_ (back_block (V c main_v0_0) (V c main_arg3) (V c main_arg4) (V c main_arg2) ((cfg1.win 4).rect_emb_val t) ((cfg1.win 1).rect_emb_val t) g.2.2.2.2 g.2.2.2.1 y)
  refine congrFun (congr (congr (congr (congrArg back ?_) ?_) ?_) rfl) y
  · exact funext fun z => congrArg (V c main_v0_0) (at_eq ((cfg1.win 0).rect_emb_val t) ((cfg1.win 4).rect_emb_val t) g.1 z)
  · exact funext fun z => congrArg (V c main_arg3) (at_eq ((cfg1.win 2).rect_emb_val t) ((cfg1.win 4).rect_emb_val t) g.2.1 z)
  · exact funext fun z => congrArg (V c main_arg4) (at_eq ((cfg1.win 3).rect_emb_val t) ((cfg1.win 4).rect_emb_val t) g.2.2.1 z)

theorem arr_dx16 : (dat1 (F := Ideal) V c).arrAt 5 cfg1.N = back (m := 2176) (n := 1024) (V c main_v0_0) (V c main_arg3) (V c main_arg4) (V c main_arg2) := by
  refine (dat1 (F := Ideal) V c).arrAt_eq_of_covers 5 _ (by decide +kernel) fun t hf y => ?_
  show (dat1 (F := Ideal) V c).after 5 t y = _
  rw [after1_5, dx16_at]
  have g := tiles1' t
  refine Eq.trans ?_ (back_block (V c main_v0_0) (V c main_arg3) (V c main_arg4) (V c main_arg2) ((cfg1.win 5).rect_emb_val t) ((cfg1.win 1).rect_emb_val t) g.2.2.2.2 g.2.2.2.1 y)
  refine congrFun (congr (congr (congr (congrArg back ?_) ?_) ?_) rfl) y
  · exact funext fun z => congrArg (V c main_v0_0) (at_eq ((cfg1.win 0).rect_emb_val t) ((cfg1.win 5).rect_emb_val t) g.1 z)
  · exact funext fun z => congrArg (V c main_arg3) (at_eq ((cfg1.win 2).rect_emb_val t) ((cfg1.win 5).rect_emb_val t) g.2.1 z)
  · exact funext fun z => congrArg (V c main_arg4) (at_eq ((cfg1.win 3).rect_emb_val t) ((cfg1.win 5).rect_emb_val t) g.2.2.1 z)

/-- One point's share of the gain's gradient. -/
theorem dg_part (t : Fin cfg1.N) (p : Fin 4) (h : t.val = p.val) (y) : gsum (iblk1 (F := Ideal) V c 0 t) (iblk1 (F := Ideal) V c 2 t) y
    = share4 (bm := 544) (n := 1024) (V c main_v0_0) (V c main_arg3) p (y 1) := by
  have g := tiles1s t
  refine Eq.trans ?_ (gsum_part (bm := 544) (V c main_v0_0) (V c main_arg3) ((cfg1.win 0).rect_emb_val t) p (g.1.1.trans h) g.1.2 y)
  refine congrFun (congrArg (gsum _) (funext fun z => congrArg (V c main_arg3) ?_)) y
  exact at_eq (m := 2176) (n := 1024) (bm := 544) (bn := 1024) ((cfg1.win 2).rect_emb_val t) ((cfg1.win 0).rect_emb_val t) ⟨g.2.1.trans g.1.1.symm, g.2.2.trans g.1.2.symm⟩ z

theorem arr_dg : (dat1 (F := Ideal) V c).arrAt 6 cfg1.N = gsum (m := 2176) (n := 1024) (V c main_v0_0) (V c main_arg3) := by
  refine (dat1 (F := Ideal) V c).arrAt_eq_of_covers 6 _ (by decide +kernel) fun t hf y => ?_
  obtain ⟨h3, h0, h1⟩ := flushes t hf
  obtain ⟨_, ht⟩ := t
  subst h3
  show (dat1 (F := Ideal) V c).after 6 ⟨3, ht⟩ y = _
  have ey : ((cfg1.win 6).blk ⟨3, ht⟩).view.emb y = y := eq_of_vals (m := 1) (n := 1024)
    (((cfg1.win 6).rect_emb_val ⟨3, ht⟩ y 0).trans (by rw [h0, Nat.zero_mul, Nat.zero_add]))
    (((cfg1.win 6).rect_emb_val ⟨3, ht⟩ y 1).trans (by rw [h1, Nat.zero_mul, Nat.zero_add]))
  rw [after1_6]
  show (outsAt1 (F := Ideal) V c (2 + 1) ht).2.2 y = _
  rw [dg_next V c 2 _ (by decide) y, dg_next V c 1 _ (by decide) y, dg_next V c 0 _ (by decide) y]
  refine (congrArg₂ (· + ·) (congrArg₂ (· + ·) (congrArg₂ (· + ·) ((congrFun (dg_first V c ⟨0, by decide⟩ (by decide)) y).trans (dg_part V c ⟨0, by decide⟩ 0 rfl y))
    (dg_part V c ⟨1, by decide⟩ 1 rfl y)) (dg_part V c ⟨2, by decide⟩ 2 rfl y)) (dg_part V c ⟨3, ht⟩ 3 rfl y)).trans ?_
  exact (gsum_four (bm := 544) (V c main_v0_0) (V c main_arg3) y).symm.trans (congrArg (gsum (m := 2176) (n := 1024) (V c main_v0_0) (V c main_arg3)) ey.symm)

end

end Cert.Step.Norm

end
-- ==== Proof.NormRun.lean ====
/-
  The norm program: the run, what its results hold, and the two programs compared.
-/
module

public import proofs.«01_k».proof.Proof.Norm

@[expose] public section

set_option maxRecDepth 16384

noncomputable section

namespace Cert.Step.Norm

open Idealize.ShloMosaic Idealize.ShloMosaic.TcCoe Cert.NormKernelIdeal Cert.NormKernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

section
variable {F : FTy → Type} [FloatOps F]
variable (m : (ℓ : Loc nD τ Cert.NormKernelIdeal.sig) → Buf (Elt F) ℓ) (ρ : Dev nD → PrngReg)

set_option backward.isDefEq.respectTransparency.types false in
/-- The program runs, and every array ends as the calls leave it. -/
theorem run_arrays : θ_run defs (onTc (τ := τ) (main (F := F))) ⟨m, fun _ => 0, ρ⟩ (fun r => ∀ c : Dev nD,
      ∀ b ∈ Pipeline.ucRefs τ Cert.NormKernelIdeal.sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ Cert.NormKernelIdeal.sig Unit (Elt F) ℕ (UR Cert.NormKernelIdeal.sig nD τ) ℕ))
            ⊢ BI.own (emb₁ (initOf (Pipeline.cells cfgs cellOf_inj) (Pipeline.launchToks cfgs cellOf_inj))) from .rfl)
        iexact Hu
      iapply (show (BI.emp : sProp (MT nD τ Cert.NormKernelIdeal.sig Unit (Elt F) ℕ (UR Cert.NormKernelIdeal.sig nD τ) ℕ)) ⊢ bigSep Finset.univ (fun _ : Dev nD => (BI.emp : sProp (MT nD τ Cert.NormKernelIdeal.sig Unit (Elt F) ℕ (UR Cert.NormKernelIdeal.sig nD τ) ℕ))) from by rw [BI.bigSep_emp_const])
      iempintro)
    (T₀ := fun c => iprop(StableHlo.held (c : Thread nD τ) (Pipeline.ucRefs τ Cert.NormKernelIdeal.sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ Cert.NormKernelIdeal.sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ Cert.NormKernelIdeal.sig, s.mem (((c : Thread nD τ)).1, b) = W2 m ρ c b)
    (hfin := fun c s' => by
      iintro ⟨⟨Hh, -⟩, HSI⟩
      unfold StableHlo.held
      imodintro
      iapply (pointsTo_read_all (Pipeline.ucRefs τ Cert.NormKernelIdeal.sig) (fun b => (((c : Thread nD τ)).1, b)) (W2 m ρ c) s')
      isplitl [Hh] <;> iassumption)
    (hQ := fun s h _ c b hb => h c b hb)

end

section
variable (m : (ℓ : Loc nD τ Cert.NormKernelIdeal.sig) → Buf (Elt Ideal) ℓ) (ρ : Dev nD → PrngReg) (c : Dev nD)

/-- The arguments: the hidden state, what is added to it, the gain, the gradient of the normalised rows and the gradient of the sum. -/
def a0 : (M2 2176 1024).Idx → EReal := m ((c.tc : Thread nD τ).loc main_arg0)
def a1 : (M2 2176 1024).Idx → EReal := m ((c.tc : Thread nD τ).loc main_arg1)
def a2 : (M2 1 1024).Idx → EReal := m ((c.tc : Thread nD τ).loc main_arg2)
def a3 : (M2 2176 1024).Idx → EReal := m ((c.tc : Thread nD τ).loc main_arg3)
def a4 : (M2 2176 1024).Idx → EReal := m ((c.tc : Thread nD τ).loc main_arg4)

theorem h1_1 : W1 m ρ c main_v0_0 = res (a0 m c) (a1 m c) := (W1_arr m ρ c 3).trans (arr_h1 (V0 m ρ) c)
theorem mi_1 : W1 m ρ c main_v0_1 = nrm (res (a0 m c) (a1 m c)) (a2 m c) := (W1_arr m ρ c 4).trans (arr_m (V0 m ρ) c)
theorem h1_2 : W2 m ρ c main_v0_0 = res (a0 m c) (a1 m c) := (W2_of m ρ c main_v0_0 (by decide)).trans (h1_1 m ρ c)
theorem mi_2 : W2 m ρ c main_v0_1 = nrm (res (a0 m c) (a1 m c)) (a2 m c) := (W2_of m ρ c main_v0_1 (by decide)).trans (mi_1 m ρ c)
theorem dx_2 : W2 m ρ c main_v1_0 = back (res (a0 m c) (a1 m c)) (a3 m c) (a4 m c) (a2 m c) := (W2_arr m ρ c 4).trans ((arr_dx (V1 m ρ) c).trans (by
    rw [show V1 m ρ c main_v0_0 = _ from h1_1 m ρ c, show V1 m ρ c main_arg3 = a3 m c from W1_args m ρ c _ (by decide),
      show V1 m ρ c main_arg4 = a4 m c from W1_args m ρ c _ (by decide), show V1 m ρ c main_arg2 = a2 m c from W1_args m ρ c _ (by decide)]))
theorem dx16_2 : W2 m ρ c main_v1_1 = back (res (a0 m c) (a1 m c)) (a3 m c) (a4 m c) (a2 m c) := (W2_arr m ρ c 5).trans ((arr_dx16 (V1 m ρ) c).trans (by
    rw [show V1 m ρ c main_v0_0 = _ from h1_1 m ρ c, show V1 m ρ c main_arg3 = a3 m c from W1_args m ρ c _ (by decide),
      show V1 m ρ c main_arg4 = a4 m c from W1_args m ρ c _ (by decide), show V1 m ρ c main_arg2 = a2 m c from W1_args m ρ c _ (by decide)]))
theorem dg_2 : W2 m ρ c main_v1_2 = gsum (res (a0 m c) (a1 m c)) (a3 m c) := (W2_arr m ρ c 6).trans ((arr_dg (V1 m ρ) c).trans (by
    rw [show V1 m ρ c main_v0_0 = _ from h1_1 m ρ c, show V1 m ρ c main_arg3 = a3 m c from W1_args m ρ c _ (by decide)]))

end

/-! ## The reference -/

open Cert.NormReferenceIdeal.Read

section
variable (x0 x1 x3 x4 : FVec Ideal S2176x1024 .f32) (x2 : FVec Ideal S1x1024 .f32)

theorem ref_msq (i) : val_main_v7 (F := Ideal) x0 x1 i = msq len1024 (row (res x0 x1) (i 0)) := by
  rw [val_main_v7_apply, val_main_v5_apply, val_main_v3_apply, val_main_v2_apply, val_main_v4_apply, val_main_v6_apply]
  show Ideal.div (Ideal.ofBits .f32 0x00000000#32 + ∑ k : Fin 1024, _) len1024 + eps = _
  rw [Ideal.ofBits_zero_f32, zero_add]
  refine congrArg (fun a => Ideal.div a len1024 + eps) (Finset.sum_congr rfl fun j _ => ?_)
  exact congrArg (fun p => res x0 x1 p * res x0 x1 p) (eq_of_vals rfl rfl)

theorem ref_rms (i) : val_main_v8 (F := Ideal) x0 x1 i = rms len1024 (row (res x0 x1) (i 0)) :=
  congrArg Ideal.rsqrt (ref_msq x0 x1 i)

theorem ref_unit (i) : val_main_v13 (F := Ideal) x0 x1 i = unitR len1024 (res x0 x1) i := by
  show res x0 x1 i * val_main_v12 (F := Ideal) x0 x1 i = _
  rw [val_main_v12_apply, ref_rms]; rfl

theorem ref_m : val_main_v36 (F := Ideal) x0 x1 x2 = nrm (res x0 x1) x2 := by
  funext i
  show val_main_v13 (F := Ideal) x0 x1 i * val_main_v14 (F := Ideal) x2 i = _
  rw [val_main_v14_apply, ref_unit]
  exact congrArg (fun p => unitR len1024 (res x0 x1) i * x2 p) (eq_of_vals rfl rfl)

theorem ref_dg : val_main_v18 (F := Ideal) x0 x1 x3 = gsum (res x0 x1) x3 := by
  funext i
  rw [val_main_v18_apply, val_main_v17_apply]
  show Ideal.ofBits .f32 0x00000000#32 + _ = _
  rw [Ideal.ofBits_zero_f32, zero_add]
  unfold gsum down
  refine Finset.sum_congr rfl fun k _ => ?_
  show val_main_v13 (F := Ideal) x0 x1 _ * x3 _ = _
  have h0 : (i 0).val < 1 := (i 0).isLt
  rw [ref_unit, mul_comm]
  exact congrArg (fun p => x3 p * unitR len1024 (res x0 x1) p) (eq_of_vals rfl (by show (i 0).val * 1024 + (i 1).val = (i 1).val; omega))

/-- The gradient of the scaled rows. -/
abbrev ctg : (M2 2176 1024).Idx → EReal := fun z => x3 z * along x2 z

theorem ref_ctg (i) : val_main_v20 (F := Ideal) x2 x3 i = ctg x3 x2 i := by
  show x3 i * val_main_v19 (F := Ideal) x2 i = _
  rw [val_main_v19_apply]
  exact congrArg (fun p => x3 i * x2 p) (eq_of_vals rfl rfl)

theorem ref_share (i) : val_main_v30 (F := Ideal) x0 x1 x2 x3 i = share len1024 (row (res x0 x1) (i 0)) (row (ctg x3 x2) (i 0)) := by
  rw [val_main_v30_apply, val_main_v29_apply]
  show Ideal.ofBits .f32 0x00000000#32 + _ = _
  rw [Ideal.ofBits_zero_f32, zero_add, Fin.sum_univ_one, val_main_v28_apply, val_main_v27_apply]
  show Ideal.div (val_main_v23 (F := Ideal) x0 x1 x2 x3 _ * val_main_v11 (F := Ideal) x0 x1 _) len1024 = _
  rw [val_main_v23_apply, val_main_v22_apply, val_main_v11_apply, val_main_v10_apply, val_main_v9_apply, ref_rms, ref_msq]
  show Ideal.div ((Ideal.ofBits .f32 0x00000000#32 + _) * (nhlf * Ideal.div _ _)) len1024 = _
  rw [Ideal.ofBits_zero_f32, zero_add]
  unfold share
  refine congrArg (fun a => Ideal.div (a * _) len1024) (Finset.sum_congr rfl fun j _ => ?_)
  show res x0 x1 _ * val_main_v20 (F := Ideal) x2 x3 _ = _
  rw [ref_ctg]
  exact congrArg (fun p => res x0 x1 p * ctg x3 x2 p) (eq_of_vals (by show (i 0).val * 1 + 0 = (i 0).val; omega) rfl)

theorem ref_dx : val_main_v35 (F := Ideal) x0 x1 x2 x3 x4 = back (res x0 x1) x3 x4 x2 := by
  funext i
  show x4 i + ((val_main_v20 (F := Ideal) x2 x3 i * val_main_v24 (F := Ideal) x0 x1 i + res x0 x1 i * val_main_v30 (F := Ideal) x0 x1 x2 x3 i)
    + val_main_v30 (F := Ideal) x0 x1 x2 x3 i * res x0 x1 i) = _
  rw [ref_share, ref_ctg, val_main_v24_apply, ref_rms]
  refine congrArg (x4 i + ·) (Eq.symm ?_)
  have h := grad_eq (m := 2176) (n := 1024) (N := 1024) (by norm_num) (res x0 x1) (ctg x3 x2) i
  rw [← len1024_eq] at h
  exact h

end

/-- The reference ends with its arguments as they were and no semaphore raised. -/
theorem ref_frame : Cert.quiescent_NormReferenceIdeal := fun m g _ =>
  (θ_run _ _ _).mono (fun r h => ⟨fun c => (h c).2.2.2.2.2, sem_eq_zero_of_no_sems (by decide) _⟩) (Cert.NormReferenceIdeal.Value.run m g)

/-- From arguments that agree, both programs run and end with the same results. -/
theorem same_results : Cert.algebraic_NormKernelIdeal_NormReferenceIdeal := by
  intro m g m' g' _ ha
  refine ⟨_, _, _, _, _, (θ_run _ _ _).mono (fun r h c =>
    ⟨(h c _ (mem_uc main_v0_0 (by decide))).trans (h1_2 m g c),
     (h c _ (mem_uc main_v0_1 (by decide))).trans (mi_2 m g c),
     (h c _ (mem_uc main_v1_0 (by decide))).trans (dx_2 m g c),
     (h c _ (mem_uc main_v1_1 (by decide))).trans (dx16_2 m g c),
     (h c _ (mem_uc main_v1_2 (by decide))).trans (dg_2 m g c),
     (h c _ (mem_uc main_arg0 (by decide))).trans (W2_main_arg0 m g c),
     (h c _ (mem_uc main_arg1 (by decide))).trans (W2_main_arg1 m g c),
     (h c _ (mem_uc main_arg2 (by decide))).trans (W2_main_arg2 m g c),
     (h c _ (mem_uc main_arg3 (by decide))).trans (W2_main_arg3 m g c),
     (h c _ (mem_uc main_arg4 (by decide))).trans (W2_main_arg4 m g c)⟩) (run_arrays m g),
    (θ_run _ _ _).mono (fun r h c => ?_) (Cert.NormReferenceIdeal.Value.run m' g')⟩
  obtain ⟨h0, h1, h2, h3, h4, hf⟩ := h c
  obtain ⟨e0, e1, e2, e3, e4⟩ := ha c
  refine ⟨h0.trans ?_, h1.trans ((ref_m _ _ _).trans ?_), h2.trans ((val_main_v35_eq m' c).trans ((ref_dx _ _ _ _ _).trans ?_)),
    h3.trans ((val_main_v37_eq m' c).trans ((ref_dx _ _ _ _ _).trans ?_)), h4.trans ((ref_dg _ _ _).trans ?_), hf⟩
  all_goals simp only [e0, e1, e2, e3, e4]; rfl

end Cert.Step.Norm

end
-- ==== Proof.FourHeads.lean ====
/-
  Arrays of four heads side by side: cutting out a head, laying four heads side by side, and blocks of rows of them.
-/
module

public import proofs.«01_k».proof.Proof.Rows
public import proofs.«01_k».proof.Proof.Logistic
public import Idealize.ShloMosaic.Lib.Pipeline.ValueKit.Geometry
public import Idealize.ShloMosaic.Lib.Pipeline.ValueKit.Acc

@[expose] public section

set_option backward.isDefEq.respectTransparency false

noncomputable section

namespace Cert.Step

open Idealize.ShloMosaic Idealize.SL.Sem Finset
open Idealize.ShloMosaic.ValueIdx (ix1 ix2)

variable {m n bm : ℕ} {α : Type}

/-- The column of a head's element, and the head and the element of a column. -/
def hcol (h : Fin 4) (j : Fin 128) : Fin 512 := ⟨h.val * 128 + j.val, by omega⟩
def hof (c : Fin 512) : Fin 4 := ⟨c.val / 128, by omega⟩
def jof (c : Fin 512) : Fin 128 := ⟨c.val % 128, by omega⟩

theorem hof_hcol (h : Fin 4) (j : Fin 128) : hof (hcol h j) = h := Fin.ext (by show (h.val * 128 + j.val) / 128 = h.val; omega)
theorem jof_hcol (h : Fin 4) (j : Fin 128) : jof (hcol h j) = j := Fin.ext (by show (h.val * 128 + j.val) % 128 = j.val; omega)
theorem hcol_of (c : Fin 512) : hcol (hof c) (jof c) = c := Fin.ext (by show c.val / 128 * 128 + c.val % 128 = c.val; omega)

/-- One head of an array, and four heads side by side. -/
def head (X : (M2 m 512).Idx → α) (h : Fin 4) : (M2 m 128).Idx → α := fun z => X (ix2 (z 0) (hcol h (z 1)))
def glue (f : Fin 4 → (M2 m 128).Idx → α) : (M2 m 512).Idx → α := fun y => f (hof (y 1)) (ix2 (y 0) (jof (y 1)))

theorem glue_at (f : Fin 4 → (M2 m 128).Idx → α) (i : Fin m) (h : Fin 4) (j : Fin 128) : glue f (ix2 i (hcol h j)) = f h (ix2 i j) := by
  show f (hof (hcol h j)) (ix2 i (jof (hcol h j))) = _
  rw [hof_hcol, jof_hcol]

theorem exists_head (y : (M2 m 512).Idx) : ∃ h j, y = ix2 (y 0) (hcol h j) :=
  ⟨hof (y 1), jof (y 1), eq_of_vals rfl (congrArg Fin.val (hcol_of (y 1)).symm)⟩

/-- An array is its heads side by side. -/
theorem eq_glue (X : (M2 m 512).Idx → α) (f : Fin 4 → (M2 m 128).Idx → α) (h : ∀ k z, head X k z = f k z) : X = glue f := by
  funext y
  obtain ⟨k, j, e⟩ := exists_head y
  rw [e, glue_at]
  exact h k (ix2 (y 0) j)

/-- What a load of a head's columns reads. -/
theorem ld_head {e : EltTy} (x : (M2 m 512).Idx → Elt Ideal e) (h : Fin 4) (o : ℕ) (ho : o = h.val * 128)
    (inb : ∀ a, (![0, o] : Fin 2 → ℕ) a + (![m, 128] : Fin 2 → ℕ) a ≤ (M2 m 512).size a) :
    View.ld x (Rect.unit (s := M2 m 512) ![0, o] ![m, 128] inb) = head x h := by
  subst ho
  funext z
  exact congrArg x (eq_of_vals (by show 0 + 1 * ((z 0 : Fin m) : ℕ) = ((z 0 : Fin m) : ℕ); omega)
    (by show h.val * 128 + 1 * ((z 1 : Fin 128) : ℕ) = h.val * 128 + ((z 1 : Fin 128) : ℕ); omega))

/-- A slice of a head's columns. -/
theorem slice_head (x : (M2 m 512).Idx → EReal) (h : Fin 4) (o : ℕ) (ho : o = h.val * 128) (hs : (M2 m 512).Slices ![0, o] (M2 m 128)) :
    extractStridedSlice (M2 m 128) ![0, o] x hs = head x h := by
  subst ho
  funext z
  exact extractStridedSlice_apply _ x hs z _ fun a => by
    match a with
    | ⟨0, _⟩ => exact (Nat.zero_add _).symm
    | ⟨1, _⟩ => rfl

/-- Four stores of a head's columns each leave the heads side by side, whatever was stored before. -/
theorem canon_heads {e : EltTy} (f : Fin 4 → (M2 m 128).Idx → Elt Ideal e) {p0 p1 p2 p3 : (M2 m 128).Idx → Elt Ideal e} (L : List (View.Piece (Elt Ideal) (M2 m 512) e))
    (i0 : ∀ a, (![0, 0] : Fin 2 → ℕ) a + (![m, 128] : Fin 2 → ℕ) a ≤ (M2 m 512).size a)
    (i1 : ∀ a, (![0, 128] : Fin 2 → ℕ) a + (![m, 128] : Fin 2 → ℕ) a ≤ (M2 m 512).size a)
    (i2 : ∀ a, (![0, 256] : Fin 2 → ℕ) a + (![m, 128] : Fin 2 → ℕ) a ≤ (M2 m 512).size a)
    (i3 : ∀ a, (![0, 384] : Fin 2 → ℕ) a + (![m, 128] : Fin 2 → ℕ) a ≤ (M2 m 512).size a)
    (e0 : p0 = f 0) (e1 : p1 = f 1) (e2 : p2 = f 2) (e3 : p3 = f 3) :
    View.canon (Val := Elt Ideal) (s := M2 m 512) (e := e) (⟨Rect.unit (s := M2 m 512) ![0, 384] ![m, 128] i3, p3⟩ :: ⟨Rect.unit (s := M2 m 512) ![0, 256] ![m, 128] i2, p2⟩
      :: ⟨Rect.unit (s := M2 m 512) ![0, 128] ![m, 128] i1, p1⟩ :: ⟨Rect.unit (s := M2 m 512) ![0, 0] ![m, 128] i0, p0⟩ :: L) = glue f := by
  subst e0 e1 e2 e3
  have hit : ∀ (k : Fin 4) (o : ℕ) (_ : o = k.val * 128) (inb : ∀ a, (![0, o] : Fin 2 → ℕ) a + (![m, 128] : Fin 2 → ℕ) a ≤ (M2 m 512).size a)
      (L : List (View.Piece (Elt Ideal) (M2 m 512) e)) (i : Fin m) (j : Fin 128),
      View.canon (⟨Rect.unit (s := M2 m 512) ![0, o] ![m, 128] inb, f k⟩ :: L) (ix2 i (hcol k j)) = f k (ix2 i j) := by
    intro k o ho inb L i j
    subst ho
    refine Eq.trans (congrArg _ ?_) (View.canon_cons_emb (Rect.unit (s := M2 m 512) ![0, k.val * 128] ![m, 128] inb) (f k) L (ix2 i j))
    exact eq_of_vals (by show i.val = 0 + 1 * i.val; omega) (by show k.val * 128 + j.val = k.val * 128 + 1 * j.val; omega)
  have miss : ∀ (k h : Fin 4) (o : ℕ) (_ : o = k.val * 128) (_ : h ≠ k) (inb : ∀ a, (![0, o] : Fin 2 → ℕ) a + (![m, 128] : Fin 2 → ℕ) a ≤ (M2 m 512).size a)
      (p : (M2 m 128).Idx → Elt Ideal e) (L : List (View.Piece (Elt Ideal) (M2 m 512) e)) (i : Fin m) (j : Fin 128),
      View.canon (⟨Rect.unit (s := M2 m 512) ![0, o] ![m, 128] inb, p⟩ :: L) (ix2 i (hcol h j)) = View.canon L (ix2 i (hcol h j)) := by
    intro k h o ho hk inb p L i j
    subst ho
    refine View.canon_cons_of_not_mem _ L fun hm => ?_
    have g := (Rect.mem_set_unit (s := M2 m 512) (off := ![0, k.val * 128]) (size := ![m, 128]) (inb := inb).mp hm) 1
    have g1 : k.val * 128 ≤ h.val * 128 + j.val := g.1
    have g2 : h.val * 128 + j.val < k.val * 128 + 128 := g.2
    have : h.val ≠ k.val := fun e => hk (Fin.ext e)
    omega
  funext y
  obtain ⟨h, j, ey⟩ := exists_head y
  rw [ey, glue_at]
  match h with
  | 0 => exact (miss 3 0 384 rfl (by decide) i3 _ _ _ _).trans ((miss 2 0 256 rfl (by decide) i2 _ _ _ _).trans ((miss 1 0 128 rfl (by decide) i1 _ _ _ _).trans (hit 0 0 rfl i0 _ _ _)))
  | 1 => exact (miss 3 1 384 rfl (by decide) i3 _ _ _ _).trans ((miss 2 1 256 rfl (by decide) i2 _ _ _ _).trans (hit 1 128 rfl i1 _ _ _))
  | 2 => exact (miss 3 2 384 rfl (by decide) i3 _ _ _ _).trans (hit 2 256 rfl i2 _ _ _)
  | 3 => exact hit 3 384 rfl i3 _ _ _

/-! ## Blocks of rows -/

variable {ia : Fin 2 → ℕ}

/-- The rows of one head in a block of rows. -/
def rowsOf (e : (M2 bm 512).Idx → (M2 m 512).Idx) : (M2 bm 128).Idx → (M2 m 128).Idx := fun z => ix2 (e (ix2 (z 0) (hcol 0 (z 1))) 0) (z 1)

theorem at_rowsOf {e : (M2 bm 512).Idx → (M2 m 512).Idx} (h : At e ia) : At (rowsOf e) ![ia 0, 0] := fun z a => by
  match a with
  | 0 => exact h _ 0
  | 1 => show ((z 1 : Fin 128) : ℕ) = 0 * 128 + ((z 1 : Fin 128) : ℕ); omega

/-- Where a block puts a head's element. -/
theorem at_hcol {e : (M2 bm 512).Idx → (M2 m 512).Idx} (h : At e ia) (hi : ia 1 = 0) (i : Fin bm) (k : Fin 4) (j : Fin 128) :
    e (ix2 i (hcol k j)) = ix2 (rowsOf e (ix2 i j) 0) (hcol k j) :=
  eq_of_vals ((h _ 0).trans (h (ix2 i (hcol 0 j)) 0).symm) ((h _ 1).trans (by rw [hi, Nat.zero_mul, Nat.zero_add]; rfl))

theorem head_block (X : (M2 m 512).Idx → α) {e : (M2 bm 512).Idx → (M2 m 512).Idx} (h : At e ia) (hi : ia 1 = 0) (k : Fin 4) :
    head (fun x => X (e x)) k = fun z => head X k (rowsOf e z) :=
  funext fun z => congrArg X (at_hcol h hi (z 0) k (z 1))

/-- Heads side by side in a block are the block of the heads side by side. -/
theorem glue_block (f : Fin 4 → (M2 bm 128).Idx → α) (F : Fin 4 → (M2 m 128).Idx → α) {e : (M2 bm 512).Idx → (M2 m 512).Idx} (h : At e ia) (hi : ia 1 = 0)
    (hf : ∀ k z, f k z = F k (rowsOf e z)) (y : (M2 bm 512).Idx) : glue f y = glue F (e y) := by
  obtain ⟨k, j, ey⟩ := exists_head y
  rw [ey, glue_at, at_hcol h hi, glue_at]
  exact hf k (ix2 (y 0) j)

/-- Column sums of an array, cut into four blocks of rows. -/
def share4 (F : (M2 (4 * bm) n).Idx → EReal) (p : Fin 4) : (M2 1 n).Idx → EReal := fun y => ∑ i : Fin bm, F (ix2 (part p i) (y 1))

theorem down_part (F : (M2 (4 * bm) n).Idx → EReal) {e : (M2 bm n).Idx → (M2 (4 * bm) n).Idx} (h : At e ia) (p : Fin 4) (h0 : ia 0 = p.val) (hi : ia 1 = 0) :
    down (fun x => F (e x)) = share4 F p :=
  funext fun y => Finset.sum_congr rfl fun i _ => congrArg F
    (eq_of_vals ((h _ 0).trans (by rw [h0]; rfl)) ((h _ 1).trans (by rw [hi, Nat.zero_mul, Nat.zero_add]; rfl)))

theorem down_four (F : (M2 (4 * bm) n).Idx → EReal) (y) : down F y = share4 F 0 y + share4 F 1 y + share4 F 2 y + share4 F 3 y :=
  (sum_parts (q := 4) _).trans (Fin.sum_univ_four _)

/-! ## One head: normalised, scaled and gated, and the gradients of that -/

/-- A value times its logistic. -/
def sl (g : EReal) : EReal := g * sg g

def gate1 (X G : (M2 m 128).Idx → EReal) (w : (M2 1 128).Idx → EReal) : (M2 m 128).Idx → EReal := fun z => unitR len128 X z * along w z * sl (G z)
def cot1 (G D : (M2 m 128).Idx → EReal) (w : (M2 1 128).Idx → EReal) : (M2 m 128).Idx → EReal := fun z => D z * along w z * sl (G z)
def dgate1 (X G D : (M2 m 128).Idx → EReal) (w : (M2 1 128).Idx → EReal) : (M2 m 128).Idx → EReal :=
  fun z => D z * unitR len128 X z * along w z * (sg (G z) + sl (G z) * (one - sg (G z)))
def gain1 (X G D : (M2 m 128).Idx → EReal) : (M2 m 128).Idx → EReal := fun z => D z * unitR len128 X z * sl (G z)

/-- The same, head by head. -/
def gate4 (X G : (M2 m 512).Idx → EReal) (w : (M2 1 512).Idx → EReal) : (M2 m 512).Idx → EReal := glue fun k => gate1 (head X k) (head G k) (head w k)
def dx4 (X G D : (M2 m 512).Idx → EReal) (w : (M2 1 512).Idx → EReal) : (M2 m 512).Idx → EReal :=
  glue fun k => gradR len128 (head X k) (cot1 (head G k) (head D k) (head w k))
def dgate4 (X G D : (M2 m 512).Idx → EReal) (w : (M2 1 512).Idx → EReal) : (M2 m 512).Idx → EReal :=
  glue fun k => dgate1 (head X k) (head G k) (head D k) (head w k)
def dgain4 (X G D : (M2 m 512).Idx → EReal) : (M2 1 512).Idx → EReal := glue fun k => down (gain1 (head X k) (head G k) (head D k))

section
variable {ig : Fin 2 → ℕ} (X G D : (M2 m 512).Idx → EReal) (w : (M2 1 512).Idx → EReal) {e : (M2 bm 512).Idx → (M2 m 512).Idx} {eg : (M2 1 512).Idx → (M2 1 512).Idx}

theorem along_rows (h : At e ia) (h' : At eg ig) (hg : ig 1 = 0) (k : Fin 4) (z : (M2 bm 128).Idx) :
    along (head (fun x => w (eg x)) k) z = along (head w k) (rowsOf e z) := by
  rw [head_block w h' hg]
  exact along_block (head w k) (at_rowsOf h') (at_rowsOf h) ⟨rfl, rfl⟩ z

theorem gate4_block (h : At e ia) (hi : ia 1 = 0) (h' : At eg ig) (hg : ig 1 = 0) (y) :
    gate4 (fun x => X (e x)) (fun x => G (e x)) (fun x => w (eg x)) y = gate4 X G w (e y) :=
  glue_block _ _ h hi (fun k z => by
    unfold gate1
    rw [along_rows w h h' hg, head_block X h hi, head_block G h hi, unit_block len128 (head X k) (at_rowsOf h) rfl]) y

theorem cot1_block (h : At e ia) (hi : ia 1 = 0) (h' : At eg ig) (hg : ig 1 = 0) (k : Fin 4) :
    cot1 (head (fun x => G (e x)) k) (head (fun x => D (e x)) k) (head (fun x => w (eg x)) k) = fun z => cot1 (head G k) (head D k) (head w k) (rowsOf e z) :=
  funext fun z => by
    unfold cot1
    rw [along_rows w h h' hg, head_block G h hi, head_block D h hi]

theorem dx4_block (h : At e ia) (hi : ia 1 = 0) (h' : At eg ig) (hg : ig 1 = 0) (y) :
    dx4 (fun x => X (e x)) (fun x => G (e x)) (fun x => D (e x)) (fun x => w (eg x)) y = dx4 X G D w (e y) :=
  glue_block _ _ h hi (fun k z => by
    rw [cot1_block G D w h hi h' hg, head_block X h hi]
    exact grad_block len128 (head X k) _ (at_rowsOf h) rfl z) y

theorem dgate4_block (h : At e ia) (hi : ia 1 = 0) (h' : At eg ig) (hg : ig 1 = 0) (y) :
    dgate4 (fun x => X (e x)) (fun x => G (e x)) (fun x => D (e x)) (fun x => w (eg x)) y = dgate4 X G D w (e y) :=
  glue_block _ _ h hi (fun k z => by
    unfold dgate1
    rw [along_rows w h h' hg, head_block X h hi, head_block G h hi, head_block D h hi, unit_block len128 (head X k) (at_rowsOf h) rfl]) y

/-- One block's share of the gain's gradient, and that four shares make it up. -/
def part4 (X G D : (M2 (4 * bm) 512).Idx → EReal) (p : Fin 4) : (M2 1 512).Idx → EReal :=
  glue fun k => share4 (bm := bm) (gain1 (head X k) (head G k) (head D k)) p

theorem dgain4_part (X G D : (M2 (4 * bm) 512).Idx → EReal) {e : (M2 bm 512).Idx → (M2 (4 * bm) 512).Idx} (h : At e ia) (p : Fin 4) (h0 : ia 0 = p.val) (hi : ia 1 = 0) :
    dgain4 (fun x => X (e x)) (fun x => G (e x)) (fun x => D (e x)) = part4 X G D p := by
  refine congrArg glue (funext fun k => ?_)
  rw [head_block X h hi, head_block G h hi, head_block D h hi]
  refine Eq.trans (congrArg down (funext fun z => ?_)) (down_part (gain1 (head X k) (head G k) (head D k)) (at_rowsOf h) p h0 rfl)
  exact congrArg (fun u => head D k (rowsOf e z) * u * sl (head G k (rowsOf e z))) (unit_block len128 (head X k) (at_rowsOf h) rfl z)

theorem dgain4_four (X G D : (M2 (4 * bm) 512).Idx → EReal) (y) :
    dgain4 X G D y = part4 X G D 0 y + part4 X G D 1 y + part4 X G D 2 y + part4 X G D 3 y := by
  obtain ⟨k, j, ey⟩ := exists_head y
  unfold dgain4 part4
  rw [ey, glue_at, glue_at, glue_at, glue_at, glue_at]
  exact down_four _ _

end

end Cert.Step

end
-- ==== Proof.Gate.lean ====
/-
  The head norm and its gate: the two scans' outputs summed, normalised head by head, scaled and gated, and the gradients of that.
-/
module

public import proofs.«01_k».proof.Proof.FourHeads
public import Idealize.ShloMosaic.Lib.Pipeline.ReadBack
public import proofs.«01_k».proof.Proof.Gen.GateKernelIdeal.Frame
public import proofs.«01_k».proof.Proof.Gen.GateReferenceIdeal.Read
public import proofs.«01_k».proof.Proof.Gen.GateReferenceIdeal.Run
public import proofs.«01_k».proof.Proof.Gen.GateReferenceIdeal
public import proofs.«01_k».proof.Defs

@[expose] public section

set_option backward.isDefEq.respectTransparency false

noncomputable section

namespace Cert.Step.Gate

open Idealize.ShloMosaic Idealize.ShloMosaic.TcCoe Idealize.SL.Sem Cert.GateKernelIdeal Cert.GateKernelIdeal.Gen
open Idealize.ShloMosaic.ValueIdx (ix2)

variable {m n : ℕ}

/-- The two scans' outputs summed, and the gate's arguments: the columns of the projection from 3584 on. -/
def both (a b : (M2 m n).Idx → EReal) : (M2 m n).Idx → EReal := fun y => a y + b y
def gcol (P : (M2 m 6144).Idx → EReal) : (M2 m 512).Idx → EReal := fun y => P (ix2 (y 0) ⟨3584 + ((y 1 : Fin 512) : ℕ), Nat.lt_of_lt_of_le (Nat.add_lt_add_left (show ((y 1 : Fin 512) : ℕ) < 512 from (y 1).isLt) 3584) (by decide)⟩)

/-! ## What the blocks compute, head by head -/

theorem gated (x : FVec Ideal S544x128 .f32) (r : FVec Ideal S544x1 .f32) (hr : ∀ i u, r (ix2 i u) = rms len128 (row x i)) (w : FVec Ideal S1x128 .f32)
    (G : FVec Ideal S544x512 .f32) (k : Fin 4) (o : ℕ) (ho : o = k.val * 128) (hs : S544x512.Slices ![0, o] S544x128) (h) (h') :
    mulf (F := Ideal) (φ := .f32) (mulf (mulf x (broadcastTo S544x128 r h)) (broadcastTo S544x128 w h')) (extractStridedSlice S544x128 ![0, o] (k0_pay2 (F := Ideal) G) hs)
      = gate1 x (head G k) w := by
  funext z
  exact congrArg₂ (· * ·) (congrArg₂ (· * ·) (congrFun (unit_of len128 x r hr h) z) (congrFun (spread_row w h') z))
    (congrFun (slice_head (k0_pay2 (F := Ideal) G) k o ho hs) z)

theorem silu_whole (x0 x1 x2 : FVec Ideal S544x512 .f32) (x3 : FVec Ideal S1x512 .f32) : k0_pay11 (F := Ideal) x0 x1 x2 x3 = k0_pay2 (F := Ideal) x2 :=
  congrArg (k0_pay2 (F := Ideal)) (View.ld_unit_lit (Val := Elt Ideal) (e := .f32) _ x2 (by decide))

theorem y0 (G : FVec Ideal S544x512 .f32) (a b : FVec Ideal S544x128 .f32) (w : FVec Ideal S1x128 .f32) : k0_pay3 (F := Ideal) G a b w = gate1 (both a b) (head G 0) w :=
  gated (both a b) _ (rms_at 0x43000000#32 (both a b) reduces_S544x128_S544 shapeCasts_S544_S544x1) w G 0 0 rfl _ _ _
theorem y1 (G : FVec Ideal S544x512 .f32) (a b : FVec Ideal S544x128 .f32) (w : FVec Ideal S1x128 .f32) :
    k0_pay7 (F := Ideal) (k0_pay2 (F := Ideal) G) (k0_pay4 (F := Ideal) a b) (k0_pay5 (F := Ideal) a b) (k0_pay6 (F := Ideal)) w = gate1 (both a b) (head G 1) w :=
  gated (both a b) _ (rms_at 0x43000000#32 (both a b) reduces_S544x128_S544 shapeCasts_S544_S544x1) w G 1 128 rfl _ _ _
theorem y2 (G : FVec Ideal S544x512 .f32) (a b : FVec Ideal S544x128 .f32) (w : FVec Ideal S1x128 .f32) :
    k0_pay8 (F := Ideal) (k0_pay2 (F := Ideal) G) a b w = gate1 (both a b) (head G 2) w :=
  gated (both a b) _ (rms_at 0x43000000#32 (both a b) reduces_S544x128_S544 shapeCasts_S544_S544x1) w G 2 256 rfl _ _ _
theorem y3 (G : FVec Ideal S544x512 .f32) (a b : FVec Ideal S544x128 .f32) (w : FVec Ideal S1x128 .f32) :
    k0_pay1 (F := Ideal) (k0_pay2 (F := Ideal) G) (k0_pay9 (F := Ideal) a b) (k0_pay10 (F := Ideal) a b) w = gate1 (both a b) (head G 3) w :=
  gated (both a b) _ (rms_at 0x43000000#32 (both a b) reduces_S544x128_S544 shapeCasts_S544_S544x1) w G 3 384 rfl _ _ _

theorem r_at (x : FVec Ideal S544x128 .f32) (i : Fin 544) (u : Fin 1) : k1_pay36 (F := Ideal) (mulf (F := Ideal) (φ := .f32) x x) (ix2 i u) = rms len128 (row x i) :=
  rms_at 0x43000000#32 x _ _ i u
theorem u_of (x : FVec Ideal S544x128 .f32) : k1_pay37 (F := Ideal) x (mulf (F := Ideal) (φ := .f32) x x) = unitR len128 x :=
  unit_of len128 x _ (r_at x) _

theorem cot_of (G D : FVec Ideal S544x128 .f32) (w : FVec Ideal S1x128 .f32) (h) :
    mulf (F := Ideal) (φ := .f32) (mulf D (broadcastTo S544x128 w h)) (k1_pay32 (F := Ideal) G) = cot1 G D w :=
  funext fun z => congrArg (D z * · * sl (G z)) (congrFun (spread_row w h) z)

theorem x_of (x G D : FVec Ideal S544x128 .f32) (w : FVec Ideal S1x128 .f32) :
    k1_pay40 (F := Ideal) (k1_pay32 (F := Ideal) G) x (mulf (F := Ideal) (φ := .f32) x x) D w = gradR len128 x (cot1 G D w) :=
  (grad_of 0x43000000#32 x _ _ _ (r_at x) (u_of x) _ _ _ _).trans (congrArg (gradR len128 x) (cot_of G D w _))

theorem g_of (x G D : FVec Ideal S544x128 .f32) (w : FVec Ideal S1x128 .f32) :
    k1_pay39 (F := Ideal) (k1_pay33 (F := Ideal) G) x (mulf (F := Ideal) (φ := .f32) x x) D w = dgate1 x G D w := by
  funext z
  exact congrArg₂ (fun p q => D z * p * q * (sg (G z) + sl (G z) * (one - sg (G z)))) (congrFun (u_of x) z) (congrFun (spread_row w _) z)

theorem w_of (x G D : FVec Ideal S544x128 .f32) (a : FVec Ideal S1x128 .f32) :
    k1_pay38 (F := Ideal) (k1_pay32 (F := Ideal) G) x (mulf (F := Ideal) (φ := .f32) x x) D a = fun z => a z + down (gain1 x G D) z := by
  funext z
  refine congrArg₂ (· + ·) (congrFun (shapeCast_self a _) z) ?_
  rw [← eta2 z]
  refine (col_sum (mulf (F := Ideal) (φ := .f32) (mulf D (k1_pay37 (F := Ideal) x (mulf (F := Ideal) (φ := .f32) x x))) (k1_pay32 (F := Ideal) G)) _ _ _ _).trans ?_
  refine Finset.sum_congr rfl fun i _ => ?_
  exact congrArg (D _ * · * sl (G _)) (congrFun (u_of x) _)

/-! ## Loads of a head's columns -/

theorem both_ld (a b : FVec Ideal S544x512 .f32) (k : Fin 4) (o : ℕ) (ho : o = k.val * 128) (inb) :
    both (View.ld (Val := Elt Ideal) (e' := .f32) a (Rect.unit (s := S544x512) ![0, o] ![544, 128] inb)) (View.ld (Val := Elt Ideal) (e' := .f32) b (Rect.unit (s := S544x512) ![0, o] ![544, 128] inb)) = head (both a b) k :=
  congrArg₂ (both (m := 544) (n := 128)) (ld_head (e := .f32) a k o ho inb) (ld_head (e := .f32) b k o ho inb)

theorem gate1_congr {x x' G : (M2 m 128).Idx → EReal} {w w' : (M2 1 128).Idx → EReal} (hx : x = x') (hw : w = w') : gate1 x G w = gate1 x' G w' := by
  subst hx hw; rfl
theorem dx1_congr {x x' G G' D D' : (M2 m 128).Idx → EReal} {w w' : (M2 1 128).Idx → EReal} (hx : x = x') (hG : G = G') (hD : D = D') (hw : w = w') :
    gradR len128 x (cot1 G D w) = gradR len128 x' (cot1 G' D' w') := by subst hx hG hD hw; rfl
theorem dgate1_congr {x x' G G' D D' : (M2 m 128).Idx → EReal} {w w' : (M2 1 128).Idx → EReal} (hx : x = x') (hG : G = G') (hD : D = D') (hw : w = w') :
    dgate1 x G D w = dgate1 x' G' D' w' := by subst hx hG hD hw; rfl
theorem acc_congr {x x' G G' D D' : (M2 m 128).Idx → EReal} {a a' : (M2 1 128).Idx → EReal} (hx : x = x') (hG : G = G') (hD : D = D') (ha : a = a') :
    (fun z => a z + down (gain1 x G D) z) = fun z => a' z + down (gain1 x' G' D') z := by subst hx hG hD ha; rfl

theorem first_congr {x x' G G' D D' : (M2 m 128).Idx → EReal} {a : (M2 1 128).Idx → EReal} (hx : x = x') (hG : G = G') (hD : D = D') (ha : ∀ z, a z = 0) :
    (fun z => a z + down (gain1 x G D) z) = down (gain1 x' G' D') := by
  subst hx hG hD
  exact funext fun z => (congrArg (· + _) (ha z)).trans (zero_add _)

/-- What a point adds to the gain's gradient, head by head. -/
theorem glue_add (a : (M2 1 512).Idx → EReal) (X G D : (M2 m 512).Idx → EReal) :
    (glue fun k z => head a k z + down (gain1 (head X k) (head G k) (head D k)) z) = fun y => a y + dgain4 X G D y :=
  (eq_glue (fun y => a y + dgain4 X G D y) _ fun k z => congrArg (a _ + ·) (glue_at _ (z 0) k (z 1))).symm

/-- A head's columns read back after the whole was set to zero and other heads' columns were stored. -/
theorem back_fill {κ : Kind} {sp : Space} (v : View sig κ sp S1x512 .f32) (o : ℕ) (i : ∀ a, (![0, o] : Fin 2 → ℕ) a + (![1, 128] : Fin 2 → ℕ) a ≤ S1x512.size a) (z) :
    v.readCov (Val := Elt Ideal) [⟨Rect.unit (s := S1x512) ![0, 0] ![1, 512] inb_S1x512_S1x512_0_0, k1_pay1 (F := Ideal)⟩]
      (Rect.unit (s := S1x512) ![0, o] ![1, 128] i).toLoadRect z = 0 := by
  rw [View.readCov_eq_canon']
  exact (congrFun (View.canon_cons_unit_lit (Val := Elt Ideal) (S := S1x512) (e := .f32) inb_S1x512_S1x512_0_0 (k1_pay1 (F := Ideal)) [] (by decide)) _).trans Ideal.ofBits_zero_f32
theorem back_skip {κ : Kind} {sp : Space} (v : View sig κ sp S1x512 .f32) {o o' : ℕ} (ho : o' + 128 ≤ o)
    {i : ∀ a, (![0, o] : Fin 2 → ℕ) a + (![1, 128] : Fin 2 → ℕ) a ≤ S1x512.size a} {i' : ∀ a, (![0, o'] : Fin 2 → ℕ) a + (![1, 128] : Fin 2 → ℕ) a ≤ S1x512.size a}
    (p : FVec Ideal S1x128 .f32) (L : List (View.Piece (Elt Ideal) S1x512 .f32)) (z)
    (h : v.readCov (Val := Elt Ideal) L (Rect.unit (s := S1x512) ![0, o] ![1, 128] i).toLoadRect z = 0) :
    v.readCov (Val := Elt Ideal) (⟨Rect.unit (s := S1x512) ![0, o'] ![1, 128] i', p⟩ :: L) (Rect.unit (s := S1x512) ![0, o] ![1, 128] i).toLoadRect z = 0 := by
  rw [View.readCov_eq_canon'] at h ⊢
  refine (View.canon_cons_of_not_mem _ L fun hm => ?_).trans h
  have g := (Rect.mem_set_unit (s := S1x512) (off := ![0, o']) (size := ![1, 128]) (inb := i').mp hm) 1
  have g2 : o + 1 * ((z 1 : Fin 128) : ℕ) < o' + 128 := g.2
  omega

theorem both_block {bm : ℕ} (A B : (M2 m n).Idx → EReal) {e e' e₁ : (M2 bm n).Idx → (M2 m n).Idx} {ia ib ic : Fin 2 → ℕ} (h : At e ia) (h' : At e' ib) (h₁ : At e₁ ic)
    (hi : ia 0 = ic 0 ∧ ia 1 = ic 1) (hi' : ib 0 = ic 0 ∧ ib 1 = ic 1) : both (fun z => A (e z)) (fun z => B (e' z)) = fun z => both A B (e₁ z) :=
  funext fun y => congrArg₂ (fun p q => A p + B q) (at_eq h h₁ hi y) (at_eq h' h₁ hi' y)
/-- A block of the gate's arguments is a block of the projection. -/
theorem gcol_at {bm : ℕ} (P : (M2 m 6144).Idx → EReal) {e : (M2 bm 512).Idx → (M2 m 6144).Idx} {e' : (M2 bm 512).Idx → (M2 m 512).Idx} {ia ic : Fin 2 → ℕ}
    (h : At e ia) (h' : At e' ic) (hi : ia 0 = ic 0 ∧ ia 1 * 512 = 3584 + ic 1 * 512) (y) : P (e y) = gcol P (e' y) := by
  refine congrArg P (eq_of_vals ((h y 0).trans ((h' y 0).trans (by rw [hi.1])).symm) ?_)
  have h1 : ((e y 1 : Fin _) : ℕ) = ia 1 * 512 + ((y 1 : Fin _) : ℕ) := h y 1
  have h2 : ((e' y 1 : Fin _) : ℕ) = ic 1 * 512 + ((y 1 : Fin _) : ℕ) := h' y 1
  show ((e y 1 : Fin _) : ℕ) = 3584 + ((e' y 1 : Fin _) : ℕ)
  omega

/-! ## The arrays the calls leave -/

theorem tiles0 : ∀ t : Fin cfg0.N, (win0_0.index t 0 = win0_4.index t 0 ∧ win0_0.index t 1 = win0_4.index t 1)
    ∧ (win0_1.index t 0 = win0_4.index t 0 ∧ win0_1.index t 1 = win0_4.index t 1)
    ∧ (win0_2.index t 0 = win0_4.index t 0 ∧ win0_2.index t 1 * 512 = 3584 + win0_4.index t 1 * 512) ∧ win0_3.index t 1 = 0 ∧ win0_4.index t 1 = 0 := by decide +kernel
theorem tiles1 : ∀ t : Fin cfg1.N, (win1_0.index t 0 = win1_5.index t 0 ∧ win1_0.index t 1 = win1_5.index t 1)
    ∧ (win1_1.index t 0 = win1_5.index t 0 ∧ win1_1.index t 1 = win1_5.index t 1)
    ∧ (win1_2.index t 0 = win1_5.index t 0 ∧ win1_2.index t 1 * 512 = 3584 + win1_5.index t 1 * 512)
    ∧ (win1_4.index t 0 = win1_5.index t 0 ∧ win1_4.index t 1 = win1_5.index t 1) ∧ win1_3.index t 1 = 0 ∧ win1_5.index t 1 = 0 := by decide +kernel
theorem tiles1' : ∀ t : Fin cfg1.N, (win1_0.index t 0 = win1_6.index t 0 ∧ win1_0.index t 1 = win1_6.index t 1)
    ∧ (win1_1.index t 0 = win1_6.index t 0 ∧ win1_1.index t 1 = win1_6.index t 1)
    ∧ (win1_2.index t 0 = win1_6.index t 0 ∧ win1_2.index t 1 * 512 = 3584 + win1_6.index t 1 * 512)
    ∧ (win1_4.index t 0 = win1_6.index t 0 ∧ win1_4.index t 1 = win1_6.index t 1) ∧ win1_3.index t 1 = 0 ∧ win1_6.index t 1 = 0 := by decide +kernel
theorem tiles1s : ∀ t : Fin cfg1.N, (win1_0.index t 0 = t.val ∧ win1_0.index t 1 = 0) ∧ (win1_1.index t 0 = t.val ∧ win1_1.index t 1 = 0)
    ∧ (win1_2.index t 0 = t.val ∧ win1_2.index t 1 * 512 = 3584) ∧ (win1_4.index t 0 = t.val ∧ win1_4.index t 1 = 0) := by decide +kernel
theorem flushes : ∀ t : Fin cfg1.N, (cfg1.win 7).flush t = true → t.val = 3 ∧ win1_7.index t 0 = 0 ∧ win1_7.index t 1 = 0 := by decide +kernel

section
variable (V : (c : Dev nD) → (b : Ref sig .tc) → Buf (Elt Ideal) ((c : Thread nD τ).loc b)) (c : Dev nD)

theorem y_at (t : Fin cfg0.N) : (dat0 (F := Ideal) V c).after 4 t = gate4 (both (iblk0 V c 0 t) (iblk0 V c 1 t)) (iblk0 V c 2 t) (iblk0 V c 3 t) := by
  rw [after0_4]
  frame_out
  rw [silu_whole]
  exact canon_heads _ [] _ _ _ _
    ((y0 _ _ _ _).trans (gate1_congr (both_ld _ _ 0 0 rfl _) (ld_head _ 0 0 rfl _)))
    ((y1 _ _ _ _).trans (gate1_congr (both_ld _ _ 1 128 rfl _) (ld_head _ 1 128 rfl _)))
    ((y2 _ _ _ _).trans (gate1_congr (both_ld _ _ 2 256 rfl _) (ld_head _ 2 256 rfl _)))
    ((y3 _ _ _ _).trans (gate1_congr (both_ld _ _ 3 384 rfl _) (ld_head _ 3 384 rfl _)))

theorem dx_at (t : Fin cfg1.N) : (outsAt1 (F := Ideal) V c t.val t.isLt).1
    = dx4 (both (iblk1 V c 0 t) (iblk1 V c 1 t)) (iblk1 V c 2 t) (iblk1 V c 4 t) (iblk1 V c 3 t) := by
  by_cases h : t.val % 4 = 0
  · rw [outsAt1_A V c t h]
    frame_out
    exact canon_heads _ [] _ _ _ _
      ((x_of (both _ _) _ _ _).trans (dx1_congr (both_ld _ _ 0 0 rfl _) (ld_head _ 0 0 rfl _) (ld_head _ 0 0 rfl _) (ld_head _ 0 0 rfl _)))
      ((x_of (both _ _) _ _ _).trans (dx1_congr (both_ld _ _ 1 128 rfl _) (ld_head _ 1 128 rfl _) (ld_head _ 1 128 rfl _) (ld_head _ 1 128 rfl _)))
      ((x_of (both _ _) _ _ _).trans (dx1_congr (both_ld _ _ 2 256 rfl _) (ld_head _ 2 256 rfl _) (ld_head _ 2 256 rfl _) (ld_head _ 2 256 rfl _)))
      ((x_of (both _ _) _ _ _).trans (dx1_congr (both_ld _ _ 3 384 rfl _) (ld_head _ 3 384 rfl _) (ld_head _ 3 384 rfl _) (ld_head _ 3 384 rfl _)))
  · rw [outsAt1_B V c t h]
    frame_out
    exact canon_heads _ [] _ _ _ _
      ((x_of (both _ _) _ _ _).trans (dx1_congr (both_ld _ _ 0 0 rfl _) (ld_head _ 0 0 rfl _) (ld_head _ 0 0 rfl _) (ld_head _ 0 0 rfl _)))
      ((x_of (both _ _) _ _ _).trans (dx1_congr (both_ld _ _ 1 128 rfl _) (ld_head _ 1 128 rfl _) (ld_head _ 1 128 rfl _) (ld_head _ 1 128 rfl _)))
      ((x_of (both _ _) _ _ _).trans (dx1_congr (both_ld _ _ 2 256 rfl _) (ld_head _ 2 256 rfl _) (ld_head _ 2 256 rfl _) (ld_head _ 2 256 rfl _)))
      ((x_of (both _ _) _ _ _).trans (dx1_congr (both_ld _ _ 3 384 rfl _) (ld_head _ 3 384 rfl _) (ld_head _ 3 384 rfl _) (ld_head _ 3 384 rfl _)))

theorem dg_at (t : Fin cfg1.N) : (outsAt1 (F := Ideal) V c t.val t.isLt).2.1
    = dgate4 (both (iblk1 V c 0 t) (iblk1 V c 1 t)) (iblk1 V c 2 t) (iblk1 V c 4 t) (iblk1 V c 3 t) := by
  by_cases h : t.val % 4 = 0
  · rw [outsAt1_A V c t h]
    frame_out
    exact canon_heads _ [] _ _ _ _
      ((g_of (both _ _) _ _ _).trans (dgate1_congr (both_ld _ _ 0 0 rfl _) (ld_head _ 0 0 rfl _) (ld_head _ 0 0 rfl _) (ld_head _ 0 0 rfl _)))
      ((g_of (both _ _) _ _ _).trans (dgate1_congr (both_ld _ _ 1 128 rfl _) (ld_head _ 1 128 rfl _) (ld_head _ 1 128 rfl _) (ld_head _ 1 128 rfl _)))
      ((g_of (both _ _) _ _ _).trans (dgate1_congr (both_ld _ _ 2 256 rfl _) (ld_head _ 2 256 rfl _) (ld_head _ 2 256 rfl _) (ld_head _ 2 256 rfl _)))
      ((g_of (both _ _) _ _ _).trans (dgate1_congr (both_ld _ _ 3 384 rfl _) (ld_head _ 3 384 rfl _) (ld_head _ 3 384 rfl _) (ld_head _ 3 384 rfl _)))
  · rw [outsAt1_B V c t h]
    frame_out
    exact canon_heads _ [] _ _ _ _
      ((g_of (both _ _) _ _ _).trans (dgate1_congr (both_ld _ _ 0 0 rfl _) (ld_head _ 0 0 rfl _) (ld_head _ 0 0 rfl _) (ld_head _ 0 0 rfl _)))
      ((g_of (both _ _) _ _ _).trans (dgate1_congr (both_ld _ _ 1 128 rfl _) (ld_head _ 1 128 rfl _) (ld_head _ 1 128 rfl _) (ld_head _ 1 128 rfl _)))
      ((g_of (both _ _) _ _ _).trans (dgate1_congr (both_ld _ _ 2 256 rfl _) (ld_head _ 2 256 rfl _) (ld_head _ 2 256 rfl _) (ld_head _ 2 256 rfl _)))
      ((g_of (both _ _) _ _ _).trans (dgate1_congr (both_ld _ _ 3 384 rfl _) (ld_head _ 3 384 rfl _) (ld_head _ 3 384 rfl _) (ld_head _ 3 384 rfl _)))

/-- The gain's gradient: the first point's share, and what a later point adds. -/
theorem dw_first (t : Fin cfg1.N) (h : t.val % 4 = 0) : (outsAt1 (F := Ideal) V c t.val t.isLt).2.2
    = dgain4 (both (iblk1 V c 0 t) (iblk1 V c 1 t)) (iblk1 V c 2 t) (iblk1 V c 4 t) := by
  rw [outsAt1_A V c t h]
  frame_out
  exact canon_heads _ _ _ _ _ _
    ((w_of (both _ _) _ _ _).trans (first_congr (both_ld _ _ 0 0 rfl _) (ld_head _ 0 0 rfl _) (ld_head _ 0 0 rfl _) fun z => back_fill _ 0 _ z))
    ((w_of (both _ _) _ _ _).trans (first_congr (both_ld _ _ 1 128 rfl _) (ld_head _ 1 128 rfl _) (ld_head _ 1 128 rfl _) fun z => back_skip _ (by decide) _ _ z (back_fill _ 128 _ z)))
    ((w_of (both _ _) _ _ _).trans (first_congr (both_ld _ _ 2 256 rfl _) (ld_head _ 2 256 rfl _) (ld_head _ 2 256 rfl _) fun z => back_skip _ (by decide) _ _ z (back_skip _ (by decide) _ _ z (back_fill _ 256 _ z))))
    ((w_of (both _ _) _ _ _).trans (first_congr (both_ld _ _ 3 384 rfl _) (ld_head _ 3 384 rfl _) (ld_head _ 3 384 rfl _) fun z => back_skip _ (by decide) _ _ z (back_skip _ (by decide) _ _ z (back_skip _ (by decide) _ _ z (back_fill _ 384 _ z)))))
theorem dw_next (k : ℕ) (hk : k + 1 < cfg1.N) (h : ¬(k + 1) % 4 = 0) : (outsAt1 (F := Ideal) V c (k + 1) hk).2.2 = fun y =>
    (outsAt1 (F := Ideal) V c k (Nat.lt_of_succ_lt hk)).2.2 y
      + dgain4 (both (iblk1 V c 0 ⟨k + 1, hk⟩) (iblk1 V c 1 ⟨k + 1, hk⟩)) (iblk1 V c 2 ⟨k + 1, hk⟩) (iblk1 V c 4 ⟨k + 1, hk⟩) y := by
  rw [show outsAt1 (F := Ideal) V c (k + 1) hk = _ from outsAt1_B V c ⟨k + 1, hk⟩ h]
  frame_out
  refine Eq.trans ?_ (glue_add _ _ _ _)
  exact canon_heads _ [] _ _ _ _
    ((w_of (both _ _) _ _ _).trans (acc_congr (both_ld _ _ 0 0 rfl _) (ld_head _ 0 0 rfl _) (ld_head _ 0 0 rfl _) (ld_head _ 0 0 rfl _)))
    ((w_of (both _ _) _ _ _).trans (acc_congr (both_ld _ _ 1 128 rfl _) (ld_head _ 1 128 rfl _) (ld_head _ 1 128 rfl _) (ld_head _ 1 128 rfl _)))
    ((w_of (both _ _) _ _ _).trans (acc_congr (both_ld _ _ 2 256 rfl _) (ld_head _ 2 256 rfl _) (ld_head _ 2 256 rfl _) (ld_head _ 2 256 rfl _)))
    ((w_of (both _ _) _ _ _).trans (acc_congr (both_ld _ _ 3 384 rfl _) (ld_head _ 3 384 rfl _) (ld_head _ 3 384 rfl _) (ld_head _ 3 384 rfl _)))

theorem arr_y : (dat0 (F := Ideal) V c).arrAt 4 cfg0.N
    = gate4 (m := 2176) (both (m := 2176) (n := 512) (V c main_arg0) (V c main_arg1)) (gcol (m := 2176) (V c main_arg2)) (V c main_arg3) := by
  refine (dat0 (F := Ideal) V c).arrAt_eq_of_covers 4 _ (by decide +kernel) fun t hf y => ?_
  rw [y_at]
  have g := tiles0 t
  have o := (cfg0.win 4).rect_emb_val t
  refine Eq.trans ?_ (gate4_block (both (m := 2176) (n := 512) (V c main_arg0) (V c main_arg1)) (gcol (m := 2176) (V c main_arg2)) (V c main_arg3) o g.2.2.2.2
    ((cfg0.win 3).rect_emb_val t) g.2.2.2.1 y)
  refine congrFun (congr (congr (congrArg gate4 ?_) ?_) rfl) y
  · exact both_block (V c main_arg0) (V c main_arg1) ((cfg0.win 0).rect_emb_val t) ((cfg0.win 1).rect_emb_val t) o g.1 g.2.1
  · exact funext fun z => gcol_at (m := 2176) (V c main_arg2) ((cfg0.win 2).rect_emb_val t) o g.2.2.1 z

theorem arr_dx : (dat1 (F := Ideal) V c).arrAt 5 cfg1.N
    = dx4 (m := 2176) (both (m := 2176) (n := 512) (V c main_arg0) (V c main_arg1)) (gcol (m := 2176) (V c main_arg2)) (V c main_arg4) (V c main_arg3) := by
  refine (dat1 (F := Ideal) V c).arrAt_eq_of_covers 5 _ (by decide +kernel) fun t hf y => ?_
  show (dat1 (F := Ideal) V c).after 5 t y = _
  rw [after1_5, dx_at]
  have g := tiles1 t
  have o := (cfg1.win 5).rect_emb_val t
  refine Eq.trans ?_ (dx4_block (both (m := 2176) (n := 512) (V c main_arg0) (V c main_arg1)) (gcol (m := 2176) (V c main_arg2)) (V c main_arg4) (V c main_arg3) o g.2.2.2.2.2
    ((cfg1.win 3).rect_emb_val t) g.2.2.2.2.1 y)
  refine congrFun (congr (congr (congr (congrArg dx4 ?_) ?_) ?_) rfl) y
  · exact both_block (V c main_arg0) (V c main_arg1) ((cfg1.win 0).rect_emb_val t) ((cfg1.win 1).rect_emb_val t) o g.1 g.2.1
  · exact funext fun z => gcol_at (m := 2176) (V c main_arg2) ((cfg1.win 2).rect_emb_val t) o g.2.2.1 z
  · exact funext fun z => congrArg (V c main_arg4) (at_eq ((cfg1.win 4).rect_emb_val t) o g.2.2.2.1 z)

theorem arr_dg : (dat1 (F := Ideal) V c).arrAt 6 cfg1.N
    = dgate4 (m := 2176) (both (m := 2176) (n := 512) (V c main_arg0) (V c main_arg1)) (gcol (m := 2176) (V c main_arg2)) (V c main_arg4) (V c main_arg3) := by
  refine (dat1 (F := Ideal) V c).arrAt_eq_of_covers 6 _ (by decide +kernel) fun t hf y => ?_
  show (dat1 (F := Ideal) V c).after 6 t y = _
  rw [after1_6, dg_at]
  have g := tiles1' t
  have o := (cfg1.win 6).rect_emb_val t
  refine Eq.trans ?_ (dgate4_block (both (m := 2176) (n := 512) (V c main_arg0) (V c main_arg1)) (gcol (m := 2176) (V c main_arg2)) (V c main_arg4) (V c main_arg3) o g.2.2.2.2.2
    ((cfg1.win 3).rect_emb_val t) g.2.2.2.2.1 y)
  refine congrFun (congr (congr (congr (congrArg dgate4 ?_) ?_) ?_) rfl) y
  · exact both_block (V c main_arg0) (V c main_arg1) ((cfg1.win 0).rect_emb_val t) ((cfg1.win 1).rect_emb_val t) o g.1 g.2.1
  · exact funext fun z => gcol_at (m := 2176) (V c main_arg2) ((cfg1.win 2).rect_emb_val t) o g.2.2.1 z
  · exact funext fun z => congrArg (V c main_arg4) (at_eq ((cfg1.win 4).rect_emb_val t) o g.2.2.2.1 z)

/-- One point's share of the gain's gradient. -/
theorem dw_part (t : Fin cfg1.N) (p : Fin 4) (h : t.val = p.val) : dgain4 (both (iblk1 (F := Ideal) V c 0 t) (iblk1 (F := Ideal) V c 1 t)) (iblk1 (F := Ideal) V c 2 t) (iblk1 (F := Ideal) V c 4 t)
    = part4 (bm := 544) (both (m := 2176) (n := 512) (V c main_arg0) (V c main_arg1)) (gcol (m := 2176) (V c main_arg2)) (V c main_arg4) p := by
  have g := tiles1s t
  have o := (cfg1.win 0).rect_emb_val t
  refine Eq.trans ?_ (dgain4_part (bm := 544) (both (m := 2176) (n := 512) (V c main_arg0) (V c main_arg1)) (gcol (m := 2176) (V c main_arg2)) (V c main_arg4) o p (g.1.1.trans h) g.1.2)
  refine congr (congr (congrArg dgain4 ?_) ?_) ?_
  · exact both_block (m := 2176) (n := 512) (bm := 544) (V c main_arg0) (V c main_arg1) o ((cfg1.win 1).rect_emb_val t) o ⟨rfl, rfl⟩
      ⟨g.2.1.1.trans g.1.1.symm, g.2.1.2.trans g.1.2.symm⟩
  · exact funext fun z => gcol_at (m := 2176) (V c main_arg2) ((cfg1.win 2).rect_emb_val t) o
      ⟨g.2.2.1.1.trans g.1.1.symm, g.2.2.1.2.trans (congrArg (3584 + · * 512) g.1.2).symm⟩ z
  · exact funext fun z => congrArg (V c main_arg4)
      (at_eq (m := 2176) (n := 512) (bm := 544) (bn := 512) ((cfg1.win 4).rect_emb_val t) o ⟨g.2.2.2.1.trans g.1.1.symm, g.2.2.2.2.trans g.1.2.symm⟩ z)

theorem arr_dw : (dat1 (F := Ideal) V c).arrAt 7 cfg1.N
    = dgain4 (m := 2176) (both (m := 2176) (n := 512) (V c main_arg0) (V c main_arg1)) (gcol (m := 2176) (V c main_arg2)) (V c main_arg4) := by
  refine (dat1 (F := Ideal) V c).arrAt_eq_of_covers 7 _ (by decide +kernel) fun t hf y => ?_
  obtain ⟨h3, h0, h1⟩ := flushes t hf
  obtain ⟨_, ht⟩ := t
  subst h3
  show (dat1 (F := Ideal) V c).after 7 ⟨3, ht⟩ y = _
  have ey : ((cfg1.win 7).blk ⟨3, ht⟩).view.emb y = y := eq_of_vals (m := 1) (n := 512)
    (((cfg1.win 7).rect_emb_val ⟨3, ht⟩ y 0).trans (by rw [h0, Nat.zero_mul, Nat.zero_add]))
    (((cfg1.win 7).rect_emb_val ⟨3, ht⟩ y 1).trans (by rw [h1, Nat.zero_mul, Nat.zero_add]))
  rw [after1_7]
  show (outsAt1 (F := Ideal) V c (2 + 1) ht).2.2 y = _
  rw [dw_next V c 2 _ (by decide), dw_next V c 1 _ (by decide), dw_next V c 0 _ (by decide)]
  refine (congrArg₂ (· + ·) (congrArg₂ (· + ·) (congrArg₂ (· + ·)
    (congrFun ((dw_first V c ⟨0, by decide⟩ (by decide)).trans (dw_part V c ⟨0, by decide⟩ 0 rfl)) y)
    (congrFun (dw_part V c ⟨1, by decide⟩ 1 rfl) y)) (congrFun (dw_part V c ⟨2, by decide⟩ 2 rfl) y)) (congrFun (dw_part V c ⟨3, ht⟩ 3 rfl) y)).trans ?_
  exact (dgain4_four (bm := 544) (both (m := 2176) (n := 512) (V c main_arg0) (V c main_arg1)) (gcol (m := 2176) (V c main_arg2)) (V c main_arg4) y).symm.trans
    (congrArg (dgain4 (m := 2176) (both (m := 2176) (n := 512) (V c main_arg0) (V c main_arg1)) (gcol (m := 2176) (V c main_arg2)) (V c main_arg4)) ey.symm)

end

end Cert.Step.Gate

end
-- ==== Proof.Trips.lean ====
/-
  What one trip of each scan's loop computes and stores, as the block functions of `Block.lean` applied to the rows the
  trip reads: trip `k` of the forward loop works on block `k`, trip `k` of the backward loop on block `16 - k`.
-/
module

public import proofs.«01_k».proof.Proof.Block

@[expose] public section

noncomputable section

namespace Cert.Scan

open Idealize.ShloMosaic Idealize.ShloMosaic.TcCoe Idealize.SL.Sem Cert.KernelIdeal Cert.KernelIdeal.Gen

theorem mask_inb (i : Fin 7) : ∀ a, (![i.val, 0, 0] : Fin 3 → ℕ) a + S1x128x128.size a ≤ S7x128x128.size a := by
  revert i; decide

/-- Level `i`'s mask, read off the scratch. -/
def maskAt (arg : Memref sig .tc .vmem S7x128x128 .f32) (X : BufTy.Contents (Elt Ideal) arg.view.ty) (i : Fin 7) :
    FVec Ideal S1x128x128 .f32 :=
  View.readAt (Elt Ideal) arg.view (Rect.unit (s := S7x128x128) ![i.val, 0, 0] S1x128x128.size (mask_inb i)).toLoadRect X

section Fwd

/-- The rows a trip of the forward loop reads. -/
def rows0 (arg : Memref sig .tc .vmem S2176x128 .f32) (X : BufTy.Contents (Elt Ideal) arg.view.ty)
    (k : Fin k0_t1_loop.trips) : VM :=
  View.readAt (Elt Ideal) arg.view (Rect.unit (s := S2176x128) (k0_off1 k) S128x128.size (k0_off1_inb k)).toLoadRect X

variable {𝒱 : Variants}
  {c : Dev nD}
  {bd : Option 𝒱.V}
  {i : grid0.Coords}
  {arg1 : Memref sig .tc .vmem S2176x128 .f32}
  {harg1 : arg1.IsWhole}
  {arg2 : Memref sig .tc .vmem S2176x128 .f32}
  {harg2 : arg2.IsWhole}
  {arg3 : Memref sig .tc .vmem S2176x128 .f32}
  {harg3 : arg3.IsWhole}
  {arg4 : Memref sig .tc .vmem S1x1x128 .f32}
  {harg4 : arg4.IsWhole}
  {arg5 : Memref sig .tc .vmem S2176x128 .f32}
  {harg5 : arg5.IsWhole}
  {arg6 : Memref sig .tc .vmem S1x17x128x128 .f32}
  {harg6 : arg6.IsWhole}
  {arg7 : Memref sig .tc .vmem S7x128x128 .f32}
  {harg7 : arg7.IsWhole}
  {v1 : FVec Ideal S1x128 .f32}
  {v2 : IVec S128x1 32}
  {v3 : IVec S128x128 32}
  {v4 : IVec S128x128 32}
  {X_arg1 : BufTy.Contents (Elt Ideal) arg1.view.ty}
  {X_arg2 : BufTy.Contents (Elt Ideal) arg2.view.ty}
  {X_arg3 : BufTy.Contents (Elt Ideal) arg3.view.ty}
  {X_arg7 : BufTy.Contents (Elt Ideal) arg7.view.ty}
  {k : Fin k0_t1_loop.trips}
  {acc : FVec Ideal S128x128 .f32}

/-- The forward trip's result is the state after its block. -/
theorem tripR0 : tripR_k0_t1 (F := Ideal) 𝒱 c bd i arg1 harg1 arg2 harg2 arg3 harg3 arg4 harg4 arg5 harg5 arg6 harg6 arg7 harg7 v1 v2 v3 v4 X_arg1 X_arg2 X_arg3 X_arg7 k acc
    = nextV v2 v1 (rows0 arg2 X_arg2 k) (rows0 arg3 X_arg3 k) acc := by
  unfold tripR_k0_t1 trip_k0_t1; rfl

/-- The forward trip stores its block's output and the state before it. -/
theorem tripL0 : tripL_k0_t1 (F := Ideal) 𝒱 c bd i arg1 harg1 arg2 harg2 arg3 harg3 arg4 harg4 arg5 harg5 arg6 harg6 arg7 harg7 v1 v2 v3 v4 X_arg1 X_arg2 X_arg3 X_arg7 k acc
    = ([⟨Rect.unit (k0_off1 k) S128x128.size (k0_off1_inb k),
          outV v2 v3 v4 (maskAt arg7 X_arg7) v1 (rows0 arg1 X_arg1 k) (rows0 arg2 X_arg2 k) (rows0 arg3 X_arg3 k) acc⟩],
        [⟨Rect.unit (k0_off2 k) S1x1x128x128.size (k0_off2_inb k), shapeCast S1x1x128x128 acc shapeCasts_S128x128_S1x1x128x128⟩]) := by
  unfold tripL_k0_t1 trip_k0_t1; rfl

end Fwd

section Bwd

/-- The rows a trip of the backward loop reads. -/
def rows1 (arg : Memref sig .tc .vmem S2176x128 .f32) (X : BufTy.Contents (Elt Ideal) arg.view.ty)
    (k : Fin k1_t1_loop.trips) : VM :=
  View.readAt (Elt Ideal) arg.view (Rect.unit (s := S2176x128) (k1_off1 k) S128x128.size (k1_off1_inb k)).toLoadRect X

/-- The state before the block a trip of the backward loop works on. -/
def state1 (arg : Memref sig .tc .vmem S1x17x128x128 .f32) (X : BufTy.Contents (Elt Ideal) arg.view.ty)
    (k : Fin k1_t1_loop.trips) : VM :=
  shapeCast S128x128 (s := S1x1x128x128) (View.readAt (Elt Ideal) arg.view
    (Rect.unit (s := S1x17x128x128) (k1_off2 k) S1x1x128x128.size (k1_off2_inb k)).toLoadRect X) shapeCasts_S1x1x128x128_S128x128

variable {𝒱 : Variants}
  {c : Dev nD}
  {bd : Option 𝒱.V}
  {i : grid1.Coords}
  {arg1 : Memref sig .tc .vmem S2176x128 .f32}
  {harg1 : arg1.IsWhole}
  {arg2 : Memref sig .tc .vmem S2176x128 .f32}
  {harg2 : arg2.IsWhole}
  {arg3 : Memref sig .tc .vmem S2176x128 .f32}
  {harg3 : arg3.IsWhole}
  {arg4 : Memref sig .tc .vmem S1x1x128 .f32}
  {harg4 : arg4.IsWhole}
  {arg5 : Memref sig .tc .vmem S1x17x128x128 .f32}
  {harg5 : arg5.IsWhole}
  {arg6 : Memref sig .tc .vmem S2176x128 .f32}
  {harg6 : arg6.IsWhole}
  {arg7 : Memref sig .tc .vmem S2176x128 .f32}
  {harg7 : arg7.IsWhole}
  {arg8 : Memref sig .tc .vmem S2176x128 .bf16}
  {harg8 : arg8.IsWhole}
  {arg9 : Memref sig .tc .vmem S2176x128 .f32}
  {harg9 : arg9.IsWhole}
  {arg10 : Memref sig .tc .vmem S1x1x128 .f32}
  {harg10 : arg10.IsWhole}
  {arg11 : Memref sig .tc .vmem S7x128x128 .f32}
  {harg11 : arg11.IsWhole}
  {v1 : FVec Ideal S1x128 .f32}
  {v2 : IVec S128x1 32}
  {v3 : IVec S128x128 32}
  {v4 : IVec S128x128 32}
  {X_arg1 : BufTy.Contents (Elt Ideal) arg1.view.ty}
  {X_arg2 : BufTy.Contents (Elt Ideal) arg2.view.ty}
  {X_arg3 : BufTy.Contents (Elt Ideal) arg3.view.ty}
  {X_arg5 : BufTy.Contents (Elt Ideal) arg5.view.ty}
  {X_arg6 : BufTy.Contents (Elt Ideal) arg6.view.ty}
  {X_arg11 : BufTy.Contents (Elt Ideal) arg11.view.ty}
  {k : Fin k1_t1_loop.trips}
  {acc : FVec Ideal S128x128 .f32 × FVec Ideal S1x128 .f32}

/-- The backward trip's result: the state's gradient before its block, and the lower bounds' with its part. -/
theorem tripR1 : tripR_k1_t1 (F := Ideal) 𝒱 c bd i arg1 harg1 arg2 harg2 arg3 harg3 arg4 harg4 arg5 harg5 arg6 harg6 arg7 harg7 arg8 harg8 arg9 harg9 arg10 harg10 arg11 harg11 v1 v2 v3 v4 X_arg1 X_arg2 X_arg3 X_arg5 X_arg6 X_arg11 k acc
    = (dstV v2 v1 (rows1 arg1 X_arg1 k) (rows1 arg2 X_arg2 k) (rows1 arg6 X_arg6 k) acc.1,
        dlbV v2 v3 v4 (maskAt arg11 X_arg11) v1 (rows1 arg1 X_arg1 k) (rows1 arg2 X_arg2 k) (rows1 arg3 X_arg3 k)
          (rows1 arg6 X_arg6 k) (state1 arg5 X_arg5 k) acc.1 acc.2) := by
  unfold tripR_k1_t1 trip_k1_t1; rfl

/-- The backward trip stores its block's three gradients. -/
theorem tripL1 : tripL_k1_t1 (F := Ideal) 𝒱 c bd i arg1 harg1 arg2 harg2 arg3 harg3 arg4 harg4 arg5 harg5 arg6 harg6 arg7 harg7 arg8 harg8 arg9 harg9 arg10 harg10 arg11 harg11 v1 v2 v3 v4 X_arg1 X_arg2 X_arg3 X_arg5 X_arg6 X_arg11 k acc
    = ([⟨Rect.unit (k1_off1 k) S128x128.size (k1_off1_inb k),
          dqOutV v2 v3 v4 (maskAt arg11 X_arg11) v1 (rows1 arg1 X_arg1 k) (rows1 arg2 X_arg2 k) (rows1 arg3 X_arg3 k)
            (rows1 arg6 X_arg6 k) (state1 arg5 X_arg5 k)⟩],
        [⟨Rect.unit (k1_off1 k) S128x128.size (k1_off1_inb k),
          dzOutV v2 v3 v4 (maskAt arg11 X_arg11) v1 (rows1 arg1 X_arg1 k) (rows1 arg2 X_arg2 k) (rows1 arg3 X_arg3 k)
            (rows1 arg6 X_arg6 k) (state1 arg5 X_arg5 k) acc.1⟩],
        [⟨Rect.unit (k1_off1 k) S128x128.size (k1_off1_inb k),
          dvOutV v2 v3 v4 (maskAt arg11 X_arg11) v1 (rows1 arg1 X_arg1 k) (rows1 arg2 X_arg2 k) (rows1 arg6 X_arg6 k) acc.1⟩]) := by
  unfold tripL_k1_t1 trip_k1_t1; rfl

end Bwd

end Cert.Scan

end
-- ==== Proof.BlockReal.lean ====
/-
  One block of each scan on real numbers: every function of `Block.lean`, at blocks of real numbers, is the block of the
  numbers the recurrence asks for.
-/
module

public import proofs.«01_k».proof.Proof.Up

@[expose] public section

set_option backward.isDefEq.respectTransparency false

noncomputable section

namespace Cert.Scan

open Idealize.ShloMosaic Cert.KernelIdeal Cert.KernelIdeal.Gen

/-! ## The gates -/

theorem sig_pos (x : ℝ) : 0 < sig x := by unfold sig; positivity
theorem sig_lt_one (x : ℝ) : sig x < 1 := by
  unfold sig
  rw [div_lt_one (by positivity)]
  linarith [Real.exp_pos (-x)]

/-- The queries through their gate. -/
def qR (q : Mat) : Mat := fun r j => q r j * sig (q r j)
/-- The keys. -/
def kR (lb : Fin 128 → ℝ) (z : Mat) : Mat := fun r j => (1 - lb j) * (1 - sig (z r j))
/-- The gates. -/
def fR (lb : Fin 128 → ℝ) (z : Mat) : Mat := fun r j => lb j + (1 - lb j) * sig (z r j)
/-- The sums of the gates' logarithms in the block. -/
def bR (lb : Fin 128 → ℝ) (z : Mat) : Mat := fun r j => ∑ c : Fin 128, if c ≤ r then Real.log (fR lb z c j) else 0

theorem fR_pos (lb : Fin 128 → ℝ) (h : ∀ j, 0 ≤ lb j ∧ lb j ≤ 1) (z : Mat) (r j : Fin 128) : 0 < fR lb z r j := by
  unfold fR
  have := sig_pos (z r j)
  have l := sig_lt_one (z r j)
  nlinarith [h j, (h j).1, (h j).2]

theorem qV_up (q : Mat) : qV (up q) = up (qR q) := by unfold qV; rw [sigV_up, mulf_up]; rfl

theorem kV_up (lb : Fin 128 → ℝ) (z : Mat) : kV (upR lb) (up z) = up (kR lb z) := by
  unfold kV; rw [sigV_up, oneMinus_up, down_up, splat_one, subf_up, mulf_up]; rfl

theorem fV_up (lb : Fin 128 → ℝ) (z : Mat) : fV (upR lb) (up z) = up (fR lb z) := by
  unfold fV; rw [sigV_up, oneMinus_up, down_up, down_up, mulf_up, addf_up]; rfl

theorem bV_up (lb : Fin 128 → ℝ) (h : ∀ j, 0 ≤ lb j ∧ lb j ≤ 1) (z : Mat) : bV posW (upR lb) (up z) = up (bR lb z) := by
  unfold bV
  rw [fV_up, log_up _ (fR_pos lb h z), preSumV_up]
  congr 1
  funext r j
  exact preSum_apply _ r j

theorem endV_up (b : Mat) : endV (up b) = up fun r j => Real.exp (b 127 j - b r j) := by
  unfold endV; rw [lastV_up, down_up, subf_up, exp_up]

/-! ## The levels together -/

/-- Seven levels added to a first term. -/
theorem levels (S : (i : ℕ) → i ≤ 7 → VM) (D : Mat) (T : Fin 7 → Mat) (h0 : S 0 (Nat.zero_le 7) = up D)
    (hs : ∀ (i : ℕ) (h : i + 1 ≤ 7), S (i + 1) h = addf (S i (Nat.le_of_succ_le h)) (up (T ⟨i, h⟩))) :
    S 7 le_rfl = up fun r j => D r j + ∑ i : Fin 7, T i r j := by
  have key : ∀ (n : ℕ) (h : n ≤ 7), S n h = up fun r j => D r j + ∑ i : Fin n, T (Fin.castLE h i) r j := by
    intro n
    induction n with
    | zero => intro h; rw [h0]; congr 1; funext r j; simp
    | succ n ih =>
      intro h
      rw [hs n h, ih, addf_up]
      congr 1
      funext r j
      rw [Fin.sum_univ_castSucc, add_assoc]
      rfl
  exact key 7 le_rfl

/-- The masks: level `i`'s holds one exactly where the two rows lie in one group of the level. -/
def Masks (mk : Fin 7 → FVec Ideal S1x128x128 .f32) : Prop :=
  ∀ i : Fin 7, maskV (mk i) = up fun r c => if Same (half i) r c then 1 else 0

/-- The decay from row `c` to row `r`. -/
def dec (b : Mat) (r c j : Fin 128) : ℝ := Real.exp (b r j - b c j)

/-- The block's scores: the pairs `c ≤ r`. -/
def scR (b q k : Mat) : Mat := fun r c => if c ≤ r then ∑ j : Fin 128, q r j * k c j * dec b r c j else 0

theorem le_split (r c : Fin 128) (x : ℝ) :
    (if c ≤ r then x else 0) = (if r = c then x else 0) + (if c < r then x else 0) := by
  rcases lt_trichotomy c r with h | h | h
  · rw [if_pos h.le, if_neg h.ne', if_pos h, zero_add]
  · subst h; rw [if_pos le_rfl, if_pos rfl, if_neg (lt_irrefl _), add_zero]
  · rw [if_neg (not_le.2 h), if_neg h.ne, if_neg (not_lt.2 h.le), add_zero]

theorem scores_up (mk : Fin 7 → FVec Ideal S1x128x128 .f32) (hm : Masks mk) (b q k : Mat) :
    scoresV riW ciW mk (eqV posW (up b)) (ekV posW (up b)) (up q) (up k) 7 le_rfl = up (scR b q k) := by
  refine (levels (scoresV riW ciW mk (eqV posW (up b)) (ekV posW (up b)) (up q) (up k))
    (fun r c => if r = c then ∑ j : Fin 128, q r j * k r j else 0)
    (fun i r c => (if Same (half i) r c then 1 else 0) * ∑ j : Fin 128,
      (q r j * qDecay (half i) b (firsts b i) r j) * (k c j * kDecay (half i) b (firsts b i) c j)) ?_ ?_).trans ?_
  rotate_left 2
  · congr 1
    funext r c
    have e : ∀ i : Fin 7, ((if Same (half i) r c then (1 : ℝ) else 0) * ∑ j : Fin 128,
        (q r j * qDecay (half i) b (firsts b i) r j) * (k c j * kDecay (half i) b (firsts b i) c j))
        = ∑ j : Fin 128, q r j * k c j * (if Serves i r c then dec b r c j else 0) := by
      intro i
      rw [Finset.mul_sum]
      refine Finset.sum_congr rfl fun j _ => ?_
      rw [dec, ← decays_mul]
      ring
    simp only [e]
    rw [Finset.sum_comm]
    simp only [← Finset.mul_sum, sum_serves]
    unfold scR
    rw [le_split]
    congr 1
    · by_cases h : r = c
      · subst h; rw [if_pos rfl, if_pos rfl]; simp [dec]
      · rw [if_neg h, if_neg h]
    · by_cases h : c < r
      · simp only [if_pos h]
      · simp only [if_neg h, mul_zero, Finset.sum_const_zero]
  · show diagV riW ciW (up q) (up k) = _
    unfold diagV
    rw [mulf_up, rowSumV_up, shapeCast_self, alongF_up, splat_zero, diag_bits, select_bits]
  · intro i h
    show addf _ (mulf (maskV (mk ⟨i, h⟩)) (ntV (nar (mulf (up q) (eqV posW (up b) i))) (nar (mulf (up k) (ekV posW (up b) i))))) = _
    rw [hm ⟨i, h⟩, eqV_up b ⟨i, h⟩, ekV_up b ⟨i, h⟩, mulf_up, mulf_up, nar_up, nar_up, ntV_up, mulf_up]

/-! ## The forward block -/

section
variable (mk : Fin 7 → FVec Ideal S1x128x128 .f32) (hm : Masks mk) (lb : Fin 128 → ℝ) (hlb : ∀ j, 0 ≤ lb j ∧ lb j ≤ 1)
  (q z v w st dst : Mat)

/-- The forward block's output. -/
def outR : Mat := fun r j =>
  ∑ c : Fin 128, scR (bR lb z) (qR q) (kR lb z) r c * v c j
    + ∑ e : Fin 128, qR q r e * Real.exp (bR lb z r e) * st j e

/-- The state after the forward block. -/
def nextR : Mat := fun i j =>
  Real.exp (bR lb z 127 j) * st i j + ∑ c : Fin 128, v c i * (kR lb z c j * dec (bR lb z) 127 c j)

include hlb in
theorem nextV_up : nextV posW (upR lb) (up z) (up v) (up st) = up (nextR lb z v st) := by
  unfold nextV
  rw [bV_up lb hlb, lastV_up, exp_upR, down_up, mulf_up, kV_up, endV_up, mulf_up, nar_up, nar_up, tnV_up, addf_up]
  rfl

include hm hlb in
theorem aV_up : aV posW riW ciW mk (upR lb) (up q) (up z) = up (scR (bR lb z) (qR q) (kR lb z)) := by
  unfold aV
  rw [bV_up lb hlb, qV_up, kV_up, scores_up mk hm]

include hm hlb in
theorem outV_up : outV posW riW ciW mk (upR lb) (up q) (up z) (up v) (up st) = up (outR lb q z v st) := by
  unfold outV
  rw [aV_up mk hm lb hlb, bV_up lb hlb, qV_up, exp_up, mulf_up, nar_up, nar_up, nar_up, nar_up, nnV_up, ntV_up, addf_up]
  rfl

/-! ## The backward block -/

/-- The gradient of a pair's score. -/
def daR : Mat := fun r c => ∑ e : Fin 128, w r e * v c e

theorem daV_up : daV (up w) (up v) = up (daR v w) := by unfold daV; rw [nar_up, nar_up, ntV_up]; rfl

theorem daDiagV_up : daDiagV riW ciW (up w) (up v) = upC fun r => daR v w r r := by
  unfold daDiagV
  rw [daV_up, diag_bits, splat_zero, select_bits, rowSumV_up]
  congr 1
  funext r
  rw [Finset.sum_ite_eq]
  simp

include hm in
theorem daMaskV_up (i : Fin 7) :
    daMaskV (mk i) (up w) (up v) = upB fun r c => (if Same (half i) r c then 1 else 0) * daR v w r c := by
  unfold daMaskV
  rw [hm i, daV_up, mulf_up, nar_up]

variable (b k : Mat)

/-- The query's gradient through the state before the block. -/
def dqSt : Mat := fun r j => Real.exp (b r j) * ∑ e : Fin 128, w r e * st e j
/-- The key's gradient through the state after the block. -/
def dkSt : Mat := fun c j => dec b 127 c j * ∑ e : Fin 128, v c e * dst e j

theorem dqStateV_up : dqStateV (up b) (up w) (up st) = up (dqSt w st b) := by
  unfold dqStateV; rw [exp_up, nar_up, nar_up, nnV_up, mulf_up]; rfl
theorem dkStateV_up : dkStateV (up b) (up v) (up dst) = up (dkSt v dst b) := by
  unfold dkStateV; rw [endV_up, nar_up, nar_up, nnV_up, mulf_up]; rfl

/-- One level's part of the query's gradient. -/
theorem level_q (i : Fin 7) (r j : Fin 128) :
    qDecay (half i) b (firsts b i) r j * ∑ c : Fin 128, ((if Same (half i) r c then 1 else 0) * daR v w r c)
        * (k c j * kDecay (half i) b (firsts b i) c j)
      = ∑ c : Fin 128, daR v w r c * k c j * (if Serves i r c then dec b r c j else 0) := by
  rw [Finset.mul_sum]
  refine Finset.sum_congr rfl fun c _ => ?_
  rw [dec, ← decays_mul]
  ring

/-- One level's part of the key's gradient. -/
theorem level_k (i : Fin 7) (c j : Fin 128) :
    kDecay (half i) b (firsts b i) c j * ∑ r : Fin 128, ((if Same (half i) r c then 1 else 0) * daR v w r c)
        * (q r j * qDecay (half i) b (firsts b i) r j)
      = ∑ r : Fin 128, daR v w r c * q r j * (if Serves i r c then dec b r c j else 0) := by
  rw [Finset.mul_sum]
  refine Finset.sum_congr rfl fun r _ => ?_
  rw [dec, ← decays_mul]
  ring

/-- The levels' parts of the query's gradient together. -/
theorem levels_q (r j : Fin 128) :
    ∑ i : Fin 7, ∑ c : Fin 128, daR v w r c * k c j * (if Serves i r c then dec b r c j else 0)
      = ∑ c : Fin 128, if c < r then daR v w r c * k c j * dec b r c j else 0 := by
  rw [Finset.sum_comm]
  refine Finset.sum_congr rfl fun c _ => ?_
  rw [← Finset.mul_sum, sum_serves, mul_ite, mul_zero]

/-- The levels' parts of the key's gradient together. -/
theorem levels_k (c j : Fin 128) :
    ∑ i : Fin 7, ∑ r : Fin 128, daR v w r c * q r j * (if Serves i r c then dec b r c j else 0)
      = ∑ r : Fin 128, if c < r then daR v w r c * q r j * dec b r c j else 0 := by
  rw [Finset.sum_comm]
  refine Finset.sum_congr rfl fun r _ => ?_
  rw [← Finset.mul_sum, sum_serves, mul_ite, mul_zero]

/-- The query's gradient. -/
def dqR : Mat := fun r j =>
  dqSt w st b r j + ∑ c : Fin 128, if c ≤ r then daR v w r c * k c j * dec b r c j else 0
/-- The key's gradient. -/
def dkR : Mat := fun c j =>
  dkSt v dst b c j + ∑ r : Fin 128, if c ≤ r then daR v w r c * q r j * dec b r c j else 0

include hm in
theorem dqV_up : dqV riW ciW mk (eqV posW (up b)) (ekV posW (up b)) (up b) (up k) (up w) (up v) (up st) 7 le_rfl
    = up (dqR v w st b k) := by
  refine (levels (dqV riW ciW mk (eqV posW (up b)) (ekV posW (up b)) (up b) (up k) (up w) (up v) (up st))
    (fun r j => dqSt w st b r j + daR v w r r * k r j)
    (fun i r j => qDecay (half i) b (firsts b i) r j * ∑ c : Fin 128,
      ((if Same (half i) r c then 1 else 0) * daR v w r c) * (k c j * kDecay (half i) b (firsts b i) c j)) ?_ ?_).trans ?_
  rotate_left 2
  · congr 1
    funext r j
    simp only [level_q, levels_q]
    unfold dqR
    simp only [le_split, Finset.sum_add_distrib, Finset.sum_ite_eq, Finset.mem_univ, if_true]
    rw [add_assoc]
    simp [dec]
  · show addf (dqStateV _ _ _) (mulf (alongF _) _) = _
    rw [dqStateV_up, daDiagV_up, alongF_up, mulf_up, addf_up]
  · intro i h
    show addf _ (mulf (eqV posW (up b) i) (nnV (daMaskV (mk ⟨i, h⟩) _ _) (nar (mulf (up k) (ekV posW (up b) i))))) = _
    rw [eqV_up b ⟨i, h⟩, ekV_up b ⟨i, h⟩, daMaskV_up mk hm, mulf_up, nar_up, nnV_up, mulf_up]

include hm in
theorem dkV_up : dkV riW ciW mk (eqV posW (up b)) (ekV posW (up b)) (up b) (up q) (up w) (up v) (up dst) 7 le_rfl
    = up (dkR q v w dst b) := by
  refine (levels (dkV riW ciW mk (eqV posW (up b)) (ekV posW (up b)) (up b) (up q) (up w) (up v) (up dst))
    (fun c j => dkSt v dst b c j + daR v w c c * q c j)
    (fun i c j => kDecay (half i) b (firsts b i) c j * ∑ r : Fin 128,
      ((if Same (half i) r c then 1 else 0) * daR v w r c) * (q r j * qDecay (half i) b (firsts b i) r j)) ?_ ?_).trans ?_
  rotate_left 2
  · congr 1
    funext c j
    simp only [level_k, levels_k]
    unfold dkR
    simp only [le_split, Finset.sum_add_distrib, Finset.sum_ite_eq', Finset.mem_univ, if_true]
    rw [add_assoc]
    simp [dec]
  · show addf (dkStateV _ _ _) (mulf (alongF _) _) = _
    rw [dkStateV_up, daDiagV_up, alongF_up, mulf_up, addf_up]
  · intro i h
    show addf _ (mulf (ekV posW (up b) i) (tnV (daMaskV (mk ⟨i, h⟩) _ _) (nar (mulf (up q) (eqV posW (up b) i))))) = _
    rw [eqV_up b ⟨i, h⟩, ekV_up b ⟨i, h⟩, daMaskV_up mk hm, mulf_up, nar_up, tnV_up, mulf_up]

/-- The gradient of the block's last running sum through the state after the block. -/
def dblR : Fin 128 → ℝ := fun j =>
  Real.exp (b 127 j) * ∑ e : Fin 128, st e j * dst e j + ∑ c : Fin 128, k c j * dkSt v dst b c j

theorem dblV_up : dblV (up b) (up k) (up v) (up st) (up dst) = upR (dblR v st dst b k) := by
  unfold dblV
  rw [dkStateV_up, lastV_up, exp_upR, mulf_up, colSumV_up, mulf_upR, mulf_up, colSumV_up, addf_upR]
  rfl

/-- The running sums' gradient. -/
def dbR : Mat := fun r j =>
  q r j * dqSt w st b r j - k r j * dkSt v dst b r j + (if r = 127 then dblR v st dst b k j else 0)
    + (q r j * ∑ c : Fin 128, (if c < r then daR v w r c * k c j * dec b r c j else 0)
      - k r j * ∑ t : Fin 128, (if r < t then daR v w t r * q t j * dec b t r j else 0))

include hm in
theorem dbV_up : dbV posW mk (eqV posW (up b)) (ekV posW (up b)) (up b) (up q) (up k) (up w) (up v) (up st) (up dst) 7 le_rfl
    = up (dbR q v w st dst b k) := by
  refine (levels (dbV posW mk (eqV posW (up b)) (ekV posW (up b)) (up b) (up q) (up k) (up w) (up v) (up st) (up dst))
    (fun r j => q r j * dqSt w st b r j - k r j * dkSt v dst b r j + (if r = 127 then dblR v st dst b k j else 0))
    (fun i r j => q r j * qDecay (half i) b (firsts b i) r j * ∑ c : Fin 128,
        ((if Same (half i) r c then 1 else 0) * daR v w r c) * (k c j * kDecay (half i) b (firsts b i) c j)
      - k r j * kDecay (half i) b (firsts b i) r j * ∑ t : Fin 128,
        ((if Same (half i) t r then 1 else 0) * daR v w t r) * (q t j * qDecay (half i) b (firsts b i) t j)) ?_ ?_).trans ?_
  rotate_left 2
  · congr 1
    funext r j
    simp only [mul_assoc (q r j), mul_assoc (k r j), level_q, level_k]
    rw [Finset.sum_sub_distrib, ← Finset.mul_sum, ← Finset.mul_sum, levels_q, levels_k]
    rfl
  · show addf (subf (mulf _ (dqStateV _ _ _)) (mulf _ (dkStateV _ _ _))) (select (along _) (down (shapeCast S1x128 (dblV _ _ _ _ _) _)) _) = _
    rw [dqStateV_up, dkStateV_up, dblV_up, shapeCast_self, down_up, last_bit, along_bit, splat_zero, select_bits, mulf_up,
      mulf_up, subf_up, addf_up]
  · intro i h
    show addf _ (subf (mulf (extf .f32 (nar (mulf (up q) (eqV posW (up b) i))) bitsLt_bf16_f32)
        (nnV (daMaskV (mk ⟨i, h⟩) _ _) (nar (mulf (up k) (ekV posW (up b) i)))))
      (mulf (extf .f32 (nar (mulf (up k) (ekV posW (up b) i))) bitsLt_bf16_f32)
        (tnV (daMaskV (mk ⟨i, h⟩) _ _) (nar (mulf (up q) (eqV posW (up b) i)))))) = _
    rw [eqV_up b ⟨i, h⟩, ekV_up b ⟨i, h⟩, daMaskV_up mk hm, mulf_up, mulf_up, nar_up, nar_up, ext_upB, ext_upB, nnV_up, tnV_up,
      mulf_up, mulf_up, subf_up]

/-- The gates' gradient. -/
def dfR : Mat := fun r j =>
  (∑ t : Fin 128, if r ≤ t then dbR (qR q) v w st dst (bR lb z) (kR lb z) t j else 0) / fR lb z r j
    - dkR (qR q) v w dst (bR lb z) r j

include hm hlb in
theorem dfV_up : dfV posW riW ciW mk (upR lb) (up q) (up z) (up v) (up w) (up st) (up dst) = up (dfR lb q z v w st dst) := by
  unfold dfV
  rw [bV_up lb hlb, qV_up, kV_up, fV_up, dbV_up mk hm, dkV_up mk hm, sufSumV_up,
    divf_up _ _ (fun r j => (fR_pos lb hlb z r j).ne'), subf_up]
  congr 1
  funext r j
  rw [sufSum_apply]
  rfl

include hm hlb in
/-- The queries' gradient, at a block of real numbers. -/
theorem dqOutV_up : dqOutV posW riW ciW mk (upR lb) (up q) (up z) (up v) (up w) (up st)
    = up fun r j => dqR v w st (bR lb z) (kR lb z) r j * (sig (q r j) + q r j * sig (q r j) * (1 - sig (q r j))) := by
  unfold dqOutV
  rw [bV_up lb hlb, kV_up, dqV_up mk hm, sigV_up, splat_one, mulf_up, subf_up, mulf_up, addf_up, mulf_up]

include hm hlb in
/-- The gates' inputs' gradient, at a block of real numbers. -/
theorem dzOutV_up : dzOutV posW riW ciW mk (upR lb) (up q) (up z) (up v) (up w) (up st) (up dst)
    = upB fun r j => dfR lb q z v w st dst r j * (1 - lb j) * sig (z r j) * (1 - sig (z r j)) := by
  unfold dzOutV
  rw [dfV_up mk hm lb hlb, sigV_up, oneMinus_up, down_up, splat_one, subf_up, mulf_up, mulf_up, mulf_up, nar_up]

include hm hlb in
/-- The values' gradient, at a block of real numbers. -/
theorem dvOutV_up : dvOutV posW riW ciW mk (upR lb) (up q) (up z) (up w) (up dst)
    = up fun c e => ∑ j : Fin 128, kR lb z c j * dec (bR lb z) 127 c j * dst e j
        + ∑ r : Fin 128, scR (bR lb z) (qR q) (kR lb z) r c * w r e := by
  unfold dvOutV
  rw [aV_up mk hm lb hlb, bV_up lb hlb, kV_up, endV_up, mulf_up, nar_up, nar_up, nar_up, nar_up, ntV_up, tnV_up, addf_up]
  rfl

/-- The state's gradient before the block. -/
def prevR : Mat := fun i j =>
  Real.exp (bR lb z 127 j) * dst i j + ∑ r : Fin 128, w r i * (qR q r j * Real.exp (bR lb z r j))

include hlb in
theorem dstV_up : dstV posW (upR lb) (up q) (up z) (up w) (up dst) = up (prevR lb q z w dst) := by
  unfold dstV
  rw [bV_up lb hlb, lastV_up, exp_upR, down_up, mulf_up, qV_up, exp_up, mulf_up, nar_up, nar_up, tnV_up, addf_up]
  rfl

include hm hlb in
theorem dlbV_up (acc : Fin 128 → ℝ) : dlbV posW riW ciW mk (upR lb) (up q) (up z) (up v) (up w) (up st) (up dst) (upR acc)
    = upR fun j => acc j + ∑ r : Fin 128, dfR lb q z v w st dst r j * (1 - sig (z r j)) := by
  unfold dlbV
  rw [dfV_up mk hm lb hlb, sigV_up, splat_one, subf_up, mulf_up, colSumV_up, addf_upR]

end

end Cert.Scan

end
-- ==== Proof.ScanReal.lean ====
/-
  The recurrence over the whole sequence on real numbers, and what one block of it computes: with the state and the
  state's gradient at the block's edges, every block result is the whole sequence's sum.
-/
module

public import proofs.«01_k».proof.Proof.BlockReal

@[expose] public section

noncomputable section

namespace Cert.Scan

open Finset

/-- A matrix of all rows. -/
abbrev Seq := ℕ → Fin 128 → ℝ

/-- Block `n` of a matrix of all rows. -/
def blk (n : ℕ) (G : Seq) : Mat := fun r j => G (128 * n + r.val) j

/-! ## Sums over a block's rows -/

theorem sum_block (n : ℕ) (G : ℕ → ℝ) : ∑ c : Fin 128, G (128 * n + c.val) = ∑ s ∈ Ico (128 * n) (128 * (n + 1)), G s := by
  rw [sum_Ico_eq_sum_range, show 128 * (n + 1) - 128 * n = 128 by omega, sum_range]

theorem sum_below (a b x : ℕ) (h : x ≤ b) (F : ℕ → ℝ) : (∑ s ∈ Ico a b, if s < x then F s else 0) = ∑ s ∈ Ico a x, F s := by
  rw [← sum_filter]
  refine sum_congr (Finset.ext fun s => ?_) fun _ _ => rfl
  simp only [mem_filter, mem_Ico]
  omega

theorem sum_above (a b x : ℕ) (h : a ≤ x) (F : ℕ → ℝ) : (∑ s ∈ Ico a b, if x ≤ s then F s else 0) = ∑ s ∈ Ico x b, F s := by
  rw [← sum_filter]
  refine sum_congr (Finset.ext fun s => ?_) fun _ _ => rfl
  simp only [mem_filter, mem_Ico]
  omega

theorem sum_le (n : ℕ) (r : Fin 128) (F : ℕ → ℝ) :
    (∑ c : Fin 128, if c ≤ r then F (128 * n + c.val) else 0) = ∑ s ∈ Ico (128 * n) (128 * n + r.val + 1), F s := by
  rw [← sum_below _ (128 * (n + 1)) _ (by have := r.isLt; omega), ← sum_block]
  refine sum_congr rfl fun c _ => ?_
  simp only [Fin.le_def, show (128 * n + c.val < 128 * n + r.val + 1) ↔ c.val ≤ r.val by omega]

theorem sum_lt (n : ℕ) (r : Fin 128) (F : ℕ → ℝ) :
    (∑ c : Fin 128, if c < r then F (128 * n + c.val) else 0) = ∑ s ∈ Ico (128 * n) (128 * n + r.val), F s := by
  rw [← sum_below _ (128 * (n + 1)) _ (by have := r.isLt; omega), ← sum_block]
  refine sum_congr rfl fun c _ => ?_
  simp only [Fin.lt_def, show (128 * n + c.val < 128 * n + r.val) ↔ c.val < r.val by omega]

theorem sum_ge (n : ℕ) (r : Fin 128) (F : ℕ → ℝ) :
    (∑ c : Fin 128, if r ≤ c then F (128 * n + c.val) else 0) = ∑ s ∈ Ico (128 * n + r.val) (128 * (n + 1)), F s := by
  rw [← sum_above (128 * n) _ _ (by omega), ← sum_block]
  refine sum_congr rfl fun c _ => ?_
  simp only [Fin.le_def, show (128 * n + r.val ≤ 128 * n + c.val) ↔ r.val ≤ c.val by omega]

theorem sum_gt (n : ℕ) (r : Fin 128) (F : ℕ → ℝ) :
    (∑ c : Fin 128, if r < c then F (128 * n + c.val) else 0) = ∑ s ∈ Ico (128 * n + r.val + 1) (128 * (n + 1)), F s := by
  rw [← sum_above (128 * n) _ _ (by omega), ← sum_block]
  refine sum_congr rfl fun c _ => ?_
  simp only [Fin.lt_def, show (128 * n + r.val + 1 ≤ 128 * n + c.val) ↔ r.val < c.val by omega]

/-! ## The whole sequence -/

section
variable (lb : Fin 128 → ℝ) (Q Z V W : Seq)

/-- The queries through their gate. -/
def qT : Seq := fun t j => Q t j * sig (Q t j)
/-- The keys. -/
def kT : Seq := fun t j => (1 - lb j) * (1 - sig (Z t j))
/-- The gates. -/
def fT : Seq := fun t j => lb j + (1 - lb j) * sig (Z t j)
/-- The sum of the gates' logarithms over the first `T` rows. -/
def pT (T : ℕ) (j : Fin 128) : ℝ := ∑ s ∈ range T, Real.log (fT lb Z s j)
/-- The decay from row `s` to row `t`. -/
def decT (t s : ℕ) (j : Fin 128) : ℝ := Real.exp (pT lb Z (t + 1) j - pT lb Z (s + 1) j)
/-- The score of row `s` in row `t`. -/
def scT (t s : ℕ) : ℝ := ∑ j : Fin 128, qT Q t j * kT lb Z s j * decT lb Z t s j
/-- The gradient of that score. -/
def daT (t s : ℕ) : ℝ := ∑ e : Fin 128, W t e * V s e
/-- The state before block `n`. -/
def stT (n : ℕ) : Mat := fun i j =>
  ∑ s ∈ range (128 * n), V s i * (kT lb Z s j * Real.exp (pT lb Z (128 * n) j - pT lb Z (s + 1) j))
/-- The gradient of the state before block `n`. -/
def dstT (n : ℕ) : Mat := fun i j =>
  ∑ t ∈ Ico (128 * n) 2176, W t i * (qT Q t j * Real.exp (pT lb Z (t + 1) j - pT lb Z (128 * n) j))

/-- The output. -/
def oT : Seq := fun t e => ∑ s ∈ range (t + 1), scT lb Q Z t s * V s e
/-- The gradient of the queries past their gate. -/
def dqT : Seq := fun t j => ∑ s ∈ range (t + 1), daT V W t s * kT lb Z s j * decT lb Z t s j
/-- The gradient of the keys. -/
def dkT : Seq := fun s j => ∑ t ∈ Ico s 2176, daT V W t s * qT Q t j * decT lb Z t s j
/-- The gradient of the values. -/
def dvT : Seq := fun s e => ∑ t ∈ Ico s 2176, scT lb Q Z t s * W t e
/-- A pair's part of the gradient of the running sums. -/
def prT (t s : ℕ) (j : Fin 128) : ℝ := daT V W t s * qT Q t j * kT lb Z s j * decT lb Z t s j
/-- The gradient of the running sum at a row. -/
def dbT : Seq := fun t j => ∑ s ∈ range t, prT lb Q Z V W t s j - ∑ u ∈ Ico (t + 1) 2176, prT lb Q Z V W u t j
/-- The gradient of a gate. -/
def dfT : Seq := fun t j => (∑ u ∈ Ico t 2176, dbT lb Q Z V W u j) / fT lb Z t j - dkT lb Q Z V W t j

/-! ## One block of it -/

theorem kR_blk (n : ℕ) : kR lb (blk n Z) = blk n (kT lb Z) := rfl
theorem qR_blk (n : ℕ) : qR (blk n Q) = blk n (qT Q) := rfl
theorem fR_blk (n : ℕ) : fR lb (blk n Z) = blk n (fT lb Z) := rfl

theorem bR_blk (n : ℕ) (r j : Fin 128) :
    bR lb (blk n Z) r j = pT lb Z (128 * n + r.val + 1) j - pT lb Z (128 * n) j := by
  unfold bR
  rw [fR_blk]
  refine (sum_le n r fun s => Real.log (fT lb Z s j)).trans ?_
  rw [sum_Ico_eq_sub _ (by omega)]
  rfl

theorem bR_last (n : ℕ) (j : Fin 128) : bR lb (blk n Z) 127 j = pT lb Z (128 * (n + 1)) j - pT lb Z (128 * n) j :=
  bR_blk lb Z n 127 j

theorem dec_blk (n : ℕ) (r c j : Fin 128) :
    dec (bR lb (blk n Z)) r c j = decT lb Z (128 * n + r.val) (128 * n + c.val) j := by
  unfold dec decT
  rw [bR_blk, bR_blk]
  congr 1
  ring

theorem dec_last (n : ℕ) (c j : Fin 128) :
    dec (bR lb (blk n Z)) 127 c j = Real.exp (pT lb Z (128 * (n + 1)) j - pT lb Z (128 * n + c.val + 1) j) := dec_blk lb Z n 127 c j

theorem scR_blk (n : ℕ) (r c : Fin 128) :
    scR (bR lb (blk n Z)) (qR (blk n Q)) (kR lb (blk n Z)) r c
      = if c ≤ r then scT lb Q Z (128 * n + r.val) (128 * n + c.val) else 0 := by
  unfold scR scT
  simp only [dec_blk]
  rfl

theorem daR_blk (n : ℕ) (r c : Fin 128) : daR (blk n V) (blk n W) r c = daT V W (128 * n + r.val) (128 * n + c.val) := rfl

/-- The state after a block. -/
theorem next_blk (n : ℕ) : nextR lb (blk n Z) (blk n V) (stT lb Z V n) = stT lb Z V (n + 1) := by
  funext i j
  unfold nextR
  simp only [dec_last, bR_last]
  show _ = ∑ s ∈ range (128 * (n + 1)), V s i * (kT lb Z s j * Real.exp (pT lb Z (128 * (n + 1)) j - pT lb Z (s + 1) j))
  rw [← sum_range_add_sum_Ico _ (show 128 * n ≤ 128 * (n + 1) by omega), ← sum_block]
  congr 1
  unfold stT
  rw [mul_sum]
  refine sum_congr rfl fun s _ => ?_
  rw [show pT lb Z (128 * (n + 1)) j - pT lb Z (s + 1) j
    = (pT lb Z (128 * (n + 1)) j - pT lb Z (128 * n) j) + (pT lb Z (128 * n) j - pT lb Z (s + 1) j) by ring, Real.exp_add]
  ring

/-- The state's gradient before a block. -/
theorem prev_blk (n : ℕ) (hn : n < 17) :
    prevR lb (blk n Q) (blk n Z) (blk n W) (dstT lb Q Z W (n + 1)) = dstT lb Q Z W n := by
  funext i j
  unfold prevR
  simp only [bR_last]
  simp only [bR_blk]
  show _ = ∑ t ∈ Ico (128 * n) 2176, W t i * (qT Q t j * Real.exp (pT lb Z (t + 1) j - pT lb Z (128 * n) j))
  rw [← sum_Ico_consecutive _ (show 128 * n ≤ 128 * (n + 1) by omega) (show 128 * (n + 1) ≤ 2176 by omega), ← sum_block, add_comm]
  congr 1
  unfold dstT
  rw [mul_sum]
  refine sum_congr rfl fun t _ => ?_
  rw [show pT lb Z (t + 1) j - pT lb Z (128 * n) j
    = (pT lb Z (128 * (n + 1)) j - pT lb Z (128 * n) j) + (pT lb Z (t + 1) j - pT lb Z (128 * (n + 1)) j) by ring, Real.exp_add]
  ring

/-- The queries' part with the state, summed against the state's rows. -/
theorem exp_st (n : ℕ) (t : ℕ) (j : Fin 128) (y : Fin 128 → ℝ) :
    Real.exp (pT lb Z (t + 1) j - pT lb Z (128 * n) j) * ∑ e : Fin 128, y e * stT lb Z V n e j
      = ∑ s ∈ range (128 * n), (∑ e : Fin 128, y e * V s e) * kT lb Z s j * decT lb Z t s j := by
  unfold stT decT
  simp only [mul_sum, sum_mul]
  rw [sum_comm]
  refine sum_congr rfl fun s _ => sum_congr rfl fun e _ => ?_
  rw [show pT lb Z (t + 1) j - pT lb Z (s + 1) j
    = (pT lb Z (t + 1) j - pT lb Z (128 * n) j) + (pT lb Z (128 * n) j - pT lb Z (s + 1) j) by ring, Real.exp_add]
  ring

/-- The keys' part with the state's gradient. -/
theorem exp_dst (m : ℕ) (s : ℕ) (j : Fin 128) (y : Fin 128 → ℝ) :
    Real.exp (pT lb Z (128 * m) j - pT lb Z (s + 1) j) * ∑ e : Fin 128, y e * dstT lb Q Z W m e j
      = ∑ t ∈ Ico (128 * m) 2176, (∑ e : Fin 128, W t e * y e) * qT Q t j * decT lb Z t s j := by
  unfold dstT decT
  simp only [mul_sum, sum_mul]
  rw [sum_comm]
  refine sum_congr rfl fun t _ => sum_congr rfl fun e _ => ?_
  rw [show pT lb Z (t + 1) j - pT lb Z (s + 1) j
    = (pT lb Z (128 * m) j - pT lb Z (s + 1) j) + (pT lb Z (t + 1) j - pT lb Z (128 * m) j) by ring, Real.exp_add]
  ring

/-- A block's output. -/
theorem out_blk (n : ℕ) : outR lb (blk n Q) (blk n Z) (blk n V) (stT lb Z V n) = blk n (oT lb Q Z V) := by
  funext r e
  unfold outR
  simp only [scR_blk, ite_mul, zero_mul, bR_blk]
  show _ = ∑ s ∈ range (128 * n + r.val + 1), scT lb Q Z (128 * n + r.val) s * V s e
  rw [show (∑ c : Fin 128, if c ≤ r then scT lb Q Z (128 * n + r.val) (128 * n + c.val) * blk n V c e else 0)
    = ∑ s ∈ Ico (128 * n) (128 * n + r.val + 1), scT lb Q Z (128 * n + r.val) s * V s e from
      sum_le n r fun s => scT lb Q Z (128 * n + r.val) s * V s e,
    ← sum_range_add_sum_Ico _ (show 128 * n ≤ 128 * n + r.val + 1 by omega), add_comm]
  congr 1
  unfold stT scT decT
  simp only [mul_sum, sum_mul]
  rw [sum_comm]
  refine sum_congr rfl fun s _ => sum_congr rfl fun j _ => ?_
  rw [show pT lb Z (128 * n + r.val + 1) j - pT lb Z (s + 1) j
    = (pT lb Z (128 * n + r.val + 1) j - pT lb Z (128 * n) j) + (pT lb Z (128 * n) j - pT lb Z (s + 1) j) by ring, Real.exp_add,
    qR_blk]
  unfold blk
  ring

theorem dqSt_blk (n : ℕ) (r j : Fin 128) : dqSt (blk n W) (stT lb Z V n) (bR lb (blk n Z)) r j
    = ∑ s ∈ range (128 * n), daT V W (128 * n + r.val) s * kT lb Z s j * decT lb Z (128 * n + r.val) s j := by
  unfold dqSt
  rw [bR_blk]
  exact exp_st lb Z V n _ j _

theorem dkSt_blk (n : ℕ) (c j : Fin 128) : dkSt (blk n V) (dstT lb Q Z W (n + 1)) (bR lb (blk n Z)) c j
    = ∑ t ∈ Ico (128 * (n + 1)) 2176, daT V W t (128 * n + c.val) * qT Q t j * decT lb Z t (128 * n + c.val) j := by
  unfold dkSt
  rw [dec_last]
  exact exp_dst lb Q Z W (n + 1) _ j _

/-- A block's gradient of the queries. -/
theorem dq_blk (n : ℕ) : dqR (blk n V) (blk n W) (stT lb Z V n) (bR lb (blk n Z)) (kR lb (blk n Z)) = blk n (dqT lb Z V W) := by
  funext r j
  unfold dqR
  simp only [dec_blk, dqSt_blk, daR_blk]
  show _ = ∑ s ∈ range (128 * n + r.val + 1), daT V W (128 * n + r.val) s * kT lb Z s j * decT lb Z (128 * n + r.val) s j
  rw [← sum_range_add_sum_Ico _ (show 128 * n ≤ 128 * n + r.val + 1 by omega), ← sum_le]
  rfl

/-- A block's gradient of the keys. -/
theorem dk_blk (n : ℕ) (hn : n < 17) :
    dkR (qR (blk n Q)) (blk n V) (blk n W) (dstT lb Q Z W (n + 1)) (bR lb (blk n Z)) = blk n (dkT lb Q Z V W) := by
  funext c j
  unfold dkR
  simp only [dec_blk, dkSt_blk, daR_blk]
  show _ = ∑ t ∈ Ico (128 * n + c.val) 2176, daT V W t (128 * n + c.val) * qT Q t j * decT lb Z t (128 * n + c.val) j
  rw [← sum_Ico_consecutive _ (show 128 * n + c.val ≤ 128 * (n + 1) by omega) (show 128 * (n + 1) ≤ 2176 by omega), add_comm,
    ← sum_ge]
  rfl

/-- A block's gradient of the values. -/
theorem dv_blk (n : ℕ) (hn : n < 17) (c e : Fin 128) :
    ∑ j : Fin 128, kR lb (blk n Z) c j * dec (bR lb (blk n Z)) 127 c j * dstT lb Q Z W (n + 1) e j
        + ∑ r : Fin 128, scR (bR lb (blk n Z)) (qR (blk n Q)) (kR lb (blk n Z)) r c * blk n W r e
      = blk n (dvT lb Q Z W) c e := by
  simp only [scR_blk, dec_last, ite_mul, zero_mul]
  show _ = ∑ t ∈ Ico (128 * n + c.val) 2176, scT lb Q Z t (128 * n + c.val) * W t e
  rw [← sum_Ico_consecutive _ (show 128 * n + c.val ≤ 128 * (n + 1) by omega) (show 128 * (n + 1) ≤ 2176 by omega), add_comm,
    ← sum_ge]
  congr 1
  unfold dstT scT decT
  simp only [mul_sum, sum_mul]
  rw [sum_comm]
  refine sum_congr rfl fun t _ => sum_congr rfl fun j _ => ?_
  rw [show pT lb Z (t + 1) j - pT lb Z (128 * n + c.val + 1) j
    = (pT lb Z (128 * (n + 1)) j - pT lb Z (128 * n + c.val + 1) j) + (pT lb Z (t + 1) j - pT lb Z (128 * (n + 1)) j) by ring,
    Real.exp_add, kR_blk]
  unfold blk
  ring

/-! ## The gates' gradient -/

/-- The pairs that begin and end past a row cancel. -/
theorem telescope (X : ℕ → ℕ → ℝ) (T L : ℕ) :
    ∑ t ∈ Ico T L, (∑ s ∈ range t, X t s - ∑ u ∈ Ico (t + 1) L, X u t) = ∑ t ∈ Ico T L, ∑ s ∈ range T, X t s := by
  have e : ∀ t ∈ Ico T L, ∑ s ∈ range t, X t s - ∑ u ∈ Ico (t + 1) L, X u t
      = ∑ s ∈ range T, X t s + (∑ s ∈ Ico T t, X t s - ∑ u ∈ Ico (t + 1) L, X u t) := fun t ht => by
    rw [← sum_range_add_sum_Ico _ (mem_Ico.1 ht).1]; ring
  rw [sum_congr rfl e, sum_add_distrib, sum_sub_distrib, sum_Ico_Ico_comm' T L fun t u => X u t, sub_self, add_zero]

theorem dbl_blk (n : ℕ) (hn : n < 17) (j : Fin 128) :
    dblR (blk n V) (stT lb Z V n) (dstT lb Q Z W (n + 1)) (bR lb (blk n Z)) (kR lb (blk n Z)) j
      = ∑ t ∈ Ico (128 * (n + 1)) 2176, ∑ s ∈ range (128 * (n + 1)), prT lb Q Z V W t s j := by
  unfold dblR
  simp only [dkSt_blk]
  rw [sum_comm, ← sum_range_add_sum_Ico _ (show 128 * n ≤ 128 * (n + 1) by omega), ← sum_block]
  congr 1
  · rw [bR_last]
    simp only [mul_comm (stT lb Z V n _ j)]
    rw [show Real.exp (pT lb Z (128 * (n + 1)) j - pT lb Z (128 * n) j) * ∑ e : Fin 128, dstT lb Q Z W (n + 1) e j * stT lb Z V n e j
      = ∑ s ∈ range (128 * n), kT lb Z s j * (Real.exp (pT lb Z (128 * (n + 1)) j - pT lb Z (s + 1) j)
        * ∑ e : Fin 128, V s e * dstT lb Q Z W (n + 1) e j) by
      unfold stT
      simp only [mul_sum]
      rw [sum_comm]
      refine sum_congr rfl fun s _ => sum_congr rfl fun e _ => ?_
      rw [show pT lb Z (128 * (n + 1)) j - pT lb Z (s + 1) j
        = (pT lb Z (128 * (n + 1)) j - pT lb Z (128 * n) j) + (pT lb Z (128 * n) j - pT lb Z (s + 1) j) by ring, Real.exp_add]
      ring]
    refine sum_congr rfl fun s _ => ?_
    rw [exp_dst, mul_sum]
    refine sum_congr rfl fun t _ => ?_
    unfold prT daT
    ring
  · refine sum_congr rfl fun c _ => ?_
    rw [mul_sum]
    refine sum_congr rfl fun t _ => ?_
    rw [kR_blk]
    unfold prT blk
    ring

theorem db_blk (n : ℕ) (hn : n < 17) (r j : Fin 128) :
    dbR (qR (blk n Q)) (blk n V) (blk n W) (stT lb Z V n) (dstT lb Q Z W (n + 1)) (bR lb (blk n Z)) (kR lb (blk n Z)) r j
      = dbT lb Q Z V W (128 * n + r.val) j
        + if r = 127 then ∑ t ∈ Ico (128 * (n + 1)) 2176, dbT lb Q Z V W t j else 0 := by
  have hd : ∑ t ∈ Ico (128 * (n + 1)) 2176, dbT lb Q Z V W t j
      = dblR (blk n V) (stT lb Z V n) (dstT lb Q Z W (n + 1)) (bR lb (blk n Z)) (kR lb (blk n Z)) j := by
    rw [dbl_blk lb Q Z V W n hn]
    exact telescope (fun t s => prT lb Q Z V W t s j) _ _
  have e₁ : qR (blk n Q) r j * dqSt (blk n W) (stT lb Z V n) (bR lb (blk n Z)) r j
      = ∑ s ∈ range (128 * n), prT lb Q Z V W (128 * n + r.val) s j := by
    rw [dqSt_blk, mul_sum]
    refine sum_congr rfl fun s _ => ?_
    rw [qR_blk]; unfold prT blk; ring
  have e₂ : kR lb (blk n Z) r j * dkSt (blk n V) (dstT lb Q Z W (n + 1)) (bR lb (blk n Z)) r j
      = ∑ t ∈ Ico (128 * (n + 1)) 2176, prT lb Q Z V W t (128 * n + r.val) j := by
    rw [dkSt_blk, mul_sum]
    refine sum_congr rfl fun s _ => ?_
    rw [kR_blk]; unfold prT blk; ring
  have e₃ : (qR (blk n Q) r j * ∑ c : Fin 128, if c < r then daR (blk n V) (blk n W) r c * kR lb (blk n Z) c j
      * dec (bR lb (blk n Z)) r c j else 0) = ∑ s ∈ Ico (128 * n) (128 * n + r.val), prT lb Q Z V W (128 * n + r.val) s j := by
    rw [← sum_lt, mul_sum]
    refine sum_congr rfl fun c _ => ?_
    rw [mul_ite, mul_zero, dec_blk, daR_blk, qR_blk, kR_blk]
    refine if_congr Iff.rfl ?_ rfl
    unfold prT blk; ring
  have e₄ : (kR lb (blk n Z) r j * ∑ t : Fin 128, if r < t then daR (blk n V) (blk n W) t r * qR (blk n Q) t j
      * dec (bR lb (blk n Z)) t r j else 0)
      = ∑ t ∈ Ico (128 * n + r.val + 1) (128 * (n + 1)), prT lb Q Z V W t (128 * n + r.val) j := by
    rw [← sum_gt, mul_sum]
    refine sum_congr rfl fun c _ => ?_
    rw [mul_ite, mul_zero, dec_blk, daR_blk, qR_blk, kR_blk]
    refine if_congr Iff.rfl ?_ rfl
    unfold prT blk; ring
  unfold dbR
  rw [hd, e₁, e₂, e₃, e₄]
  unfold dbT
  rw [← sum_range_add_sum_Ico _ (show 128 * n ≤ 128 * n + r.val by omega),
    ← sum_Ico_consecutive _ (show 128 * n + r.val + 1 ≤ 128 * (n + 1) by omega) (show 128 * (n + 1) ≤ 2176 by omega)]
  ring

/-- A block's gradient of the gates. -/
theorem df_blk (n : ℕ) (hn : n < 17) :
    dfR lb (blk n Q) (blk n Z) (blk n V) (blk n W) (stT lb Z V n) (dstT lb Q Z W (n + 1)) = blk n (dfT lb Q Z V W) := by
  funext r j
  unfold dfR
  rw [dk_blk lb Q Z V W n hn]
  simp only [db_blk lb Q Z V W n hn]
  show _ = (∑ u ∈ Ico (128 * n + r.val) 2176, dbT lb Q Z V W u j) / fT lb Z (128 * n + r.val) j - dkT lb Q Z V W (128 * n + r.val) j
  rw [← sum_Ico_consecutive _ (show 128 * n + r.val ≤ 128 * (n + 1) by omega) (show 128 * (n + 1) ≤ 2176 by omega), ← sum_ge]
  have e : ∀ t : Fin 128, (if r ≤ t then dbT lb Q Z V W (128 * n + t.val) j
        + (if t = 127 then ∑ u ∈ Ico (128 * (n + 1)) 2176, dbT lb Q Z V W u j else 0) else 0)
      = (if r ≤ t then dbT lb Q Z V W (128 * n + t.val) j else 0)
        + if t = 127 then ∑ u ∈ Ico (128 * (n + 1)) 2176, dbT lb Q Z V W u j else 0 := fun t => by
    by_cases h : r ≤ t
    · rw [if_pos h, if_pos h]
    · rw [if_neg h, if_neg h, if_neg (fun e => h (by subst e; exact Fin.le_last r)), add_zero]
  simp only [e, sum_add_distrib, sum_ite_eq', mem_univ, if_true]
  rfl

end

end Cert.Scan

end
-- ==== Proof.Masks.lean ====
/-
  Rows and levels in the kernels' memory: a block of rows read from or stored into an array of all rows, the states'
  array, and the levels' masks the kernels write before their loops.
-/
module

public import proofs.«01_k».proof.Proof.Trips
public import proofs.«01_k».proof.Proof.ScanReal
public import Idealize.ShloMosaic.Lib.WholeRead
public import Idealize.ShloMosaic.Lib.Writes
public import Idealize.ShloMosaic.Lib.Pipeline.ValueKit

@[expose] public section

set_option backward.isDefEq.respectTransparency false

noncomputable section

namespace Cert.Scan

open Idealize.ShloMosaic Idealize.ShloMosaic.TcCoe Idealize.SL.Sem Cert.KernelIdeal Cert.KernelIdeal.Gen

/-- A real matrix of all rows as an array. -/
def upS (G : Seq) : FVec Ideal S2176x128 .f32 := fun y => ((G (y 0).val (y 1) : ℝ) : EReal)
/-- A real matrix of all rows as an array of the narrow format. -/
def upSB (G : Seq) : FVec Ideal S2176x128 .bf16 := fun y => ((G (y 0).val (y 1) : ℝ) : EReal)
/-- One real matrix per block as an array. -/
def upSt (st : ℕ → Mat) : FVec Ideal S1x17x128x128 .f32 := fun y => ((st (y 1).val (y 2) (y 3) : ℝ) : EReal)
/-- A real row as an array. -/
def upL (x : Fin 128 → ℝ) : FVec Ideal S1x1x128 .f32 := fun y => ((x (y 2) : ℝ) : EReal)

theorem off0 : ∀ k : Fin k0_t1_loop.trips, k0_off1 k = ![128 * k.val, 0] := by decide +kernel
theorem offSt0 : ∀ k : Fin k0_t1_loop.trips, k0_off2 k = ![0, k.val, 0, 0] := by decide +kernel
theorem off1 : ∀ k : Fin k1_t1_loop.trips, k1_off1 k = ![128 * (16 - k.val), 0] := by decide +kernel
theorem offSt1 : ∀ k : Fin k1_t1_loop.trips, k1_off2 k = ![0, 16 - k.val, 0, 0] := by decide +kernel

section
variable {off : Fin 2 → ℕ} (inb : ∀ a, off a + S128x128.size a ≤ S2176x128.size a) {n : ℕ} (h : off = ![128 * n, 0])
include h

/-- Block `n`'s entries lie in the array at the block's rows. -/
theorem rows_emb (x : S128x128.Idx) :
    (((Rect.unit (s := S2176x128) off S128x128.size inb).emb x) 0).val = 128 * n + (x 0).val
      ∧ (((Rect.unit (s := S2176x128) off S128x128.size inb).emb x) 1).val = (x 1).val := by
  subst h
  refine ⟨ValueKit.rect_emb_unit_val _ _ _ _ 0, ?_⟩
  refine (ValueKit.rect_emb_unit_val _ _ _ _ 1).trans ?_
  exact Nat.zero_add _

theorem rows_up (G : Seq) (x : S128x128.Idx) :
    up (blk n G) x = upS G ((Rect.unit (s := S2176x128) off S128x128.size inb).emb x) := by
  obtain ⟨e, e'⟩ := rows_emb inb h x
  unfold up upS blk
  rw [e]
  congr 2
  exact Fin.ext e'.symm

theorem rows_upB (G : Seq) (x : S128x128.Idx) :
    upB (blk n G) x = upSB G ((Rect.unit (s := S2176x128) off S128x128.size inb).emb x) := by
  obtain ⟨e, e'⟩ := rows_emb inb h x
  unfold upB upSB blk
  rw [e]
  congr 2
  exact Fin.ext e'.symm

/-- Block `n` of an array of real numbers. -/
theorem rows_read {arg : Memref Cert.KernelIdeal.sig .tc .vmem S2176x128 .f32} (harg : arg.IsWhole) (G : Seq) :
    View.readAt (Elt Ideal) arg.view (Rect.unit (s := S2176x128) off S128x128.size inb).toLoadRect (harg.unread (upS G))
      = up (blk n G) := by
  funext x
  rw [harg.readAt_unread]
  exact (rows_up inb h G x).symm

end

section
variable {off : Fin 4 → ℕ} (inb : ∀ a, off a + S1x1x128x128.size a ≤ S1x17x128x128.size a) {n : ℕ} (h : off = ![0, n, 0, 0])
include h

theorem states_emb (x : S1x1x128x128.Idx) :
    (((Rect.unit (s := S1x17x128x128) off S1x1x128x128.size inb).emb x) 1).val = n
      ∧ (((Rect.unit (s := S1x17x128x128) off S1x1x128x128.size inb).emb x) 2).val = (x 2).val
      ∧ (((Rect.unit (s := S1x17x128x128) off S1x1x128x128.size inb).emb x) 3).val = (x 3).val := by
  subst h
  have h1 : (x 1).val < 1 := (x 1).isLt
  refine ⟨(ValueKit.rect_emb_unit_val _ _ _ _ 1).trans ?_, (ValueKit.rect_emb_unit_val _ _ _ _ 2).trans ?_,
    (ValueKit.rect_emb_unit_val _ _ _ _ 3).trans ?_⟩
  · show n + (x 1).val = n; omega
  · exact Nat.zero_add _
  · exact Nat.zero_add _

theorem states_up (st : ℕ → Mat) (x : S1x1x128x128.Idx) :
    shapeCast S1x1x128x128 (up (st n)) shapeCasts_S128x128_S1x1x128x128 x
      = upSt st ((Rect.unit (s := S1x17x128x128) off S1x1x128x128.size inb).emb x) := by
  obtain ⟨e, e', e''⟩ := states_emb inb h x
  rw [shapeCast_apply _ _ _ (ix2 (x 2) (x 3)) (by
    have h0 : (x 0).val < 1 := (x 0).isLt
    have h1 : (x 1).val < 1 := (x 1).isLt
    rw [Shape.rowMajor_val_two, Shape.rowMajor_val_four]
    show (x 2).val * 128 + (x 3).val = (((x 0).val * 1 + (x 1).val) * 128 + (x 2).val) * 128 + (x 3).val
    omega)]
  unfold upSt
  rw [e]
  show ((st n (x 2) (x 3) : ℝ) : EReal) = _
  congr 2
  · exact Fin.ext e'.symm
  · exact Fin.ext e''.symm

/-- Block `n`'s state of an array of real numbers. -/
theorem states_read {arg : Memref Cert.KernelIdeal.sig .tc .vmem S1x17x128x128 .f32} (harg : arg.IsWhole) (st : ℕ → Mat) :
    shapeCast S128x128 (View.readAt (Elt Ideal) arg.view
      (Rect.unit (s := S1x17x128x128) off S1x1x128x128.size inb).toLoadRect (harg.unread (upSt st))) shapeCasts_S1x1x128x128_S128x128
      = up (st n) := by
  funext x
  rw [shapeCast_apply _ _ _ (ix4 0 0 (x 0) (x 1)) (by
    rw [Shape.rowMajor_val_two, Shape.rowMajor_val_four]
    show ((0 * 1 + 0) * 128 + (x 0).val) * 128 + (x 1).val = (x 0).val * 128 + (x 1).val
    omega), harg.readAt_unread]
  refine (states_up inb h st (ix4 0 0 (x 0) (x 1))).symm.trans ?_
  rw [shapeCast_apply _ _ _ x (by
    rw [Shape.rowMajor_val_two, Shape.rowMajor_val_four]
    show (x 0).val * 128 + (x 1).val = ((0 * 1 + 0) * 128 + (x 0).val) * 128 + (x 1).val
    omega)]

end

/-- The gates' lower bounds, read off their array. -/
theorem lower_read {arg : Memref Cert.KernelIdeal.sig .tc .vmem S1x1x128 .f32} (harg : arg.IsWhole) (lb : Fin 128 → ℝ)
    (inb : ∀ a, (![0, 0, 0] : Fin 3 → ℕ) a + S1x1x128.size a ≤ S1x1x128.size a) :
    shapeCast S1x128 (View.readAt (Elt Ideal) arg.view (Rect.unit (s := S1x1x128) ![0, 0, 0] S1x1x128.size inb).toLoadRect
      (harg.unread (upL lb))) shapeCasts_S1x1x128_S1x128 = upR lb := by
  funext x
  have h0 : (x 0).val < 1 := (x 0).isLt
  rw [shapeCast_apply _ _ _ (ix3 0 0 (x 1)) (by
    rw [Shape.rowMajor_val_two, Shape.rowMajor_val_three]
    show (0 * 1 + 0) * 128 + (x 1).val = (x 0).val * 128 + (x 1).val
    omega), harg.readAt_unread]
  unfold upL upR
  congr 2
  exact Fin.ext ((ValueKit.rect_emb_unit_val _ _ _ _ 2).trans (Nat.zero_add _))

/-! ## The masks -/

/-- What a kernel stores as level `i`'s mask. -/
def maskPay (i : Fin 7) : FVec Ideal S1x128x128 .f32 :=
  shapeCast S1x128x128 (select (cmpi .eq (shrsi riW (broadcast S128x128 (BitVec.ofNat 32 (i.val + 1))))
    (shrsi ciW (broadcast S128x128 (BitVec.ofNat 32 (i.val + 1))))) (splat 0x3F800000#32) (splat 0x00000000#32))
    shapeCasts_S128x128_S1x128x128

/-- Level `i`'s store. -/
def maskPiece (i : Fin 7) : View.Piece (Elt Ideal) S7x128x128 .f32 :=
  ⟨Rect.unit (s := S7x128x128) ![i.val, 0, 0] S1x128x128.size (mask_inb i), maskPay i⟩

/-- The seven stores, last first. -/
def maskPieces : List (View.Piece (Elt Ideal) S7x128x128 .f32) :=
  [maskPiece 6, maskPiece 5, maskPiece 4, maskPiece 3, maskPiece 2, maskPiece 1, maskPiece 0]

/-- The masks' array. -/
def maskArr : FVec Ideal S7x128x128 .f32 := fun y =>
  ((if Same (half (y 0)) (y 1) (y 2) then 1 else 0 : ℝ) : EReal)

theorem shr_word (i : Fin 7) (r : Fin 128) :
    IntOp.shrsi .vector (BitVec.ofNat 32 r.val) (BitVec.ofNat 32 (i.val + 1)) = BitVec.ofNat 32 (r.val / (2 * half i)) := by
  have key : ∀ (i : Fin 7) (r : Fin 128),
      IntOp.shrsi .vector (BitVec.ofNat 32 r.val) (BitVec.ofNat 32 (i.val + 1)) = BitVec.ofNat 32 (r.val / (2 * half i)) := by
    decide +kernel
  exact key i r

theorem same_bits (i : Fin 7) : cmpi .eq (shrsi riW (broadcast S128x128 (BitVec.ofNat 32 (i.val + 1))))
    (shrsi ciW (broadcast S128x128 (BitVec.ofNat 32 (i.val + 1)))) = bits fun r c => Same (half i) r c := by
  funext y
  have lt : ∀ r : Fin 128, r.val / (2 * half i) < 128 := fun r => lt_of_le_of_lt (Nat.div_le_self _ _) r.isLt
  show IntOp.cmpi .eq (IntOp.shrsi .vector (BitVec.ofNat 32 (y 0).val) (BitVec.ofNat 32 (i.val + 1)))
    (IntOp.shrsi .vector (BitVec.ofNat 32 (y 1).val) (BitVec.ofNat 32 (i.val + 1))) = if Same (half i) (y 0) (y 1) then 1#1 else 0#1
  rw [shr_word, shr_word]
  refine (eq_word ⟨_, lt (y 0)⟩ ⟨_, lt (y 1)⟩).trans (if_congr ?_ rfl rfl)
  unfold Same
  exact Fin.mk.injEq _ _ _ _ ▸ Iff.rfl

theorem maskPay_eq (i : Fin 7) (x : S1x128x128.Idx) :
    maskPay i x = maskArr ((Rect.unit (s := S7x128x128) ![i.val, 0, 0] S1x128x128.size (mask_inb i)).emb x) := by
  have h0 : (x 0).val < 1 := (x 0).isLt
  unfold maskPay
  rw [shapeCast_apply _ _ _ (ix2 (x 1) (x 2)) (by
    rw [Shape.rowMajor_val_two, Shape.rowMajor_val_three]
    show (x 1).val * 128 + (x 2).val = ((x 0).val * 128 + (x 1).val) * 128 + (x 2).val
    omega), same_bits, splat_one, splat_zero, select_bits]
  unfold maskArr
  show ((if Same (half i) (x 1) (x 2) then (1 : ℝ) else 0 : ℝ) : EReal) = _
  have e0 : ((Rect.unit (s := S7x128x128) ![i.val, 0, 0] S1x128x128.size (mask_inb i)).emb x) 0 = i :=
    Fin.ext ((ValueKit.rect_emb_unit_val _ _ _ _ 0).trans (by show i.val + (x 0).val = i.val; omega))
  have e1 : ((Rect.unit (s := S7x128x128) ![i.val, 0, 0] S1x128x128.size (mask_inb i)).emb x) 1 = x 1 :=
    Fin.ext ((ValueKit.rect_emb_unit_val _ _ _ _ 1).trans (Nat.zero_add _))
  have e2 : ((Rect.unit (s := S7x128x128) ![i.val, 0, 0] S1x128x128.size (mask_inb i)).emb x) 2 = x 2 :=
    Fin.ext ((ValueKit.rect_emb_unit_val _ _ _ _ 2).trans (Nat.zero_add _))
  rw [e0, e1, e2]

theorem maskPieces_mem (i : Fin 7) : maskPiece i ∈ maskPieces := by
  unfold maskPieces
  fin_cases i <;> simp

/-- What the loops read as the masks after the seven stores. -/
theorem masks_read (arg : Memref Cert.KernelIdeal.sig .tc .vmem S7x128x128 .f32) (f : BufTy.Contents (Elt Ideal) arg.view.ty) :
    Masks (maskAt arg (arg.view.writes (Elt Ideal) f maskPieces)) := by
  have hr : arg.view.read (Elt Ideal) (arg.view.writes (Elt Ideal) f maskPieces) = maskArr := by
    funext y
    refine View.read_writes_apply_of_pieces (v := arg.view) (f := f) maskArr maskPieces (fun p hp => ?_) y
      ⟨maskPiece (y 0), maskPieces_mem _, ?_⟩
    · simp only [maskPieces, List.mem_cons, List.not_mem_nil, or_false] at hp
      rcases hp with rfl | rfl | rfl | rfl | rfl | rfl | rfl <;> exact maskPay_eq _
    · rw [maskPiece, Rect.mem_set_unit]
      intro a
      match a with
      | ⟨0, _⟩ => exact ⟨le_rfl, Nat.lt_succ_self _⟩
      | ⟨1, _⟩ => exact ⟨Nat.zero_le _, by have := (y 1).isLt; show (y 1).val < 0 + 128; rw [Nat.zero_add]; exact this⟩
      | ⟨2, _⟩ => exact ⟨Nat.zero_le _, by have := (y 2).isLt; show (y 2).val < 0 + 128; rw [Nat.zero_add]; exact this⟩
  intro i
  refine ext2 fun r c => ?_
  unfold maskV
  rw [shapeCast_apply _ _ _ (ix3 0 r c) (by
    rw [Shape.rowMajor_val_two, Shape.rowMajor_val_three]
    show (0 * 128 + r.val) * 128 + c.val = r.val * 128 + c.val
    omega)]
  show arg.view.read (Elt Ideal) _ ((Rect.unit (s := S7x128x128) ![i.val, 0, 0] S1x128x128.size (mask_inb i)).emb (ix3 0 r c)) = _
  rw [hr, ← maskPay_eq]
  unfold maskPay
  rw [shapeCast_apply _ _ _ (ix2 r c) (by
    rw [Shape.rowMajor_val_two, Shape.rowMajor_val_three]
    show r.val * 128 + c.val = (0 * 128 + r.val) * 128 + c.val
    omega), same_bits, splat_one, splat_zero, select_bits]
  rfl

end Cert.Scan

end
-- ==== Proof.Forward.lean ====
/-
  The forward loop: what it carries, and what it has stored, after any number of its trips.
-/
module

public import proofs.«01_k».proof.Proof.Masks

@[expose] public section

set_option backward.isDefEq.respectTransparency false

noncomputable section

namespace Cert.Scan

open Idealize.ShloMosaic Idealize.ShloMosaic.TcCoe Idealize.SL.Sem Cert.KernelIdeal Cert.KernelIdeal.Gen Finset

variable {𝒱 : Variants}
  (c : Dev nD)
  {bd : Option 𝒱.V}
  (i : grid0.Coords)
  (arg1 : Memref Cert.KernelIdeal.sig .tc .vmem S2176x128 .f32)
  (harg1 : arg1.IsWhole)
  (arg2 : Memref Cert.KernelIdeal.sig .tc .vmem S2176x128 .f32)
  (harg2 : arg2.IsWhole)
  (arg3 : Memref Cert.KernelIdeal.sig .tc .vmem S2176x128 .f32)
  (harg3 : arg3.IsWhole)
  (arg4 : Memref Cert.KernelIdeal.sig .tc .vmem S1x1x128 .f32)
  (harg4 : arg4.IsWhole)
  (arg5 : Memref Cert.KernelIdeal.sig .tc .vmem S2176x128 .f32)
  (harg5 : arg5.IsWhole)
  (arg6 : Memref Cert.KernelIdeal.sig .tc .vmem S1x17x128x128 .f32)
  (harg6 : arg6.IsWhole)
  (arg7 : Memref Cert.KernelIdeal.sig .tc .vmem S7x128x128 .f32)
  (harg7 : arg7.IsWhole)
  (lb : Fin 128 → ℝ) (hlb : ∀ j, 0 ≤ lb j ∧ lb j ≤ 1) (Q Z V : Seq)
  (M : BufTy.Contents (Elt Ideal) arg7.view.ty) (hM : Masks (maskAt arg7 M))

/-- After `n` trips the loop carries the state before block `n`; every block of rows it has stored holds the
    recurrence's output there, and every state it has stored is that block's. -/
def After0 (n : ℕ) (s : VM × List (View.Piece (Elt Ideal) S2176x128 .f32) × List (View.Piece (Elt Ideal) S1x17x128x128 .f32)) : Prop :=
  s.1 = up (stT lb Z V n)
    ∧ (∀ p ∈ s.2.1, ∀ x, p.2 x = upS (oT lb Q Z V) (p.1.emb x))
    ∧ ∀ p ∈ s.2.2, ∀ x, p.2 x = upSt (stT lb Z V) (p.1.emb x)

include hlb hM in
theorem after0 (n : ℕ) (hn : n ≤ k0_t1_loop.trips) : After0 lb Q Z V n (st_k0_t1 (F := Ideal) 𝒱 c bd i arg1 harg1 arg2 harg2 arg3 harg3 arg4 harg4 arg5 harg5 arg6 harg6 arg7 harg7 (upR lb) posW riW ciW
    (harg1.unread (upS Q)) (harg2.unread (upS Z)) (harg3.unread (upS V)) M (splat 0x00000000#32) n) := by
  induction n with
  | zero =>
    refine ⟨?_, fun p hp => absurd hp List.not_mem_nil, fun p hp => absurd hp List.not_mem_nil⟩
    show splat 0x00000000#32 = _
    rw [splat_zero]
    refine congrArg up ?_
    funext a b
    unfold stT
    simp
  | succ n ih =>
    obtain ⟨k, rfl⟩ : ∃ k : Fin k0_t1_loop.trips, k.val = n := ⟨⟨n, hn⟩, rfl⟩
    obtain ⟨h1, h2, h3⟩ := ih (Nat.le_of_succ_le hn)
    have e := st_k0_t1_succ (F := Ideal) 𝒱 c bd i arg1 harg1 arg2 harg2 arg3 harg3 arg4 harg4 arg5 harg5 arg6 harg6 arg7 harg7 (upR lb) posW riW ciW
      (harg1.unread (upS Q)) (harg2.unread (upS Z)) (harg3.unread (upS V)) M (splat 0x00000000#32) k
    rw [e, h1, tripR0, tripL0]
    have r1 : rows0 arg1 (harg1.unread (upS Q)) k = up (blk k.val Q) := rows_read _ (off0 _) harg1 Q
    have r2 : rows0 arg2 (harg2.unread (upS Z)) k = up (blk k.val Z) := rows_read _ (off0 _) harg2 Z
    have r3 : rows0 arg3 (harg3.unread (upS V)) k = up (blk k.val V) := rows_read _ (off0 _) harg3 V
    rw [r1, r2, r3, nextV_up lb hlb, next_blk, outV_up _ hM lb hlb, out_blk]
    refine ⟨rfl, fun p hp => ?_, fun p hp => ?_⟩
    · rcases List.mem_append.1 hp with hp | hp
      · obtain rfl := List.mem_singleton.1 hp
        exact rows_up (k0_off1_inb k) (off0 k) (oT lb Q Z V)
      · exact h2 p hp
    · rcases List.mem_append.1 hp with hp | hp
      · obtain rfl := List.mem_singleton.1 hp
        exact states_up (k0_off2_inb k) (offSt0 k) (stT lb Z V)
      · exact h3 p hp

end Cert.Scan

end
-- ==== Proof.Backward.lean ====
/-
  The backward loop: what it carries, and what it has stored, after any number of its trips. Trip `k` works on
  block `16 - k`.
-/
module

public import proofs.«01_k».proof.Proof.Masks

@[expose] public section

set_option backward.isDefEq.respectTransparency false

noncomputable section

namespace Cert.Scan

open Idealize.ShloMosaic Idealize.ShloMosaic.TcCoe Idealize.SL.Sem Cert.KernelIdeal Cert.KernelIdeal.Gen Finset

/-- The row of zeros the sum over the blocks starts from. -/
def zeroR : VR := broadcast S1x128 (Scalar.ofBits (F := Ideal) .f32 0x00000000#32)
theorem zeroR_up : zeroR = upR fun _ => 0 := funext fun _ => Ideal.ofBits_zero_f32

/-- The queries' gradient, through the gate function of the queries. -/
def dqS (lb : Fin 128 → ℝ) (Q Z V W : Seq) : Seq := fun t j =>
  dqT lb Z V W t j * (sig (Q t j) + Q t j * sig (Q t j) * (1 - sig (Q t j)))
/-- The gates' gradient, through the gate function. -/
def dzS (lb : Fin 128 → ℝ) (Q Z V W : Seq) : Seq := fun t j =>
  dfT lb Q Z V W t j * (1 - lb j) * sig (Z t j) * (1 - sig (Z t j))
/-- The lower bounds' gradient, over the rows from row `T` on. -/
def dlS (lb : Fin 128 → ℝ) (Q Z V W : Seq) (T : ℕ) : Fin 128 → ℝ := fun j =>
  ∑ t ∈ Ico T 2176, dfT lb Q Z V W t j * (1 - sig (Z t j))

variable {𝒱 : Variants}
  (c : Dev nD)
  {bd : Option 𝒱.V}
  (i : grid1.Coords)
  (arg1 : Memref Cert.KernelIdeal.sig .tc .vmem S2176x128 .f32)
  (harg1 : arg1.IsWhole)
  (arg2 : Memref Cert.KernelIdeal.sig .tc .vmem S2176x128 .f32)
  (harg2 : arg2.IsWhole)
  (arg3 : Memref Cert.KernelIdeal.sig .tc .vmem S2176x128 .f32)
  (harg3 : arg3.IsWhole)
  (arg4 : Memref Cert.KernelIdeal.sig .tc .vmem S1x1x128 .f32)
  (harg4 : arg4.IsWhole)
  (arg5 : Memref Cert.KernelIdeal.sig .tc .vmem S1x17x128x128 .f32)
  (harg5 : arg5.IsWhole)
  (arg6 : Memref Cert.KernelIdeal.sig .tc .vmem S2176x128 .f32)
  (harg6 : arg6.IsWhole)
  (arg7 : Memref Cert.KernelIdeal.sig .tc .vmem S2176x128 .f32)
  (harg7 : arg7.IsWhole)
  (arg8 : Memref Cert.KernelIdeal.sig .tc .vmem S2176x128 .bf16)
  (harg8 : arg8.IsWhole)
  (arg9 : Memref Cert.KernelIdeal.sig .tc .vmem S2176x128 .f32)
  (harg9 : arg9.IsWhole)
  (arg10 : Memref Cert.KernelIdeal.sig .tc .vmem S1x1x128 .f32)
  (harg10 : arg10.IsWhole)
  (arg11 : Memref Cert.KernelIdeal.sig .tc .vmem S7x128x128 .f32)
  (harg11 : arg11.IsWhole)
  (lb : Fin 128 → ℝ) (hlb : ∀ j, 0 ≤ lb j ∧ lb j ≤ 1) (Q Z V W : Seq)
  (M : BufTy.Contents (Elt Ideal) arg11.view.ty) (hM : Masks (maskAt arg11 M))

/-- After `n` trips the loop carries the state's gradient after block `16 - n` and the lower bounds' gradient over the
    blocks done; every block of rows it has stored holds its gradient there. -/
def After1 (n : ℕ) (s : (VM × VR) × List (View.Piece (Elt Ideal) S2176x128 .f32)
    × List (View.Piece (Elt Ideal) S2176x128 .bf16) × List (View.Piece (Elt Ideal) S2176x128 .f32)) : Prop :=
  s.1 = (up (dstT lb Q Z W (17 - n)), upR (dlS lb Q Z V W (128 * (17 - n))))
    ∧ (∀ p ∈ s.2.1, ∀ x, p.2 x = upS (dqS lb Q Z V W) (p.1.emb x))
    ∧ (∀ p ∈ s.2.2.1, ∀ x, p.2 x = upSB (dzS lb Q Z V W) (p.1.emb x))
    ∧ ∀ p ∈ s.2.2.2, ∀ x, p.2 x = upS (dvT lb Q Z W) (p.1.emb x)

theorem dl_blk (m : ℕ) (hm : m < 17) :
    (fun j => dlS lb Q Z V W (128 * (m + 1)) j + ∑ r : Fin 128, blk m (dfT lb Q Z V W) r j * (1 - sig (blk m Z r j)))
      = dlS lb Q Z V W (128 * m) := by
  funext j
  unfold dlS
  rw [← sum_Ico_consecutive _ (show 128 * m ≤ 128 * (m + 1) by omega) (show 128 * (m + 1) ≤ 2176 by omega), ← sum_block, add_comm]
  rfl

include hlb hM in
theorem after1 (n : ℕ) (hn : n ≤ k1_t1_loop.trips) : After1 lb Q Z V W n (st_k1_t1 (F := Ideal) 𝒱 c bd i arg1 harg1 arg2 harg2 arg3 harg3 arg4 harg4 arg5 harg5 arg6 harg6 arg7 harg7 arg8 harg8 arg9 harg9 arg10 harg10 arg11 harg11 (upR lb) posW riW ciW
    (harg1.unread (upS Q)) (harg2.unread (upS Z)) (harg3.unread (upS V))
    (harg5.unread (upSt (stT lb Z V))) (harg6.unread (upS W)) M (splat 0x00000000#32, zeroR) n) := by
  induction n with
  | zero =>
    refine ⟨?_, fun p hp => absurd hp List.not_mem_nil, fun p hp => absurd hp List.not_mem_nil, fun p hp => absurd hp List.not_mem_nil⟩
    show (splat 0x00000000#32, zeroR) = _
    refine Prod.ext ?_ ?_
    · show splat 0x00000000#32 = _
      rw [splat_zero]
      refine congrArg up ?_
      funext a b
      unfold dstT
      simp
    · refine zeroR_up.trans (congrArg upR ?_)
      funext j
      unfold dlS
      simp
  | succ n ih =>
    obtain ⟨k, rfl⟩ : ∃ k : Fin k1_t1_loop.trips, k.val = n := ⟨⟨n, hn⟩, rfl⟩
    obtain ⟨h1, h2, h3, h4⟩ := ih (Nat.le_of_succ_le hn)
    have hk : k.val < 17 := lt_of_lt_of_le hn (by decide +kernel)
    have e := st_k1_t1_succ (F := Ideal) 𝒱 c bd i arg1 harg1 arg2 harg2 arg3 harg3 arg4 harg4 arg5 harg5 arg6 harg6 arg7 harg7 arg8 harg8 arg9 harg9 arg10 harg10 arg11 harg11 (upR lb) posW riW ciW
      (harg1.unread (upS Q)) (harg2.unread (upS Z)) (harg3.unread (upS V)) (harg5.unread (upSt (stT lb Z V)))
      (harg6.unread (upS W)) M (splat 0x00000000#32, zeroR) k
    rw [e, h1, tripR1, tripL1]
    obtain ⟨m, hm⟩ : ∃ m, m = 16 - k.val := ⟨_, rfl⟩
    have hm' : 17 - k.val = m + 1 := by omega
    have hm'' : 17 - (k.val + 1) = m := by omega
    have hlt : m < 17 := by omega
    have o1 : k1_off1 k = ![128 * m, 0] := by rw [hm]; exact off1 k
    have o2 : k1_off2 k = ![0, m, 0, 0] := by rw [hm]; exact offSt1 k
    have r1 : rows1 arg1 (harg1.unread (upS Q)) k = up (blk m Q) := rows_read _ o1 harg1 Q
    have r2 : rows1 arg2 (harg2.unread (upS Z)) k = up (blk m Z) := rows_read _ o1 harg2 Z
    have r3 : rows1 arg3 (harg3.unread (upS V)) k = up (blk m V) := rows_read _ o1 harg3 V
    have r5 : state1 arg5 (harg5.unread (upSt (stT lb Z V))) k = up (stT lb Z V m) := states_read _ o2 harg5 _
    have r6 : rows1 arg6 (harg6.unread (upS W)) k = up (blk m W) := rows_read _ o1 harg6 W
    rw [r1, r2, r3, r5, r6]
    dsimp only
    rw [hm', dstV_up lb hlb, prev_blk _ _ _ _ m hlt, dlbV_up _ hM lb hlb, dqOutV_up _ hM lb hlb, dzOutV_up _ hM lb hlb, dvOutV_up _ hM lb hlb,
      dq_blk, df_blk _ _ _ _ _ m hlt]
    refine ⟨?_, fun p hp => ?_, fun p hp => ?_, fun p hp => ?_⟩
    · rw [hm'']
      refine Prod.ext rfl ?_
      exact congrArg upR (dl_blk lb Q Z V W m hlt)
    · rcases List.mem_append.1 hp with hp | hp
      · obtain rfl := List.mem_singleton.1 hp
        exact rows_up (k1_off1_inb k) o1 (dqS lb Q Z V W)
      · exact h2 p hp
    · rcases List.mem_append.1 hp with hp | hp
      · obtain rfl := List.mem_singleton.1 hp
        exact rows_upB (k1_off1_inb k) o1 (dzS lb Q Z V W)
      · exact h3 p hp
    · rcases List.mem_append.1 hp with hp | hp
      · obtain rfl := List.mem_singleton.1 hp
        intro x
        refine Eq.trans ?_ (rows_up (k1_off1_inb k) o1 (dvT lb Q Z W) x)
        exact congrArg (fun z : ℝ => (z : EReal)) (dv_blk lb Q Z W m hlt _ _)
      · exact h4 p hp

end Cert.Scan

end
-- ==== Proof.Outs.lean ====
/-
  What each kernel call leaves in its output blocks, from real inputs.
-/
module

public import proofs.«01_k».proof.Proof.Forward
public import proofs.«01_k».proof.Proof.Backward
public import proofs.«01_k».proof.Proof.Gen.KernelIdeal.Frame

@[expose] public section

set_option backward.isDefEq.respectTransparency false

noncomputable section

namespace Cert.Scan

open Idealize.ShloMosaic Idealize.ShloMosaic.TcCoe Idealize.SL.Sem Cert.KernelIdeal Cert.KernelIdeal.Gen Finset

/-! ## The words the calls build their masks from -/

theorem rowW : iota .tc S128x128 32 [0] iota_S128x128_d0_w32 = riW := funext fun y => iota_single_apply .tc _ _ _ _ y
theorem colW : iota .tc S128x128 32 [1] iota_S128x128_d1_w32 = ciW := funext fun y => iota_single_apply .tc _ _ _ _ y

theorem pos0 : kernelRun0_A.sl.v2 = posW := funext fun y => iota_single_apply .tc _ _ _ _ y
theorem row0 : kernelRun0_A.sl.v3 = riW := funext fun y => iota_single_apply .tc _ _ _ _ y
theorem col0 : kernelRun0_A.sl.v4 = ciW := funext fun y => iota_single_apply .tc _ _ _ _ y
theorem mask0_0 : k0_pay58 (F := Ideal) = maskPay 0 := by
  unfold k0_pay58
  dsimp only
  rw [rowW, colW]
  rfl
theorem mask0_1 : k0_pay59 (F := Ideal) = maskPay 1 := by
  unfold k0_pay59
  dsimp only
  rw [rowW, colW]
  rfl
theorem mask0_2 : k0_pay63 (F := Ideal) k0_pay60 k0_pay61 k0_pay62 = maskPay 2 := by
  unfold k0_pay63 k0_pay60
  dsimp only
  rw [rowW, colW]
  rfl
theorem mask0_3 : k0_pay64 (F := Ideal) riW ciW = maskPay 3 := by
  unfold k0_pay64
  dsimp only
  rfl
theorem mask0_4 : k0_pay65 (F := Ideal) riW ciW = maskPay 4 := by
  unfold k0_pay65
  dsimp only
  rfl
theorem mask0_5 : k0_pay1 (F := Ideal) (k0_pay66 riW ciW) = maskPay 5 := by
  unfold k0_pay1
  dsimp only
  rfl
theorem mask0_6 : k0_pay2 (F := Ideal) riW ciW = maskPay 6 := by
  unfold k0_pay2
  dsimp only
  rfl
/-- The seven stores into call 0's masks. -/
theorem masks0 : kernelRun0_A.sl.HS0_7 (F := Ideal) = maskPieces := by
  unfold kernelRun0_A.sl.HS0_7
  rw [row0, col0, mask0_0, mask0_1, mask0_2, mask0_3, mask0_4, mask0_5, mask0_6]
  rfl

theorem pos1 : kernelRun1_A.sl.v2 = posW := funext fun y => iota_single_apply .tc _ _ _ _ y
theorem row1 : kernelRun1_A.sl.v3 = riW := funext fun y => iota_single_apply .tc _ _ _ _ y
theorem col1 : kernelRun1_A.sl.v4 = ciW := funext fun y => iota_single_apply .tc _ _ _ _ y
theorem mask1_0 : k1_pay138 (F := Ideal) = maskPay 0 := by
  unfold k1_pay138
  dsimp only
  rw [rowW, colW]
  rfl
theorem mask1_1 : k1_pay139 (F := Ideal) = maskPay 1 := by
  unfold k1_pay139
  dsimp only
  rw [rowW, colW]
  rfl
theorem mask1_2 : k1_pay143 (F := Ideal) k1_pay140 k1_pay141 k1_pay142 = maskPay 2 := by
  unfold k1_pay143 k1_pay140
  dsimp only
  rw [rowW, colW]
  rfl
theorem mask1_3 : k1_pay144 (F := Ideal) riW ciW = maskPay 3 := by
  unfold k1_pay144
  dsimp only
  rfl
theorem mask1_4 : k1_pay145 (F := Ideal) riW ciW = maskPay 4 := by
  unfold k1_pay145
  dsimp only
  rfl
theorem mask1_5 : k1_pay1 (F := Ideal) (k1_pay146 riW ciW) = maskPay 5 := by
  unfold k1_pay1
  dsimp only
  rfl
theorem mask1_6 : k1_pay2 (F := Ideal) riW ciW = maskPay 6 := by
  unfold k1_pay2
  dsimp only
  rfl
/-- The seven stores into call 1's masks. -/
theorem masks1 : kernelRun1_A.sl.HS0_7 (F := Ideal) = maskPieces := by
  unfold kernelRun1_A.sl.HS0_7
  rw [row1, col1, mask1_0, mask1_1, mask1_2, mask1_3, mask1_4, mask1_5, mask1_6]
  rfl

section Fwd

variable (c : Dev nD)
  (i : grid0.Coords)
  (arg1 : Memref Cert.KernelIdeal.sig .tc .vmem S2176x128 .f32)
  (harg1 : arg1.IsWhole)
  (arg2 : Memref Cert.KernelIdeal.sig .tc .vmem S2176x128 .f32)
  (harg2 : arg2.IsWhole)
  (arg3 : Memref Cert.KernelIdeal.sig .tc .vmem S2176x128 .f32)
  (harg3 : arg3.IsWhole)
  (arg4 : Memref Cert.KernelIdeal.sig .tc .vmem S1x1x128 .f32)
  (harg4 : arg4.IsWhole)
  (arg5 : Memref Cert.KernelIdeal.sig .tc .vmem S2176x128 .f32)
  (harg5 : arg5.IsWhole)
  (arg6 : Memref Cert.KernelIdeal.sig .tc .vmem S1x17x128x128 .f32)
  (harg6 : arg6.IsWhole)
  (arg7 : Memref Cert.KernelIdeal.sig .tc .vmem S7x128x128 .f32)
  (harg7 : arg7.IsWhole)
  (lb : Fin 128 → ℝ) (hlb : ∀ j, 0 ≤ lb j ∧ lb j ≤ 1) (Q Z V : Seq)

/-- The state the forward call's loop ends in: its masks are the levels'. -/
theorem run0_end : st_k0_t1 (F := Ideal) Variants.none c none i arg1 harg1 arg2 harg2 arg3 harg3 arg4 harg4 arg5 harg5 arg6 harg6 arg7 harg7 (kernelRun0_A.sl.r c arg4 harg4 (upL lb))
    kernelRun0_A.sl.v2 kernelRun0_A.sl.v3 kernelRun0_A.sl.v4 (harg1.unread (upS Q)) (harg2.unread (upS Z)) (harg3.unread (upS V))
    (arg7.view.writes (Elt Ideal) arg7.view.junk kernelRun0_A.sl.HS0_7)
    k0_pay3 (Scf.trips 0#32 (Scalar.addi 0#32 17#32) 1#32) = st_k0_t1 (F := Ideal) Variants.none c none i arg1 harg1 arg2 harg2 arg3 harg3 arg4 harg4 arg5 harg5 arg6 harg6 arg7 harg7 (upR lb) posW riW ciW
    (harg1.unread (upS Q)) (harg2.unread (upS Z)) (harg3.unread (upS V)) (arg7.view.writes (Elt Ideal) arg7.view.junk maskPieces) (splat 0x00000000#32) 17 := by
  have e : kernelRun0_A.sl.r (F := Ideal) c arg4 harg4 (upL lb) = upR lb := lower_read harg4 lb _
  have e5 : k0_pay3 (F := Ideal) = splat 0x00000000#32 := rfl
  have e7 : Scf.trips 0#32 (Scalar.addi 0#32 17#32) 1#32 = 17 := by decide +kernel
  rw [e, pos0, row0, col0, masks0, e5, e7]

/-- The forward call's stores are its loop's. -/
theorem run0 : ((kernelRun0_A (F := Ideal) c i arg1 harg1 arg2 harg2 arg3 harg3 arg4 harg4 arg5 harg5 arg6 harg6 arg7 harg7
    (upS Q) (upS Z) (upS V) (upL lb)).1, (kernelRun0_A (F := Ideal) c i arg1 harg1 arg2 harg2 arg3 harg3 arg4 harg4 arg5 harg5 arg6 harg6 arg7 harg7
    (upS Q) (upS Z) (upS V) (upL lb)).2.1)
    = (st_k0_t1 (F := Ideal) Variants.none c none i arg1 harg1 arg2 harg2 arg3 harg3 arg4 harg4 arg5 harg5 arg6 harg6 arg7 harg7 (upR lb) posW riW ciW
    (harg1.unread (upS Q)) (harg2.unread (upS Z)) (harg3.unread (upS V)) (arg7.view.writes (Elt Ideal) arg7.view.junk maskPieces) (splat 0x00000000#32) 17).2 := by
  unfold kernelRun0_A
  dsimp only
  rw [run0_end]

include hlb

theorem run0_after : After0 lb Q Z V 17 (st_k0_t1 (F := Ideal) Variants.none c none i arg1 harg1 arg2 harg2 arg3 harg3 arg4 harg4 arg5 harg5 arg6 harg6 arg7 harg7 (upR lb) posW riW ciW
    (harg1.unread (upS Q)) (harg2.unread (upS Z)) (harg3.unread (upS V)) (arg7.view.writes (Elt Ideal) arg7.view.junk maskPieces) (splat 0x00000000#32) 17) :=
  after0 _ _ _ _ _ _ _ _ _ _ _ _ _ _ _ _ lb hlb Q Z V _ (masks_read arg7 _) 17 (by decide +kernel)

/-- The forward call's first output block is the recurrence's output. -/
theorem out0_o : out0_A_4 (F := Ideal) c i arg1 harg1 arg2 harg2 arg3 harg3 arg4 harg4 arg5 harg5 arg6 harg6 arg7 harg7
    (upS Q) (upS Z) (upS V) (upL lb) = upS (oT lb Q Z V) := by
  funext y
  unfold out0_A_4
  refine View.read_writes_apply_of_pieces _ _ _ _ ?_ y (cover0_A_4 c i arg1 harg1 arg2 harg2 arg3 harg3 arg4 harg4 arg5 harg5 arg6 harg6 arg7 harg7 _ _ _ _ y)
  have e : (kernelRun0_A (F := Ideal) c i arg1 harg1 arg2 harg2 arg3 harg3 arg4 harg4 arg5 harg5 arg6 harg6 arg7 harg7
    (upS Q) (upS Z) (upS V) (upL lb)).1 = (st_k0_t1 (F := Ideal) Variants.none c none i arg1 harg1 arg2 harg2 arg3 harg3 arg4 harg4 arg5 harg5 arg6 harg6 arg7 harg7 (upR lb) posW riW ciW
    (harg1.unread (upS Q)) (harg2.unread (upS Z)) (harg3.unread (upS V)) (arg7.view.writes (Elt Ideal) arg7.view.junk maskPieces) (splat 0x00000000#32) 17).2.1 := congrArg (fun s => s.1) (run0 c i arg1 harg1 arg2 harg2 arg3 harg3 arg4 harg4 arg5 harg5 arg6 harg6 arg7 harg7 lb Q Z V)
  rw [e]
  exact (run0_after c i arg1 harg1 arg2 harg2 arg3 harg3 arg4 harg4 arg5 harg5 arg6 harg6 arg7 harg7 lb hlb Q Z V).2.1

/-- The forward call's second output block is the state before each block of rows. -/
theorem out0_st : out0_A_5 (F := Ideal) c i arg1 harg1 arg2 harg2 arg3 harg3 arg4 harg4 arg5 harg5 arg6 harg6 arg7 harg7
    (upS Q) (upS Z) (upS V) (upL lb) = upSt (stT lb Z V) := by
  funext y
  unfold out0_A_5
  refine View.read_writes_apply_of_pieces _ _ _ _ ?_ y (cover0_A_5 c i arg1 harg1 arg2 harg2 arg3 harg3 arg4 harg4 arg5 harg5 arg6 harg6 arg7 harg7 _ _ _ _ y)
  have e : (kernelRun0_A (F := Ideal) c i arg1 harg1 arg2 harg2 arg3 harg3 arg4 harg4 arg5 harg5 arg6 harg6 arg7 harg7
    (upS Q) (upS Z) (upS V) (upL lb)).2.1 = (st_k0_t1 (F := Ideal) Variants.none c none i arg1 harg1 arg2 harg2 arg3 harg3 arg4 harg4 arg5 harg5 arg6 harg6 arg7 harg7 (upR lb) posW riW ciW
    (harg1.unread (upS Q)) (harg2.unread (upS Z)) (harg3.unread (upS V)) (arg7.view.writes (Elt Ideal) arg7.view.junk maskPieces) (splat 0x00000000#32) 17).2.2 := congrArg (fun s => s.2) (run0 c i arg1 harg1 arg2 harg2 arg3 harg3 arg4 harg4 arg5 harg5 arg6 harg6 arg7 harg7 lb Q Z V)
  rw [e]
  exact (run0_after c i arg1 harg1 arg2 harg2 arg3 harg3 arg4 harg4 arg5 harg5 arg6 harg6 arg7 harg7 lb hlb Q Z V).2.2

end Fwd

section Bwd

variable (c : Dev nD)
  (i : grid1.Coords)
  (arg1 : Memref Cert.KernelIdeal.sig .tc .vmem S2176x128 .f32)
  (harg1 : arg1.IsWhole)
  (arg2 : Memref Cert.KernelIdeal.sig .tc .vmem S2176x128 .f32)
  (harg2 : arg2.IsWhole)
  (arg3 : Memref Cert.KernelIdeal.sig .tc .vmem S2176x128 .f32)
  (harg3 : arg3.IsWhole)
  (arg4 : Memref Cert.KernelIdeal.sig .tc .vmem S1x1x128 .f32)
  (harg4 : arg4.IsWhole)
  (arg5 : Memref Cert.KernelIdeal.sig .tc .vmem S1x17x128x128 .f32)
  (harg5 : arg5.IsWhole)
  (arg6 : Memref Cert.KernelIdeal.sig .tc .vmem S2176x128 .f32)
  (harg6 : arg6.IsWhole)
  (arg7 : Memref Cert.KernelIdeal.sig .tc .vmem S2176x128 .f32)
  (harg7 : arg7.IsWhole)
  (arg8 : Memref Cert.KernelIdeal.sig .tc .vmem S2176x128 .bf16)
  (harg8 : arg8.IsWhole)
  (arg9 : Memref Cert.KernelIdeal.sig .tc .vmem S2176x128 .f32)
  (harg9 : arg9.IsWhole)
  (arg10 : Memref Cert.KernelIdeal.sig .tc .vmem S1x1x128 .f32)
  (harg10 : arg10.IsWhole)
  (arg11 : Memref Cert.KernelIdeal.sig .tc .vmem S7x128x128 .f32)
  (harg11 : arg11.IsWhole)
  (lb : Fin 128 → ℝ) (hlb : ∀ j, 0 ≤ lb j ∧ lb j ≤ 1) (Q Z V W : Seq)

/-- The state the backward call's loop ends in: its masks are the levels'. -/
theorem run1_end : st_k1_t1 (F := Ideal) Variants.none c none i arg1 harg1 arg2 harg2 arg3 harg3 arg4 harg4 arg5 harg5 arg6 harg6 arg7 harg7 arg8 harg8 arg9 harg9 arg10 harg10 arg11 harg11 (kernelRun1_A.sl.r c arg4 harg4 (upL lb))
    kernelRun1_A.sl.v2 kernelRun1_A.sl.v3 kernelRun1_A.sl.v4 (harg1.unread (upS Q)) (harg2.unread (upS Z)) (harg3.unread (upS V))
    (harg5.unread (upSt (stT lb Z V))) (harg6.unread (upS W)) (arg11.view.writes (Elt Ideal) arg11.view.junk kernelRun1_A.sl.HS0_7)
    (k1_pay3, k1_pay4) (Scf.trips 0#32 (Scalar.addi 0#32 17#32) 1#32) = st_k1_t1 (F := Ideal) Variants.none c none i arg1 harg1 arg2 harg2 arg3 harg3 arg4 harg4 arg5 harg5 arg6 harg6 arg7 harg7 arg8 harg8 arg9 harg9 arg10 harg10 arg11 harg11 (upR lb) posW riW ciW
    (harg1.unread (upS Q)) (harg2.unread (upS Z)) (harg3.unread (upS V))
    (harg5.unread (upSt (stT lb Z V))) (harg6.unread (upS W)) (arg11.view.writes (Elt Ideal) arg11.view.junk maskPieces) (splat 0x00000000#32, zeroR) 17 := by
  have e : kernelRun1_A.sl.r (F := Ideal) c arg4 harg4 (upL lb) = upR lb := lower_read harg4 lb _
  have e5 : k1_pay3 (F := Ideal) = splat 0x00000000#32 := rfl
  have e6 : k1_pay4 (F := Ideal) = zeroR := rfl
  have e7 : Scf.trips 0#32 (Scalar.addi 0#32 17#32) 1#32 = 17 := by decide +kernel
  rw [e, pos1, row1, col1, masks1, e5, e6, e7]

/-- The backward call's stores of rows are its loop's. -/
theorem run1 : ((kernelRun1_A (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W)).1, (kernelRun1_A (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W)).2.1, (kernelRun1_A (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W)).2.2.1)
    = (st_k1_t1 (F := Ideal) Variants.none c none i arg1 harg1 arg2 harg2 arg3 harg3 arg4 harg4 arg5 harg5 arg6 harg6 arg7 harg7 arg8 harg8 arg9 harg9 arg10 harg10 arg11 harg11 (upR lb) posW riW ciW
    (harg1.unread (upS Q)) (harg2.unread (upS Z)) (harg3.unread (upS V))
    (harg5.unread (upSt (stT lb Z V))) (harg6.unread (upS W)) (arg11.view.writes (Elt Ideal) arg11.view.junk maskPieces) (splat 0x00000000#32, zeroR) 17).2 := by
  unfold kernelRun1_A
  dsimp only
  rw [run1_end]

/-- Its last store is of the row its loop has summed. -/
theorem run1_l : (kernelRun1_A (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W)).2.2.2.1
    = [⟨Rect.unit (s := S1x1x128) ![0, 0, 0] S1x1x128.size inb_S1x1x128_S1x1x128_0_0_0, shapeCast S1x1x128 (st_k1_t1 (F := Ideal) Variants.none c none i arg1 harg1 arg2 harg2 arg3 harg3 arg4 harg4 arg5 harg5 arg6 harg6 arg7 harg7 arg8 harg8 arg9 harg9 arg10 harg10 arg11 harg11 (upR lb) posW riW ciW
    (harg1.unread (upS Q)) (harg2.unread (upS Z)) (harg3.unread (upS V))
    (harg5.unread (upSt (stT lb Z V))) (harg6.unread (upS W)) (arg11.view.writes (Elt Ideal) arg11.view.junk maskPieces) (splat 0x00000000#32, zeroR) 17).1.2 shapeCasts_S1x128_S1x1x128⟩] := by
  unfold kernelRun1_A
  dsimp only
  rw [run1_end]
  unfold k1_pay9
  rfl

include hlb

theorem run1_after : After1 lb Q Z V W 17 (st_k1_t1 (F := Ideal) Variants.none c none i arg1 harg1 arg2 harg2 arg3 harg3 arg4 harg4 arg5 harg5 arg6 harg6 arg7 harg7 arg8 harg8 arg9 harg9 arg10 harg10 arg11 harg11 (upR lb) posW riW ciW
    (harg1.unread (upS Q)) (harg2.unread (upS Z)) (harg3.unread (upS V))
    (harg5.unread (upSt (stT lb Z V))) (harg6.unread (upS W)) (arg11.view.writes (Elt Ideal) arg11.view.junk maskPieces) (splat 0x00000000#32, zeroR) 17) :=
  after1 _ _ _ _ _ _ _ _ _ _ _ _ _ _ _ _ _ _ _ _ _ _ _ _ lb hlb Q Z V W _ (masks_read arg11 _) 17 (by decide +kernel)

theorem out1_dq : out1_A_6 (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W) = upS (dqS lb Q Z V W) := by
  funext y
  unfold out1_A_6
  refine View.read_writes_apply_of_pieces _ _ _ _ ?_ y (cover1_A_6 c i arg1 harg1 arg2 harg2 arg3 harg3 arg4 harg4 arg5 harg5 arg6 harg6 arg7 harg7 arg8 harg8 arg9 harg9 arg10 harg10 arg11 harg11 _ _ _ _ _ _ y)
  have e : (kernelRun1_A (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W)).1 = (st_k1_t1 (F := Ideal) Variants.none c none i arg1 harg1 arg2 harg2 arg3 harg3 arg4 harg4 arg5 harg5 arg6 harg6 arg7 harg7 arg8 harg8 arg9 harg9 arg10 harg10 arg11 harg11 (upR lb) posW riW ciW
    (harg1.unread (upS Q)) (harg2.unread (upS Z)) (harg3.unread (upS V))
    (harg5.unread (upSt (stT lb Z V))) (harg6.unread (upS W)) (arg11.view.writes (Elt Ideal) arg11.view.junk maskPieces) (splat 0x00000000#32, zeroR) 17).2.1 := congrArg (fun s => s.1) (run1 c i arg1 harg1 arg2 harg2 arg3 harg3 arg4 harg4 arg5 harg5 arg6 harg6 arg7 harg7 arg8 harg8 arg9 harg9 arg10 harg10 arg11 harg11 lb Q Z V W)
  rw [e]
  exact (run1_after c i arg1 harg1 arg2 harg2 arg3 harg3 arg4 harg4 arg5 harg5 arg6 harg6 arg7 harg7 arg8 harg8 arg9 harg9 arg10 harg10 arg11 harg11 lb hlb Q Z V W).2.1

theorem out1_dz : out1_A_7 (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W) = upSB (dzS lb Q Z V W) := by
  funext y
  unfold out1_A_7
  refine View.read_writes_apply_of_pieces _ _ _ _ ?_ y (cover1_A_7 c i arg1 harg1 arg2 harg2 arg3 harg3 arg4 harg4 arg5 harg5 arg6 harg6 arg7 harg7 arg8 harg8 arg9 harg9 arg10 harg10 arg11 harg11 _ _ _ _ _ _ y)
  have e : (kernelRun1_A (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W)).2.1 = (st_k1_t1 (F := Ideal) Variants.none c none i arg1 harg1 arg2 harg2 arg3 harg3 arg4 harg4 arg5 harg5 arg6 harg6 arg7 harg7 arg8 harg8 arg9 harg9 arg10 harg10 arg11 harg11 (upR lb) posW riW ciW
    (harg1.unread (upS Q)) (harg2.unread (upS Z)) (harg3.unread (upS V))
    (harg5.unread (upSt (stT lb Z V))) (harg6.unread (upS W)) (arg11.view.writes (Elt Ideal) arg11.view.junk maskPieces) (splat 0x00000000#32, zeroR) 17).2.2.1 := congrArg (fun s => s.2.1) (run1 c i arg1 harg1 arg2 harg2 arg3 harg3 arg4 harg4 arg5 harg5 arg6 harg6 arg7 harg7 arg8 harg8 arg9 harg9 arg10 harg10 arg11 harg11 lb Q Z V W)
  rw [e]
  exact (run1_after c i arg1 harg1 arg2 harg2 arg3 harg3 arg4 harg4 arg5 harg5 arg6 harg6 arg7 harg7 arg8 harg8 arg9 harg9 arg10 harg10 arg11 harg11 lb hlb Q Z V W).2.2.1

theorem out1_dv : out1_A_8 (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W) = upS (dvT lb Q Z W) := by
  funext y
  unfold out1_A_8
  refine View.read_writes_apply_of_pieces _ _ _ _ ?_ y (cover1_A_8 c i arg1 harg1 arg2 harg2 arg3 harg3 arg4 harg4 arg5 harg5 arg6 harg6 arg7 harg7 arg8 harg8 arg9 harg9 arg10 harg10 arg11 harg11 _ _ _ _ _ _ y)
  have e : (kernelRun1_A (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W)).2.2.1 = (st_k1_t1 (F := Ideal) Variants.none c none i arg1 harg1 arg2 harg2 arg3 harg3 arg4 harg4 arg5 harg5 arg6 harg6 arg7 harg7 arg8 harg8 arg9 harg9 arg10 harg10 arg11 harg11 (upR lb) posW riW ciW
    (harg1.unread (upS Q)) (harg2.unread (upS Z)) (harg3.unread (upS V))
    (harg5.unread (upSt (stT lb Z V))) (harg6.unread (upS W)) (arg11.view.writes (Elt Ideal) arg11.view.junk maskPieces) (splat 0x00000000#32, zeroR) 17).2.2.2 := congrArg (fun s => s.2.2) (run1 c i arg1 harg1 arg2 harg2 arg3 harg3 arg4 harg4 arg5 harg5 arg6 harg6 arg7 harg7 arg8 harg8 arg9 harg9 arg10 harg10 arg11 harg11 lb Q Z V W)
  rw [e]
  exact (run1_after c i arg1 harg1 arg2 harg2 arg3 harg3 arg4 harg4 arg5 harg5 arg6 harg6 arg7 harg7 arg8 harg8 arg9 harg9 arg10 harg10 arg11 harg11 lb hlb Q Z V W).2.2.2

theorem out1_dl : out1_A_9 (F := Ideal) c i arg1 harg1 arg2 harg2 arg3 harg3 arg4 harg4 arg5 harg5 arg6 harg6 arg7 harg7 arg8 harg8 arg9 harg9 arg10 harg10 arg11 harg11
    (upS Q) (upS Z) (upS V) (upL lb) (upSt (stT lb Z V)) (upS W) = upL (dlS lb Q Z V W 0) := by
  funext y
  unfold out1_A_9
  refine View.read_writes_apply_of_pieces _ _ _ _ ?_ y (cover1_A_9 c i arg1 harg1 arg2 harg2 arg3 harg3 arg4 harg4 arg5 harg5 arg6 harg6 arg7 harg7 arg8 harg8 arg9 harg9 arg10 harg10 arg11 harg11 _ _ _ _ _ _ y)
  rw [run1_l c i arg1 harg1 arg2 harg2 arg3 harg3 arg4 harg4 arg5 harg5 arg6 harg6 arg7 harg7 arg8 harg8 arg9 harg9 arg10 harg10 arg11 harg11 lb Q Z V W, (run1_after c i arg1 harg1 arg2 harg2 arg3 harg3 arg4 harg4 arg5 harg5 arg6 harg6 arg7 harg7 arg8 harg8 arg9 harg9 arg10 harg10 arg11 harg11 lb hlb Q Z V W).1]
  intro p hp x
  obtain rfl := List.mem_singleton.1 hp
  have h0 : (x 0).val < 1 := (x 0).isLt
  have h1 : (x 1).val < 1 := (x 1).isLt
  show shapeCast S1x1x128 (upR (dlS lb Q Z V W 0)) shapeCasts_S1x128_S1x1x128 x = _
  rw [shapeCast_apply _ _ _ (ix2 0 (x 2)) (by
    rw [Shape.rowMajor_val_two, Shape.rowMajor_val_three]
    show 0 * 128 + (x 2).val = ((x 0).val * 1 + (x 1).val) * 128 + (x 2).val
    omega)]
  unfold upR upL
  congr 2
  exact Fin.ext ((ValueKit.rect_emb_unit_val (s := S1x1x128) ![0, 0, 0] S1x1x128.size
    inb_S1x1x128_S1x1x128_0_0_0 x 2).trans (Nat.zero_add _)).symm

end Bwd

end Cert.Scan

end
-- ==== Proof.Heads.lean ====
/-
  The two calls over the four heads: each head's blocks of the arrays, and what the output arrays hold at the end.
-/
module

public import proofs.«01_k».proof.Proof.Outs
public import Idealize.ShloMosaic.Lib.Pipeline.Value

@[expose] public section

set_option backward.isDefEq.respectTransparency false

noncomputable section

namespace Cert.Scan

open Idealize.ShloMosaic Idealize.ShloMosaic.TcCoe Idealize.SL.Sem Cert.KernelIdeal Cert.KernelIdeal.Gen Finset
open Idealize.ShloMosaic.Pipeline (Dat)

/-- Column `j` of head `h`, in an array of width `w` whose heads begin at column `o`. -/
def hcol {w : ℕ} (o : ℕ) (ho : o + 512 ≤ w) (h : Fin 4) (j : Fin 128) : Fin w := ⟨o + 128 * h.val + j.val, by omega⟩

def hOf (x : Fin 512) : Fin 4 := ⟨x.val / 128, by omega⟩
def jOf (x : Fin 512) : Fin 128 := ⟨x.val % 128, by omega⟩

/-- The four heads' matrices side by side. -/
def upW (G : Fin 4 → Seq) : FVec Ideal S2176x512 .f32 := fun y => ((G (hOf (y 1)) (y 0).val (jOf (y 1)) : ℝ) : EReal)
def upWB (G : Fin 4 → Seq) : FVec Ideal S2176x512 .bf16 := fun y => ((G (hOf (y 1)) (y 0).val (jOf (y 1)) : ℝ) : EReal)
/-- The four heads' states. -/
def upWt (st : Fin 4 → ℕ → Mat) : FVec Ideal S4x17x128x128 .f32 := fun y => ((st (y 0) (y 1).val (y 2) (y 3) : ℝ) : EReal)
/-- The four heads' rows. -/
def upWl (x : Fin 4 → Fin 128 → ℝ) : FVec Ideal S4x1x128 .f32 := fun y => ((x (y 0) (y 2) : ℝ) : EReal)

/-- The launch's arrays hold these real numbers: queries, gates, values, lower bounds and the output's gradient, by head. -/
structure Holds (m : (ℓ : Loc nD τ Cert.KernelIdeal.sig) → Buf (Elt Ideal) ℓ) (c : Dev nD) (lb : Fin 4 → Fin 128 → ℝ) (Q Z V W : Fin 4 → Seq) : Prop where
  q : ∀ h (t : Fin 2176) j, m ((c.tc : Thread nD τ).loc main_arg0) (ix2 t (hcol 1536 (by omega) h j)) = ((Q h t.val j : ℝ) : EReal)
  z : ∀ h (t : Fin 2176) j, m ((c.tc : Thread nD τ).loc main_arg0) (ix2 t (hcol 2048 (by omega) h j)) = ((Z h t.val j : ℝ) : EReal)
  v : ∀ h (t : Fin 2176) j, m ((c.tc : Thread nD τ).loc main_arg0) (ix2 t (hcol 3072 (by omega) h j)) = ((V h t.val j : ℝ) : EReal)
  l : ∀ h j, m ((c.tc : Thread nD τ).loc main_arg1) (ix1 (hcol 0 (by omega) h j)) = ((lb h j : ℝ) : EReal)
  w : ∀ h (t : Fin 2176) j, m ((c.tc : Thread nD τ).loc main_arg2) (ix2 t (hcol 0 (by omega) h j)) = ((W h t.val j : ℝ) : EReal)
  lim : ∀ h j, 0 ≤ lb h j ∧ lb h j ≤ 1

theorem n0 : cfg0.N = 4 := by decide +kernel
theorem n1 : cfg1.N = 4 := by decide +kernel
def hd0 (t : Fin cfg0.N) : Fin 4 := ⟨t.val, n0 ▸ t.isLt⟩
def hd1 (t : Fin cfg1.N) : Fin 4 := ⟨t.val, n1 ▸ t.isLt⟩

theorem ix0_0 : ∀ t : Fin cfg0.N, win0_0.index t = ![0, 12 + t.val] := by decide +kernel
theorem ix0_1 : ∀ t : Fin cfg0.N, win0_1.index t = ![0, 16 + t.val] := by decide +kernel
theorem ix0_2 : ∀ t : Fin cfg0.N, win0_2.index t = ![0, 24 + t.val] := by decide +kernel
theorem ix0_3 : ∀ t : Fin cfg0.N, win0_3.index t = ![t.val, 0, 0] := by decide +kernel
theorem ix0_4 : ∀ t : Fin cfg0.N, win0_4.index t = ![0, t.val] := by decide +kernel
theorem ix0_5 : ∀ t : Fin cfg0.N, win0_5.index t = ![t.val, 0, 0, 0] := by decide +kernel
theorem ix1_0 : ∀ t : Fin cfg1.N, win1_0.index t = ![0, 12 + t.val] := by decide +kernel
theorem ix1_1 : ∀ t : Fin cfg1.N, win1_1.index t = ![0, 16 + t.val] := by decide +kernel
theorem ix1_2 : ∀ t : Fin cfg1.N, win1_2.index t = ![0, 24 + t.val] := by decide +kernel
theorem ix1_3 : ∀ t : Fin cfg1.N, win1_3.index t = ![t.val, 0, 0] := by decide +kernel
theorem ix1_4 : ∀ t : Fin cfg1.N, win1_4.index t = ![t.val, 0, 0, 0] := by decide +kernel
theorem ix1_5 : ∀ t : Fin cfg1.N, win1_5.index t = ![0, t.val] := by decide +kernel
theorem ix1_6 : ∀ t : Fin cfg1.N, win1_6.index t = ![0, t.val] := by decide +kernel
theorem ix1_7 : ∀ t : Fin cfg1.N, win1_7.index t = ![0, t.val] := by decide +kernel
theorem ix1_8 : ∀ t : Fin cfg1.N, win1_8.index t = ![0, t.val] := by decide +kernel
theorem ix1_9 : ∀ t : Fin cfg1.N, win1_9.index t = ![t.val, 0, 0] := by decide +kernel

variable (m : (ℓ : Loc nD τ Cert.KernelIdeal.sig) → Buf (Elt Ideal) ℓ) (ρ : Dev nD → PrngReg) (c : Dev nD)
  {lb : Fin 4 → Fin 128 → ℝ} {Q Z V W : Fin 4 → Seq} (H : Holds m c lb Q Z V W)
include H

theorem in0_q (t : Fin cfg0.N) : iblk0 (F := Ideal) (V1 m ρ) c 0 t = upS (Q (hd0 t)) := by
  funext y
  show V1 m ρ c main_arg0 (((cfg0.win 0).blk t).view.emb y) = _
  have e : V1 m ρ c main_arg0 = m ((c.tc : Thread nD τ).loc main_arg0) := W1_args m ρ c _ (by decide)
  have e' : ((cfg0.win 0).blk t).view.emb y = ix2 (y 0) (hcol 1536 (by omega) (hd0 t) (y 1)) := by
    funext a
    refine Fin.ext ?_
    refine ((cfg0.win 0).rect_emb_val t y a).trans ?_
    rw [show (cfg0.win 0).index t = _ from ix0_0 t]
    match a with
    | ⟨0, _⟩ => exact (congrArg (· + (y 0).val) (Nat.zero_mul _)).trans (Nat.zero_add _)
    | ⟨1, _⟩ => show (12 + t.val) * 128 + (y 1).val = 1536 + 128 * t.val + (y 1).val; omega
  rw [e, e', H.q]
  rfl

theorem in0_z (t : Fin cfg0.N) : iblk0 (F := Ideal) (V1 m ρ) c 1 t = upS (Z (hd0 t)) := by
  funext y
  show V1 m ρ c main_arg0 (((cfg0.win 1).blk t).view.emb y) = _
  have e : V1 m ρ c main_arg0 = m ((c.tc : Thread nD τ).loc main_arg0) := W1_args m ρ c _ (by decide)
  have e' : ((cfg0.win 1).blk t).view.emb y = ix2 (y 0) (hcol 2048 (by omega) (hd0 t) (y 1)) := by
    funext a
    refine Fin.ext ?_
    refine ((cfg0.win 1).rect_emb_val t y a).trans ?_
    rw [show (cfg0.win 1).index t = _ from ix0_1 t]
    match a with
    | ⟨0, _⟩ => exact (congrArg (· + (y 0).val) (Nat.zero_mul _)).trans (Nat.zero_add _)
    | ⟨1, _⟩ => show (16 + t.val) * 128 + (y 1).val = 2048 + 128 * t.val + (y 1).val; omega
  rw [e, e', H.z]
  rfl

theorem in0_v (t : Fin cfg0.N) : iblk0 (F := Ideal) (V1 m ρ) c 2 t = upS (V (hd0 t)) := by
  funext y
  show V1 m ρ c main_arg0 (((cfg0.win 2).blk t).view.emb y) = _
  have e : V1 m ρ c main_arg0 = m ((c.tc : Thread nD τ).loc main_arg0) := W1_args m ρ c _ (by decide)
  have e' : ((cfg0.win 2).blk t).view.emb y = ix2 (y 0) (hcol 3072 (by omega) (hd0 t) (y 1)) := by
    funext a
    refine Fin.ext ?_
    refine ((cfg0.win 2).rect_emb_val t y a).trans ?_
    rw [show (cfg0.win 2).index t = _ from ix0_2 t]
    match a with
    | ⟨0, _⟩ => exact (congrArg (· + (y 0).val) (Nat.zero_mul _)).trans (Nat.zero_add _)
    | ⟨1, _⟩ => show (24 + t.val) * 128 + (y 1).val = 3072 + 128 * t.val + (y 1).val; omega
  rw [e, e', H.v]
  rfl

/-- The lower bounds, as the host lays them out by head. -/
theorem lower_arr : V1 m ρ c main_v0 = upWl lb := by
  funext y
  have h1 : (y 1).val < 1 := (y 1).isLt
  show shapeCast S4x1x128 (m ((c.tc : Thread nD τ).loc main_arg1)) shapeCasts_S512_S4x1x128 y = _
  rw [shapeCast_apply _ _ _ (ix1 (hcol 0 (by omega) (y 0) (y 2))) (by
    rw [Shape.rowMajor_val_one, Shape.rowMajor_val_three]
    show 0 + 128 * (y 0).val + (y 2).val = ((y 0).val * 1 + (y 1).val) * 128 + (y 2).val
    omega), H.l]
  rfl

theorem in0_l (t : Fin cfg0.N) : iblk0 (F := Ideal) (V1 m ρ) c 3 t = upL (lb (hd0 t)) := by
  funext y
  have h0 : (y 0).val < 1 := (y 0).isLt
  have h1 : (y 1).val < 1 := (y 1).isLt
  show V1 m ρ c main_v0 (((cfg0.win 3).blk t).view.emb y) = _
  have e : V1 m ρ c main_v0 = upWl lb := lower_arr m ρ c H
  have e' : ((cfg0.win 3).blk t).view.emb y = ix3 (hd0 t) (y 1) (y 2) := by
    funext a
    refine Fin.ext ?_
    refine ((cfg0.win 3).rect_emb_val t y a).trans ?_
    rw [show (cfg0.win 3).index t = _ from ix0_3 t]
    match a with
    | ⟨0, _⟩ => show t.val * 1 + (y 0).val = t.val; omega
    | ⟨1, _⟩ => show 0 * 1 + (y 1).val = (y 1).val; omega
    | ⟨2, _⟩ => show 0 * 128 + (y 2).val = (y 2).val; omega
  rw [e, e']
  rfl

/-- After the forward call: every head's output. -/
theorem arr_o : (dat0 (F := Ideal) (V1 m ρ) c).arrAt 4 cfg0.N = upW (fun h => oT (lb h) (Q h) (Z h) (V h)) := by
  refine (dat0 (F := Ideal) (V1 m ρ) c).arrAt_eq_of_covers 4 _ (by decide +kernel) fun t hf y => ?_
  rw [after0_4]
  unfold outsAt0
  rw [in0_q m ρ c H t, in0_z m ρ c H t, in0_v m ρ c H t, in0_l m ρ c H t]
  show out0_A_4 (F := Ideal) _ _ _ _ _ _ _ _ _ _ _ _ _ _ _ _ _ _ _ _ y = _
  rw [out0_o (hlb := H.lim _)]
  have e' : ((cfg0.win 4).blk t).view.emb y = ix2 (y 0) (hcol 0 (by omega) (hd0 t) (y 1)) := by
    funext a
    refine Fin.ext ?_
    refine ((cfg0.win 4).rect_emb_val t y a).trans ?_
    rw [show (cfg0.win 4).index t = _ from ix0_4 t]
    match a with
    | ⟨0, _⟩ => exact (congrArg (· + (y 0).val) (Nat.zero_mul _)).trans (Nat.zero_add _)
    | ⟨1, _⟩ => show t.val * 128 + (y 1).val = 0 + 128 * t.val + (y 1).val; omega
  rw [e']
  have hh : hOf (hcol 0 (by omega) (hd0 t) (y 1)) = hd0 t := Fin.ext (by
    have : (y 1).val < 128 := (y 1).isLt
    show (0 + 128 * t.val + (y 1).val) / 128 = t.val; omega)
  have hj : jOf (hcol 0 (by omega) (hd0 t) (y 1)) = y 1 := Fin.ext (by
    have : (y 1).val < 128 := (y 1).isLt
    show (0 + 128 * t.val + (y 1).val) % 128 = (y 1).val; omega)
  show _ = (((fun h => oT (lb h) (Q h) (Z h) (V h)) (hOf (hcol 0 (by omega) (hd0 t) (y 1))) (y 0).val (jOf (hcol 0 (by omega) (hd0 t) (y 1))) : ℝ) : EReal)
  rw [hh, hj]
  rfl

/-- After the forward call: every head's state before every block of rows. -/
theorem arr_st : (dat0 (F := Ideal) (V1 m ρ) c).arrAt 5 cfg0.N = upWt (fun h => stT (lb h) (Z h) (V h)) := by
  refine (dat0 (F := Ideal) (V1 m ρ) c).arrAt_eq_of_covers 5 _ (by decide +kernel) fun t hf y => ?_
  rw [after0_5]
  unfold outsAt0
  rw [in0_q m ρ c H t, in0_z m ρ c H t, in0_v m ρ c H t, in0_l m ρ c H t]
  show out0_A_5 (F := Ideal) _ _ _ _ _ _ _ _ _ _ _ _ _ _ _ _ _ _ _ _ y = _
  rw [out0_st (hlb := H.lim _)]
  have h0 : (y 0).val < 1 := (y 0).isLt
  have e' : ((cfg0.win 5).blk t).view.emb y = ix4 (hd0 t) (y 1) (y 2) (y 3) := by
    funext a
    refine Fin.ext ?_
    refine ((cfg0.win 5).rect_emb_val t y a).trans ?_
    rw [show (cfg0.win 5).index t = _ from ix0_5 t]
    match a with
    | ⟨0, _⟩ => show t.val * 1 + (y 0).val = t.val; omega
    | ⟨1, _⟩ => show 0 * 17 + (y 1).val = (y 1).val; omega
    | ⟨2, _⟩ => show 0 * 128 + (y 2).val = (y 2).val; omega
    | ⟨3, _⟩ => show 0 * 128 + (y 3).val = (y 3).val; omega
  rw [e']
  rfl

theorem in1_q (t : Fin cfg1.N) : iblk1 (F := Ideal) (V2 m ρ) c 0 t = upS (Q (hd1 t)) := by
  funext y
  show V2 m ρ c main_arg0 (((cfg1.win 0).blk t).view.emb y) = _
  have e : V2 m ρ c main_arg0 = m ((c.tc : Thread nD τ).loc main_arg0) := W2_args m ρ c _ (by decide)
  have e' : ((cfg1.win 0).blk t).view.emb y = ix2 (y 0) (hcol 1536 (by omega) (hd1 t) (y 1)) := by
    funext a
    refine Fin.ext ?_
    refine ((cfg1.win 0).rect_emb_val t y a).trans ?_
    rw [show (cfg1.win 0).index t = _ from ix1_0 t]
    match a with
    | ⟨0, _⟩ => exact (congrArg (· + (y 0).val) (Nat.zero_mul _)).trans (Nat.zero_add _)
    | ⟨1, _⟩ => show (12 + t.val) * 128 + (y 1).val = 1536 + 128 * t.val + (y 1).val; omega
  rw [e, e', H.q]
  rfl

theorem in1_z (t : Fin cfg1.N) : iblk1 (F := Ideal) (V2 m ρ) c 1 t = upS (Z (hd1 t)) := by
  funext y
  show V2 m ρ c main_arg0 (((cfg1.win 1).blk t).view.emb y) = _
  have e : V2 m ρ c main_arg0 = m ((c.tc : Thread nD τ).loc main_arg0) := W2_args m ρ c _ (by decide)
  have e' : ((cfg1.win 1).blk t).view.emb y = ix2 (y 0) (hcol 2048 (by omega) (hd1 t) (y 1)) := by
    funext a
    refine Fin.ext ?_
    refine ((cfg1.win 1).rect_emb_val t y a).trans ?_
    rw [show (cfg1.win 1).index t = _ from ix1_1 t]
    match a with
    | ⟨0, _⟩ => exact (congrArg (· + (y 0).val) (Nat.zero_mul _)).trans (Nat.zero_add _)
    | ⟨1, _⟩ => show (16 + t.val) * 128 + (y 1).val = 2048 + 128 * t.val + (y 1).val; omega
  rw [e, e', H.z]
  rfl

theorem in1_v (t : Fin cfg1.N) : iblk1 (F := Ideal) (V2 m ρ) c 2 t = upS (V (hd1 t)) := by
  funext y
  show V2 m ρ c main_arg0 (((cfg1.win 2).blk t).view.emb y) = _
  have e : V2 m ρ c main_arg0 = m ((c.tc : Thread nD τ).loc main_arg0) := W2_args m ρ c _ (by decide)
  have e' : ((cfg1.win 2).blk t).view.emb y = ix2 (y 0) (hcol 3072 (by omega) (hd1 t) (y 1)) := by
    funext a
    refine Fin.ext ?_
    refine ((cfg1.win 2).rect_emb_val t y a).trans ?_
    rw [show (cfg1.win 2).index t = _ from ix1_2 t]
    match a with
    | ⟨0, _⟩ => exact (congrArg (· + (y 0).val) (Nat.zero_mul _)).trans (Nat.zero_add _)
    | ⟨1, _⟩ => show (24 + t.val) * 128 + (y 1).val = 3072 + 128 * t.val + (y 1).val; omega
  rw [e, e', H.v]
  rfl

theorem in1_w (t : Fin cfg1.N) : iblk1 (F := Ideal) (V2 m ρ) c 5 t = upS (W (hd1 t)) := by
  funext y
  show V2 m ρ c main_arg2 (((cfg1.win 5).blk t).view.emb y) = _
  have e : V2 m ρ c main_arg2 = m ((c.tc : Thread nD τ).loc main_arg2) := W2_args m ρ c _ (by decide)
  have e' : ((cfg1.win 5).blk t).view.emb y = ix2 (y 0) (hcol 0 (by omega) (hd1 t) (y 1)) := by
    funext a
    refine Fin.ext ?_
    refine ((cfg1.win 5).rect_emb_val t y a).trans ?_
    rw [show (cfg1.win 5).index t = _ from ix1_5 t]
    match a with
    | ⟨0, _⟩ => exact (congrArg (· + (y 0).val) (Nat.zero_mul _)).trans (Nat.zero_add _)
    | ⟨1, _⟩ => show t.val * 128 + (y 1).val = 0 + 128 * t.val + (y 1).val; omega
  rw [e, e', H.w]
  rfl

theorem in1_l (t : Fin cfg1.N) : iblk1 (F := Ideal) (V2 m ρ) c 3 t = upL (lb (hd1 t)) := by
  funext y
  have h0 : (y 0).val < 1 := (y 0).isLt
  have h1 : (y 1).val < 1 := (y 1).isLt
  show V2 m ρ c main_v0 (((cfg1.win 3).blk t).view.emb y) = _
  have e : V2 m ρ c main_v0 = upWl lb := (W2_of m ρ c main_v0 (by decide)).trans (lower_arr m ρ c H)
  have e' : ((cfg1.win 3).blk t).view.emb y = ix3 (hd1 t) (y 1) (y 2) := by
    funext a
    refine Fin.ext ?_
    refine ((cfg1.win 3).rect_emb_val t y a).trans ?_
    rw [show (cfg1.win 3).index t = _ from ix1_3 t]
    match a with
    | ⟨0, _⟩ => show t.val * 1 + (y 0).val = t.val; omega
    | ⟨1, _⟩ => show 0 * 1 + (y 1).val = (y 1).val; omega
    | ⟨2, _⟩ => show 0 * 128 + (y 2).val = (y 2).val; omega
  rw [e, e']
  rfl

theorem in1_st (t : Fin cfg1.N) : iblk1 (F := Ideal) (V2 m ρ) c 4 t = upSt (stT (lb (hd1 t)) (Z (hd1 t)) (V (hd1 t))) := by
  funext y
  have h0 : (y 0).val < 1 := (y 0).isLt
  show V2 m ρ c main_v1_1 (((cfg1.win 4).blk t).view.emb y) = _
  have e : V2 m ρ c main_v1_1 = upWt (fun h => stT (lb h) (Z h) (V h)) := (W2_arr m ρ c 5).trans (arr_st m ρ c H)
  have e' : ((cfg1.win 4).blk t).view.emb y = ix4 (hd1 t) (y 1) (y 2) (y 3) := by
    funext a
    refine Fin.ext ?_
    refine ((cfg1.win 4).rect_emb_val t y a).trans ?_
    rw [show (cfg1.win 4).index t = _ from ix1_4 t]
    match a with
    | ⟨0, _⟩ => show t.val * 1 + (y 0).val = t.val; omega
    | ⟨1, _⟩ => show 0 * 17 + (y 1).val = (y 1).val; omega
    | ⟨2, _⟩ => show 0 * 128 + (y 2).val = (y 2).val; omega
    | ⟨3, _⟩ => show 0 * 128 + (y 3).val = (y 3).val; omega
  rw [e, e']
  rfl

/-- After the backward call: the queries' gradient. -/
theorem arr_dq : (dat1 (F := Ideal) (V2 m ρ) c).arrAt 6 cfg1.N = upW (fun h => dqS (lb h) (Q h) (Z h) (V h) (W h)) := by
  refine (dat1 (F := Ideal) (V2 m ρ) c).arrAt_eq_of_covers 6 _ (by decide +kernel) fun t hf y => ?_
  rw [after1_6]
  unfold outsAt1
  rw [in1_q m ρ c H t, in1_z m ρ c H t, in1_v m ρ c H t, in1_l m ρ c H t, in1_st m ρ c H t, in1_w m ρ c H t]
  show out1_A_6 (F := Ideal) _ _ _ _ _ _ _ _ _ _ _ _ _ _ _ _ _ _ _ _ _ _ _ _ _ _ _ _ _ _ y = _
  rw [out1_dq (hlb := H.lim _)]
  have e' : ((cfg1.win 6).blk t).view.emb y = ix2 (y 0) (hcol 0 (by omega) (hd1 t) (y 1)) := by
    funext a
    refine Fin.ext ?_
    refine ((cfg1.win 6).rect_emb_val t y a).trans ?_
    rw [show (cfg1.win 6).index t = _ from ix1_6 t]
    match a with
    | ⟨0, _⟩ => exact (congrArg (· + (y 0).val) (Nat.zero_mul _)).trans (Nat.zero_add _)
    | ⟨1, _⟩ => show t.val * 128 + (y 1).val = 0 + 128 * t.val + (y 1).val; omega
  rw [e']
  have hh : hOf (hcol 0 (by omega) (hd1 t) (y 1)) = hd1 t := Fin.ext (by
    have : (y 1).val < 128 := (y 1).isLt
    show (0 + 128 * t.val + (y 1).val) / 128 = t.val; omega)
  have hj : jOf (hcol 0 (by omega) (hd1 t) (y 1)) = y 1 := Fin.ext (by
    have : (y 1).val < 128 := (y 1).isLt
    show (0 + 128 * t.val + (y 1).val) % 128 = (y 1).val; omega)
  show _ = (((fun h => dqS (lb h) (Q h) (Z h) (V h) (W h)) (hOf (hcol 0 (by omega) (hd1 t) (y 1))) (y 0).val (jOf (hcol 0 (by omega) (hd1 t) (y 1))) : ℝ) : EReal)
  rw [hh, hj]
  rfl

/-- After the backward call: the gates' gradient. -/
theorem arr_dz : (dat1 (F := Ideal) (V2 m ρ) c).arrAt 7 cfg1.N = upWB (fun h => dzS (lb h) (Q h) (Z h) (V h) (W h)) := by
  refine (dat1 (F := Ideal) (V2 m ρ) c).arrAt_eq_of_covers 7 _ (by decide +kernel) fun t hf y => ?_
  rw [after1_7]
  unfold outsAt1
  rw [in1_q m ρ c H t, in1_z m ρ c H t, in1_v m ρ c H t, in1_l m ρ c H t, in1_st m ρ c H t, in1_w m ρ c H t]
  show out1_A_7 (F := Ideal) _ _ _ _ _ _ _ _ _ _ _ _ _ _ _ _ _ _ _ _ _ _ _ _ _ _ _ _ _ _ y = _
  rw [out1_dz (hlb := H.lim _)]
  have e' : ((cfg1.win 7).blk t).view.emb y = ix2 (y 0) (hcol 0 (by omega) (hd1 t) (y 1)) := by
    funext a
    refine Fin.ext ?_
    refine ((cfg1.win 7).rect_emb_val t y a).trans ?_
    rw [show (cfg1.win 7).index t = _ from ix1_7 t]
    match a with
    | ⟨0, _⟩ => exact (congrArg (· + (y 0).val) (Nat.zero_mul _)).trans (Nat.zero_add _)
    | ⟨1, _⟩ => show t.val * 128 + (y 1).val = 0 + 128 * t.val + (y 1).val; omega
  rw [e']
  have hh : hOf (hcol 0 (by omega) (hd1 t) (y 1)) = hd1 t := Fin.ext (by
    have : (y 1).val < 128 := (y 1).isLt
    show (0 + 128 * t.val + (y 1).val) / 128 = t.val; omega)
  have hj : jOf (hcol 0 (by omega) (hd1 t) (y 1)) = y 1 := Fin.ext (by
    have : (y 1).val < 128 := (y 1).isLt
    show (0 + 128 * t.val + (y 1).val) % 128 = (y 1).val; omega)
  show _ = (((fun h => dzS (lb h) (Q h) (Z h) (V h) (W h)) (hOf (hcol 0 (by omega) (hd1 t) (y 1))) (y 0).val (jOf (hcol 0 (by omega) (hd1 t) (y 1))) : ℝ) : EReal)
  rw [hh, hj]
  rfl

/-- After the backward call: the values' gradient. -/
theorem arr_dv : (dat1 (F := Ideal) (V2 m ρ) c).arrAt 8 cfg1.N = upW (fun h => dvT (lb h) (Q h) (Z h) (W h)) := by
  refine (dat1 (F := Ideal) (V2 m ρ) c).arrAt_eq_of_covers 8 _ (by decide +kernel) fun t hf y => ?_
  rw [after1_8]
  unfold outsAt1
  rw [in1_q m ρ c H t, in1_z m ρ c H t, in1_v m ρ c H t, in1_l m ρ c H t, in1_st m ρ c H t, in1_w m ρ c H t]
  show out1_A_8 (F := Ideal) _ _ _ _ _ _ _ _ _ _ _ _ _ _ _ _ _ _ _ _ _ _ _ _ _ _ _ _ _ _ y = _
  rw [out1_dv (hlb := H.lim _)]
  have e' : ((cfg1.win 8).blk t).view.emb y = ix2 (y 0) (hcol 0 (by omega) (hd1 t) (y 1)) := by
    funext a
    refine Fin.ext ?_
    refine ((cfg1.win 8).rect_emb_val t y a).trans ?_
    rw [show (cfg1.win 8).index t = _ from ix1_8 t]
    match a with
    | ⟨0, _⟩ => exact (congrArg (· + (y 0).val) (Nat.zero_mul _)).trans (Nat.zero_add _)
    | ⟨1, _⟩ => show t.val * 128 + (y 1).val = 0 + 128 * t.val + (y 1).val; omega
  rw [e']
  have hh : hOf (hcol 0 (by omega) (hd1 t) (y 1)) = hd1 t := Fin.ext (by
    have : (y 1).val < 128 := (y 1).isLt
    show (0 + 128 * t.val + (y 1).val) / 128 = t.val; omega)
  have hj : jOf (hcol 0 (by omega) (hd1 t) (y 1)) = y 1 := Fin.ext (by
    have : (y 1).val < 128 := (y 1).isLt
    show (0 + 128 * t.val + (y 1).val) % 128 = (y 1).val; omega)
  show _ = (((fun h => dvT (lb h) (Q h) (Z h) (W h)) (hOf (hcol 0 (by omega) (hd1 t) (y 1))) (y 0).val (jOf (hcol 0 (by omega) (hd1 t) (y 1))) : ℝ) : EReal)
  rw [hh, hj]
  rfl

/-- After the backward call: the lower bounds' gradient. -/
theorem arr_dl : (dat1 (F := Ideal) (V2 m ρ) c).arrAt 9 cfg1.N = upWl (fun h => dlS (lb h) (Q h) (Z h) (V h) (W h) 0) := by
  refine (dat1 (F := Ideal) (V2 m ρ) c).arrAt_eq_of_covers 9 _ (by decide +kernel) fun t hf y => ?_
  rw [after1_9]
  unfold outsAt1
  rw [in1_q m ρ c H t, in1_z m ρ c H t, in1_v m ρ c H t, in1_l m ρ c H t, in1_st m ρ c H t, in1_w m ρ c H t]
  show out1_A_9 (F := Ideal) _ _ _ _ _ _ _ _ _ _ _ _ _ _ _ _ _ _ _ _ _ _ _ _ _ _ _ _ _ _ y = _
  rw [out1_dl (hlb := H.lim _)]
  have h0 : (y 0).val < 1 := (y 0).isLt
  have h1 : (y 1).val < 1 := (y 1).isLt
  have e' : ((cfg1.win 9).blk t).view.emb y = ix3 (hd1 t) (y 1) (y 2) := by
    funext a
    refine Fin.ext ?_
    refine ((cfg1.win 9).rect_emb_val t y a).trans ?_
    rw [show (cfg1.win 9).index t = _ from ix1_9 t]
    match a with
    | ⟨0, _⟩ => show t.val * 1 + (y 0).val = t.val; omega
    | ⟨1, _⟩ => show 0 * 1 + (y 1).val = (y 1).val; omega
    | ⟨2, _⟩ => show 0 * 128 + (y 2).val = (y 2).val; omega
  rw [e']
  rfl

end Cert.Scan

end
-- ==== Proof.Range.lean ====
/-
  The precondition read: where it is all ones the entries the scan reads are real numbers, and the gates' lower bounds
  lie between zero and one.
-/
module

public import proofs.«01_k».proof.Proof.Heads
public import proofs.«01_k».proof.Defs

@[expose] public section

set_option backward.isDefEq.respectTransparency false

noncomputable section

namespace Cert.Scan

open Idealize.ShloMosaic Idealize.ShloMosaic.TcCoe Cert.Pre_gates_in_range

theorem and_ones (a b : BitVec 1) : IntOp.andi a b = 1#1 ↔ a = 1#1 ∧ b = 1#1 := by
  revert a b; decide

theorem ones_of_bool (p : Bool) : BitVec.ofBool p = 1#1 ↔ p = true := by cases p <;> decide

theorem inf_word : Ideal.ofBits .f32 0x7F800000#32 = (⊤ : EReal) := by
  simp [Ideal.ofBits, Ideal.ieee]

/-- A number whose absolute value lies below infinity is a real number. -/
theorem finite_of (x : EReal) (h : Ideal.cmp .olt (max x (-x)) (Ideal.ofBits .f32 0x7F800000#32) = 1#1) : x = ((x.toReal : ℝ) : EReal) := by
  rw [inf_word] at h
  have l : max x (-x) < ⊤ := of_decide_eq_true ((ones_of_bool _).1 h)
  refine (EReal.coe_toReal (fun e => ?_) (fun e => ?_)).symm
  · rw [e] at l; simp at l
  · rw [e] at l; simp at l

theorem range_of (x : EReal) (h0 : Ideal.cmp .oge x (Ideal.ofBits .f32 0x00000000#32) = 1#1)
    (h1 : Ideal.cmp .ole x (Ideal.ofBits .f32 0x3F800000#32) = 1#1) : x = ((x.toReal : ℝ) : EReal) ∧ 0 ≤ x.toReal ∧ x.toReal ≤ 1 := by
  rw [Ideal.ofBits_zero_f32] at h0
  rw [one_word] at h1
  have l0 : (0 : EReal) ≤ x := of_decide_eq_true ((ones_of_bool _).1 h0)
  have l1 : x ≤ ((1 : ℝ) : EReal) := of_decide_eq_true ((ones_of_bool _).1 h1)
  have e : x = ((x.toReal : ℝ) : EReal) := (EReal.coe_toReal (fun e => by rw [e] at l1; exact absurd l1 (not_le.2 (EReal.coe_lt_top 1))) (fun e => by rw [e] at l0; simp at l0)).symm
  rw [e] at l0 l1
  exact ⟨e, EReal.coe_nonneg.1 l0, EReal.coe_le_coe_iff.1 l1⟩

variable [Facts]

/-- What the precondition says of one place of the arrays. -/
theorem entry_of (x0 : FVec Ideal S2176x6144 .f32) (x1 : FVec Ideal S512 .f32) (x2 : FVec Ideal S2176x512 .f32)
    (h : fn (F := Ideal) x0 x1 x2 = fun _ => 1#1) (t : Fin 2176) (hd : Fin 4) (j : Fin 128) :
    (x0 (ix2 t (hcol 1536 (by omega) hd j)) = (((x0 (ix2 t (hcol 1536 (by omega) hd j)) : EReal).toReal : ℝ) : EReal))
    ∧ (x0 (ix2 t (hcol 2048 (by omega) hd j)) = (((x0 (ix2 t (hcol 2048 (by omega) hd j)) : EReal).toReal : ℝ) : EReal))
    ∧ (x0 (ix2 t (hcol 3072 (by omega) hd j)) = (((x0 (ix2 t (hcol 3072 (by omega) hd j)) : EReal).toReal : ℝ) : EReal))
    ∧ (x2 (ix2 t (hcol 0 (by omega) hd j)) = (((x2 (ix2 t (hcol 0 (by omega) hd j)) : EReal).toReal : ℝ) : EReal))
    ∧ (x1 (ix1 (hcol 0 (by omega) hd j)) = (((x1 (ix1 (hcol 0 (by omega) hd j)) : EReal).toReal : ℝ) : EReal))
    ∧ 0 ≤ (x1 (ix1 (hcol 0 (by omega) hd j)) : EReal).toReal ∧ (x1 (ix1 (hcol 0 (by omega) hd j)) : EReal).toReal ≤ 1 := by
  have e := congrFun h (ix2 t (hcol 0 (by omega) hd j))
  simp only [fn, fn_part1] at e
  change IntOp.andi (IntOp.andi (IntOp.andi _ _) _) _ = 1#1 at e
  obtain ⟨e, e1⟩ := (and_ones _ _).1 e
  obtain ⟨e, e0⟩ := (and_ones _ _).1 e
  obtain ⟨e, ew⟩ := (and_ones _ _).1 e
  change IntOp.andi (IntOp.andi _ _) _ = 1#1 at e
  obtain ⟨e, ev⟩ := (and_ones _ _).1 e
  obtain ⟨eq, ez⟩ := (and_ones _ _).1 e
  have cut : ∀ (o : ℕ) (ho : o + 512 ≤ 6144) (hs : S2176x6144.Slices ![0, o] S2176x512),
      extractStridedSlice S2176x512 ![0, o] x0 hs (ix2 t (hcol 0 (by omega) hd j)) = x0 (ix2 t (hcol o ho hd j)) := by
    intro o ho hs
    refine extractStridedSlice_apply ![0, o] x0 hs _ _ fun a => ?_
    match a with
    | ⟨0, _⟩ => exact (Nat.zero_add _).symm
    | ⟨1, _⟩ => show o + 128 * hd.val + j.val = o + (0 + 128 * hd.val + j.val); omega
  have low : broadcastInDim S2176x512 ![1] Facts.bcast_S512_S2176x512_1 x1 (ix2 t (hcol 0 (by omega) hd j)) = x1 (ix1 (hcol 0 (by omega) hd j)) := by
    refine broadcastInDim_apply _ _ x1 _ _ fun a => ?_
    match a with
    | ⟨0, _⟩ => exact (if_neg (show ¬(512 : ℕ) = 1 by decide)).symm
  refine ⟨finite_of _ ?_, finite_of _ ?_, finite_of _ ?_, finite_of _ ew, range_of _ ?_ ?_⟩
  · rw [← cut 1536 (by omega) Facts.slices_S2176x6144_S2176x512_0_1536]; exact eq
  · rw [← cut 2048 (by omega) Facts.slices_S2176x6144_S2176x512_0_2048]; exact ez
  · rw [← cut 3072 (by omega) Facts.slices_S2176x6144_S2176x512_0_3072]; exact ev
  · rw [← low]; exact e0
  · rw [← low]; exact e1

/-- The real numbers of a matrix's heads from a column on, zero past its rows. -/
def seqOf {w : ℕ} (x : FVec Ideal (⟨2, ![2176, w]⟩ : Shape) .f32) (o : ℕ) (ho : o + 512 ≤ w) (h : Fin 4) : Seq :=
  fun t j => if ht : t < 2176 then (x (ix2 ⟨t, ht⟩ (hcol o ho h j)) : EReal).toReal else 0
/-- The real numbers of the lower bounds. -/
def lowOf (x : FVec Ideal S512 .f32) (h : Fin 4) (j : Fin 128) : ℝ := (x (ix1 (hcol 0 (by omega) h j)) : EReal).toReal

theorem seqOf_val {w : ℕ} (x : FVec Ideal (⟨2, ![2176, w]⟩ : Shape) .f32) (o : ℕ) (ho : o + 512 ≤ w) (h : Fin 4) (t : Fin 2176) (j : Fin 128) :
    seqOf x o ho h t.val j = (x (ix2 t (hcol o ho h j)) : EReal).toReal := dif_pos t.isLt

/-- Where the precondition holds, the launch's arrays hold the real numbers they read as. -/
theorem holds_of_pre (m : (ℓ : Loc Cert.KernelIdeal.nD Cert.KernelIdeal.τ Cert.KernelIdeal.sig) → Buf (Elt Ideal) ℓ)
    (h : Cert.Pre_KernelIdeal_gates_in_range m) (c : Dev Cert.KernelIdeal.nD) :
    Holds m c (lowOf (m ((c.tc : Thread Cert.KernelIdeal.nD Cert.KernelIdeal.τ).loc Cert.KernelIdeal.main_arg1)))
      (seqOf (w := 6144) (m ((c.tc : Thread Cert.KernelIdeal.nD Cert.KernelIdeal.τ).loc Cert.KernelIdeal.main_arg0)) 1536 (by omega))
      (seqOf (w := 6144) (m ((c.tc : Thread Cert.KernelIdeal.nD Cert.KernelIdeal.τ).loc Cert.KernelIdeal.main_arg0)) 2048 (by omega))
      (seqOf (w := 6144) (m ((c.tc : Thread Cert.KernelIdeal.nD Cert.KernelIdeal.τ).loc Cert.KernelIdeal.main_arg0)) 3072 (by omega))
      (seqOf (w := 512) (m ((c.tc : Thread Cert.KernelIdeal.nD Cert.KernelIdeal.τ).loc Cert.KernelIdeal.main_arg2)) 0 (by omega)) where
  q hd t j := (entry_of _ _ _ (h c) t hd j).1.trans (congrArg (fun x : ℝ => (x : EReal)) (seqOf_val _ _ _ hd t j).symm)
  z hd t j := (entry_of _ _ _ (h c) t hd j).2.1.trans (congrArg (fun x : ℝ => (x : EReal)) (seqOf_val _ _ _ hd t j).symm)
  v hd t j := (entry_of _ _ _ (h c) t hd j).2.2.1.trans (congrArg (fun x : ℝ => (x : EReal)) (seqOf_val _ _ _ hd t j).symm)
  w hd t j := (entry_of _ _ _ (h c) t hd j).2.2.2.1.trans (congrArg (fun x : ℝ => (x : EReal)) (seqOf_val _ _ _ hd t j).symm)
  l hd j := (entry_of _ _ _ (h c) 0 hd j).2.2.2.2.1
  lim hd j := (entry_of _ _ _ (h c) 0 hd j).2.2.2.2.2

end Cert.Scan

end
-- ==== Proof.GateRun.lean ====
/-
  The gate program: the run, what its results hold, and the two programs compared where the gain and the incoming gradient are finite.
-/
module

public import proofs.«01_k».proof.Proof.Gate
public import proofs.«01_k».proof.Proof.Range

@[expose] public section

set_option maxRecDepth 16384

noncomputable section

namespace Cert.Step.Gate

open Idealize.ShloMosaic hiding ix1 ix2 ix3
open Idealize.ShloMosaic.TcCoe Cert.GateKernelIdeal Cert.GateKernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

section
variable {F : FTy → Type} [FloatOps F]
variable (m : (ℓ : Loc nD τ Cert.GateKernelIdeal.sig) → Buf (Elt F) ℓ) (ρ : Dev nD → PrngReg)

set_option backward.isDefEq.respectTransparency.types false in
/-- The program runs, and every array ends as the calls leave it. -/
theorem run_arrays : θ_run defs (onTc (τ := τ) (main (F := F))) ⟨m, fun _ => 0, ρ⟩ (fun r => ∀ c : Dev nD,
      ∀ b ∈ Pipeline.ucRefs τ Cert.GateKernelIdeal.sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ Cert.GateKernelIdeal.sig Unit (Elt F) ℕ (UR Cert.GateKernelIdeal.sig nD τ) ℕ))
            ⊢ BI.own (emb₁ (initOf (Pipeline.cells cfgs cellOf_inj) (Pipeline.launchToks cfgs cellOf_inj))) from .rfl)
        iexact Hu
      iapply (show (BI.emp : sProp (MT nD τ Cert.GateKernelIdeal.sig Unit (Elt F) ℕ (UR Cert.GateKernelIdeal.sig nD τ) ℕ)) ⊢ bigSep Finset.univ (fun _ : Dev nD => (BI.emp : sProp (MT nD τ Cert.GateKernelIdeal.sig Unit (Elt F) ℕ (UR Cert.GateKernelIdeal.sig nD τ) ℕ))) from by rw [BI.bigSep_emp_const])
      iempintro)
    (T₀ := fun c => iprop(StableHlo.held (c : Thread nD τ) (Pipeline.ucRefs τ Cert.GateKernelIdeal.sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ Cert.GateKernelIdeal.sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ Cert.GateKernelIdeal.sig, s.mem (((c : Thread nD τ)).1, b) = W2 m ρ c b)
    (hfin := fun c s' => by
      iintro ⟨⟨Hh, -⟩, HSI⟩
      unfold StableHlo.held
      imodintro
      iapply (pointsTo_read_all (Pipeline.ucRefs τ Cert.GateKernelIdeal.sig) (fun b => (((c : Thread nD τ)).1, b)) (W2 m ρ c) s')
      isplitl [Hh] <;> iassumption)
    (hQ := fun s h _ c b hb => h c b hb)

end

section
variable (m : (ℓ : Loc nD τ Cert.GateKernelIdeal.sig) → Buf (Elt Ideal) ℓ) (ρ : Dev nD → PrngReg) (c : Dev nD)

/-- The arguments: the two scans' outputs, the projection, the gain and the incoming gradient. -/
def a0 : (M2 2176 512).Idx → EReal := m ((c.tc : Thread nD τ).loc main_arg0)
def a1 : (M2 2176 512).Idx → EReal := m ((c.tc : Thread nD τ).loc main_arg1)
def a2 : (M2 2176 6144).Idx → EReal := m ((c.tc : Thread nD τ).loc main_arg2)
def a3 : (M2 1 512).Idx → EReal := m ((c.tc : Thread nD τ).loc main_arg3)
def a4 : (M2 2176 512).Idx → EReal := m ((c.tc : Thread nD τ).loc main_arg4)

theorem y_2 : W2 m ρ c main_v0 = gate4 (both (a0 m c) (a1 m c)) (gcol (a2 m c)) (a3 m c) :=
  (W2_of m ρ c main_v0 (by decide)).trans ((W1_arr m ρ c 4).trans (arr_y (V0 m ρ) c))
theorem dx_2 : W2 m ρ c main_v1_0 = dx4 (both (a0 m c) (a1 m c)) (gcol (a2 m c)) (a4 m c) (a3 m c) := (W2_arr m ρ c 5).trans ((arr_dx (V1 m ρ) c).trans (by
    rw [show V1 m ρ c main_arg0 = a0 m c from W1_args m ρ c _ (by decide), show V1 m ρ c main_arg1 = a1 m c from W1_args m ρ c _ (by decide),
      show V1 m ρ c main_arg2 = a2 m c from W1_args m ρ c _ (by decide), show V1 m ρ c main_arg3 = a3 m c from W1_args m ρ c _ (by decide),
      show V1 m ρ c main_arg4 = a4 m c from W1_args m ρ c _ (by decide)]))
theorem dg_2 : W2 m ρ c main_v1_1 = dgate4 (both (a0 m c) (a1 m c)) (gcol (a2 m c)) (a4 m c) (a3 m c) := (W2_arr m ρ c 6).trans ((arr_dg (V1 m ρ) c).trans (by
    rw [show V1 m ρ c main_arg0 = a0 m c from W1_args m ρ c _ (by decide), show V1 m ρ c main_arg1 = a1 m c from W1_args m ρ c _ (by decide),
      show V1 m ρ c main_arg2 = a2 m c from W1_args m ρ c _ (by decide), show V1 m ρ c main_arg3 = a3 m c from W1_args m ρ c _ (by decide),
      show V1 m ρ c main_arg4 = a4 m c from W1_args m ρ c _ (by decide)]))
theorem dw_2 : W2 m ρ c main_v1_2 = dgain4 (both (a0 m c) (a1 m c)) (gcol (a2 m c)) (a4 m c) := (W2_arr m ρ c 7).trans ((arr_dw (V1 m ρ) c).trans (by
    rw [show V1 m ρ c main_arg0 = a0 m c from W1_args m ρ c _ (by decide), show V1 m ρ c main_arg1 = a1 m c from W1_args m ρ c _ (by decide),
      show V1 m ρ c main_arg2 = a2 m c from W1_args m ρ c _ (by decide), show V1 m ρ c main_arg4 = a4 m c from W1_args m ρ c _ (by decide)]))

end

/-! ## The reference -/

open Cert.GateReferenceIdeal.Read

section
variable (x0 x1 x4 : FVec Ideal S2176x512 .f32) (x2 : FVec Ideal S2176x6144 .f32) (x3 : FVec Ideal S1x512 .f32)

/-- An array is given by its heads' elements. -/
theorem eq_heads {m : ℕ} (X : (M2 m 512).Idx → EReal) (f : Fin 4 → (M2 m 128).Idx → EReal) (h : ∀ k (r : Fin m) j, X (ix2 r (hcol k j)) = f k (ix2 r j)) :
    X = glue f :=
  eq_glue X f fun k z => (h k (z 0) (z 1)).trans (congrArg (f k) (eta2 z))

abbrev M3 (p : ℕ) : Shape := ⟨3, ![2176, 4, p]⟩

theorem at3 {p : ℕ} (q : (M3 p).Idx) {r : Fin 2176} {k : Fin 4} {j : Fin p} (h0 : ((q 0 : Fin 2176) : ℕ) = r.val) (h1 : ((q 1 : Fin 4) : ℕ) = k.val)
    (h2 : ((q 2 : Fin p) : ℕ) = j.val) : q = ix3 r k j := by
  funext a; refine Fin.ext ?_; match a with | ⟨0, _⟩ => exact h0 | ⟨1, _⟩ => exact h1 | ⟨2, _⟩ => exact h2

/-- Row `r` of head `k`. -/
abbrev hrow (k : Fin 4) (r : Fin 2176) : Fin 128 → EReal := row (head (both x0 x1) k) r

theorem ref_x (r : Fin 2176) (k : Fin 4) (j : Fin 128) : val_main_v2 (F := Ideal) x0 x1 (ix3 r k j) = head (both x0 x1) k (ix2 r j) := by
  rw [val_main_v2_apply]
  show x0 _ + x1 _ = _
  have h2 := j.isLt
  have h1 := k.isLt
  exact congrArg (fun p => x0 p + x1 p) (eq_of_vals (by show ((r.val * 4 + k.val) * 128 + j.val) / 512 = r.val; omega)
    (by show ((r.val * 4 + k.val) * 128 + j.val) % 512 = k.val * 128 + j.val; omega))

theorem ref_msq (r : Fin 2176) (k : Fin 4) (u : Fin 1) : val_main_v9 (F := Ideal) x0 x1 (ix3 r k u) = msq len128 (hrow x0 x1 k r) := by
  rw [val_main_v9_apply, val_main_v7_apply, val_main_v5_apply, val_main_v4_apply, val_main_v6_apply, val_main_v8_apply]
  show Ideal.div (Ideal.ofBits .f32 0x00000000#32 + ∑ j : Fin 128, _) len128 + eps = _
  rw [Ideal.ofBits_zero_f32, zero_add]
  refine congrArg (fun a => Ideal.div a len128 + eps) (Finset.sum_congr rfl fun j _ => ?_)
  show val_main_v2 (F := Ideal) x0 x1 _ * val_main_v2 (F := Ideal) x0 x1 _ = _
  rw [at3 (idx_main_v4 (idx_main_v5 (ix3 r k u)) j) (r := r) (k := k) (j := j) rfl rfl rfl, ref_x]
  rfl

theorem ref_rms (r : Fin 2176) (k : Fin 4) (u : Fin 1) : val_main_v10 (F := Ideal) x0 x1 (ix3 r k u) = rms len128 (hrow x0 x1 k r) :=
  congrArg Ideal.rsqrt (ref_msq x0 x1 r k u)

theorem split_col (r : Fin 2176) (k : Fin 4) (j : Fin 128) : idx_main_v16 (ix2 r (hcol k j)) = ix3 r k j := by
  have h2 := j.isLt
  have h1 := k.isLt
  exact at3 _ (by show (r.val * 512 + (k.val * 128 + j.val)) / 512 = r.val; omega) (by show (r.val * 512 + (k.val * 128 + j.val)) / 128 % 4 = k.val; omega)
    (by show (r.val * 512 + (k.val * 128 + j.val)) % 128 = j.val; omega)

theorem ref_unit (r : Fin 2176) (k : Fin 4) (j : Fin 128) : val_main_v16 (F := Ideal) x0 x1 (ix2 r (hcol k j)) = unitR len128 (head (both x0 x1) k) (ix2 r j) := by
  rw [val_main_v16_apply, split_col]
  show val_main_v2 (F := Ideal) x0 x1 _ * val_main_v14 (F := Ideal) x0 x1 _ = _
  rw [val_main_v14_apply, ref_x, at3 (idx_main_v14 (ix3 r k j)) (r := r) (k := k) (j := 0) rfl rfl rfl, ref_rms]
  rfl

theorem ref_w (r : Fin 2176) (k : Fin 4) (j : Fin 128) : val_main_v17 (F := Ideal) x3 (ix2 r (hcol k j)) = along (head x3 k) (ix2 r j) := by
  rw [val_main_v17_apply]
  exact congrArg x3 (eq_of_vals rfl rfl)

theorem ref_g (y) : val_main_v1 (F := Ideal) x2 y = gcol x2 y := by
  rw [val_main_v1_apply]
  exact congrArg x2 (eq_of_vals rfl rfl)

theorem ref_sg (y) : val_main_v19_2 (F := Ideal) x2 y = sg (gcol x2 y) := by
  rw [sg_eq, ← ref_g]
  rfl

theorem ref_sl (y) : val_main_v19_0 (F := Ideal) x2 y = sl (gcol x2 y) := by
  show val_main_v1 (F := Ideal) x2 y * val_main_v19_2 (F := Ideal) x2 y = _
  rw [ref_g, ref_sg]; rfl

theorem ref_y : val_main_v45 (F := Ideal) x0 x1 x2 x3 = gate4 (both x0 x1) (gcol x2) x3 :=
  eq_heads _ _ fun k r j => by
    show val_main_v16 (F := Ideal) x0 x1 (ix2 r (hcol k j)) * val_main_v17 (F := Ideal) x3 (ix2 r (hcol k j))
      * val_main_v19_0 (F := Ideal) x2 (ix2 r (hcol k j)) = _
    rw [ref_unit, ref_w, ref_sl]; rfl

theorem ref_dgain : val_main_v26 (F := Ideal) x0 x1 x2 x4 = dgain4 (both x0 x1) (gcol x2) x4 :=
  eq_heads _ _ fun k r j => by
    show val_main_v26 (F := Ideal) x0 x1 x2 x4 (ix2 r (hcol k j)) = _
    rw [val_main_v26_apply, val_main_v25_apply]
    show Ideal.ofBits .f32 0x00000000#32 + _ = _
    rw [Ideal.ofBits_zero_f32, zero_add]
    unfold down
    refine Finset.sum_congr rfl fun s _ => ?_
    have h0 := r.isLt
    rw [show idx_main_v25 (idx_main_v26 (ix2 r (hcol k j))) s = ix2 s (hcol k j) from
      eq_of_vals rfl (by show r.val * 512 + (hcol k j).val = (hcol k j).val; omega)]
    show val_main_v16 (F := Ideal) x0 x1 _ * (x4 _ * val_main_v19_0 (F := Ideal) x2 _) = _
    rw [ref_unit, ref_sl]
    exact (mul_left_comm _ _ _).trans (mul_assoc _ _ _).symm

/-- The gradient of the gate, where the gain and the incoming gradient are numbers. -/
theorem ref_dgate (h4 : ∀ y, ∃ a : ℝ, x4 y = (a : EReal)) (h3 : ∀ y, ∃ a : ℝ, x3 y = (a : EReal)) :
    val_main_v46 (F := Ideal) x0 x1 x2 x3 x4 = dgate4 (both x0 x1) (gcol x2) x4 x3 :=
  eq_heads _ _ fun k r j => by
    show val_main_v16 (F := Ideal) x0 x1 (ix2 r (hcol k j)) * val_main_v17 (F := Ideal) x3 (ix2 r (hcol k j)) * x4 (ix2 r (hcol k j))
        * val_main_v19_2 (F := Ideal) x2 (ix2 r (hcol k j))
      + val_main_v1 (F := Ideal) x2 (ix2 r (hcol k j))
        * (val_main_v16 (F := Ideal) x0 x1 (ix2 r (hcol k j)) * val_main_v17 (F := Ideal) x3 (ix2 r (hcol k j)) * x4 (ix2 r (hcol k j)))
        * (val_main_v19_2 (F := Ideal) x2 (ix2 r (hcol k j)) * (one - val_main_v19_2 (F := Ideal) x2 (ix2 r (hcol k j)))) = _
    rw [ref_unit, ref_w, ref_sg, ref_g]
    obtain ⟨d, hd⟩ := h4 (ix2 r (hcol k j))
    obtain ⟨w, hw⟩ := h3 (ix2 0 (hcol k j))
    obtain ⟨n, hn⟩ := unit_real (N := 128) (by norm_num) (hrow x0 x1 k r) j
    have hu : ∃ a : ℝ, unitR len128 (head (both x0 x1) k) (ix2 r j) * along (head x3 k) (ix2 r j) * x4 (ix2 r (hcol k j)) = (a : EReal) := by
      refine ⟨n * w * d, ?_⟩
      have e : unitR len128 (head (both x0 x1) k) (ix2 r j) = (n : EReal) := by
        rw [len128_eq]; exact hn
      rw [e, show along (head x3 k) (ix2 r j) = (w : EReal) from hw, hd, ← EReal.coe_mul, ← EReal.coe_mul]
    refine (silu_grad hu _).symm.trans ?_
    rw [mul_comm (_ * _) (x4 _), ← mul_assoc]
    rfl

/-- The gradient of the normalised heads. -/
theorem ref_cot (r : Fin 2176) (k : Fin 4) (j : Fin 128) :
    val_main_v29 (F := Ideal) x2 x3 x4 (ix3 r k j) = cot1 (head (gcol x2) k) (head x4 k) (head x3 k) (ix2 r j) := by
  have h2 := j.isLt
  have h1 := k.isLt
  rw [val_main_v29_apply, show idx_main_v29 (ix3 r k j) = ix2 r (hcol k j) from
    eq_of_vals (by show ((r.val * 4 + k.val) * 128 + j.val) / 512 = r.val; omega) (by show ((r.val * 4 + k.val) * 128 + j.val) % 512 = k.val * 128 + j.val; omega)]
  show x4 _ * val_main_v19_0 (F := Ideal) x2 _ * val_main_v27 (F := Ideal) x3 _ = _
  rw [show val_main_v27 (F := Ideal) x3 = val_main_v17 (F := Ideal) x3 from rfl, ref_w, ref_sl, mul_right_comm]
  rfl

abbrev crow (k : Fin 4) (r : Fin 2176) : Fin 128 → EReal := row (cot1 (head (gcol x2) k) (head x4 k) (head x3 k)) r

theorem ref_share (r : Fin 2176) (k : Fin 4) (j : Fin 128) :
    val_main_v39 (F := Ideal) x0 x1 x2 x3 x4 (ix3 r k j) = share len128 (hrow x0 x1 k r) (crow x4 x2 x3 k r) := by
  have h1 := k.isLt
  rw [val_main_v39_apply, val_main_v38_apply]
  show Ideal.ofBits .f32 0x00000000#32 + _ = _
  rw [Ideal.ofBits_zero_f32, zero_add, Fin.sum_univ_one, at3 (idx_main_v38 (idx_main_v39 (ix3 r k j)) 0) (r := r) (k := k) (j := 0) rfl rfl rfl,
    val_main_v37_apply, val_main_v36_apply]
  show Ideal.div (val_main_v32 (F := Ideal) x0 x1 x2 x3 x4 _ * val_main_v13 (F := Ideal) x0 x1 _) len128 = _
  rw [val_main_v32_apply, val_main_v31_apply, val_main_v13_apply, val_main_v12_apply, val_main_v11_apply, ref_rms, ref_msq]
  show Ideal.div ((Ideal.ofBits .f32 0x00000000#32 + _) * (nhlf * Ideal.div _ _)) len128 = _
  rw [Ideal.ofBits_zero_f32, zero_add]
  unfold share
  refine congrArg (fun a => Ideal.div (a * _) len128) (Finset.sum_congr rfl fun l _ => ?_)
  rw [at3 (idx_main_v31 (idx_main_v32 (ix3 r k 0)) l) (r := r) (k := k) (j := l) (by show ((r.val * 4 + k.val) * 1 + 0) / 4 = r.val; omega)
    (by show ((r.val * 4 + k.val) * 1 + 0) % 4 = k.val; omega) rfl]
  show val_main_v2 (F := Ideal) x0 x1 _ * val_main_v29 (F := Ideal) x2 x3 x4 _ = _
  rw [ref_x, ref_cot]
  rfl

theorem ref_dx : val_main_v44 (F := Ideal) x0 x1 x2 x3 x4 = dx4 (both x0 x1) (gcol x2) x4 x3 :=
  eq_heads _ _ fun k r j => by
    show val_main_v44 (F := Ideal) x0 x1 x2 x3 x4 (ix2 r (hcol k j)) = _
    rw [val_main_v44_apply, show idx_main_v44 (ix2 r (hcol k j)) = ix3 r k j from split_col r k j]
    show val_main_v29 (F := Ideal) x2 x3 x4 _ * val_main_v33 (F := Ideal) x0 x1 _ + val_main_v2 (F := Ideal) x0 x1 _ * val_main_v39 (F := Ideal) x0 x1 x2 x3 x4 _
      + val_main_v39 (F := Ideal) x0 x1 x2 x3 x4 _ * val_main_v2 (F := Ideal) x0 x1 _ = _
    rw [val_main_v33_apply, at3 (idx_main_v33 (ix3 r k j)) (r := r) (k := k) (j := 0) rfl rfl rfl, ref_rms, ref_share, ref_x, ref_cot]
    have h := grad_eq (m := 2176) (n := 128) (N := 128) (by norm_num) (head (both x0 x1) k) (cot1 (head (gcol x2) k) (head x4 k) (head x3 k)) (ix2 r j)
    rw [← len128_eq] at h
    exact h.symm

end

section
variable [Cert.Pre_finite_gradient.Facts]

/-- Where the precondition is all ones the gain and the incoming gradient are numbers. -/
theorem finite_args (x0 x1 x4 : FVec Ideal S2176x512 .f32) (x2 : FVec Ideal S2176x6144 .f32) (x3 : FVec Ideal S1x512 .f32)
    (h : Cert.Pre_finite_gradient.fn (F := Ideal) x0 x1 x2 x3 x4 = fun _ => 1#1) :
    (∀ y, ∃ a : ℝ, x4 y = (a : EReal)) ∧ ∀ y, ∃ a : ℝ, x3 y = (a : EReal) := by
  have key : ∀ y : S2176x512.Idx, (∃ a : ℝ, x4 y = (a : EReal)) ∧ ∃ a : ℝ, x3 (ix2 0 (y 1)) = (a : EReal) := by
    intro y
    have e := congrFun h y
    simp only [Cert.Pre_finite_gradient.fn] at e
    change IntOp.andi _ _ = 1#1 at e
    obtain ⟨e3, e4⟩ := (Cert.Scan.and_ones _ _).1 e
    refine ⟨⟨_, Cert.Scan.finite_of _ e4⟩, ⟨_, Cert.Scan.finite_of _ ?_⟩⟩
    have low : broadcastInDim S2176x512 ![0, 1] Cert.Pre_finite_gradient.Facts.bcast_S1x512_S2176x512_0_1 x3 y = x3 (ix2 0 (y 1)) := by
      refine broadcastInDim_apply _ _ x3 _ _ fun a => ?_
      match a with
      | ⟨0, _⟩ => rfl
      | ⟨1, _⟩ => exact (if_neg (show ¬(512 : ℕ) = 1 by decide)).symm
    rw [← low]; exact e3
  refine ⟨fun y => (key y).1, fun y => ?_⟩
  have h0 : ((y 0 : Fin 1) : ℕ) < 1 := (y 0).isLt
  have e : y = ix2 0 (y 1) := eq_of_vals (by show ((y 0 : Fin 1) : ℕ) = 0; omega) rfl
  rw [e]
  exact (key (ix2 0 (y 1))).2

end

/-- The reference ends with its arguments as they were and no semaphore raised. -/
theorem ref_frame : Cert.quiescent_GateReferenceIdeal := fun m g _ =>
  (θ_run _ _ _).mono (fun r h => ⟨fun c => (h c).2.2.2.2, sem_eq_zero_of_no_sems (by decide) _⟩) (Cert.GateReferenceIdeal.Value.run m g)

/-- From arguments that agree, both programs run and end with the same results. -/
theorem same_results [Cert.Pre_finite_gradient.Facts] : Cert.algebraic_GateKernelIdeal_GateReferenceIdeal_pre_finite_gradient := by
  intro m g m' g' hp ha
  refine ⟨_, _, _, _, (θ_run _ _ _).mono (fun r h c =>
    ⟨(h c _ (mem_uc main_v0 (by decide))).trans (y_2 m g c),
     (h c _ (mem_uc main_v1_0 (by decide))).trans (dx_2 m g c),
     (h c _ (mem_uc main_v1_1 (by decide))).trans (dg_2 m g c),
     (h c _ (mem_uc main_v1_2 (by decide))).trans (dw_2 m g c),
     (h c _ (mem_uc main_arg0 (by decide))).trans (W2_main_arg0 m g c),
     (h c _ (mem_uc main_arg1 (by decide))).trans (W2_main_arg1 m g c),
     (h c _ (mem_uc main_arg2 (by decide))).trans (W2_main_arg2 m g c),
     (h c _ (mem_uc main_arg3 (by decide))).trans (W2_main_arg3 m g c),
     (h c _ (mem_uc main_arg4 (by decide))).trans (W2_main_arg4 m g c)⟩) (run_arrays m g),
    (θ_run _ _ _).mono (fun r h c => ?_) (Cert.GateReferenceIdeal.Value.run m' g')⟩
  obtain ⟨h0, h1, h2, h3, hf⟩ := h c
  obtain ⟨e0, e1, e2, e3, e4⟩ := ha c
  obtain ⟨f4, f3⟩ := finite_args _ _ _ _ _ (hp c)
  refine ⟨h0.trans ((ref_y _ _ _ _).trans ?_), h1.trans ((val_main_v44_eq m' c).trans ((ref_dx _ _ _ _ _).trans ?_)),
    h2.trans ((ref_dgate _ _ _ _ _ (by rw [e4]; exact f4) (by rw [e3]; exact f3)).trans ?_), h3.trans ((ref_dgain _ _ _ _).trans ?_), hf⟩
  all_goals simp only [e0, e1, e2, e3, e4]; rfl

end Cert.Step.Gate

end
-- ==== Proof.AdamIn.lean ====
/-
  The optimiser's step on the input projection's weight: eight row tiles, each updated entry by entry.
-/
module

public import proofs.«01_k».proof.Proof.Product
public import Idealize.ShloMosaic.Lib.Pipeline.ValueKit.Geometry
public import Idealize.ShloMosaic.Lib.Pipeline.ValueKit.Acc
public import proofs.«01_k».proof.Proof.Gen.AdamInKernelIdeal.Value
public import proofs.«01_k».proof.Proof.Gen.AdamInReferenceIdeal.Read
public import proofs.«01_k».proof.Proof.Gen.AdamInReferenceIdeal.Run
public import proofs.«01_k».proof.Proof.Gen.AdamInReferenceIdeal
public import proofs.«01_k».proof.Defs

@[expose] public section

set_option backward.isDefEq.respectTransparency false

noncomputable section

namespace Cert.Step.AdamIn

open Idealize.ShloMosaic Idealize.ShloMosaic.TcCoe Idealize.SL.Sem Cert.AdamInKernelIdeal Cert.AdamInKernelIdeal.Gen Cert.AdamInReferenceIdeal.Read

variable (m : (ℓ : Loc nD τ Cert.AdamInKernelIdeal.sig) → Buf (Elt Ideal) ℓ) (ρ : Dev nD → PrngReg)

/-- The change of the input projection's weight, tile by tile, is the change of the whole array. -/
theorem arr4 (c : Dev nD) : (dats (F := Ideal) m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats (F := Ideal) m 0 c).arrAt_eq_of_covers 4 _ (by decide +kernel) fun t hf y => ?_
  show (dats (F := Ideal) m 0 c).after 4 t y = _
  rw [after0_4]
  frame_out
  rfl

/-- The first moment of the input projection's weight, tile by tile, is the first moment of the whole array. -/
theorem arr5 (c : Dev nD) : (dats (F := Ideal) m 0 c).arrAt 5 cfg0.N = val_main_v4 (F := Ideal) (m ((c : Thread nD τ).loc main_arg1)) (m ((c : Thread nD τ).loc main_arg2)) := by
  refine (dats (F := Ideal) m 0 c).arrAt_eq_of_covers 5 _ (by decide +kernel) fun t hf y => ?_
  show (dats (F := Ideal) m 0 c).after 5 t y = _
  rw [after0_5]
  frame_out
  rfl

/-- The second moment of the input projection's weight, tile by tile, is the second moment of the whole array. -/
theorem arr6 (c : Dev nD) : (dats (F := Ideal) m 0 c).arrAt 6 cfg0.N = val_main_v10 (F := Ideal) (m ((c : Thread nD τ).loc main_arg1)) (m ((c : Thread nD τ).loc main_arg3)) := by
  refine (dats (F := Ideal) m 0 c).arrAt_eq_of_covers 6 _ (by decide +kernel) fun t hf y => ?_
  show (dats (F := Ideal) m 0 c).after 6 t y = _
  rw [after0_6]
  frame_out
  rfl

/-- The reference ends with its arguments as they were and no semaphore raised. -/
theorem ref_frame : Cert.quiescent_AdamInReferenceIdeal := fun m g _ =>
  (θ_run _ _ _).mono (fun r h => ⟨fun c => (h c).2.2.2, sem_eq_zero_of_no_sems (by decide) _⟩) (Cert.AdamInReferenceIdeal.Value.run m g)

/-- From arguments that agree, both programs run and end with the same results. -/
theorem same_results : Cert.algebraic_AdamInKernelIdeal_AdamInReferenceIdeal := by
  intro m g m' g' _ ha
  exact ⟨_, _, _, (θ_run _ _ _).mono (fun r h c => ⟨(h c).1.trans (arr4 m c), (h c).2.1.trans (arr5 m c), (h c).2.2.1.trans (arr6 m c), (h c).2.2.2.2⟩) (Cert.AdamInKernelIdeal.Value.run_blocks m g),
    (θ_run _ _ _).mono (fun r h c => ⟨(h c).1.trans ((val_main_v23_eq _ _ _ _).trans (congr (congr (congrArg₂ (val_main_v23 (F := Ideal)) (ha c).1 (ha c).2.1) (ha c).2.2.1) (ha c).2.2.2)), (h c).2.1.trans ((val_main_v4_eq _ _).trans (congrArg₂ (val_main_v4 (F := Ideal)) (ha c).2.1 (ha c).2.2.1)), (h c).2.2.1.trans ((val_main_v10_eq _ _).trans (congrArg₂ (val_main_v10 (F := Ideal)) (ha c).2.1 (ha c).2.2.2)), (h c).2.2.2⟩) (Cert.AdamInReferenceIdeal.Value.run m' g')⟩

end Cert.Step.AdamIn

end
-- ==== Proof.AdamSmall.lean ====
/-
  The optimiser's step on the small weights, packed into 104 rows of 128 entries, which are one block.
-/
module

public import proofs.«01_k».proof.Proof.Product
public import Idealize.ShloMosaic.Lib.Pipeline.ValueKit.Geometry
public import Idealize.ShloMosaic.Lib.Pipeline.ValueKit.Acc
public import proofs.«01_k».proof.Proof.Gen.AdamSmallKernelIdeal.Value
public import proofs.«01_k».proof.Proof.Gen.AdamSmallReferenceIdeal.Read
public import proofs.«01_k».proof.Proof.Gen.AdamSmallReferenceIdeal.Run
public import proofs.«01_k».proof.Proof.Gen.AdamSmallReferenceIdeal
public import proofs.«01_k».proof.Defs

@[expose] public section

set_option backward.isDefEq.respectTransparency false

noncomputable section

namespace Cert.Step.AdamSmall

open Idealize.ShloMosaic Idealize.ShloMosaic.TcCoe Idealize.SL.Sem Cert.AdamSmallKernelIdeal Cert.AdamSmallKernelIdeal.Gen Cert.AdamSmallReferenceIdeal.Read

variable (m : (ℓ : Loc nD τ Cert.AdamSmallKernelIdeal.sig) → Buf (Elt Ideal) ℓ) (ρ : Dev nD → PrngReg)

set_option maxHeartbeats 8000000 in
/-- The change of the packed weights, written by one block, is the change of the whole array. -/
theorem arr4 (c : Dev nD) : (dats (F := Ideal) m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats (F := Ideal) m 0 c).arrAt_eq_of_covers 4 _ (by decide +kernel) fun t hf y => ?_
  show (dats (F := Ideal) m 0 c).after 4 t y = _
  rw [after0_4]
  frame_out
  rfl

/-- The first moment of the packed weights, written by one block, is the first moment of the whole array. -/
theorem arr5 (c : Dev nD) : (dats (F := Ideal) m 0 c).arrAt 5 cfg0.N = val_main_v4 (F := Ideal) (m ((c : Thread nD τ).loc main_arg1)) (m ((c : Thread nD τ).loc main_arg2)) := by
  refine (dats (F := Ideal) m 0 c).arrAt_eq_of_covers 5 _ (by decide +kernel) fun t hf y => ?_
  show (dats (F := Ideal) m 0 c).after 5 t y = _
  rw [after0_5]
  frame_out
  rfl

/-- The second moment of the packed weights, written by one block, is the second moment of the whole array. -/
theorem arr6 (c : Dev nD) : (dats (F := Ideal) m 0 c).arrAt 6 cfg0.N = val_main_v10 (F := Ideal) (m ((c : Thread nD τ).loc main_arg1)) (m ((c : Thread nD τ).loc main_arg3)) := by
  refine (dats (F := Ideal) m 0 c).arrAt_eq_of_covers 6 _ (by decide +kernel) fun t hf y => ?_
  show (dats (F := Ideal) m 0 c).after 6 t y = _
  rw [after0_6]
  frame_out
  rfl

/-- The reference ends with its arguments as they were and no semaphore raised. -/
theorem ref_frame : Cert.quiescent_AdamSmallReferenceIdeal := fun m g _ =>
  (θ_run _ _ _).mono (fun r h => ⟨fun c => (h c).2.2.2, sem_eq_zero_of_no_sems (by decide) _⟩) (Cert.AdamSmallReferenceIdeal.Value.run m g)

/-- From arguments that agree, both programs run and end with the same results. -/
theorem same_results : Cert.algebraic_AdamSmallKernelIdeal_AdamSmallReferenceIdeal := by
  intro m g m' g' _ ha
  exact ⟨_, _, _, (θ_run _ _ _).mono (fun r h c => ⟨(h c).1.trans (arr4 m c), (h c).2.1.trans (arr5 m c), (h c).2.2.1.trans (arr6 m c), (h c).2.2.2.2⟩) (Cert.AdamSmallKernelIdeal.Value.run_blocks m g),
    (θ_run _ _ _).mono (fun r h c => ⟨(h c).1.trans ((val_main_v23_eq _ _ _ _).trans (congr (congr (congrArg₂ (val_main_v23 (F := Ideal)) (ha c).1 (ha c).2.1) (ha c).2.2.1) (ha c).2.2.2)), (h c).2.1.trans ((val_main_v4_eq _ _).trans (congrArg₂ (val_main_v4 (F := Ideal)) (ha c).2.1 (ha c).2.2.1)), (h c).2.2.1.trans ((val_main_v10_eq _ _).trans (congrArg₂ (val_main_v10 (F := Ideal)) (ha c).2.1 (ha c).2.2.2)), (h c).2.2.2⟩) (Cert.AdamSmallReferenceIdeal.Value.run m' g')⟩

end Cert.Step.AdamSmall

end
-- ==== Proof.AdamFrame.lean ====
/-
  The optimiser's call on five matrices, over the extended reals: each of its eight points leaves every output tile at its update.
-/
module

public import proofs.«01_k».proof.Proof.Gen.AdamKernelIdeal.Launch
public import proofs.«01_k».proof.Proof.Gen.AdamKernelIdeal.Skeleton
public import proofs.«01_k».proof.Proof.Gen.AdamKernelIdeal.Points
public import proofs.«01_k».proof.Proof.Gen.AdamKernelIdeal
public import proofs.«01_k».proof.Defs
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Step.AdamFrame

open Cert.AdamKernelIdeal Cert.AdamKernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S64x256 := Rect.unit (s := S64x256) ![0, 0] S64x256.size inb_S64x256_S64x256_0_0
abbrev r0_1 : Rect S32x1024 := Rect.unit (s := S32x1024) ![0, 0] S32x1024.size inb_S32x1024_S32x1024_0_0
abbrev r0_2 : Rect S128x1024 := Rect.unit (s := S128x1024) ![0, 0] S128x1024.size inb_S128x1024_S128x1024_0_0

/-! ## What the body leaves in each output window's buffer -/

def out0_20 (x0 x1 x2 x3 x4 x5 x6 x7 : Vec F S64x256 .f32) (x8 x9 x10 x11 : Vec F S32x1024 .f32) (x12 x13 x14 x15 x16 x17 x18 x19 : Vec F S128x1024 .f32) : Vec F S64x256 .f32 :=
  View.canon [⟨r0_0, k0_pay3 (View.ld x1 r0_0) (View.ld x2 r0_0) (View.ld x3 r0_0) (View.ld x0 r0_0)⟩]

theorem cover0_20 (p0 : Vec F S64x256 .f32) (y : S64x256.Idx) :
    ∃ pc ∈ ([⟨r0_0, p0⟩] : List (View.Piece (Elt F) S64x256 .f32)), y ∈ pc.1.set :=
  View.cover_of_tiled [⟨r0_0, p0⟩] S64x256.size (by rfl) y

def out0_21 (x0 x1 x2 x3 x4 x5 x6 x7 : Vec F S64x256 .f32) (x8 x9 x10 x11 : Vec F S32x1024 .f32) (x12 x13 x14 x15 x16 x17 x18 x19 : Vec F S128x1024 .f32) : Vec F S64x256 .f32 :=
  View.canon [⟨r0_0, k0_pay1 (View.ld x1 r0_0) (View.ld x2 r0_0)⟩]

theorem cover0_21 (p0 : Vec F S64x256 .f32) (y : S64x256.Idx) :
    ∃ pc ∈ ([⟨r0_0, p0⟩] : List (View.Piece (Elt F) S64x256 .f32)), y ∈ pc.1.set :=
  View.cover_of_tiled [⟨r0_0, p0⟩] S64x256.size (by rfl) y

def out0_22 (x0 x1 x2 x3 x4 x5 x6 x7 : Vec F S64x256 .f32) (x8 x9 x10 x11 : Vec F S32x1024 .f32) (x12 x13 x14 x15 x16 x17 x18 x19 : Vec F S128x1024 .f32) : Vec F S64x256 .f32 :=
  View.canon [⟨r0_0, k0_pay2 (View.ld x1 r0_0) (View.ld x3 r0_0)⟩]

theorem cover0_22 (p0 : Vec F S64x256 .f32) (y : S64x256.Idx) :
    ∃ pc ∈ ([⟨r0_0, p0⟩] : List (View.Piece (Elt F) S64x256 .f32)), y ∈ pc.1.set :=
  View.cover_of_tiled [⟨r0_0, p0⟩] S64x256.size (by rfl) y

def out0_23 (x0 x1 x2 x3 x4 x5 x6 x7 : Vec F S64x256 .f32) (x8 x9 x10 x11 : Vec F S32x1024 .f32) (x12 x13 x14 x15 x16 x17 x18 x19 : Vec F S128x1024 .f32) : Vec F S64x256 .f32 :=
  View.canon [⟨r0_0, View.ld x1 r0_0⟩]

theorem cover0_23 (p0 : Vec F S64x256 .f32) (y : S64x256.Idx) :
    ∃ pc ∈ ([⟨r0_0, p0⟩] : List (View.Piece (Elt F) S64x256 .f32)), y ∈ pc.1.set :=
  View.cover_of_tiled [⟨r0_0, p0⟩] S64x256.size (by rfl) y

def out0_24 (x0 x1 x2 x3 x4 x5 x6 x7 : Vec F S64x256 .f32) (x8 x9 x10 x11 : Vec F S32x1024 .f32) (x12 x13 x14 x15 x16 x17 x18 x19 : Vec F S128x1024 .f32) : Vec F S64x256 .f32 :=
  View.canon [⟨r0_0, k0_pay6 (View.ld x5 r0_0) (View.ld x6 r0_0) (View.ld x7 r0_0) (View.ld x4 r0_0)⟩]

theorem cover0_24 (p0 : Vec F S64x256 .f32) (y : S64x256.Idx) :
    ∃ pc ∈ ([⟨r0_0, p0⟩] : List (View.Piece (Elt F) S64x256 .f32)), y ∈ pc.1.set :=
  View.cover_of_tiled [⟨r0_0, p0⟩] S64x256.size (by rfl) y

def out0_25 (x0 x1 x2 x3 x4 x5 x6 x7 : Vec F S64x256 .f32) (x8 x9 x10 x11 : Vec F S32x1024 .f32) (x12 x13 x14 x15 x16 x17 x18 x19 : Vec F S128x1024 .f32) : Vec F S64x256 .f32 :=
  View.canon [⟨r0_0, k0_pay4 (View.ld x5 r0_0) (View.ld x6 r0_0)⟩]

theorem cover0_25 (p0 : Vec F S64x256 .f32) (y : S64x256.Idx) :
    ∃ pc ∈ ([⟨r0_0, p0⟩] : List (View.Piece (Elt F) S64x256 .f32)), y ∈ pc.1.set :=
  View.cover_of_tiled [⟨r0_0, p0⟩] S64x256.size (by rfl) y

def out0_26 (x0 x1 x2 x3 x4 x5 x6 x7 : Vec F S64x256 .f32) (x8 x9 x10 x11 : Vec F S32x1024 .f32) (x12 x13 x14 x15 x16 x17 x18 x19 : Vec F S128x1024 .f32) : Vec F S64x256 .f32 :=
  View.canon [⟨r0_0, k0_pay5 (View.ld x5 r0_0) (View.ld x7 r0_0)⟩]

theorem cover0_26 (p0 : Vec F S64x256 .f32) (y : S64x256.Idx) :
    ∃ pc ∈ ([⟨r0_0, p0⟩] : List (View.Piece (Elt F) S64x256 .f32)), y ∈ pc.1.set :=
  View.cover_of_tiled [⟨r0_0, p0⟩] S64x256.size (by rfl) y

def out0_27 (x0 x1 x2 x3 x4 x5 x6 x7 : Vec F S64x256 .f32) (x8 x9 x10 x11 : Vec F S32x1024 .f32) (x12 x13 x14 x15 x16 x17 x18 x19 : Vec F S128x1024 .f32) : Vec F S64x256 .f32 :=
  View.canon [⟨r0_0, View.ld x5 r0_0⟩]

theorem cover0_27 (p0 : Vec F S64x256 .f32) (y : S64x256.Idx) :
    ∃ pc ∈ ([⟨r0_0, p0⟩] : List (View.Piece (Elt F) S64x256 .f32)), y ∈ pc.1.set :=
  View.cover_of_tiled [⟨r0_0, p0⟩] S64x256.size (by rfl) y

def out0_28 (x0 x1 x2 x3 x4 x5 x6 x7 : Vec F S64x256 .f32) (x8 x9 x10 x11 : Vec F S32x1024 .f32) (x12 x13 x14 x15 x16 x17 x18 x19 : Vec F S128x1024 .f32) : Vec F S32x1024 .f32 :=
  View.canon [⟨r0_1, k0_pay9 (View.ld x9 r0_1) (View.ld x10 r0_1) (View.ld x11 r0_1) (View.ld x8 r0_1)⟩]

theorem cover0_28 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

def out0_29 (x0 x1 x2 x3 x4 x5 x6 x7 : Vec F S64x256 .f32) (x8 x9 x10 x11 : Vec F S32x1024 .f32) (x12 x13 x14 x15 x16 x17 x18 x19 : Vec F S128x1024 .f32) : Vec F S32x1024 .f32 :=
  View.canon [⟨r0_1, k0_pay7 (View.ld x9 r0_1) (View.ld x10 r0_1)⟩]

theorem cover0_29 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

def out0_30 (x0 x1 x2 x3 x4 x5 x6 x7 : Vec F S64x256 .f32) (x8 x9 x10 x11 : Vec F S32x1024 .f32) (x12 x13 x14 x15 x16 x17 x18 x19 : Vec F S128x1024 .f32) : Vec F S32x1024 .f32 :=
  View.canon [⟨r0_1, k0_pay8 (View.ld x9 r0_1) (View.ld x11 r0_1)⟩]

theorem cover0_30 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

def out0_31 (x0 x1 x2 x3 x4 x5 x6 x7 : Vec F S64x256 .f32) (x8 x9 x10 x11 : Vec F S32x1024 .f32) (x12 x13 x14 x15 x16 x17 x18 x19 : Vec F S128x1024 .f32) : Vec F S32x1024 .f32 :=
  View.canon [⟨r0_1, View.ld x9 r0_1⟩]

theorem cover0_31 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

def out0_32 (x0 x1 x2 x3 x4 x5 x6 x7 : Vec F S64x256 .f32) (x8 x9 x10 x11 : Vec F S32x1024 .f32) (x12 x13 x14 x15 x16 x17 x18 x19 : Vec F S128x1024 .f32) : Vec F S128x1024 .f32 :=
  View.canon [⟨r0_2, k0_pay12 (View.ld x13 r0_2) (View.ld x14 r0_2) (View.ld x15 r0_2) (View.ld x12 r0_2)⟩]

theorem cover0_32 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

def out0_33 (x0 x1 x2 x3 x4 x5 x6 x7 : Vec F S64x256 .f32) (x8 x9 x10 x11 : Vec F S32x1024 .f32) (x12 x13 x14 x15 x16 x17 x18 x19 : Vec F S128x1024 .f32) : Vec F S128x1024 .f32 :=
  View.canon [⟨r0_2, k0_pay10 (View.ld x13 r0_2) (View.ld x14 r0_2)⟩]

theorem cover0_33 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

def out0_34 (x0 x1 x2 x3 x4 x5 x6 x7 : Vec F S64x256 .f32) (x8 x9 x10 x11 : Vec F S32x1024 .f32) (x12 x13 x14 x15 x16 x17 x18 x19 : Vec F S128x1024 .f32) : Vec F S128x1024 .f32 :=
  View.canon [⟨r0_2, k0_pay11 (View.ld x13 r0_2) (View.ld x15 r0_2)⟩]

theorem cover0_34 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

def out0_35 (x0 x1 x2 x3 x4 x5 x6 x7 : Vec F S64x256 .f32) (x8 x9 x10 x11 : Vec F S32x1024 .f32) (x12 x13 x14 x15 x16 x17 x18 x19 : Vec F S128x1024 .f32) : Vec F S128x1024 .f32 :=
  View.canon [⟨r0_2, View.ld x13 r0_2⟩]

theorem cover0_35 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

def out0_36 (x0 x1 x2 x3 x4 x5 x6 x7 : Vec F S64x256 .f32) (x8 x9 x10 x11 : Vec F S32x1024 .f32) (x12 x13 x14 x15 x16 x17 x18 x19 : Vec F S128x1024 .f32) : Vec F S128x1024 .f32 :=
  View.canon [⟨r0_2, k0_pay15 (View.ld x17 r0_2) (View.ld x18 r0_2) (View.ld x19 r0_2) (View.ld x16 r0_2)⟩]

theorem cover0_36 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

def out0_37 (x0 x1 x2 x3 x4 x5 x6 x7 : Vec F S64x256 .f32) (x8 x9 x10 x11 : Vec F S32x1024 .f32) (x12 x13 x14 x15 x16 x17 x18 x19 : Vec F S128x1024 .f32) : Vec F S128x1024 .f32 :=
  View.canon [⟨r0_2, k0_pay13 (View.ld x17 r0_2) (View.ld x18 r0_2)⟩]

theorem cover0_37 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

def out0_38 (x0 x1 x2 x3 x4 x5 x6 x7 : Vec F S64x256 .f32) (x8 x9 x10 x11 : Vec F S32x1024 .f32) (x12 x13 x14 x15 x16 x17 x18 x19 : Vec F S128x1024 .f32) : Vec F S128x1024 .f32 :=
  View.canon [⟨r0_2, k0_pay14 (View.ld x17 r0_2) (View.ld x19 r0_2)⟩]

theorem cover0_38 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

def out0_39 (x0 x1 x2 x3 x4 x5 x6 x7 : Vec F S64x256 .f32) (x8 x9 x10 x11 : Vec F S32x1024 .f32) (x12 x13 x14 x15 x16 x17 x18 x19 : Vec F S128x1024 .f32) : Vec F S128x1024 .f32 :=
  View.canon [⟨r0_2, View.ld x17 r0_2⟩]

theorem cover0_39 (p0 : Vec F S128x1024 .f32) (y : S128x1024.Idx) :
    ∃ pc ∈ ([⟨r0_2, p0⟩] : List (View.Piece (Elt F) S128x1024 .f32)), y ∈ pc.1.set :=
  View.cover_of_tiled [⟨r0_2, p0⟩] S128x1024.size (by rfl) y

/-! ## The body's triple -/

set_option maxHeartbeats 1000000 in
theorem sound_kernel (c : Dev nD) (E : Set ℕ) (i : grid0.Coords) (arg1 : Memref sig .tc .vmem S64x256 .f32) (harg1 : arg1.IsWhole) (arg2 : Memref sig .tc .vmem S64x256 .f32) (harg2 : arg2.IsWhole) (arg3 : Memref sig .tc .vmem S64x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S32x1024 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S32x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S64x256 .f32) (harg21 : arg21.IsWhole) (arg22 : Memref sig .tc .vmem S64x256 .f32) (harg22 : arg22.IsWhole) (arg23 : Memref sig .tc .vmem S64x256 .f32) (harg23 : arg23.IsWhole) (arg24 : Memref sig .tc .vmem S64x256 .f32) (harg24 : arg24.IsWhole) (arg25 : Memref sig .tc .vmem S64x256 .f32) (harg25 : arg25.IsWhole) (arg26 : Memref sig .tc .vmem S64x256 .f32) (harg26 : arg26.IsWhole) (arg27 : Memref sig .tc .vmem S64x256 .f32) (harg27 : arg27.IsWhole) (arg28 : Memref sig .tc .vmem S64x256 .f32) (harg28 : arg28.IsWhole) (arg29 : Memref sig .tc .vmem S32x1024 .f32) (harg29 : arg29.IsWhole) (arg30 : Memref sig .tc .vmem S32x1024 .f32) (harg30 : arg30.IsWhole) (arg31 : Memref sig .tc .vmem S32x1024 .f32) (harg31 : arg31.IsWhole) (arg32 : Memref sig .tc .vmem S32x1024 .f32) (harg32 : arg32.IsWhole) (arg33 : Memref sig .tc .vmem S128x1024 .f32) (harg33 : arg33.IsWhole) (arg34 : Memref sig .tc .vmem S128x1024 .f32) (harg34 : arg34.IsWhole) (arg35 : Memref sig .tc .vmem S128x1024 .f32) (harg35 : arg35.IsWhole) (arg36 : Memref sig .tc .vmem S128x1024 .f32) (harg36 : arg36.IsWhole) (arg37 : Memref sig .tc .vmem S128x1024 .f32) (harg37 : arg37.IsWhole) (arg38 : Memref sig .tc .vmem S128x1024 .f32) (harg38 : arg38.IsWhole) (arg39 : Memref sig .tc .vmem S128x1024 .f32) (harg39 : arg39.IsWhole) (arg40 : Memref sig .tc .vmem S128x1024 .f32) (harg40 : arg40.IsWhole)
    (x0 x1 x2 x3 x4 x5 x6 x7 : Vec F S64x256 .f32) (x8 x9 x10 x11 : Vec F S32x1024 .f32) (x12 x13 x14 x15 x16 x17 x18 x19 : Vec F S128x1024 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 x0 x1 x2 x3 x4 x5 x6 x7 x8 x9 x10 x11 x12 x13 x14 x15 x16 x17 x18 x19) ∗ owns (c : Thread nD τ) arg22 fullShare (out0_21 x0 x1 x2 x3 x4 x5 x6 x7 x8 x9 x10 x11 x12 x13 x14 x15 x16 x17 x18 x19) ∗ owns (c : Thread nD τ) arg23 fullShare (out0_22 x0 x1 x2 x3 x4 x5 x6 x7 x8 x9 x10 x11 x12 x13 x14 x15 x16 x17 x18 x19) ∗ owns (c : Thread nD τ) arg24 fullShare (out0_23 x0 x1 x2 x3 x4 x5 x6 x7 x8 x9 x10 x11 x12 x13 x14 x15 x16 x17 x18 x19) ∗ owns (c : Thread nD τ) arg25 fullShare (out0_24 x0 x1 x2 x3 x4 x5 x6 x7 x8 x9 x10 x11 x12 x13 x14 x15 x16 x17 x18 x19) ∗ owns (c : Thread nD τ) arg26 fullShare (out0_25 x0 x1 x2 x3 x4 x5 x6 x7 x8 x9 x10 x11 x12 x13 x14 x15 x16 x17 x18 x19) ∗ owns (c : Thread nD τ) arg27 fullShare (out0_26 x0 x1 x2 x3 x4 x5 x6 x7 x8 x9 x10 x11 x12 x13 x14 x15 x16 x17 x18 x19) ∗ owns (c : Thread nD τ) arg28 fullShare (out0_27 x0 x1 x2 x3 x4 x5 x6 x7 x8 x9 x10 x11 x12 x13 x14 x15 x16 x17 x18 x19) ∗ owns (c : Thread nD τ) arg29 fullShare (out0_28 x0 x1 x2 x3 x4 x5 x6 x7 x8 x9 x10 x11 x12 x13 x14 x15 x16 x17 x18 x19) ∗ owns (c : Thread nD τ) arg30 fullShare (out0_29 x0 x1 x2 x3 x4 x5 x6 x7 x8 x9 x10 x11 x12 x13 x14 x15 x16 x17 x18 x19) ∗ owns (c : Thread nD τ) arg31 fullShare (out0_30 x0 x1 x2 x3 x4 x5 x6 x7 x8 x9 x10 x11 x12 x13 x14 x15 x16 x17 x18 x19) ∗ owns (c : Thread nD τ) arg32 fullShare (out0_31 x0 x1 x2 x3 x4 x5 x6 x7 x8 x9 x10 x11 x12 x13 x14 x15 x16 x17 x18 x19) ∗ owns (c : Thread nD τ) arg33 fullShare (out0_32 x0 x1 x2 x3 x4 x5 x6 x7 x8 x9 x10 x11 x12 x13 x14 x15 x16 x17 x18 x19) ∗ owns (c : Thread nD τ) arg34 fullShare (out0_33 x0 x1 x2 x3 x4 x5 x6 x7 x8 x9 x10 x11 x12 x13 x14 x15 x16 x17 x18 x19) ∗ owns (c : Thread nD τ) arg35 fullShare (out0_34 x0 x1 x2 x3 x4 x5 x6 x7 x8 x9 x10 x11 x12 x13 x14 x15 x16 x17 x18 x19) ∗ owns (c : Thread nD τ) arg36 fullShare (out0_35 x0 x1 x2 x3 x4 x5 x6 x7 x8 x9 x10 x11 x12 x13 x14 x15 x16 x17 x18 x19) ∗ owns (c : Thread nD τ) arg37 fullShare (out0_36 x0 x1 x2 x3 x4 x5 x6 x7 x8 x9 x10 x11 x12 x13 x14 x15 x16 x17 x18 x19) ∗ owns (c : Thread nD τ) arg38 fullShare (out0_37 x0 x1 x2 x3 x4 x5 x6 x7 x8 x9 x10 x11 x12 x13 x14 x15 x16 x17 x18 x19) ∗ owns (c : Thread nD τ) arg39 fullShare (out0_38 x0 x1 x2 x3 x4 x5 x6 x7 x8 x9 x10 x11 x12 x13 x14 x15 x16 x17 x18 x19) ∗ owns (c : Thread nD τ) arg40 fullShare (out0_39 x0 x1 x2 x3 x4 x5 x6 x7 x8 x9 x10 x11 x12 x13 x14 x15 x16 x17 x18 x19)) -∗ K ⟨⟩))
      ⊢ wp frame (wpE (defs₀ (F := F)) Variants.none c none) E (cc0_adamw_rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K := by
  simp only [cc0_adamw_rest_eq_skeleton]; unfold cc0_adamw_rest_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_22 _)
  isplitl [H23]
  · iexists _; isplitr
    swap; · iexact H23
    ipureintro
    exact View.read_writes_eq_canon _ _ _ (cover0_23 _)
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  isplitl [H29]
  · iexists _; isplitr
    swap; · iexact H29
    ipureintro
    exact View.read_writes_eq_canon _ _ _ (cover0_29 _)
  isplitl [H30]
  · iexists _; isplitr
    swap; · iexact H30
    ipureintro
    exact View.read_writes_eq_canon _ _ _ (cover0_30 _)
  isplitl [H31]
  · iexists _; isplitr
    swap; · iexact H31
    ipureintro
    exact View.read_writes_eq_canon _ _ _ (cover0_31 _)
  isplitl [H32]
  · iexists _; isplitr
    swap; · iexact H32
    ipureintro
    exact View.read_writes_eq_canon _ _ _ (cover0_32 _)
  isplitl [H33]
  · iexists _; isplitr
    swap; · iexact H33
    ipureintro
    exact View.read_writes_eq_canon _ _ _ (cover0_33 _)
  isplitl [H34]
  · iexists _; isplitr
    swap; · iexact H34
    ipureintro
    exact View.read_writes_eq_canon _ _ _ (cover0_34 _)
  isplitl [H35]
  · iexists _; isplitr
    swap; · iexact H35
    ipureintro
    exact View.read_writes_eq_canon _ _ _ (cover0_35 _)
  isplitl [H36]
  · iexists _; isplitr
    swap; · iexact H36
    ipureintro
    exact View.read_writes_eq_canon _ _ _ (cover0_36 _)
  isplitl [H37]
  · iexists _; isplitr
    swap; · iexact H37
    ipureintro
    exact View.read_writes_eq_canon _ _ _ (cover0_37 _)
  isplitl [H38]
  · iexists _; isplitr
    swap; · iexact H38
    ipureintro
    exact View.read_writes_eq_canon _ _ _ (cover0_38 _)
  iexists _; isplitr
  swap; · iexact H39
  ipureintro
  exact View.read_writes_eq_canon _ _ _ (cover0_39 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨36, _⟩ => out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨37, _⟩ => out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨38, _⟩ => out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨39, _⟩ => out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 40, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_36 (c : Dev nD) (t : Fin cfg0.N) : (dats m 0 c).after 36 t = out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_37 (c : Dev nD) (t : Fin cfg0.N) : (dats m 0 c).after 37 t = out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_38 (c : Dev nD) (t : Fin cfg0.N) : (dats m 0 c).after 38 t = out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_39 (c : Dev nD) (t : Fin cfg0.N) : (dats m 0 c).after 39 t = out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t))

set_option maxHeartbeats 8000000 in
/-- The body at any point: the inputs hold their blocks, and each output is left at its update. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  iexact H39

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body keeps what the launch asks of it at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- An array that is only read is at the end what it was. -/
theorem kept (r : PUnit × MemSt nD τ sig (Elt F)) (h : Pipeline.FramePost cfgs (dats m) 0 (V m) r) (c : Dev nD) (w : Fin cfg0.W)
    (hw : (cfg0.win w).isOut = false) : r.2.mem ((c : Thread nD τ).loc (Pipeline.arrRef spec0 w)) = m ((c : Thread nD τ).loc (Pipeline.arrRef spec0 w)) :=
  ((h c).1 w).trans (((dats m 0 c).arrAt_in w hw _).trans (A_eq m c w))

set_option maxHeartbeats 8000000 in
/-- The call ends with its arguments as they were and no semaphore raised. -/
theorem frame : Cert.quiescent_AdamKernelIdeal := fun m g _ =>
  (θ_run defs _ _).mono (fun r h => ⟨fun c => ⟨kept m r h.1 c 0 rfl, kept m r h.1 c 1 rfl, kept m r h.1 c 2 rfl, kept m r h.1 c 3 rfl, kept m r h.1 c 4 rfl, kept m r h.1 c 5 rfl, kept m r h.1 c 6 rfl, kept m r h.1 c 7 rfl, kept m r h.1 c 8 rfl, kept m r h.1 c 9 rfl, kept m r h.1 c 10 rfl, kept m r h.1 c 11 rfl, kept m r h.1 c 12 rfl, kept m r h.1 c 13 rfl, kept m r h.1 c 14 rfl, kept m r h.1 c 15 rfl, kept m r h.1 c 16 rfl, kept m r h.1 c 17 rfl, kept m r h.1 c 18 rfl, kept m r h.1 c 19 rfl⟩, h.2⟩) (run_main_quiescent m g)

end Cert.Step.AdamFrame

end
-- ==== Proof.Adam.lean ====
/-
  The optimiser's step on the other five matrices: eight row tiles of each, updated entry by entry.
-/
module

public import proofs.«01_k».proof.Proof.Product
public import Idealize.ShloMosaic.Lib.Pipeline.ValueKit.Geometry
public import Idealize.ShloMosaic.Lib.Pipeline.ValueKit.Acc
public import proofs.«01_k».proof.Proof.AdamFrame
public import proofs.«01_k».proof.Proof.Gen.AdamReferenceIdeal.Read
public import proofs.«01_k».proof.Proof.Gen.AdamReferenceIdeal.Run
public import proofs.«01_k».proof.Proof.Gen.AdamReferenceIdeal
public import proofs.«01_k».proof.Defs

@[expose] public section

set_option backward.isDefEq.respectTransparency false

noncomputable section

namespace Cert.Step.Adam

open Idealize.ShloMosaic Idealize.ShloMosaic.TcCoe Idealize.SL.Sem Cert.AdamKernelIdeal Cert.AdamKernelIdeal.Gen Cert.AdamReferenceIdeal.Read Cert.Step.AdamFrame

variable (m : (ℓ : Loc nD τ Cert.AdamKernelIdeal.sig) → Buf (Elt Ideal) ℓ) (ρ : Dev nD → PrngReg)

/-- The change of the attention's output weight, tile by tile, is the change of the whole array. -/
theorem arr20 (c : Dev nD) : (dats (F := Ideal) m 0 c).arrAt 20 cfg0.N = val_main_v23 (F := Ideal) (m ((c : Thread nD τ).loc main_arg0)) (m ((c : Thread nD τ).loc main_arg1)) (m ((c : Thread nD τ).loc main_arg2)) (m ((c : Thread nD τ).loc main_arg3)) := by
  refine (dats (F := Ideal) m 0 c).arrAt_eq_of_covers 20 _ (by decide +kernel) fun t hf y => ?_
  show (dats (F := Ideal) m 0 c).after 20 t y = _
  rw [after0_20]
  frame_out
  rfl

/-- The first moment of the attention's output weight, tile by tile, is the first moment of the whole array. -/
theorem arr21 (c : Dev nD) : (dats (F := Ideal) m 0 c).arrAt 21 cfg0.N = val_main_v4 (F := Ideal) (m ((c : Thread nD τ).loc main_arg1)) (m ((c : Thread nD τ).loc main_arg2)) := by
  refine (dats (F := Ideal) m 0 c).arrAt_eq_of_covers 21 _ (by decide +kernel) fun t hf y => ?_
  show (dats (F := Ideal) m 0 c).after 21 t y = _
  rw [after0_21]
  frame_out
  rfl

/-- The second moment of the attention's output weight, tile by tile, is the second moment of the whole array. -/
theorem arr22 (c : Dev nD) : (dats (F := Ideal) m 0 c).arrAt 22 cfg0.N = val_main_v10 (F := Ideal) (m ((c : Thread nD τ).loc main_arg1)) (m ((c : Thread nD τ).loc main_arg3)) := by
  refine (dats (F := Ideal) m 0 c).arrAt_eq_of_covers 22 _ (by decide +kernel) fun t hf y => ?_
  show (dats (F := Ideal) m 0 c).after 22 t y = _
  rw [after0_22]
  frame_out
  rfl

/-- The change of the recurrence's output weight, tile by tile, is the change of the whole array. -/
theorem arr24 (c : Dev nD) : (dats (F := Ideal) m 0 c).arrAt 24 cfg0.N = val_main_v47 (F := Ideal) (m ((c : Thread nD τ).loc main_arg4)) (m ((c : Thread nD τ).loc main_arg5)) (m ((c : Thread nD τ).loc main_arg6)) (m ((c : Thread nD τ).loc main_arg7)) := by
  refine (dats (F := Ideal) m 0 c).arrAt_eq_of_covers 24 _ (by decide +kernel) fun t hf y => ?_
  show (dats (F := Ideal) m 0 c).after 24 t y = _
  rw [after0_24]
  frame_out
  rfl

/-- The first moment of the recurrence's output weight, tile by tile, is the first moment of the whole array. -/
theorem arr25 (c : Dev nD) : (dats (F := Ideal) m 0 c).arrAt 25 cfg0.N = val_main_v28 (F := Ideal) (m ((c : Thread nD τ).loc main_arg5)) (m ((c : Thread nD τ).loc main_arg6)) := by
  refine (dats (F := Ideal) m 0 c).arrAt_eq_of_covers 25 _ (by decide +kernel) fun t hf y => ?_
  show (dats (F := Ideal) m 0 c).after 25 t y = _
  rw [after0_25]
  frame_out
  rfl

/-- The second moment of the recurrence's output weight, tile by tile, is the second moment of the whole array. -/
theorem arr26 (c : Dev nD) : (dats (F := Ideal) m 0 c).arrAt 26 cfg0.N = val_main_v34 (F := Ideal) (m ((c : Thread nD τ).loc main_arg5)) (m ((c : Thread nD τ).loc main_arg7)) := by
  refine (dats (F := Ideal) m 0 c).arrAt_eq_of_covers 26 _ (by decide +kernel) fun t hf y => ?_
  show (dats (F := Ideal) m 0 c).after 26 t y = _
  rw [after0_26]
  frame_out
  rfl

/-- The change of the mixing output's weight, tile by tile, is the change of the whole array. -/
theorem arr28 (c : Dev nD) : (dats (F := Ideal) m 0 c).arrAt 28 cfg0.N = val_main_v71 (F := Ideal) (m ((c : Thread nD τ).loc main_arg8)) (m ((c : Thread nD τ).loc main_arg9)) (m ((c : Thread nD τ).loc main_arg10)) (m ((c : Thread nD τ).loc main_arg11)) := by
  refine (dats (F := Ideal) m 0 c).arrAt_eq_of_covers 28 _ (by decide +kernel) fun t hf y => ?_
  show (dats (F := Ideal) m 0 c).after 28 t y = _
  rw [after0_28]
  frame_out
  rfl

/-- The first moment of the mixing output's weight, tile by tile, is the first moment of the whole array. -/
theorem arr29 (c : Dev nD) : (dats (F := Ideal) m 0 c).arrAt 29 cfg0.N = val_main_v52 (F := Ideal) (m ((c : Thread nD τ).loc main_arg9)) (m ((c : Thread nD τ).loc main_arg10)) := by
  refine (dats (F := Ideal) m 0 c).arrAt_eq_of_covers 29 _ (by decide +kernel) fun t hf y => ?_
  show (dats (F := Ideal) m 0 c).after 29 t y = _
  rw [after0_29]
  frame_out
  rfl

/-- The second moment of the mixing output's weight, tile by tile, is the second moment of the whole array. -/
theorem arr30 (c : Dev nD) : (dats (F := Ideal) m 0 c).arrAt 30 cfg0.N = val_main_v58 (F := Ideal) (m ((c : Thread nD τ).loc main_arg9)) (m ((c : Thread nD τ).loc main_arg11)) := by
  refine (dats (F := Ideal) m 0 c).arrAt_eq_of_covers 30 _ (by decide +kernel) fun t hf y => ?_
  show (dats (F := Ideal) m 0 c).after 30 t y = _
  rw [after0_30]
  frame_out
  rfl

/-- The change of the MLP's first weight, tile by tile, is the change of the whole array. -/
theorem arr32 (c : Dev nD) : (dats (F := Ideal) m 0 c).arrAt 32 cfg0.N = val_main_v95 (F := Ideal) (m ((c : Thread nD τ).loc main_arg12)) (m ((c : Thread nD τ).loc main_arg13)) (m ((c : Thread nD τ).loc main_arg14)) (m ((c : Thread nD τ).loc main_arg15)) := by
  refine (dats (F := Ideal) m 0 c).arrAt_eq_of_covers 32 _ (by decide +kernel) fun t hf y => ?_
  show (dats (F := Ideal) m 0 c).after 32 t y = _
  rw [after0_32]
  frame_out
  rfl

/-- The first moment of the MLP's first weight, tile by tile, is the first moment of the whole array. -/
theorem arr33 (c : Dev nD) : (dats (F := Ideal) m 0 c).arrAt 33 cfg0.N = val_main_v76 (F := Ideal) (m ((c : Thread nD τ).loc main_arg13)) (m ((c : Thread nD τ).loc main_arg14)) := by
  refine (dats (F := Ideal) m 0 c).arrAt_eq_of_covers 33 _ (by decide +kernel) fun t hf y => ?_
  show (dats (F := Ideal) m 0 c).after 33 t y = _
  rw [after0_33]
  frame_out
  rfl

/-- The second moment of the MLP's first weight, tile by tile, is the second moment of the whole array. -/
theorem arr34 (c : Dev nD) : (dats (F := Ideal) m 0 c).arrAt 34 cfg0.N = val_main_v82 (F := Ideal) (m ((c : Thread nD τ).loc main_arg13)) (m ((c : Thread nD τ).loc main_arg15)) := by
  refine (dats (F := Ideal) m 0 c).arrAt_eq_of_covers 34 _ (by decide +kernel) fun t hf y => ?_
  show (dats (F := Ideal) m 0 c).after 34 t y = _
  rw [after0_34]
  frame_out
  rfl

/-- The change of the MLP's second weight, tile by tile, is the change of the whole array. -/
theorem arr36 (c : Dev nD) : (dats (F := Ideal) m 0 c).arrAt 36 cfg0.N = val_main_v119 (F := Ideal) (m ((c : Thread nD τ).loc main_arg16)) (m ((c : Thread nD τ).loc main_arg17)) (m ((c : Thread nD τ).loc main_arg18)) (m ((c : Thread nD τ).loc main_arg19)) := by
  refine (dats (F := Ideal) m 0 c).arrAt_eq_of_covers 36 _ (by decide +kernel) fun t hf y => ?_
  show (dats (F := Ideal) m 0 c).after 36 t y = _
  rw [after0_36]
  frame_out
  rfl

/-- The first moment of the MLP's second weight, tile by tile, is the first moment of the whole array. -/
theorem arr37 (c : Dev nD) : (dats (F := Ideal) m 0 c).arrAt 37 cfg0.N = val_main_v100 (F := Ideal) (m ((c : Thread nD τ).loc main_arg17)) (m ((c : Thread nD τ).loc main_arg18)) := by
  refine (dats (F := Ideal) m 0 c).arrAt_eq_of_covers 37 _ (by decide +kernel) fun t hf y => ?_
  show (dats (F := Ideal) m 0 c).after 37 t y = _
  rw [after0_37]
  frame_out
  rfl

/-- The second moment of the MLP's second weight, tile by tile, is the second moment of the whole array. -/
theorem arr38 (c : Dev nD) : (dats (F := Ideal) m 0 c).arrAt 38 cfg0.N = val_main_v106 (F := Ideal) (m ((c : Thread nD τ).loc main_arg17)) (m ((c : Thread nD τ).loc main_arg19)) := by
  refine (dats (F := Ideal) m 0 c).arrAt_eq_of_covers 38 _ (by decide +kernel) fun t hf y => ?_
  show (dats (F := Ideal) m 0 c).after 38 t y = _
  rw [after0_38]
  frame_out
  rfl

/-- The reference ends with its arguments as they were and no semaphore raised. -/
theorem ref_frame : Cert.quiescent_AdamReferenceIdeal := fun m g _ =>
  (θ_run _ _ _).mono (fun r h => ⟨fun c => (h c).2.2.2.2.2.2.2.2.2.2.2.2.2.2.2, sem_eq_zero_of_no_sems (by decide) _⟩) (Cert.AdamReferenceIdeal.Value.run m g)

set_option maxRecDepth 16384 in
set_option maxHeartbeats 8000000 in
/-- From arguments that agree, both programs run and end with the same results. -/
theorem same_results : Cert.algebraic_AdamKernelIdeal_AdamReferenceIdeal := by
  intro m g m' g' _ ha
  exact ⟨_, _, _, _, _, _, _, _, _, _, _, _, _, _, _, (θ_run _ _ _).mono (fun r h c => ⟨((h c).1 20).trans (arr20 m c), ((h c).1 21).trans (arr21 m c), ((h c).1 22).trans (arr22 m c), ((h c).1 24).trans (arr24 m c), ((h c).1 25).trans (arr25 m c), ((h c).1 26).trans (arr26 m c), ((h c).1 28).trans (arr28 m c), ((h c).1 29).trans (arr29 m c), ((h c).1 30).trans (arr30 m c), ((h c).1 32).trans (arr32 m c), ((h c).1 33).trans (arr33 m c), ((h c).1 34).trans (arr34 m c), ((h c).1 36).trans (arr36 m c), ((h c).1 37).trans (arr37 m c), ((h c).1 38).trans (arr38 m c),
      kept m r h c 0 rfl, kept m r h c 1 rfl, kept m r h c 2 rfl, kept m r h c 3 rfl, kept m r h c 4 rfl, kept m r h c 5 rfl, kept m r h c 6 rfl, kept m r h c 7 rfl, kept m r h c 8 rfl, kept m r h c 9 rfl, kept m r h c 10 rfl, kept m r h c 11 rfl, kept m r h c 12 rfl, kept m r h c 13 rfl, kept m r h c 14 rfl, kept m r h c 15 rfl, kept m r h c 16 rfl, kept m r h c 17 rfl, kept m r h c 18 rfl, kept m r h c 19 rfl⟩) (Cert.Step.AdamFrame.run_main m g),
    (θ_run _ _ _).mono (fun r h c => ⟨(h c).1.trans ((val_main_v23_eq _ _ _ _).trans (congr (congr (congrArg₂ (val_main_v23 (F := Ideal)) (ha c).1 (ha c).2.1) (ha c).2.2.1) (ha c).2.2.2.1)), (h c).2.1.trans ((val_main_v4_eq _ _).trans (congrArg₂ (val_main_v4 (F := Ideal)) (ha c).2.1 (ha c).2.2.1)), (h c).2.2.1.trans ((val_main_v10_eq _ _).trans (congrArg₂ (val_main_v10 (F := Ideal)) (ha c).2.1 (ha c).2.2.2.1)), (h c).2.2.2.1.trans ((val_main_v47_eq _ _ _ _).trans (congr (congr (congrArg₂ (val_main_v47 (F := Ideal)) (ha c).2.2.2.2.1 (ha c).2.2.2.2.2.1) (ha c).2.2.2.2.2.2.1) (ha c).2.2.2.2.2.2.2.1)), (h c).2.2.2.2.1.trans ((val_main_v28_eq _ _).trans (congrArg₂ (val_main_v28 (F := Ideal)) (ha c).2.2.2.2.2.1 (ha c).2.2.2.2.2.2.1)), (h c).2.2.2.2.2.1.trans ((val_main_v34_eq _ _).trans (congrArg₂ (val_main_v34 (F := Ideal)) (ha c).2.2.2.2.2.1 (ha c).2.2.2.2.2.2.2.1)), (h c).2.2.2.2.2.2.1.trans ((val_main_v71_eq _ _ _ _).trans (congr (congr (congrArg₂ (val_main_v71 (F := Ideal)) (ha c).2.2.2.2.2.2.2.2.1 (ha c).2.2.2.2.2.2.2.2.2.1) (ha c).2.2.2.2.2.2.2.2.2.2.1) (ha c).2.2.2.2.2.2.2.2.2.2.2.1)), (h c).2.2.2.2.2.2.2.1.trans ((val_main_v52_eq _ _).trans (congrArg₂ (val_main_v52 (F := Ideal)) (ha c).2.2.2.2.2.2.2.2.2.1 (ha c).2.2.2.2.2.2.2.2.2.2.1)), (h c).2.2.2.2.2.2.2.2.1.trans ((val_main_v58_eq _ _).trans (congrArg₂ (val_main_v58 (F := Ideal)) (ha c).2.2.2.2.2.2.2.2.2.1 (ha c).2.2.2.2.2.2.2.2.2.2.2.1)), (h c).2.2.2.2.2.2.2.2.2.1.trans ((val_main_v95_eq _ _ _ _).trans (congr (congr (congrArg₂ (val_main_v95 (F := Ideal)) (ha c).2.2.2.2.2.2.2.2.2.2.2.2.1 (ha c).2.2.2.2.2.2.2.2.2.2.2.2.2.1) (ha c).2.2.2.2.2.2.2.2.2.2.2.2.2.2.1) (ha c).2.2.2.2.2.2.2.2.2.2.2.2.2.2.2.1)), (h c).2.2.2.2.2.2.2.2.2.2.1.trans ((val_main_v76_eq _ _).trans (congrArg₂ (val_main_v76 (F := Ideal)) (ha c).2.2.2.2.2.2.2.2.2.2.2.2.2.1 (ha c).2.2.2.2.2.2.2.2.2.2.2.2.2.2.1)), (h c).2.2.2.2.2.2.2.2.2.2.2.1.trans ((val_main_v82_eq _ _).trans (congrArg₂ (val_main_v82 (F := Ideal)) (ha c).2.2.2.2.2.2.2.2.2.2.2.2.2.1 (ha c).2.2.2.2.2.2.2.2.2.2.2.2.2.2.2.1)), (h c).2.2.2.2.2.2.2.2.2.2.2.2.1.trans ((val_main_v119_eq _ _ _ _).trans (congr (congr (congrArg₂ (val_main_v119 (F := Ideal)) (ha c).2.2.2.2.2.2.2.2.2.2.2.2.2.2.2.2.1 (ha c).2.2.2.2.2.2.2.2.2.2.2.2.2.2.2.2.2.1) (ha c).2.2.2.2.2.2.2.2.2.2.2.2.2.2.2.2.2.2.1) (ha c).2.2.2.2.2.2.2.2.2.2.2.2.2.2.2.2.2.2.2)), (h c).2.2.2.2.2.2.2.2.2.2.2.2.2.1.trans ((val_main_v100_eq _ _).trans (congrArg₂ (val_main_v100 (F := Ideal)) (ha c).2.2.2.2.2.2.2.2.2.2.2.2.2.2.2.2.2.1 (ha c).2.2.2.2.2.2.2.2.2.2.2.2.2.2.2.2.2.2.1)), (h c).2.2.2.2.2.2.2.2.2.2.2.2.2.2.1.trans ((val_main_v106_eq _ _).trans (congrArg₂ (val_main_v106 (F := Ideal)) (ha c).2.2.2.2.2.2.2.2.2.2.2.2.2.2.2.2.2.1 (ha c).2.2.2.2.2.2.2.2.2.2.2.2.2.2.2.2.2.2.2)), (h c).2.2.2.2.2.2.2.2.2.2.2.2.2.2.2⟩) (Cert.AdamReferenceIdeal.Value.run m' g')⟩

end Cert.Step.Adam

end
-- ==== Proof.RefWindow.lean ====
/-
  The reference's running sums: a sum over a window of the sequence's length, padded on one side, is the sum of the
  rows up to a row, or from a row on.
-/
module

public import proofs.«01_k».proof.Proof.Heads
public import proofs.«01_k».proof.Proof.Gen.ReferenceIdeal.Read

@[expose] public section

set_option backward.isDefEq.respectTransparency false

noncomputable section

namespace Cert.Scan

open Idealize.ShloMosaic Cert.ReferenceIdeal Finset

/-- A left fold of sums is the starting value plus the sum of the terms. -/
theorem foldl_add {N : ℕ} (g : Fin N → EReal) (v : EReal) :
    (List.finRange N).foldl (fun r n => r + g n) v = v + ∑ n : Fin N, g n := by
  have e : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [e, ← List.ofFn_eq_map, List.sum_ofFn]

/-- A position of a window that spans the rows alone is a row. -/
def rowWin : (⟨3, ![2176, 1, 1]⟩ : Shape).Idx ≃ Fin 2176 where
  toFun w := w 0
  invFun k := fun a => match a with
    | ⟨0, _⟩ => k
    | ⟨1, _⟩ => (0 : Fin 1)
    | ⟨2, _⟩ => (0 : Fin 1)
  left_inv w := funext fun a => match a with
    | ⟨0, _⟩ => rfl
    | ⟨1, _⟩ => Subsingleton.elim (α := Fin 1) _ _
    | ⟨2, _⟩ => Subsingleton.elim (α := Fin 1) _ _
  right_inv _ := rfl

/-- The window sum at a row, as a sum over the window's rows that lie in the sequence. -/
theorem window_rows (lo hi : ℕ) (x : FVec Ideal S2176x4x128 .f32) (init : FVec Ideal S_ .f32) (X : Fin 4 → Seq)
    (hx : ∀ i, x i = ((X (i 1) (i 0).val (i 2) : ℝ) : EReal)) (h0 : ∀ i, init i = ((0 : ℝ) : EReal))
    (h : S2176x4x128.ReduceWindows ![2176, 1, 1] ![1, 1, 1] ![lo, 0, 0] ![hi, 0, 0] S2176x4x128) (hu : 0 < S_.numel)
    (i : S2176x4x128.Idx) :
    Host.reduceWindowAdd ![2176, 1, 1] ![1, 1, 1] ![lo, 0, 0] ![hi, 0, 0] x init h hu i
      = ((∑ k : Fin 2176, if lo ≤ (i 0).val + k.val ∧ (i 0).val + k.val - lo < 2176
          then X (i 1) ((i 0).val + k.val - lo) (i 2) else 0 : ℝ) : EReal) := by
  unfold Host.reduceWindowAdd
  change Ideal.hostReduceWindowAdd (s := S2176x4x128) ![2176, 1, 1] ![1, 1, 1] ![lo, 0, 0] ![hi, 0, 0] h x (init (Shape.Idx.first hu)) i = _
  unfold Ideal.hostReduceWindowAdd Host.reduceWindow
  refine (foldl_add _ _).trans ?_
  rw [h0, EReal.coe_zero, zero_add, coe_sum]
  refine Fintype.sum_equiv ((Shape.rowMajor (⟨3, ![2176, 1, 1]⟩ : Shape)).symm.trans rowWin) _ _ fun n => ?_
  rw [Equiv.trans_apply]
  let w : (⟨3, ![2176, 1, 1]⟩ : Shape).Idx := (Shape.rowMajor (⟨3, ![2176, 1, 1]⟩ : Shape)).symm n
  have w1 : (w 1).val = 0 := Nat.lt_one_iff.1 (w 1).isLt
  have w2 : (w 2).val = 0 := Nat.lt_one_iff.1 (w 2).isLt
  have i1 : (i 1).val < 4 := (i 1).isLt
  have i2 : (i 2).val < 128 := (i 2).isLt
  have hc : (∀ a : Fin S2176x4x128.rank, (![lo, 0, 0] : Fin 3 → ℕ) a ≤ (i (a.cast h.1.symm)).val * (![1, 1, 1] : Fin 3 → ℕ) a + (w a).val
        ∧ (i (a.cast h.1.symm)).val * (![1, 1, 1] : Fin 3 → ℕ) a + (w a).val - (![lo, 0, 0] : Fin 3 → ℕ) a < S2176x4x128.size a)
      ↔ (lo ≤ (i 0).val + (rowWin w).val ∧ (i 0).val + (rowWin w).val - lo < 2176) := by
    constructor
    · intro H
      have := H 0
      change lo ≤ (i 0).val * 1 + (w 0).val ∧ (i 0).val * 1 + (w 0).val - lo < 2176 at this
      rw [Nat.mul_one] at this
      exact this
    · intro H a
      match a with
      | ⟨0, _⟩ =>
        show lo ≤ (i 0).val * 1 + (w 0).val ∧ (i 0).val * 1 + (w 0).val - lo < 2176
        rw [Nat.mul_one]; exact H
      | ⟨1, _⟩ => show 0 ≤ (i 1).val * 1 + (w 1).val ∧ (i 1).val * 1 + (w 1).val - 0 < 4; omega
      | ⟨2, _⟩ => show 0 ≤ (i 2).val * 1 + (w 2).val ∧ (i 2).val * 1 + (w 2).val - 0 < 128; omega
  by_cases hr : lo ≤ (i 0).val + (rowWin w).val ∧ (i 0).val + (rowWin w).val - lo < 2176
  · rw [dif_pos (hc.2 hr), if_pos hr, hx]
    have e0 : (i 0).val * 1 + (w 0).val - lo = (i 0).val + (rowWin w).val - lo := by rw [Nat.mul_one]; rfl
    have e1 : (⟨(i 1).val * 1 + (w 1).val - 0, by omega⟩ : Fin 4) = i 1 := Fin.ext (by show _ = (i 1).val; simp only; omega)
    have e2 : (⟨(i 2).val * 1 + (w 2).val - 0, by omega⟩ : Fin 128) = i 2 := Fin.ext (by show _ = (i 2).val; simp only; omega)
    exact congrArg (fun y : ℝ => (y : EReal)) (congrArg₂ (fun a b => X a ((i 0).val * 1 + (w 0).val - lo) b) e1 e2 |>.trans (by rw [e0]))
  · rw [dif_neg (mt hc.1 hr), if_neg hr]
    exact EReal.coe_zero.symm

/-- The rows up to a row. -/
theorem rows_upto (X : ℕ → ℝ) (t : ℕ) (ht : t < 2176) :
    (∑ k : Fin 2176, if 2175 ≤ t + k.val ∧ t + k.val - 2175 < 2176 then X (t + k.val - 2175) else 0)
      = ∑ s ∈ range (t + 1), X s := by
  rw [Fin.sum_univ_eq_sum_range (fun k => if 2175 ≤ t + k ∧ t + k - 2175 < 2176 then X (t + k - 2175) else 0) 2176, ← sum_filter]
  refine sum_bij' (fun k _ => t + k - 2175) (fun s _ => s + 2175 - t) ?_ ?_ ?_ ?_ ?_ <;>
    simp only [mem_filter, mem_range] <;> intros <;> first | omega | trivial

/-- The rows from a row on. -/
theorem rows_from (X : ℕ → ℝ) (t : ℕ) (ht : t < 2176) :
    (∑ k : Fin 2176, if 0 ≤ t + k.val ∧ t + k.val - 0 < 2176 then X (t + k.val - 0) else 0) = ∑ u ∈ Ico t 2176, X u := by
  rw [Fin.sum_univ_eq_sum_range (fun k => if 0 ≤ t + k ∧ t + k - 0 < 2176 then X (t + k - 0) else 0) 2176, ← sum_filter]
  refine sum_bij' (fun k _ => t + k - 0) (fun s _ => s - t) ?_ ?_ ?_ ?_ ?_ <;>
    simp only [mem_filter, mem_range, mem_Ico] <;> intros <;> first | omega | trivial

/-- A row's sum over the rows not after it. -/
theorem rows_le (X : ℕ → ℝ) (t : ℕ) (ht : t < 2176) :
    (∑ k : Fin 2176, if k.val ≤ t then X k.val else 0) = ∑ s ∈ range (t + 1), X s := by
  rw [Fin.sum_univ_eq_sum_range (fun k => if k ≤ t then X k else 0) 2176, ← sum_filter]
  refine sum_congr (ext fun s => ?_) fun _ _ => rfl
  simp only [mem_filter, mem_range]; omega

/-- A row's sum over the rows not before it. -/
theorem rows_ge (X : ℕ → ℝ) (s : ℕ) :
    (∑ k : Fin 2176, if s ≤ k.val then X k.val else 0) = ∑ u ∈ Ico s 2176, X u := by
  rw [Fin.sum_univ_eq_sum_range (fun k => if s ≤ k then X k else 0) 2176, ← sum_filter]
  refine sum_congr (ext fun u => ?_) fun _ _ => rfl
  simp only [mem_filter, mem_range, mem_Ico]; omega

end Cert.Scan
-- ==== Proof.RefGates.lean ====
/-
  The reference's gates: what its slices, sigmoids and gate arrays hold at a row, a head and a column.
-/
module

public import proofs.«01_k».proof.Proof.RefWindow

@[expose] public section

set_option backward.isDefEq.respectTransparency false

noncomputable section

namespace Cert.Scan

open Idealize.ShloMosaic Cert.ReferenceIdeal Cert.ReferenceIdeal.Read Finset

/-- The reference's arguments hold these real numbers, by head. -/
structure RHolds (x0 : (⟨S2176x6144, .f32⟩ : BufTy).Contents (Elt Ideal)) (x1 : (⟨S512, .f32⟩ : BufTy).Contents (Elt Ideal))
    (x2 : (⟨S2176x512, .f32⟩ : BufTy).Contents (Elt Ideal)) (lb : Fin 4 → Fin 128 → ℝ) (Q Z V W : Fin 4 → Seq) : Prop where
  q : ∀ h (t : Fin 2176) j, x0 (ix2 t (hcol 1536 (by omega) h j)) = ((Q h t.val j : ℝ) : EReal)
  z : ∀ h (t : Fin 2176) j, x0 (ix2 t (hcol 2048 (by omega) h j)) = ((Z h t.val j : ℝ) : EReal)
  v : ∀ h (t : Fin 2176) j, x0 (ix2 t (hcol 3072 (by omega) h j)) = ((V h t.val j : ℝ) : EReal)
  l : ∀ h j, x1 (ix1 (hcol 0 (by omega) h j)) = ((lb h j : ℝ) : EReal)
  w : ∀ h (t : Fin 2176) j, x2 (ix2 t (hcol 0 (by omega) h j)) = ((W h t.val j : ℝ) : EReal)
  lim : ∀ h j, 0 ≤ lb h j ∧ lb h j ≤ 1

/-- One real number divided by another that is not zero. -/
theorem div_real (x y : ℝ) (h : y ≠ 0) : Ideal.div (x : EReal) (y : EReal) = ((x / y : ℝ) : EReal) := by
  unfold Ideal.div
  rw [if_neg (by simpa using h), div_eq_mul_inv, EReal.coe_mul, EReal.coe_inv]

theorem log_real (x : ℝ) (h : 0 < x) : Ideal.hostUnary .log (x : EReal) = ((Real.log x : ℝ) : EReal) :=
  if_neg (not_le.2 h)

theorem den_ne (x : ℝ) : 1 + Real.exp (-x) ≠ 0 := by positivity

/-- A gate lies above zero where its lower bound lies between zero and one. -/
theorem fT_pos {lb : Fin 128 → ℝ} (hl : ∀ j, 0 ≤ lb j ∧ lb j ≤ 1) (Z : Seq) (t : ℕ) (j : Fin 128) : 0 < fT lb Z t j := by
  have p := sig_pos (Z t j)
  have l := sig_lt_one (Z t j)
  have h := hl j
  unfold fT
  nlinarith [mul_nonneg h.1 (sub_nonneg.2 l.le)]

variable {x0 : (⟨S2176x6144, .f32⟩ : BufTy).Contents (Elt Ideal)} {x1 : (⟨S512, .f32⟩ : BufTy).Contents (Elt Ideal)}
  {x2 : (⟨S2176x512, .f32⟩ : BufTy).Contents (Elt Ideal)} {lb : Fin 4 → Fin 128 → ℝ} {Q Z V W : Fin 4 → Seq}
  (H : RHolds x0 x1 x2 lb Q Z V W)

/-- A row, head and column's place in a matrix of heads side by side. -/
theorem heads_eq (i : S2176x4x128.Idx) (o : ℕ) (w : ℕ) (ho : o + 512 ≤ w) (y : (⟨2, ![2176, w]⟩ : Shape).Idx)
    (h0 : (y 0).val = (((i 0).val * 4 + (i 1).val) * 128 + (i 2).val) / 512)
    (h1 : (y 1).val = o + (((i 0).val * 4 + (i 1).val) * 128 + (i 2).val) % 512) :
    y = ix2 (i 0) (hcol o ho (i 1) (i 2)) := by
  have i0 : (i 0).val < 2176 := (i 0).isLt
  have i1 : (i 1).val < 4 := (i 1).isLt
  have i2 : (i 2).val < 128 := (i 2).isLt
  refine funext fun a => ?_
  match a with
  | ⟨0, _⟩ => exact Fin.ext (h0.trans (by show _ = (i 0).val; omega))
  | ⟨1, _⟩ => exact Fin.ext (h1.trans (by show _ = o + 128 * (i 1).val + (i 2).val; omega))

include H

theorem r3 (i : S2176x4x128.Idx) : val_main_v3 (F := Ideal) x0 i = ((Q (i 1) (i 0).val (i 2) : ℝ) : EReal) := by
  rw [val_main_v3_apply, val_main_v0_apply]
  exact (congrArg x0 (heads_eq i 1536 6144 (by omega) _ rfl rfl)).trans (H.q _ _ _)
theorem r5 (i : S2176x4x128.Idx) : val_main_v5 (F := Ideal) x0 i = ((V (i 1) (i 0).val (i 2) : ℝ) : EReal) := by
  rw [val_main_v5_apply, val_main_v2_apply]
  exact (congrArg x0 (heads_eq i 3072 6144 (by omega) _ rfl rfl)).trans (H.v _ _ _)
theorem r9 (i : S2176x4x128.Idx) : val_main_v9 (F := Ideal) x0 i = ((Z (i 1) (i 0).val (i 2) : ℝ) : EReal) := by
  rw [val_main_v9_apply, val_main_v1_apply]
  exact (congrArg x0 (heads_eq i 2048 6144 (by omega) _ rfl rfl)).trans (H.z _ _ _)
theorem r50 (i : S2176x4x128.Idx) : val_main_v50 (F := Ideal) x2 i = ((W (i 1) (i 0).val (i 2) : ℝ) : EReal) := by
  rw [val_main_v50_apply]
  exact (congrArg x2 (heads_eq i 0 512 (by omega) _ rfl (Nat.zero_add _).symm)).trans (H.w _ _ _)
theorem r6 (i : S4x128.Idx) : val_main_v6 (F := Ideal) x1 i = ((lb (i 0) (i 1) : ℝ) : EReal) := by
  rw [val_main_v6_apply]
  refine (congrArg x1 (funext fun a => ?_)).trans (H.l _ _)
  match a with
  | ⟨0, _⟩ => exact Fin.ext (by show (i 0).val * 128 + (i 1).val = 0 + 128 * (i 0).val + (i 1).val; omega)

/-- The sigmoid of the queries. -/
theorem r4_2 (i : S2176x4x128.Idx) : val_main_v4_2 (F := Ideal) x0 i = ((sig (Q (i 1) (i 0).val (i 2)) : ℝ) : EReal) := by
  have e : val_main_call0_v3 (F := Ideal) x0 i = ((1 + Real.exp (-Q (i 1) (i 0).val (i 2)) : ℝ) : EReal) := by
    rw [val_main_call0_v3_apply, val_main_call0_v1_apply, val_main_call0_v0_apply, r3 H, val_main_call0_v2_apply, val_main_call0_cst_apply]
    refine (congrArg (· + _) one_word).trans ?_
    exact (EReal.coe_add _ _).symm
  rw [val_main_v4_2_apply, e, val_main_call0_v4_apply, val_main_call0_cst_0_apply]
  refine (congrArg (Ideal.div · _) one_word).trans ?_
  exact div_real _ _ (den_ne _)
theorem r4_1 (i : S2176x4x128.Idx) : val_main_v4_1 (F := Ideal) x0 i
    = ((sig (Q (i 1) (i 0).val (i 2)) * (1 - sig (Q (i 1) (i 0).val (i 2))) : ℝ) : EReal) := by
  have e : val_main_call0_v7 (F := Ideal) x0 i = ((1 - sig (Q (i 1) (i 0).val (i 2)) : ℝ) : EReal) := by
    rw [val_main_call0_v7_apply, r4_2 H, val_main_call0_v6_apply, val_main_call0_cst_1_apply]
    exact (congrArg (· - _) one_word).trans (EReal.coe_sub _ _).symm
  rw [val_main_v4_1_apply, e, r4_2 H]
  exact (EReal.coe_mul _ _).symm
theorem r4_0 (i : S2176x4x128.Idx) : val_main_v4_0 (F := Ideal) x0 i = ((qT (Q (i 1)) (i 0).val (i 2) : ℝ) : EReal) := by
  rw [val_main_v4_0_apply, r3 H, r4_2 H]
  exact (EReal.coe_mul _ _).symm

theorem r8 (i : S4x128.Idx) : val_main_v8 (F := Ideal) x1 i = ((1 - lb (i 0) (i 1) : ℝ) : EReal) := by
  rw [val_main_v8_apply, r6 H, val_main_v7_apply, val_main_cst_apply]
  exact (congrArg (· - _) one_word).trans (EReal.coe_sub _ _).symm
theorem r19 (i : S1x4x128.Idx) : val_main_v19 (F := Ideal) x1 i = ((1 - lb (i 1) (i 2) : ℝ) : EReal) := by
  rw [val_main_v19_apply, r8 H]; rfl
theorem r20 (i : S2176x4x128.Idx) : val_main_v20 (F := Ideal) x1 i = ((1 - lb (i 1) (i 2) : ℝ) : EReal) := by
  rw [val_main_v20_apply, r19 H]; rfl
theorem r87 (i : S2176x4x128.Idx) : val_main_v87 (F := Ideal) x1 i = ((1 - lb (i 1) (i 2) : ℝ) : EReal) := by
  rw [val_main_v87_apply, r19 H]; rfl
theorem r23 (i : S2176x4x128.Idx) : val_main_v23 (F := Ideal) x1 i = ((lb (i 1) (i 2) : ℝ) : EReal) := by
  rw [val_main_v23_apply, val_main_v22_apply, r6 H]; rfl

/-- The sigmoid of the gates' arguments. -/
theorem r15 (i : S2176x4x128.Idx) : val_main_v15 (F := Ideal) x0 i = ((sig (Z (i 1) (i 0).val (i 2)) : ℝ) : EReal) := by
  have e : val_main_v13 (F := Ideal) x0 i = ((1 + Real.exp (-Z (i 1) (i 0).val (i 2)) : ℝ) : EReal) := by
    rw [val_main_v13_apply, val_main_v11_apply, val_main_v10_apply, r9 H, val_main_v12_apply, val_main_cst_0_apply]
    exact (congrArg (· + _) one_word).trans (EReal.coe_add _ _).symm
  rw [val_main_v15_apply, e, val_main_v14_apply, val_main_cst_1_apply]
  exact (congrArg (Ideal.div · _) one_word).trans (div_real _ _ (den_ne _))
theorem r18 (i : S2176x4x128.Idx) : val_main_v18 (F := Ideal) x0 i
    = ((sig (Z (i 1) (i 0).val (i 2)) * (1 - sig (Z (i 1) (i 0).val (i 2))) : ℝ) : EReal) := by
  have e : val_main_v17 (F := Ideal) x0 i = ((1 - sig (Z (i 1) (i 0).val (i 2)) : ℝ) : EReal) := by
    rw [val_main_v17_apply, r15 H, val_main_v16_apply, val_main_cst_2_apply]
    exact (congrArg (· - _) one_word).trans (EReal.coe_sub _ _).symm
  rw [val_main_v18_apply, e, r15 H]
  exact (EReal.coe_mul _ _).symm

/-- The gates. -/
theorem r24 (i : S2176x4x128.Idx) : val_main_v24 (F := Ideal) x0 x1 i = ((fT (lb (i 1)) (Z (i 1)) (i 0).val (i 2) : ℝ) : EReal) := by
  rw [val_main_v24_apply, r23 H, val_main_v21_apply, r20 H, r15 H]
  exact (congrArg (_ + ·) (EReal.coe_mul _ _).symm).trans (EReal.coe_add _ _).symm
/-- The keys. -/
theorem r26 (i : S2176x4x128.Idx) : val_main_v26 (F := Ideal) x0 x1 i = ((kT (lb (i 1)) (Z (i 1)) (i 0).val (i 2) : ℝ) : EReal) := by
  rw [val_main_v26_apply, r24 H, val_main_v25_apply, val_main_cst_3_apply]
  refine (congrArg (· - _) one_word).trans ((EReal.coe_sub _ _).symm.trans (congrArg (fun x : ℝ => (x : EReal)) ?_))
  unfold fT kT; ring
theorem r27 (i : S2176x4x128.Idx) : val_main_v27 (F := Ideal) x0 x1 i
    = ((Real.log (fT (lb (i 1)) (Z (i 1)) (i 0).val (i 2)) : ℝ) : EReal) := by
  rw [val_main_v27_apply, r24 H]
  exact log_real _ (fT_pos (H.lim _) _ _ _)
/-- The running sums of the gates' logarithms. -/
theorem r28 (i : S2176x4x128.Idx) : val_main_v28 (F := Ideal) x0 x1 i
    = ((pT (lb (i 1)) (Z (i 1)) ((i 0).val + 1) (i 2) : ℝ) : EReal) := by
  unfold val_main_v28
  refine (window_rows 2175 0 _ _ (fun h t j => Real.log (fT (lb h) (Z h) t j)) (r27 H) (fun y => ?_) _ _ i).trans
    (congrArg (fun x : ℝ => (x : EReal)) ?_)
  · rw [val_main_call1_call0_v0_apply, val_main_call1_call0_cst_apply]
    exact Ideal.ofBits_zero_f32.trans EReal.coe_zero.symm
  · exact rows_upto (fun t => Real.log (fT (lb (i 1)) (Z (i 1)) t (i 2))) _ (i 0).isLt

end Cert.Scan
-- ==== Proof.RefPairs.lean ====
/-
  The reference's pairs of rows: the mask, the decays, the scores, and the output they give.
-/
module

public import proofs.«01_k».proof.Proof.RefGates
public import Idealize.ShloMosaic.Lib.WordCmp

@[expose] public section

set_option backward.isDefEq.respectTransparency false

noncomputable section

namespace Cert.Scan

open Idealize.ShloMosaic Cert.ReferenceIdeal Cert.ReferenceIdeal.Read Finset

theorem word_int (a : ℕ) (h : a < 2176) : (BitVec.ofNat 32 a).toInt = (a : ℤ) := by
  have e : (BitVec.ofNat 32 a).toNat = a := by rw [BitVec.toNat_ofNat]; omega
  rw [BitVec.toInt_eq_toNat_of_lt (by omega), e]

/-- The mask of the pairs whose second row is not after the first. -/
theorem r30 (i : S2176x2176.Idx) : val_main_v30 (F := Ideal) i = if (i 1).val ≤ (i 0).val then 1#1 else 0#1 := by
  have e : val_main_call2_v4 (F := Ideal) i = if (i 1).val ≤ (i 0).val then 1#1 else 0#1 := by
    rw [val_main_call2_v4_apply, val_main_call2_v2_apply, val_main_call2_v0_apply, val_main_call2_v3_apply,
      val_main_call2_v1_apply, val_main_call2_c_apply]
    show IntOp.cmpi .sge (BitVec.ofNat 32 (i 0).val + 0#32) (BitVec.ofNat 32 (i 1).val) = _
    rw [BitVec.add_zero, WordCmp.cmpi_sge_eq, word_int _ (i 0).isLt, word_int _ (i 1).isLt]
    by_cases h : (i 1).val ≤ (i 0).val
    · rw [if_pos h, decide_eq_true (Int.ofNat_le.2 h)]; rfl
    · rw [if_neg h, decide_eq_false (fun c => h (Int.ofNat_le.1 c))]; rfl
  rw [val_main_v30_apply, e, val_main_v29_apply, val_main_c_apply, val_main_call2_v5_apply, val_main_call2_c_0_apply]
  by_cases h : (i 1).val ≤ (i 0).val
  · rw [if_pos h]; rfl
  · rw [if_neg h]; rfl

/-- A choice by the mask is a choice by the rows' order. -/
theorem select_real (p : Prop) [Decidable p] (a b : ℝ) :
    Scalar.select (if p then 1#1 else 0#1) (a : EReal) (b : EReal) = ((if p then a else b : ℝ) : EReal) := by
  by_cases h : p
  · rw [if_pos h, if_pos h]; rfl
  · rw [if_neg h, if_neg h]; rfl

theorem r37_1 (i : S2176x2176x4x128.Idx) : val_main_v37_1 (F := Ideal) i = if (i 1).val ≤ (i 0).val then 1#1 else 0#1 := by
  rw [val_main_v37_1_apply, val_main_v31_apply, r30]
theorem r39_1 (i : S2176x2176x4x128.Idx) : val_main_v39_1 (F := Ideal) i = if (i 1).val ≤ (i 0).val then 1#1 else 0#1 := by
  rw [val_main_v39_1_apply, val_main_v31_apply, r30]

variable {x0 : (⟨S2176x6144, .f32⟩ : BufTy).Contents (Elt Ideal)} {x1 : (⟨S512, .f32⟩ : BufTy).Contents (Elt Ideal)}
  {x2 : (⟨S2176x512, .f32⟩ : BufTy).Contents (Elt Ideal)} {lb : Fin 4 → Fin 128 → ℝ} {Q Z V W : Fin 4 → Seq}
  (H : RHolds x0 x1 x2 lb Q Z V W)

theorem zero_real : Ideal.ofBits .f32 0x00000000#32 = ((0 : ℝ) : EReal) := Ideal.ofBits_zero_f32.trans EReal.coe_zero.symm

/-- The decays' exponents, zero outside the mask. -/
def exT (lb : Fin 128 → ℝ) (Z : Seq) (t s : ℕ) (j : Fin 128) : ℝ := if s ≤ t then pT lb Z (t + 1) j - pT lb Z (s + 1) j else 0

include H

theorem r36 (i : S2176x2176x4x128.Idx) : val_main_v36 (F := Ideal) x0 x1 i
    = ((pT (lb (i 2)) (Z (i 2)) ((i 0).val + 1) (i 3) - pT (lb (i 2)) (Z (i 2)) ((i 1).val + 1) (i 3) : ℝ) : EReal) := by
  rw [val_main_v36_apply, val_main_v34_apply, val_main_v32_apply, r28 H, val_main_v35_apply, val_main_v33_apply, r28 H]
  exact (EReal.coe_sub _ _).symm
theorem r38 (i : S2176x2176x4x128.Idx) : val_main_v38 (F := Ideal) x0 x1 i
    = ((Real.exp (exT (lb (i 2)) (Z (i 2)) (i 0).val (i 1).val (i 3)) : ℝ) : EReal) := by
  have e : val_main_v37_0 (F := Ideal) x0 x1 i = ((exT (lb (i 2)) (Z (i 2)) (i 0).val (i 1).val (i 3) : ℝ) : EReal) := by
    rw [val_main_v37_0_apply, r37_1, r36 H, val_main_call3_v2_apply, val_main_call3_v0_apply, val_main_cst_4_apply]
    exact (congrArg (Scalar.select _ _) zero_real).trans (select_real _ _ _)
  rw [val_main_v38_apply, e]
  rfl
/-- The decays, zero outside the mask. -/
theorem r39 (i : S2176x2176x4x128.Idx) : val_main_v39_0 (F := Ideal) x0 x1 i
    = ((if (i 1).val ≤ (i 0).val then decT (lb (i 2)) (Z (i 2)) (i 0).val (i 1).val (i 3) else 0 : ℝ) : EReal) := by
  rw [val_main_v39_0_apply, r39_1, r38 H, val_main_call4_v2_apply, val_main_call4_v0_apply, val_main_cst_5_apply]
  refine (congrArg (Scalar.select _ _) zero_real).trans ((select_real _ _ _).trans (congrArg (fun x : ℝ => (x : EReal)) ?_))
  by_cases h : (i 1).val ≤ (i 0).val
  · rw [if_pos h, if_pos h]; unfold exT decT; rw [if_pos h]
  · rw [if_neg h, if_neg h]

theorem r40 (i : S2176x1x4x128.Idx) : val_main_v40 (F := Ideal) x0 i = ((qT (Q (i 2)) (i 0).val (i 3) : ℝ) : EReal) := by
  rw [val_main_v40_apply, r4_0 H]; rfl
theorem r41 (i : S1x2176x4x128.Idx) : val_main_v41 (F := Ideal) x0 x1 i
    = ((kT (lb (i 2)) (Z (i 2)) (i 1).val (i 3) : ℝ) : EReal) := by
  rw [val_main_v41_apply, r26 H]; rfl
theorem r42 (i : S2176x2176x4x128.Idx) : val_main_v42 (F := Ideal) x0 i = ((qT (Q (i 2)) (i 0).val (i 3) : ℝ) : EReal) := by
  rw [val_main_v42_apply, r40 H]; rfl
theorem r59 (i : S2176x2176x4x128.Idx) : val_main_v59 (F := Ideal) x0 i = ((qT (Q (i 2)) (i 0).val (i 3) : ℝ) : EReal) := by
  rw [val_main_v59_apply, r40 H]; rfl
theorem r43 (i : S2176x2176x4x128.Idx) : val_main_v43 (F := Ideal) x0 x1 i
    = ((kT (lb (i 2)) (Z (i 2)) (i 1).val (i 3) : ℝ) : EReal) := by
  rw [val_main_v43_apply, r41 H]; rfl
theorem r63 (i : S2176x2176x4x128.Idx) : val_main_v63 (F := Ideal) x0 x1 i
    = ((kT (lb (i 2)) (Z (i 2)) (i 1).val (i 3) : ℝ) : EReal) := by
  rw [val_main_v63_apply, r41 H]; rfl
theorem r44 (i : S2176x2176x4x128.Idx) : val_main_v44 (F := Ideal) x0 x1 i
    = ((qT (Q (i 2)) (i 0).val (i 3) * kT (lb (i 2)) (Z (i 2)) (i 1).val (i 3) : ℝ) : EReal) := by
  rw [val_main_v44_apply, r42 H, r43 H]
  exact (EReal.coe_mul _ _).symm

/-- The scores, zero outside the mask. -/
theorem r46 (i : S2176x2176x4.Idx) : val_main_v46 (F := Ideal) x0 x1 i
    = ((if (i 1).val ≤ (i 0).val then scT (lb (i 2)) (Q (i 2)) (Z (i 2)) (i 0).val (i 1).val else 0 : ℝ) : EReal) := by
  have e : ∀ k : Fin 128, val_main_v45 (F := Ideal) x0 x1 (idx_main_v46 i k)
      = ((if (i 1).val ≤ (i 0).val then qT (Q (i 2)) (i 0).val k * kT (lb (i 2)) (Z (i 2)) (i 1).val k
          * decT (lb (i 2)) (Z (i 2)) (i 0).val (i 1).val k else 0 : ℝ) : EReal) := by
    intro k
    rw [val_main_v45_apply, r44 H, r39 H]
    refine (EReal.coe_mul _ _).symm.trans (congrArg (fun x : ℝ => (x : EReal)) ?_)
    exact mul_ite_zero _ _ _
  rw [val_main_v46_apply, val_main_cst_6_apply]
  refine (congrArg₂ (· + ·) Ideal.ofBits_zero_f32 (sum_congr rfl fun k _ => e k)).trans ?_
  rw [zero_add, ← coe_sum]
  refine congrArg (fun x : ℝ => (x : EReal)) ?_
  by_cases h : (i 1).val ≤ (i 0).val
  · simp only [if_pos h]; rfl
  · simp only [if_neg h, sum_const_zero]

/-- The output, by head. -/
theorem r48 (i : S2176x4x128.Idx) : val_main_v48 (F := Ideal) x0 x1 i
    = ((oT (lb (i 1)) (Q (i 1)) (Z (i 1)) (V (i 1)) (i 0).val (i 2) : ℝ) : EReal) := by
  rw [val_main_v48_apply, val_main_v47_apply]
  have e : ∀ k : Fin 2176, val_main_v5 (F := Ideal) x0 (lidx_main_v47 (idx_main_v48 i) k)
        * val_main_v46 (F := Ideal) x0 x1 (ridx_main_v47 (idx_main_v48 i) k)
      = ((if k.val ≤ (i 0).val then scT (lb (i 1)) (Q (i 1)) (Z (i 1)) (i 0).val k.val * V (i 1) k.val (i 2) else 0 : ℝ) : EReal) := by
    intro k
    rw [r5 H, r46 H]
    refine (EReal.coe_mul _ _).symm.trans (congrArg (fun x : ℝ => (x : EReal)) ?_)
    exact (mul_ite_zero _ _ _).trans (if_congr Iff.rfl (mul_comm _ _) rfl)
  rw [sum_congr rfl fun k _ => e k, ← coe_sum]
  exact congrArg (fun x : ℝ => (x : EReal)) (rows_le (fun s => scT (lb (i 1)) (Q (i 1)) (Z (i 1)) (i 0).val s * V (i 1) s (i 2)) _ (i 0).isLt)

theorem r51 (i : S4x128x2176.Idx) : val_main_v51 (F := Ideal) x2 i = ((W (i 0) (i 2).val (i 1) : ℝ) : EReal) := by
  rw [val_main_v51_apply, r50 H]; rfl
/-- The gradient of the scores. -/
theorem r53 (i : S2176x2176x4.Idx) : val_main_v53 (F := Ideal) x0 x2 i
    = ((daT (V (i 2)) (W (i 2)) (i 0).val (i 1).val : ℝ) : EReal) := by
  rw [val_main_v53_apply, val_main_v52_apply]
  unfold daT
  rw [coe_sum]
  refine sum_congr rfl fun k _ => ?_
  rw [r51 H, r5 H]
  exact (EReal.coe_mul _ _).symm
/-- The gradient of the values, by head. -/
theorem r55 (i : S2176x4x128.Idx) : val_main_v55 (F := Ideal) x0 x1 x2 i
    = ((dvT (lb (i 1)) (Q (i 1)) (Z (i 1)) (W (i 1)) (i 0).val (i 2) : ℝ) : EReal) := by
  rw [val_main_v55_apply, val_main_v54_apply]
  have e : ∀ k : Fin 2176, val_main_v51 (F := Ideal) x2 (lidx_main_v54 (idx_main_v55 i) k)
        * val_main_v46 (F := Ideal) x0 x1 (ridx_main_v54 (idx_main_v55 i) k)
      = ((if (i 0).val ≤ k.val then scT (lb (i 1)) (Q (i 1)) (Z (i 1)) k.val (i 0).val * W (i 1) k.val (i 2) else 0 : ℝ) : EReal) := by
    intro k
    rw [r51 H, r46 H]
    refine (EReal.coe_mul _ _).symm.trans (congrArg (fun x : ℝ => (x : EReal)) ?_)
    exact (mul_ite_zero _ _ _).trans (if_congr Iff.rfl (mul_comm _ _) rfl)
  rw [sum_congr rfl fun k _ => e k, ← coe_sum]
  exact congrArg (fun x : ℝ => (x : EReal)) (rows_ge (fun t => scT (lb (i 1)) (Q (i 1)) (Z (i 1)) t (i 0).val * W (i 1) t (i 2)) _)

end Cert.Scan
-- ==== Proof.RefGrad.lean ====
/-
  The reference's gradients: of the keys, the queries, the running sums and the gates, and of the arguments behind them.
-/
module

public import proofs.«01_k».proof.Proof.RefPairs
public import proofs.«01_k».proof.Proof.Backward

@[expose] public section

set_option backward.isDefEq.respectTransparency false

noncomputable section

namespace Cert.Scan

open Idealize.ShloMosaic Cert.ReferenceIdeal Cert.ReferenceIdeal.Read Finset

variable {x0 : (⟨S2176x6144, .f32⟩ : BufTy).Contents (Elt Ideal)} {x1 : (⟨S512, .f32⟩ : BufTy).Contents (Elt Ideal)}
  {x2 : (⟨S2176x512, .f32⟩ : BufTy).Contents (Elt Ideal)} {lb : Fin 4 → Fin 128 → ℝ} {Q Z V W : Fin 4 → Seq}
  (H : RHolds x0 x1 x2 lb Q Z V W)

/-- A real number's equality carried to the extended reals. -/
theorem real_eq {a b : ℝ} (h : a = b) : (a : EReal) = (b : EReal) := congrArg (fun x : ℝ => (x : EReal)) h

/-- A sum of real numbers that starts from the zero word. -/
theorem sum_word {n : ℕ} {z : EReal} (hz : z = Ideal.ofBits .f32 0x00000000#32) (f : Fin n → EReal) (g : Fin n → ℝ)
    (h : ∀ k, f k = ((g k : ℝ) : EReal)) : z + ∑ k, f k = ((∑ k, g k : ℝ) : EReal) := by
  rw [hz, Ideal.ofBits_zero_f32, zero_add, coe_sum]
  exact sum_congr rfl fun k _ => h k

/-- Rows, heads and columns with an axis of length one before them, in row-major order. -/
theorem drop_front (i : S2176x4x128.Idx) (n : ℕ) (hn : n = 0) (y : S2176x4x128.Idx)
    (h0 : (y 0).val = (((n * 2176 + (i 0).val) * 4 + (i 1).val) * 128 + (i 2).val) / 512)
    (h1 : (y 1).val = (((n * 2176 + (i 0).val) * 4 + (i 1).val) * 128 + (i 2).val) / 128 % 4)
    (h2 : (y 2).val = (((n * 2176 + (i 0).val) * 4 + (i 1).val) * 128 + (i 2).val) % 128) : y = i := by
  have i1 : (i 1).val < 4 := (i 1).isLt
  have i2 : (i 2).val < 128 := (i 2).isLt
  subst hn
  refine funext fun a => ?_
  match a with
  | ⟨0, _⟩ => exact Fin.ext (h0.trans (by show _ = (i 0).val; omega))
  | ⟨1, _⟩ => exact Fin.ext (h1.trans (by show _ = (i 1).val; omega))
  | ⟨2, _⟩ => exact Fin.ext (h2.trans (by show _ = (i 2).val; omega))

/-- The same with that axis after the rows. -/
theorem drop_mid (i : S2176x4x128.Idx) (n : ℕ) (hn : n = 0) (y : S2176x4x128.Idx)
    (h0 : (y 0).val = ((((i 0).val * 1 + n) * 4 + (i 1).val) * 128 + (i 2).val) / 512)
    (h1 : (y 1).val = ((((i 0).val * 1 + n) * 4 + (i 1).val) * 128 + (i 2).val) / 128 % 4)
    (h2 : (y 2).val = ((((i 0).val * 1 + n) * 4 + (i 1).val) * 128 + (i 2).val) % 128) : y = i := by
  have i1 : (i 1).val < 4 := (i 1).isLt
  have i2 : (i 2).val < 128 := (i 2).isLt
  subst hn
  refine funext fun a => ?_
  match a with
  | ⟨0, _⟩ => exact Fin.ext (h0.trans (by show _ = (i 0).val; omega))
  | ⟨1, _⟩ => exact Fin.ext (h1.trans (by show _ = (i 1).val; omega))
  | ⟨2, _⟩ => exact Fin.ext (h2.trans (by show _ = (i 2).val; omega))

/-- Heads and columns with an axis of length one before them. -/
theorem drop_row (i : S4x128.Idx) (n : ℕ) (hn : n = 0) (y : S4x128.Idx)
    (h0 : (y 0).val = ((n * 4 + (i 0).val) * 128 + (i 1).val) / 128)
    (h1 : (y 1).val = ((n * 4 + (i 0).val) * 128 + (i 1).val) % 128) : y = i := by
  have i1 : (i 1).val < 128 := (i 1).isLt
  subst hn
  refine funext fun a => ?_
  match a with
  | ⟨0, _⟩ => exact Fin.ext (h0.trans (by show _ = (i 0).val; omega))
  | ⟨1, _⟩ => exact Fin.ext (h1.trans (by show _ = (i 1).val; omega))

include H

theorem r56 (i : S2176x2176x4x128.Idx) : val_main_v56 (F := Ideal) x0 x2 i
    = ((daT (V (i 2)) (W (i 2)) (i 0).val (i 1).val : ℝ) : EReal) := by
  rw [val_main_v56_apply, r53 H]; rfl
theorem r58 (i : S2176x2176x4x128.Idx) : val_main_v58 (F := Ideal) x0 x1 x2 i
    = ((if (i 1).val ≤ (i 0).val then daT (V (i 2)) (W (i 2)) (i 0).val (i 1).val
        * decT (lb (i 2)) (Z (i 2)) (i 0).val (i 1).val (i 3) else 0 : ℝ) : EReal) := by
  rw [val_main_v58_apply, r56 H, r39 H]
  exact (EReal.coe_mul _ _).symm.trans (real_eq (mul_ite_zero _ _ _))

/-- The gradient of the keys, by head. -/
theorem r61 (i : S2176x4x128.Idx) : val_main_v61 (F := Ideal) x0 x1 x2 i
    = ((dkT (lb (i 1)) (Q (i 1)) (Z (i 1)) (V (i 1)) (W (i 1)) (i 0).val (i 2) : ℝ) : EReal) := by
  rw [val_main_v61_apply, val_main_cst_7_apply]
  refine (sum_word rfl _ (fun k => if (i 0).val ≤ k.val then daT (V (i 1)) (W (i 1)) k.val (i 0).val * qT (Q (i 1)) k.val (i 2)
    * decT (lb (i 1)) (Z (i 1)) k.val (i 0).val (i 2) else 0) fun k => ?_).trans (real_eq ?_)
  · rw [val_main_v60_apply, r59 H, r58 H]
    refine (EReal.coe_mul _ _).symm.trans (real_eq ((mul_ite_zero _ _ _).trans (if_congr Iff.rfl ?_ rfl)))
    show qT (Q (i 1)) k.val (i 2) * (daT (V (i 1)) (W (i 1)) k.val (i 0).val * decT (lb (i 1)) (Z (i 1)) k.val (i 0).val (i 2)) = _
    ring
  · exact rows_ge (fun t => daT (V (i 1)) (W (i 1)) t (i 0).val * qT (Q (i 1)) t (i 2) * decT (lb (i 1)) (Z (i 1)) t (i 0).val (i 2)) _
theorem r67 (i : S2176x4x128.Idx) : val_main_v67 (F := Ideal) x0 x1 x2 i
    = ((dkT (lb (i 1)) (Q (i 1)) (Z (i 1)) (V (i 1)) (W (i 1)) (i 0).val (i 2) : ℝ) : EReal) := by
  rw [val_main_v67_apply, val_main_cst_9_apply]
  refine (sum_word rfl _ (fun _ => dkT (lb (i 1)) (Q (i 1)) (Z (i 1)) (V (i 1)) (W (i 1)) (i 0).val (i 2)) fun k => ?_).trans (real_eq ?_)
  · rw [val_main_v62_apply]
    exact (congrArg (val_main_v61 (F := Ideal) x0 x1 x2) (drop_front i k.val (by omega) _ rfl rfl rfl)).trans (r61 H i)
  · exact Fin.sum_univ_one _

/-- The gradient of the queries past their gate, by head. -/
theorem r65 (i : S2176x4x128.Idx) : val_main_v65 (F := Ideal) x0 x1 x2 i
    = ((dqT (lb (i 1)) (Z (i 1)) (V (i 1)) (W (i 1)) (i 0).val (i 2) : ℝ) : EReal) := by
  rw [val_main_v65_apply, val_main_cst_8_apply]
  refine (sum_word rfl _ (fun k => if k.val ≤ (i 0).val then daT (V (i 1)) (W (i 1)) (i 0).val k.val * kT (lb (i 1)) (Z (i 1)) k.val (i 2)
    * decT (lb (i 1)) (Z (i 1)) (i 0).val k.val (i 2) else 0) fun k => ?_).trans (real_eq ?_)
  · rw [val_main_v64_apply, r58 H, r63 H]
    refine (EReal.coe_mul _ _).symm.trans (real_eq ((ite_zero_mul _ _ _).trans (if_congr Iff.rfl ?_ rfl)))
    show daT (V (i 1)) (W (i 1)) (i 0).val k.val * decT (lb (i 1)) (Z (i 1)) (i 0).val k.val (i 2) * kT (lb (i 1)) (Z (i 1)) k.val (i 2) = _
    ring
  · exact rows_le (fun s => daT (V (i 1)) (W (i 1)) (i 0).val s * kT (lb (i 1)) (Z (i 1)) s (i 2) * decT (lb (i 1)) (Z (i 1)) (i 0).val s (i 2)) _ (i 0).isLt
theorem r68 (i : S2176x4x128.Idx) : val_main_v68 (F := Ideal) x0 x1 x2 i
    = ((dqT (lb (i 1)) (Z (i 1)) (V (i 1)) (W (i 1)) (i 0).val (i 2) : ℝ) : EReal) := by
  rw [val_main_v68_apply, val_main_cst_10_apply]
  refine (sum_word rfl _ (fun _ => dqT (lb (i 1)) (Z (i 1)) (V (i 1)) (W (i 1)) (i 0).val (i 2)) fun k => ?_).trans (real_eq ?_)
  · rw [val_main_v66_apply]
    exact (congrArg (val_main_v65 (F := Ideal) x0 x1 x2) (drop_mid i k.val (by omega) _ rfl rfl rfl)).trans (r65 H i)
  · exact Fin.sum_univ_one _

/-- A pair's part of the gradient of the running sums, zero outside the mask. -/
theorem r71 (i : S2176x2176x4x128.Idx) : val_main_v71 (F := Ideal) x0 x1 x2 i
    = ((if (i 1).val ≤ (i 0).val then prT (lb (i 2)) (Q (i 2)) (Z (i 2)) (V (i 2)) (W (i 2)) (i 0).val (i 1).val (i 3) else 0 : ℝ) : EReal) := by
  have e57 : val_main_v57 (F := Ideal) x0 x1 x2 i = ((qT (Q (i 2)) (i 0).val (i 3) * kT (lb (i 2)) (Z (i 2)) (i 1).val (i 3)
      * daT (V (i 2)) (W (i 2)) (i 0).val (i 1).val : ℝ) : EReal) := by
    rw [val_main_v57_apply, r44 H, r56 H]
    exact (EReal.coe_mul _ _).symm
  have e69 : val_main_v69 (F := Ideal) x0 x1 x2 i = ((if (i 1).val ≤ (i 0).val then qT (Q (i 2)) (i 0).val (i 3)
      * kT (lb (i 2)) (Z (i 2)) (i 1).val (i 3) * daT (V (i 2)) (W (i 2)) (i 0).val (i 1).val else 0 : ℝ) : EReal) := by
    rw [val_main_v69_apply, r39_1, e57, val_main_call5_v0_apply, val_main_call5_cst_apply]
    exact (congrArg (Scalar.select _ _) zero_real).trans (select_real _ _ _)
  rw [val_main_v71_apply, r37_1, val_main_v70_apply, e69, r38 H, val_main_call6_v0_apply, val_main_call6_cst_apply]
  refine (congrArg₂ (Scalar.select _) (EReal.coe_mul _ _).symm zero_real).trans ((select_real _ _ _).trans (real_eq ?_))
  by_cases h : (i 1).val ≤ (i 0).val
  · rw [if_pos h, if_pos h, if_pos h]
    unfold exT prT decT
    rw [if_pos h]
    ring
  · rw [if_neg h, if_neg h]

theorem r72 (i : S2176x4x128.Idx) : val_main_v72 (F := Ideal) x0 x1 x2 i
    = ((∑ s ∈ range ((i 0).val + 1), prT (lb (i 1)) (Q (i 1)) (Z (i 1)) (V (i 1)) (W (i 1)) (i 0).val s (i 2) : ℝ) : EReal) := by
  rw [val_main_v72_apply, val_main_cst_11_apply]
  refine (sum_word rfl _ _ fun k => r71 H _).trans (real_eq ?_)
  exact rows_le (fun s => prT (lb (i 1)) (Q (i 1)) (Z (i 1)) (V (i 1)) (W (i 1)) (i 0).val s (i 2)) _ (i 0).isLt
theorem r78 (i : S2176x4x128.Idx) : val_main_v78 (F := Ideal) x0 x1 x2 i
    = ((∑ s ∈ range ((i 0).val + 1), prT (lb (i 1)) (Q (i 1)) (Z (i 1)) (V (i 1)) (W (i 1)) (i 0).val s (i 2) : ℝ) : EReal) := by
  rw [val_main_v78_apply, val_main_cst_14_apply]
  refine (sum_word rfl _ (fun _ => ∑ s ∈ range ((i 0).val + 1), prT (lb (i 1)) (Q (i 1)) (Z (i 1)) (V (i 1)) (W (i 1)) (i 0).val s (i 2))
    fun k => ?_).trans (real_eq ?_)
  · rw [val_main_v73_apply]
    exact (congrArg (val_main_v72 (F := Ideal) x0 x1 x2) (drop_mid i k.val (by omega) _ rfl rfl rfl)).trans (r72 H i)
  · exact Fin.sum_univ_one _
theorem r75 (i : S2176x4x128.Idx) : val_main_v75 (F := Ideal) x0 x1 x2 i
    = ((-∑ u ∈ Ico (i 0).val 2176, prT (lb (i 1)) (Q (i 1)) (Z (i 1)) (V (i 1)) (W (i 1)) u (i 0).val (i 2) : ℝ) : EReal) := by
  rw [val_main_v75_apply, val_main_cst_12_apply]
  refine (sum_word rfl _ (fun k => -(if (i 0).val ≤ k.val then prT (lb (i 1)) (Q (i 1)) (Z (i 1)) (V (i 1)) (W (i 1)) k.val (i 0).val (i 2) else 0))
    fun k => ?_).trans (real_eq ?_)
  · rw [val_main_v74_apply, r71 H]
    exact (EReal.coe_neg _).symm
  · rw [sum_neg_distrib]
    exact congrArg Neg.neg (rows_ge (fun u => prT (lb (i 1)) (Q (i 1)) (Z (i 1)) (V (i 1)) (W (i 1)) u (i 0).val (i 2)) _)
theorem r77 (i : S2176x4x128.Idx) : val_main_v77 (F := Ideal) x0 x1 x2 i
    = ((-∑ u ∈ Ico (i 0).val 2176, prT (lb (i 1)) (Q (i 1)) (Z (i 1)) (V (i 1)) (W (i 1)) u (i 0).val (i 2) : ℝ) : EReal) := by
  rw [val_main_v77_apply, val_main_cst_13_apply]
  refine (sum_word rfl _ (fun _ => -∑ u ∈ Ico (i 0).val 2176, prT (lb (i 1)) (Q (i 1)) (Z (i 1)) (V (i 1)) (W (i 1)) u (i 0).val (i 2))
    fun k => ?_).trans (real_eq ?_)
  · rw [val_main_v76_apply]
    exact (congrArg (val_main_v75 (F := Ideal) x0 x1 x2) (drop_front i k.val (by omega) _ rfl rfl rfl)).trans (r75 H i)
  · exact Fin.sum_univ_one _

/-- The gradient of the running sums: a row paired with itself cancels. -/
theorem r79 (i : S2176x4x128.Idx) : val_main_v79 (F := Ideal) x0 x1 x2 i
    = ((dbT (lb (i 1)) (Q (i 1)) (Z (i 1)) (V (i 1)) (W (i 1)) (i 0).val (i 2) : ℝ) : EReal) := by
  rw [val_main_v79_apply, r77 H, r78 H]
  refine (EReal.coe_add _ _).symm.trans (real_eq ?_)
  unfold dbT
  rw [sum_range_succ, sum_eq_sum_Ico_succ_bot (show (i 0).val < 2176 from (i 0).isLt)]
  ring

/-- The sums of those from a row on. -/
theorem r80 (i : S2176x4x128.Idx) : val_main_v80 (F := Ideal) x0 x1 x2 i
    = ((∑ u ∈ Ico (i 0).val 2176, dbT (lb (i 1)) (Q (i 1)) (Z (i 1)) (V (i 1)) (W (i 1)) u (i 2) : ℝ) : EReal) := by
  unfold val_main_v80
  refine (window_rows 0 2175 _ _ (fun h t j => dbT (lb h) (Q h) (Z h) (V h) (W h) t j) (r79 H) (fun y => ?_) _ _ i).trans (real_eq ?_)
  · rw [val_main_call7_call0_v0_apply, val_main_call7_call0_cst_apply]
    exact zero_real
  · exact rows_from (fun t => dbT (lb (i 1)) (Q (i 1)) (Z (i 1)) (V (i 1)) (W (i 1)) t (i 2)) _ (i 0).isLt

/-- The gradient of the gates. -/
theorem r83 (i : S2176x4x128.Idx) : val_main_v83 (F := Ideal) x0 x1 x2 i
    = ((dfT (lb (i 1)) (Q (i 1)) (Z (i 1)) (V (i 1)) (W (i 1)) (i 0).val (i 2) : ℝ) : EReal) := by
  have e : val_main_v81 (F := Ideal) x0 x1 x2 i = (((∑ u ∈ Ico (i 0).val 2176, dbT (lb (i 1)) (Q (i 1)) (Z (i 1)) (V (i 1)) (W (i 1)) u (i 2))
      / fT (lb (i 1)) (Z (i 1)) (i 0).val (i 2) : ℝ) : EReal) := by
    rw [val_main_v81_apply, r80 H, r24 H]
    exact div_real _ _ (fT_pos (H.lim _) _ _ _).ne'
  rw [val_main_v83_apply, e, val_main_v82_apply, r67 H]
  refine (congrArg (_ + ·) (EReal.coe_neg _).symm).trans ((EReal.coe_add _ _).symm.trans (real_eq ?_))
  exact (sub_eq_add_neg _ _).symm

/-- The gradient of the gates' arguments. -/
theorem r93 (i : S2176x4x128.Idx) : val_main_v93 (F := Ideal) x0 x1 x2 i
    = ((dzS (lb (i 1)) (Q (i 1)) (Z (i 1)) (V (i 1)) (W (i 1)) (i 0).val (i 2) : ℝ) : EReal) := by
  rw [val_main_v93_apply, val_main_v88_apply, r87 H, r83 H, r18 H]
  refine (congrArg (· * _) (EReal.coe_mul _ _).symm).trans ((EReal.coe_mul _ _).symm.trans (real_eq ?_))
  unfold dzS
  ring

/-- The gradient of the queries. -/
theorem r99 (i : S2176x4x128.Idx) : val_main_v99 (F := Ideal) x0 x1 x2 i
    = ((dqS (lb (i 1)) (Q (i 1)) (Z (i 1)) (V (i 1)) (W (i 1)) (i 0).val (i 2) : ℝ) : EReal) := by
  rw [val_main_v99_apply, val_main_call8_v1_apply, val_main_call8_v2_apply, val_main_call8_v0_apply, r3 H, r68 H, r4_2 H, r4_1 H]
  refine (congrArg₂ (· + ·) (EReal.coe_mul _ _).symm ((congrArg (· * _) (EReal.coe_mul _ _).symm).trans (EReal.coe_mul _ _).symm)).trans
    ((EReal.coe_add _ _).symm.trans (real_eq ?_))
  unfold dqS
  ring

/-- The gradient of the lower bounds. -/
theorem r96 (i : S4x128.Idx) : val_main_v96 (F := Ideal) x0 x1 x2 i
    = ((dlS (lb (i 0)) (Q (i 0)) (Z (i 0)) (V (i 0)) (W (i 0)) 0 (i 1) : ℝ) : EReal) := by
  have e84 : ∀ i : S4x128.Idx, val_main_v84 (F := Ideal) x0 x1 x2 i
      = ((∑ k : Fin 2176, dfT (lb (i 0)) (Q (i 0)) (Z (i 0)) (V (i 0)) (W (i 0)) k.val (i 1) : ℝ) : EReal) := fun i => by
    rw [val_main_v84_apply, val_main_cst_15_apply]
    exact sum_word rfl _ _ fun k => r83 H _
  have e90 : ∀ i : S4x128.Idx, val_main_v90 (F := Ideal) x0 x1 x2 i
      = ((∑ k : Fin 2176, dfT (lb (i 0)) (Q (i 0)) (Z (i 0)) (V (i 0)) (W (i 0)) k.val (i 1) * sig (Z (i 0) k.val (i 1)) : ℝ) : EReal) := fun i => by
    rw [val_main_v90_apply, val_main_cst_17_apply]
    refine sum_word rfl _ _ fun k => ?_
    rw [val_main_v89_apply, r83 H, r15 H]
    exact (EReal.coe_mul _ _).symm
  have e86 : val_main_v86 (F := Ideal) x0 x1 x2 i
      = ((∑ _k : Fin 1, ∑ k : Fin 2176, dfT (lb (i 0)) (Q (i 0)) (Z (i 0)) (V (i 0)) (W (i 0)) k.val (i 1) : ℝ) : EReal) := by
    rw [val_main_v86_apply, val_main_cst_16_apply]
    refine sum_word rfl _ _ fun k => ?_
    rw [val_main_v85_apply]
    exact (congrArg (val_main_v84 (F := Ideal) x0 x1 x2) (drop_row i k.val (by omega) _ rfl rfl)).trans (e84 i)
  have e92 : val_main_v92 (F := Ideal) x0 x1 x2 i
      = ((∑ _k : Fin 1, ∑ k : Fin 2176, dfT (lb (i 0)) (Q (i 0)) (Z (i 0)) (V (i 0)) (W (i 0)) k.val (i 1) * sig (Z (i 0) k.val (i 1)) : ℝ) : EReal) := by
    rw [val_main_v92_apply, val_main_cst_18_apply]
    refine sum_word rfl _ _ fun k => ?_
    rw [val_main_v91_apply]
    exact (congrArg (val_main_v90 (F := Ideal) x0 x1 x2) (drop_row i k.val (by omega) _ rfl rfl)).trans (e90 i)
  rw [val_main_v96_apply, e86, val_main_v95_apply, e92]
  refine (congrArg (_ + ·) (EReal.coe_neg _).symm).trans ((EReal.coe_add _ _).symm.trans (real_eq ?_))
  rw [Fin.sum_univ_one, Fin.sum_univ_one, ← sub_eq_add_neg, ← sum_sub_distrib]
  unfold dlS
  rw [Nat.Ico_zero_eq_range, ← Fin.sum_univ_eq_sum_range (fun t => dfT (lb (i 0)) (Q (i 0)) (Z (i 0)) (V (i 0)) (W (i 0)) t (i 1) * (1 - sig (Z (i 0) t (i 1)))) 2176]
  exact sum_congr rfl fun k _ => by ring

/-! ## The results -/

omit H in
/-- A column of the matrix of heads side by side, as a head's column. -/
theorem heads_of (i : S2176x512.Idx) (y : S2176x4x128.Idx) (h0 : (y 0).val = ((i 0).val * 512 + (i 1).val) / 512)
    (h1 : (y 1).val = ((i 0).val * 512 + (i 1).val) / 128 % 4) (h2 : (y 2).val = ((i 0).val * 512 + (i 1).val) % 128) :
    y = ix3 (i 0) (hOf (i 1)) (jOf (i 1)) := by
  have i1 : (i 1).val < 512 := (i 1).isLt
  refine funext fun a => ?_
  match a with
  | ⟨0, _⟩ => exact Fin.ext (h0.trans (by show _ = (i 0).val; omega))
  | ⟨1, _⟩ => exact Fin.ext (h1.trans (by show _ = (i 1).val / 128; omega))
  | ⟨2, _⟩ => exact Fin.ext (h2.trans (by show _ = (i 1).val % 128; omega))

/-- The reference's output. -/
theorem ref_o : val_main_v49 (F := Ideal) x0 x1 = upW fun h => oT (lb h) (Q h) (Z h) (V h) := funext fun i => by
  rw [val_main_v49_apply]
  exact (congrArg (val_main_v48 (F := Ideal) x0 x1) (heads_of i _ rfl rfl rfl)).trans (r48 H _)

/-- Its gradient of the queries. -/
theorem ref_dq : val_main_v100 (F := Ideal) x0 x1 x2 = upW fun h => dqS (lb h) (Q h) (Z h) (V h) (W h) := funext fun i => by
  rw [val_main_v100_apply]
  exact (congrArg (val_main_v99 (F := Ideal) x0 x1 x2) (heads_of i _ rfl rfl rfl)).trans (r99 H _)

/-- Its gradient of the gates' arguments. -/
theorem ref_dz : val_main_v101 (F := Ideal) x0 x1 x2 = upWB fun h => dzS (lb h) (Q h) (Z h) (V h) (W h) := funext fun i => by
  rw [val_main_v101_apply, val_main_v94_apply]
  exact (congrArg (val_main_v93 (F := Ideal) x0 x1 x2) (heads_of i _ rfl rfl rfl)).trans (r93 H _)

/-- Its gradient of the values. -/
theorem ref_dv : val_main_v98 (F := Ideal) x0 x1 x2 = upW fun h => dvT (lb h) (Q h) (Z h) (W h) := funext fun i => by
  rw [val_main_v98_apply]
  exact (congrArg (val_main_v55 (F := Ideal) x0 x1 x2) (heads_of i _ rfl rfl rfl)).trans (r55 H _)

/-- Its gradient of the lower bounds. -/
theorem ref_dl : val_main_v102 (F := Ideal) x0 x1 x2 = upWl fun h => dlS (lb h) (Q h) (Z h) (V h) (W h) 0 := funext fun i => by
  rw [val_main_v102_apply, val_main_v97_apply]
  have i1 : (i 1).val < 1 := (i 1).isLt
  have i2 : (i 2).val < 128 := (i 2).isLt
  refine (congrArg (val_main_v96 (F := Ideal) x0 x1 x2) (?_ : _ = ix2 (i 0) (i 2))).trans (r96 H _)
  refine funext fun a => ?_
  match a with
  | ⟨0, _⟩ => exact Fin.ext (by show (((i 0).val * 1 + (i 1).val) * 128 + (i 2).val) / 128 = (i 0).val; omega)
  | ⟨1, _⟩ => exact Fin.ext (by show (((i 0).val * 1 + (i 1).val) * 128 + (i 2).val) % 128 = (i 2).val; omega)

end Cert.Scan
-- ==== Proof.Run.lean ====
/-
  The kernel program's run: both calls, with what the result arrays hold at the end.
-/
module

public import proofs.«01_k».proof.Proof.Heads

@[expose] public section

set_option maxRecDepth 16384

noncomputable section

namespace Cert.Scan

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ Cert.KernelIdeal.sig) → Buf (Elt F) ℓ) (ρ : Dev nD → PrngReg)

set_option backward.isDefEq.respectTransparency.types false in
/-- The program runs, and every array ends as the two calls and the host's reshape leave it. -/
theorem run_arrays : θ_run defs (onTc (τ := τ) (main (F := F))) ⟨m, fun _ => 0, ρ⟩ (fun r => ∀ c : Dev nD,
      ∀ b ∈ Pipeline.ucRefs τ Cert.KernelIdeal.sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ Cert.KernelIdeal.sig Unit (Elt F) ℕ (UR Cert.KernelIdeal.sig nD τ) ℕ))
            ⊢ BI.own (emb₁ (initOf (Pipeline.cells cfgs cellOf_inj) (Pipeline.launchToks cfgs cellOf_inj))) from .rfl)
        iexact Hu
      iapply (show (BI.emp : sProp (MT nD τ Cert.KernelIdeal.sig Unit (Elt F) ℕ (UR Cert.KernelIdeal.sig nD τ) ℕ)) ⊢ bigSep Finset.univ (fun _ : Dev nD => (BI.emp : sProp (MT nD τ Cert.KernelIdeal.sig Unit (Elt F) ℕ (UR Cert.KernelIdeal.sig nD τ) ℕ))) from by rw [BI.bigSep_emp_const])
      iempintro)
    (T₀ := fun c => iprop(StableHlo.held (c : Thread nD τ) (Pipeline.ucRefs τ Cert.KernelIdeal.sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ Cert.KernelIdeal.sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ Cert.KernelIdeal.sig, s.mem (((c : Thread nD τ)).1, b) = W3 m ρ c b)
    (hfin := fun c s' => by
      iintro ⟨⟨Hh, -⟩, HSI⟩
      unfold StableHlo.held
      imodintro
      iapply (pointsTo_read_all (Pipeline.ucRefs τ Cert.KernelIdeal.sig) (fun b => (((c : Thread nD τ)).1, b)) (W3 m ρ c) s')
      isplitl [Hh] <;> iassumption)
    (hQ := fun s h _ c b hb => h c b hb)

/-- The program's results, and its arguments unchanged, from arrays that hold real numbers. -/
theorem run_kernel (m : (ℓ : Loc nD τ Cert.KernelIdeal.sig) → Buf (Elt Ideal) ℓ) {lb : Dev nD → Fin 4 → Fin 128 → ℝ}
    {Q Z V W : Dev nD → Fin 4 → Seq} (H : ∀ c, Holds m c (lb c) (Q c) (Z c) (V c) (W c)) :
    θ_run defs (onTc (τ := τ) (main (F := Ideal))) ⟨m, fun _ => 0, ρ⟩ (fun r => ∀ c : Dev nD,
      r.2.mem ((c.tc : Thread nD τ).loc main_v1_0) = upW (fun h => oT (lb c h) (Q c h) (Z c h) (V c h))
      ∧ r.2.mem ((c.tc : Thread nD τ).loc main_v2_0) = upW (fun h => dqS (lb c h) (Q c h) (Z c h) (V c h) (W c h))
      ∧ r.2.mem ((c.tc : Thread nD τ).loc main_v2_1) = upWB (fun h => dzS (lb c h) (Q c h) (Z c h) (V c h) (W c h))
      ∧ r.2.mem ((c.tc : Thread nD τ).loc main_v2_2) = upW (fun h => dvT (lb c h) (Q c h) (Z c h) (W c h))
      ∧ r.2.mem ((c.tc : Thread nD τ).loc main_v2_3) = upWl (fun h => dlS (lb c h) (Q c h) (Z c h) (V c h) (W c h) 0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1_0 (by decide))).trans ((W3_of m ρ c main_v1_0 (by decide)).trans ((W2_arr m ρ c 4).trans (arr_o m ρ c (H c)))),
     (h c _ (mem_uc main_v2_0 (by decide))).trans ((W3_arr m ρ c 6).trans (arr_dq m ρ c (H c))),
     (h c _ (mem_uc main_v2_1 (by decide))).trans ((W3_arr m ρ c 7).trans (arr_dz m ρ c (H c))),
     (h c _ (mem_uc main_v2_2 (by decide))).trans ((W3_arr m ρ c 8).trans (arr_dv m ρ c (H c))),
     (h c _ (mem_uc main_v2_3 (by decide))).trans ((W3_arr m ρ c 9).trans (arr_dl m ρ c (H c))),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_arrays m ρ)

end Cert.Scan

end
-- ==== Proof.RefRun.lean ====
/-
  The reference program's run: what its results hold, its frame, and the two programs compared.
-/
module

public import proofs.«01_k».proof.Proof.RefGrad
public import proofs.«01_k».proof.Proof.Run
public import proofs.«01_k».proof.Proof.Range

@[expose] public section

set_option backward.isDefEq.respectTransparency false

noncomputable section

namespace Cert.Scan

open Idealize.ShloMosaic Idealize.ShloMosaic.TcCoe Idealize.SL.Sem Cert.ReferenceIdeal Cert.ReferenceIdeal.Gen
open Cert.ReferenceIdeal.Read Cert.ReferenceIdeal.Value

/-- The reference ends with its arguments as they were and no semaphore raised. -/
theorem ref_frame : Cert.quiescent_ReferenceIdeal := fun m g _ =>
  (θ_run defs _ _).mono (fun r h => ⟨fun c => (h c).2.2.2.2.2, Idealize.ShloMosaic.sem_eq_zero_of_no_sems (by decide) _⟩) (run m g)

/-- What the kernel's arguments hold, the reference's hold. -/
theorem ref_holds {m : (ℓ : Loc Cert.KernelIdeal.nD Cert.KernelIdeal.τ Cert.KernelIdeal.sig) → Buf (Elt Ideal) ℓ} {c : Dev Cert.KernelIdeal.nD}
    {lb : Fin 4 → Fin 128 → ℝ} {Q Z V W : Fin 4 → Seq} (H : Holds m c lb Q Z V W)
    {x0 : (⟨S2176x6144, .f32⟩ : BufTy).Contents (Elt Ideal)} {x1 : (⟨S512, .f32⟩ : BufTy).Contents (Elt Ideal)}
    {x2 : (⟨S2176x512, .f32⟩ : BufTy).Contents (Elt Ideal)}
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2)) :
    RHolds x0 x1 x2 lb Q Z V W := by
  subst h0 h1 h2
  exact ⟨H.q, H.z, H.v, H.l, H.w, H.lim⟩

/-- From arguments that agree, both programs run and end with the same results. -/
theorem same_results [Cert.Pre_gates_in_range.Facts] : Cert.algebraic_KernelIdeal_ReferenceIdeal_pre_gates_in_range := by
  intro m g m' g' hp ha
  have H := holds_of_pre m hp
  have R := fun c => ref_holds (H c) (ha c).1 (ha c).2.1 (ha c).2.2
  refine ⟨_, _, _, _, _, run_kernel g m H, (θ_run defs _ _).mono (fun r h c => ?_) (run m' g')⟩
  obtain ⟨h0, h1, h2, h3, h4, h5⟩ := h c
  exact ⟨h0.trans ((val_main_v49_eq m' c).trans (ref_o (R c))), h1.trans ((val_main_v100_eq m' c).trans (ref_dq (R c))),
    h2.trans ((val_main_v101_eq m' c).trans (ref_dz (R c))), h3.trans ((val_main_v98_eq m' c).trans (ref_dv (R c))),
    h4.trans ((val_main_v102_eq m' c).trans (ref_dl (R c))), h5⟩

end Cert.Scan

end
-- ==== Proof.lean ====
/- The programs of the step that are claimed: the gated scan of one head group, the MLP with its gradients, the mixing layer's output
   with its gradients, the gradients of the input projection, the norm before the MLP and the norm and gate of the heads with their
   gradients, and the optimiser's step on the six matrices and on the packed small weights. Every kernel program and every
   reference runs, keeps its arguments and
   leaves every semaphore at zero; each ideal program is the kernel's text; and over the extended reals each kernel ends with the arrays
   that its reference computes. -/
module

public import proofs.«01_k».proof.Defs
public import proofs.«01_k».proof.Proof.MlpRun
public import proofs.«01_k».proof.Proof.Down
public import proofs.«01_k».proof.Proof.MixRun
public import proofs.«01_k».proof.Proof.UpDx
public import proofs.«01_k».proof.Proof.InDx
public import proofs.«01_k».proof.Proof.InDw
public import proofs.«01_k».proof.Proof.NormRun
public import proofs.«01_k».proof.Proof.GateRun
public import proofs.«01_k».proof.Proof.AdamIn
public import proofs.«01_k».proof.Proof.AdamSmall
public import proofs.«01_k».proof.Proof.Adam
public import proofs.«01_k».proof.Proof.AdamBits
public import proofs.«01_k».proof.Proof.Gen.AdamInKernel
public import proofs.«01_k».proof.Proof.Gen.AdamSmallKernel
public import proofs.«01_k».proof.Proof.Gen.AdamInKernel.Skeleton
public import proofs.«01_k».proof.Proof.Gen.AdamSmallKernel.Skeleton
public import proofs.«01_k».proof.Proof.Gen.AdamInKernel.Launch
public import proofs.«01_k».proof.Proof.Gen.AdamSmallKernel.Launch
public import proofs.«01_k».proof.Proof.Gen.AdamInKernel.Points
public import proofs.«01_k».proof.Proof.Gen.AdamSmallKernel.Points
public import proofs.«01_k».proof.Proof.Gen.AdamInKernel.Frame
public import proofs.«01_k».proof.Proof.Gen.AdamSmallKernel.Frame
public import proofs.«01_k».proof.Proof.Gen.AdamInKernelIdeal
public import proofs.«01_k».proof.Proof.Gen.AdamSmallKernelIdeal
public import proofs.«01_k».proof.Proof.Gen.AdamInKernelIdeal.Skeleton
public import proofs.«01_k».proof.Proof.Gen.AdamSmallKernelIdeal.Skeleton
public import proofs.«01_k».proof.Proof.Gen.AdamInKernelIdeal.Launch
public import proofs.«01_k».proof.Proof.Gen.AdamSmallKernelIdeal.Launch
public import proofs.«01_k».proof.Proof.Gen.AdamInKernelIdeal.Points
public import proofs.«01_k».proof.Proof.Gen.AdamSmallKernelIdeal.Points
public import proofs.«01_k».proof.Proof.Gen.AdamInKernelIdeal.Frame
public import proofs.«01_k».proof.Proof.Gen.AdamSmallKernelIdeal.Frame
public import proofs.«01_k».proof.Proof.Gen.AdamInKernelIdeal.Value
public import proofs.«01_k».proof.Proof.Gen.AdamSmallKernelIdeal.Value
public import proofs.«01_k».proof.Proof.Gen.AdamInReferenceIdeal
public import proofs.«01_k».proof.Proof.Gen.AdamSmallReferenceIdeal
public import proofs.«01_k».proof.Proof.Gen.AdamInReferenceIdeal.Run
public import proofs.«01_k».proof.Proof.Gen.AdamSmallReferenceIdeal.Run
public import proofs.«01_k».proof.Proof.Gen.AdamInReferenceIdeal.Read
public import proofs.«01_k».proof.Proof.Gen.AdamSmallReferenceIdeal.Read
public import proofs.«01_k».proof.Proof.Gen.AdamKernel
public import proofs.«01_k».proof.Proof.Gen.AdamKernel.Skeleton
public import proofs.«01_k».proof.Proof.Gen.AdamKernel.Launch
public import proofs.«01_k».proof.Proof.Gen.AdamKernel.Points
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Pre_finite_gradient
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_gates_in_range
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.UpDxKernel
public import proofs.«01_k».proof.Proof.Gen.UpDxKernel.Skeleton
public import proofs.«01_k».proof.Proof.Gen.UpDxKernel.Launch
public import proofs.«01_k».proof.Proof.Gen.UpDxKernel.Points
public import proofs.«01_k».proof.Proof.Gen.UpDxKernel.Frame
public import proofs.«01_k».proof.Proof.Gen.UpDxKernelIdeal
public import proofs.«01_k».proof.Proof.Gen.UpDxKernelIdeal.Skeleton
public import proofs.«01_k».proof.Proof.Gen.UpDxKernelIdeal.Launch
public import proofs.«01_k».proof.Proof.Gen.UpDxKernelIdeal.Points
public import proofs.«01_k».proof.Proof.Gen.UpDxKernelIdeal.Frame
public import proofs.«01_k».proof.Proof.Gen.UpDxKernelIdeal.Value
public import proofs.«01_k».proof.Proof.Gen.UpDxReferenceIdeal
public import proofs.«01_k».proof.Proof.Gen.UpDxReferenceIdeal.Run
public import proofs.«01_k».proof.Proof.Gen.UpDxReferenceIdeal.Read
public import proofs.«01_k».proof.Proof.Gen.InDxKernel
public import proofs.«01_k».proof.Proof.Gen.InDxKernel.Skeleton
public import proofs.«01_k».proof.Proof.Gen.InDxKernel.Launch
public import proofs.«01_k».proof.Proof.Gen.InDxKernel.Points
public import proofs.«01_k».proof.Proof.Gen.InDxKernel.Frame
public import proofs.«01_k».proof.Proof.Gen.InDxKernelIdeal
public import proofs.«01_k».proof.Proof.Gen.InDxKernelIdeal.Skeleton
public import proofs.«01_k».proof.Proof.Gen.InDxKernelIdeal.Launch
public import proofs.«01_k».proof.Proof.Gen.InDxKernelIdeal.Points
public import proofs.«01_k».proof.Proof.Gen.InDxKernelIdeal.Frame
public import proofs.«01_k».proof.Proof.Gen.InDxKernelIdeal.Value
public import proofs.«01_k».proof.Proof.Gen.InDxReferenceIdeal
public import proofs.«01_k».proof.Proof.Gen.InDxReferenceIdeal.Run
public import proofs.«01_k».proof.Proof.Gen.InDxReferenceIdeal.Read
public import proofs.«01_k».proof.Proof.Gen.InDwKernel
public import proofs.«01_k».proof.Proof.Gen.InDwKernel.Skeleton
public import proofs.«01_k».proof.Proof.Gen.InDwKernel.Launch
public import proofs.«01_k».proof.Proof.Gen.InDwKernel.Points
public import proofs.«01_k».proof.Proof.Gen.InDwKernel.Frame
public import proofs.«01_k».proof.Proof.Gen.InDwKernelIdeal
public import proofs.«01_k».proof.Proof.Gen.InDwKernelIdeal.Skeleton
public import proofs.«01_k».proof.Proof.Gen.InDwKernelIdeal.Launch
public import proofs.«01_k».proof.Proof.Gen.InDwKernelIdeal.Points
public import proofs.«01_k».proof.Proof.Gen.InDwKernelIdeal.Frame
public import proofs.«01_k».proof.Proof.Gen.InDwKernelIdeal.Value
public import proofs.«01_k».proof.Proof.Gen.InDwReferenceIdeal
public import proofs.«01_k».proof.Proof.Gen.InDwReferenceIdeal.Run
public import proofs.«01_k».proof.Proof.Gen.InDwReferenceIdeal.Read
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MixReferenceIdeal.Run
public import proofs.«01_k».proof.Proof.Gen.MixReferenceIdeal.Read
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- Every program runs and leaves its arguments as they were, and each kernel ends with the results of its reference: of the recurrence
and of the heads' gate wherever their preconditions hold, of the others always. -/
theorem claim : Cert.Claim :=
  ⟨Cert.Kernel.Gen.facts, Cert.KernelIdeal.Gen.facts, Cert.ReferenceIdeal.Gen.facts,
    Cert.MlpKernel.Gen.facts, Cert.MlpKernelIdeal.Gen.facts, Cert.MlpReferenceIdeal.Gen.facts,
    Cert.DownKernel.Gen.facts, Cert.DownKernelIdeal.Gen.facts, Cert.DownReferenceIdeal.Gen.facts,
    Cert.MixKernel.Gen.facts, Cert.MixKernelIdeal.Gen.facts, Cert.MixReferenceIdeal.Gen.facts,
    Cert.UpDxKernel.Gen.facts, Cert.UpDxKernelIdeal.Gen.facts, Cert.UpDxReferenceIdeal.Gen.facts,
    Cert.InDxKernel.Gen.facts, Cert.InDxKernelIdeal.Gen.facts, Cert.InDxReferenceIdeal.Gen.facts,
    Cert.InDwKernel.Gen.facts, Cert.InDwKernelIdeal.Gen.facts, Cert.InDwReferenceIdeal.Gen.facts,
    Cert.NormKernel.Gen.facts, Cert.NormKernelIdeal.Gen.facts, Cert.NormReferenceIdeal.Gen.facts,
    Cert.GateKernel.Gen.facts, Cert.GateKernelIdeal.Gen.facts, Cert.GateReferenceIdeal.Gen.facts,
    Cert.AdamInKernel.Gen.facts, Cert.AdamInKernelIdeal.Gen.facts, Cert.AdamInReferenceIdeal.Gen.facts,
    Cert.AdamKernel.Gen.facts, Cert.AdamKernelIdeal.Gen.facts, Cert.AdamReferenceIdeal.Gen.facts,
    Cert.AdamSmallKernel.Gen.facts, Cert.AdamSmallKernelIdeal.Gen.facts, Cert.AdamSmallReferenceIdeal.Gen.facts,
    Cert.Pre_gates_in_range.Gen.facts, Cert.Pre_finite_gradient.Gen.facts,
    fun m g _ => Cert.Kernel.Gen.frame m g, fun m g _ => Cert.KernelIdeal.Gen.frame m g,
    fun m g _ => Cert.KernelIdeal.Gen.frame m g, Cert.Scan.ref_frame, fun m g _ => Cert.Scan.ref_frame m g trivial,
    fun m g _ => Cert.MlpKernel.Gen.frame m g, fun m g _ => Cert.MlpKernelIdeal.Gen.frame m g, Cert.Step.Mlp.ref_frame,
    fun m g _ => Cert.DownKernel.Gen.frame m g, fun m g _ => Cert.DownKernelIdeal.Gen.frame m g, Cert.Step.Down.ref_frame,
    fun m g _ => Cert.MixKernel.Gen.frame m g, fun m g _ => Cert.MixKernelIdeal.Gen.frame m g, Cert.Step.Mix.ref_frame,
    fun m g _ => Cert.UpDxKernel.Gen.frame m g, fun m g _ => Cert.UpDxKernelIdeal.Gen.frame m g, Cert.Step.UpDx.ref_frame,
    fun m g _ => Cert.InDxKernel.Gen.frame m g, fun m g _ => Cert.InDxKernelIdeal.Gen.frame m g, Cert.Step.InDx.ref_frame,
    fun m g _ => Cert.InDwKernel.Gen.frame m g, fun m g _ => Cert.InDwKernelIdeal.Gen.frame m g, Cert.Step.InDw.ref_frame,
    fun m g _ => Cert.NormKernel.Gen.frame m g, fun m g _ => Cert.NormKernelIdeal.Gen.frame m g, Cert.Step.Norm.ref_frame,
    fun m g _ => Cert.GateKernel.Gen.frame m g, fun m g _ => Cert.GateKernelIdeal.Gen.frame m g,
    fun m g _ => Cert.GateKernelIdeal.Gen.frame m g, Cert.Step.Gate.ref_frame, fun m g _ => Cert.Step.Gate.ref_frame m g trivial,
    fun m g _ => Cert.AdamInKernel.Gen.frame m g, fun m g _ => Cert.AdamInKernelIdeal.Gen.frame m g, Cert.Step.AdamIn.ref_frame,
    Cert.Step.AdamBits.frame, Cert.Step.AdamFrame.frame, Cert.Step.Adam.ref_frame,
    fun m g _ => Cert.AdamSmallKernel.Gen.frame m g, fun m g _ => Cert.AdamSmallKernelIdeal.Gen.frame m g, Cert.Step.AdamSmall.ref_frame,
    trivial, Cert.Scan.same_results,
    trivial, Cert.Step.Mlp.same_results,
    trivial, Cert.Step.Down.same_results,
    trivial, Cert.Step.Mix.same_results,
    trivial, Cert.Step.UpDx.same_results,
    trivial, Cert.Step.InDx.same_results,
    trivial, Cert.Step.InDw.same_results,
    trivial, Cert.Step.Norm.same_results,
    trivial, Cert.Step.Gate.same_results,
    trivial, Cert.Step.AdamIn.same_results,
    trivial, Cert.Step.Adam.same_results,
    trivial, Cert.Step.AdamSmall.same_results⟩

end Cert.Proof

end
